-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_plan2 : Cert.Pre_plan2.Facts] (m : (ℓ : Loc Cert.Kernel2.nD Cert.Kernel2.τ Cert.Kernel2.sig) → Buf (Elt Bits) ℓ) : Prop :=
  ∀ c : Dev Cert.Kernel2.nD,
    (Cert.Pre_plan2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_plan2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_plan2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_plan2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2 = (fun _ => 1#1)

def Pre_Kernel2Ideal [hPre_plan2 : Cert.Pre_plan2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_plan2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_plan2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_plan2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal [hPre_plan2 : Cert.Pre_plan2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_plan2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_plan2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_plan2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def Pre_Kernel3 [hPre_plan3 : Cert.Pre_plan3.Facts] (m : (ℓ : Loc Cert.Kernel3.nD Cert.Kernel3.τ Cert.Kernel3.sig) → Buf (Elt Bits) ℓ) : Prop :=
  ∀ c : Dev Cert.Kernel3.nD,
    (Cert.Pre_plan3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_plan3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.1 = (fun _ => 1#1)
    ∧ (Cert.Pre_plan3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2.1 = (fun _ => 1#1)
    ∧ (Cert.Pre_plan3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2.2 = (fun _ => 1#1)

def Pre_Kernel3Ideal [hPre_plan3 : Cert.Pre_plan3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_plan3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_plan3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_plan3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_plan3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal [hPre_plan3 : Cert.Pre_plan3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_plan3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_plan3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_plan3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_plan3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] [hPre_plan2 : Cert.Pre_plan2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_plan2 : Cert.Pre_plan2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_plan2 : Cert.Pre_plan2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_plan3 : Cert.Pre_plan3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_plan3 : Cert.Pre_plan3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_plan3 : Cert.Pre_plan3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "minus_inf" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] [hPre_plan2 : Cert.Pre_plan2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_plan3 : Cert.Pre_plan3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "q_scale" .f32 0x3E0293EE#32 ((((Real.sqrt 128) * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v63) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_plan2 : Cert.Pre_plan2.Facts) (hPre_plan3 : Cert.Pre_plan3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_plan2 := hPre_plan2)
    ∧ quiescent_Kernel2Ideal (hKernel2Ideal := hKernel2Ideal) (hPre_plan2 := hPre_plan2)
    ∧ quiescent_Reference2Ideal (hReference2Ideal := hReference2Ideal) (hPre_plan2 := hPre_plan2)
    ∧ quiescent_Kernel3 (hKernel3 := hKernel3) (hPre_plan3 := hPre_plan3)
    ∧ quiescent_Kernel3Ideal (hKernel3Ideal := hKernel3Ideal) (hPre_plan3 := hPre_plan3)
    ∧ quiescent_Reference3Ideal (hReference3Ideal := hReference3Ideal) (hPre_plan3 := hPre_plan3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_plan2 := hPre_plan2)
    ∧ preserves_Kernel3_Kernel3Ideal
    ∧ algebraic_Kernel3Ideal_Reference3Ideal (hKernel3Ideal := hKernel3Ideal) (hReference3Ideal := hReference3Ideal) (hPre_plan3 := hPre_plan3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_plan2.lean ====
abbrev S36864x2048 : Shape := ⟨2, ![36864, 2048]⟩
abbrev S72 : Shape := ⟨1, ![72]⟩
abbrev S1 : Shape := ⟨1, ![1]⟩
abbrev S8x2048x7168 : Shape := ⟨3, ![8, 2048, 7168]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)
  bcast_S1_S72_0 : S1.BroadcastsInDim S72 (![0] : Fin 1 → Fin S72.rank)

variable [Facts]

def fn_part1 {F : FTy → Type} [FloatOps F] (main_arg3 : IVec S1 32) (main_v4 : IVec S72 1) (main_v9 : IVec S1 1) (main_v14 : IVec S72 1) (main_v16 : IVec S72 1) : IVec S72 1 × IVec S1 1 × IVec S72 1 × IVec S72 1 :=
  let main_v17 : IVec S72 32 := iotaInDim S72 32 0
  let main_v18 : IVec S72 32 := broadcastInDim S72 ![0] bcast_S1_S72_0 main_arg3
  let main_v19 : IVec S72 1 := cmpi .slt main_v17 main_v18
  let main_v20 : IVec S72 1 := ori main_v16 main_v19
  (main_v4, main_v9, main_v14, main_v20)

def fn {F : FTy → Type} [FloatOps F] (main_arg0 : FVec F S36864x2048 .f32) (main_arg1 : IVec S72 32) (main_arg2 : IVec S72 32) (main_arg3 : IVec S1 32) (main_arg4 : IVec S72 32) (main_arg5 : FVec F S8x2048x7168 .f32) (main_arg6 : FVec F S8x2048x7168 .f32) : IVec S72 1 × IVec S1 1 × IVec S72 1 × IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_c_2 : IVec S_ 32 := constantI S_ 32 72#32
  let main_v7 : IVec S1 32 := broadcastInDim S1 ![] bcast_S_S1 main_c_2
  let main_v8 : IVec S1 1 := cmpi .sle main_arg3 main_v7
  let main_v9 : IVec S1 1 := andi main_v6 main_v8
  let main_c_3 : IVec S_ 32 := constantI S_ 32 0#32
  let main_v10 : IVec S72 32 := broadcastInDim S72 ![] bcast_S_S72 main_c_3
  let main_v11 : IVec S72 1 := cmpi .sge main_arg4 main_v10
  let main_c_4 : IVec S_ 32 := constantI S_ 32 512#32
  let main_v12 : IVec S72 32 := broadcastInDim S72 ![] bcast_S_S72 main_c_4
  let main_v13 : IVec S72 1 := cmpi .sle main_arg4 main_v12
  let main_v14 : IVec S72 1 := andi main_v11 main_v13
  let main_c_5 : IVec S_ 32 := constantI S_ 32 0#32
  let main_v15 : IVec S72 32 := broadcastInDim S72 ![] bcast_S_S72 main_c_5
  let main_v16 : IVec S72 1 := cmpi .eq main_arg4 main_v15
  fn_part1 (F := F) main_arg3 main_v4 main_v9 main_v14 main_v16
-- ==== Pre_plan3.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)
  bcast_S1_S72_0 : S1.BroadcastsInDim S72 (![0] : Fin 1 → Fin S72.rank)

variable [Facts]

def fn_part1 {F : FTy → Type} [FloatOps F] (main_arg3 : IVec S1 32) (main_v4 : IVec S72 1) (main_v9 : IVec S1 1) (main_v14 : IVec S72 1) (main_v16 : IVec S72 1) : IVec S72 1 × IVec S1 1 × IVec S72 1 × IVec S72 1 :=
  let main_v17 : IVec S72 32 := iotaInDim S72 32 0
  let main_v18 : IVec S72 32 := broadcastInDim S72 ![0] bcast_S1_S72_0 main_arg3
  let main_v19 : IVec S72 1 := cmpi .slt main_v17 main_v18
  let main_v20 : IVec S72 1 := ori main_v16 main_v19
  (main_v4, main_v9, main_v14, main_v20)

def fn {F : FTy → Type} [FloatOps F] (main_arg0 : FVec F S36864x7168 .bf16) (main_arg1 : IVec S72 32) (main_arg2 : IVec S72 32) (main_arg3 : IVec S1 32) (main_arg4 : IVec S72 32) (main_arg5 : FVec F S8x7168x2048 .f32) : IVec S72 1 × IVec S1 1 × IVec S72 1 × IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_c_2 : IVec S_ 32 := constantI S_ 32 72#32
  let main_v7 : IVec S1 32 := broadcastInDim S1 ![] bcast_S_S1 main_c_2
  let main_v8 : IVec S1 1 := cmpi .sle main_arg3 main_v7
  let main_v9 : IVec S1 1 := andi main_v6 main_v8
  let main_c_3 : IVec S_ 32 := constantI S_ 32 0#32
  let main_v10 : IVec S72 32 := broadcastInDim S72 ![] bcast_S_S72 main_c_3
  let main_v11 : IVec S72 1 := cmpi .sge main_arg4 main_v10
  let main_c_4 : IVec S_ 32 := constantI S_ 32 512#32
  let main_v12 : IVec S72 32 := broadcastInDim S72 ![] bcast_S_S72 main_c_4
  let main_v13 : IVec S72 1 := cmpi .sle main_arg4 main_v12
  let main_v14 : IVec S72 1 := andi main_v11 main_v13
  let main_c_5 : IVec S_ 32 := constantI S_ 32 0#32
  let main_v15 : IVec S72 32 := broadcastInDim S72 ![] bcast_S_S72 main_c_5
  let main_v16 : IVec S72 1 := cmpi .eq main_arg4 main_v15
  fn_part1 (F := F) main_arg3 main_v4 main_v9 main_v14 main_v16
-- ==== Kernel.lean ====
abbrev S16384x4608 : Shape := ⟨2, ![16384, 4608]⟩
abbrev S12 : Shape := ⟨1, ![12]⟩
abbrev S_ : Shape := ⟨0, ![]⟩
abbrev S16384x1536 : Shape := ⟨2, ![16384, 1536]⟩
abbrev S16384x3072 : Shape := ⟨2, ![16384, 3072]⟩
abbrev S1024x16x4608 : Shape := ⟨3, ![1024, 16, 4608]⟩
abbrev S16x1024x4608 : Shape := ⟨3, ![16, 1024, 4608]⟩
abbrev S16x512x1536 : Shape := ⟨3, ![16, 512, 1536]⟩
abbrev S16x512x128 : Shape := ⟨3, ![16, 512, 128]⟩
abbrev S8x128x1536 : Shape := ⟨3, ![8, 128, 1536]⟩
abbrev S8x128x128 : Shape := ⟨3, ![8, 128, 128]⟩
abbrev S1x12x256x256 : Shape := ⟨4, ![1, 12, 256, 256]⟩
abbrev S256x128 : Shape := ⟨2, ![256, 128]⟩
abbrev S256x256 : Shape := ⟨2, ![256, 256]⟩
abbrev S1 : Shape := ⟨1, ![1]⟩
abbrev S1x1x256x256 : Shape := ⟨4, ![1, 1, 256, 256]⟩
abbrev S2x128x128 : Shape := ⟨3, ![2, 128, 128]⟩
abbrev S256 : Shape := ⟨1, ![256]⟩
abbrev S256x1 : Shape := ⟨2, ![256, 1]⟩

abbrev nBuf : Space → Nat
  | .hbm => 31
  | .vmem => 11
  | .smem => 1
  | _ => 0

abbrev bufTy : (tb : Table) → Fin (tcTables nBuf tb) → BufTy
  | .hbm, ⟨0, _⟩ => ⟨S16384x4608, .f32⟩
  | .hbm, ⟨1, _⟩ => ⟨S12, .f32⟩
  | .hbm, ⟨2, _⟩ => ⟨S_, .f32⟩
  | .hbm, ⟨3, _⟩ => ⟨S12, .f32⟩
  | .hbm, ⟨4, _⟩ => ⟨S12, .f32⟩
  | .hbm, ⟨5, _⟩ => ⟨S_, .f32⟩
  | .hbm, ⟨6, _⟩ => ⟨S12, .f32⟩
  | .hbm, ⟨7, _⟩ => ⟨S12, .f32⟩
  | .hbm, ⟨8, _⟩ => ⟨S_, .f32⟩
  | .hbm, ⟨9, _⟩ => ⟨S12, .f32⟩
  | .hbm, ⟨10, _⟩ => ⟨S12, .f32⟩
  | .hbm, ⟨11, _⟩ => ⟨S_, .f32⟩
  | .hbm, ⟨12, _⟩ => ⟨S12, .f32⟩
  | .hbm, ⟨13, _⟩ => ⟨S12, .f32⟩
  | .hbm, ⟨14, _⟩ => ⟨S12, .f32⟩
  | .hbm, ⟨15, _⟩ => ⟨S16384x1536, .f32⟩
  | .hbm, ⟨16, _⟩ => ⟨S_, .f32⟩
  | .hbm, ⟨17, _⟩ => ⟨S_, .f32⟩
  | .hbm, ⟨18, _⟩ => ⟨S16384x1536, .f32⟩
  | .hbm, ⟨19, _⟩ => ⟨S16384x1536, .f32⟩
  | .hbm, ⟨20, _⟩ => ⟨S_, .f32⟩
  | .hbm, ⟨21, _⟩ => ⟨S_, .f32⟩
  | .hbm, ⟨22, _⟩ => ⟨S16384x1536, .f32⟩
  | .hbm, ⟨23, _⟩ => ⟨S16384x1536, .f32⟩
  | .hbm, ⟨24, _⟩ => ⟨S16384x3072, .f32⟩
  | .hbm, ⟨25, _⟩ => ⟨S16384x4608, .f32⟩
  | .hbm, ⟨26, _⟩ => ⟨S16384x4608, .bf16⟩
  | .hbm, ⟨27, _⟩ => ⟨S1024x16x4608, .bf16⟩
  | .hbm, ⟨28, _⟩ => ⟨S16x1024x4608, .bf16⟩
  | .hbm, ⟨29, _⟩ => ⟨S16x512x1536, .bf16⟩
  | .hbm, ⟨30, _⟩ => ⟨S16x512x128, .f32⟩
  | .local _ .vmem, ⟨0, _⟩ => ⟨S8x128x1536, .bf16⟩
  | .local _ .vmem, ⟨1, _⟩ => ⟨S8x128x1536, .bf16⟩
  | .local _ .vmem, ⟨2, _⟩ => ⟨S8x128x1536, .bf16⟩
  | .local _ .vmem, ⟨3, _⟩ => ⟨S8x128x1536, .bf16⟩
  | .local _ .vmem, ⟨4, _⟩ => ⟨S8x128x1536, .bf16⟩
  | .local _ .vmem, ⟨5, _⟩ => ⟨S8x128x1536, .bf16⟩
  | .local _ .vmem, ⟨6, _⟩ => ⟨S8x128x1536, .bf16⟩
  | .local _ .vmem, ⟨7, _⟩ => ⟨S8x128x1536, .bf16⟩
  | .local _ .vmem, ⟨8, _⟩ => ⟨S8x128x128, .f32⟩
  | .local _ .vmem, ⟨9, _⟩ => ⟨S8x128x128, .f32⟩
  | .local _ .vmem, ⟨10, _⟩ => ⟨S1x12x256x256, .f32⟩
  | .local _ .smem, ⟨0, _⟩ => ⟨S12, .f32⟩
  | _, _ => ⟨S16384x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let arg2 : BitVec 32 := BitVec.ofNat 32 (i 2).val
  let c0_i32_0 : BitVec 32 := 0#32
  let v2 : BitVec 1 := Scalar.cmpi .eq arg2 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_off1 (i : grid0.Coords) (c0_i32_18 : BitVec 32) : Fin 1 → Nat :=
  let arg0 : BitVec 32 := BitVec.ofNat 32 (i 0).val
  let c12_i32 : BitVec 32 := 12#32
  let v68 : BitVec 32 := Scalar.muli arg0 c12_i32
  let v69 : BitVec 32 := Scalar.addi v68 c0_i32_18
  let v70 : Index := Scalar.indexCast v69
  ![v70.toNat]
@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  v7
def k0_off2 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v10 : Index := Scalar.indexCast v8
  let c0 : Index := 0#32
  let c0_4 : Index := 0#32
  ![v10.toNat, 0, 0]
def k0_off3 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v52 : Index := Scalar.indexCast v8
  let c0_21 : Index := 0#32
  let c128 : Index := 128#32
  ![v52.toNat, 0, 128]
def k0_off4 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v94 : Index := Scalar.indexCast v8
  let c0_38 : Index := 0#32
  let c256 : Index := 256#32
  ![v94.toNat, 0, 256]
def k0_off5 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v136 : Index := Scalar.indexCast v8
  let c0_55 : Index := 0#32
  let c384 : Index := 384#32
  ![v136.toNat, 0, 384]
def k0_off6 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v178 : Index := Scalar.indexCast v8
  let c0_71 : Index := 0#32
  let c512 : Index := 512#32
  ![v178.toNat, 0, 512]
def k0_off7 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v220 : Index := Scalar.indexCast v8
  let c0_88 : Index := 0#32
  let c640 : Index := 640#32
  ![v220.toNat, 0, 640]
def k0_off8 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v262 : Index := Scalar.indexCast v8
  let c0_104 : Index := 0#32
  let c768 : Index := 768#32
  ![v262.toNat, 0, 768]
def k0_off9 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v304 : Index := Scalar.indexCast v8
  let c0_120 : Index := 0#32
  let c896 : Index := 896#32
  ![v304.toNat, 0, 896]
def k0_off10 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v346 : Index := Scalar.indexCast v8
  let c0_136 : Index := 0#32
  let c1024 : Index := 1024#32
  ![v346.toNat, 0, 1024]
def k0_off11 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v388 : Index := Scalar.indexCast v8
  let c0_152 : Index := 0#32
  let c1152 : Index := 1152#32
  ![v388.toNat, 0, 1152]
def k0_off12 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v430 : Index := Scalar.indexCast v8
  let c0_168 : Index := 0#32
  let c1280 : Index := 1280#32
  ![v430.toNat, 0, 1280]
def k0_off13 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v472 : Index := Scalar.indexCast v8
  let c0_184 : Index := 0#32
  let c1408 : Index := 1408#32
  ![v472.toNat, 0, 1408]
def k0_off14 (k0_t1 : Fin k0_t1_loop.trips) : Fin 3 → Nat :=
  let c0_i32_2 : BitVec 32 := 0#32
  let c1_i32 : BitVec 32 := 1#32
  let arg10 : BitVec 32 := Scf.iv c0_i32_2 c1_i32 k0_t1
  let c2_i32 : BitVec 32 := 2#32
  let v7 : BitVec 32 := Scalar.muli arg10 c2_i32
  let v8 : BitVec 32 := v7
  let v515 : Index := Scalar.indexCast v8
  let c0_200 : Index := 0#32
  let c0_201 : Index := 0#32
  ![v515.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let v1 : BitVec 32 := Scalar.addi c0_i32 arg0
  let c0_i32_0 : BitVec 32 := 0#32
  ![arg2.toNat, v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c1_i32 : BitVec 32 := 1#32
  let v1 : BitVec 32 := Scalar.addi c1_i32 arg0
  let c0_i32 : BitVec 32 := 0#32
  ![arg2.toNat, v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c2_i32 : BitVec 32 := 2#32
  let v1 : BitVec 32 := Scalar.addi c2_i32 arg0
  let c0_i32 : BitVec 32 := 0#32
  ![arg2.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S8x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x128x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "minus_inf" => some ⊥
  | _ => none
-- ==== ReferenceIdeal.lean ====
abbrev S16384x4608 : Shape := ⟨2, ![16384, 4608]⟩
abbrev S8192x4608 : Shape := ⟨2, ![8192, 4608]⟩
abbrev S4x2048x4608 : Shape := ⟨3, ![4, 2048, 4608]⟩
abbrev S4x2048x1536 : Shape := ⟨3, ![4, 2048, 1536]⟩
abbrev S4x2048x12x128 : Shape := ⟨4, ![4, 2048, 12, 128]⟩
abbrev S_ : Shape := ⟨0, ![]⟩
abbrev S12 : Shape := ⟨1, ![12]⟩
abbrev S4x128x16x12x128 : Shape := ⟨5, ![4, 128, 16, 12, 128]⟩
abbrev S4x16x128x12x128 : Shape := ⟨5, ![4, 16, 128, 12, 128]⟩
abbrev S64x128x12x128 : Shape := ⟨4, ![64, 128, 12, 128]⟩
abbrev S64x2x64x12x128 : Shape := ⟨5, ![64, 2, 64, 12, 128]⟩
abbrev S64x256x12x128 : Shape := ⟨4, ![64, 256, 12, 128]⟩
abbrev S64x4x64x12x128 : Shape := ⟨5, ![64, 4, 64, 12, 128]⟩
abbrev S64x2x192x12x128 : Shape := ⟨5, ![64, 2, 192, 12, 128]⟩
abbrev S64x2x12x64x192 : Shape := ⟨5, ![64, 2, 12, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2 : Shape := ⟨1, ![2]⟩
abbrev S2x1x1 : Shape := ⟨3, ![2, 1, 1]⟩
abbrev S1x1x192 : Shape := ⟨3, ![1, 1, 192]⟩
abbrev S2x1x192 : Shape := ⟨3, ![2, 1, 192]⟩
abbrev S1x64x192 : Shape := ⟨3, ![1, 64, 192]⟩
abbrev S2x64x192 : Shape := ⟨3, ![2, 64, 192]⟩
abbrev S12x1x1 : Shape := ⟨3, ![12, 1, 1]⟩
abbrev S12x64x192 : Shape := ⟨3, ![12, 64, 192]⟩
abbrev S1x2x1x64x192 : Shape := ⟨5, ![1, 2, 1, 64, 192]⟩
abbrev S1x1x12x64x192 : Shape := ⟨5, ![1, 1, 12, 64, 192]⟩
abbrev S64x2x12x64 : Shape := ⟨4, ![64, 2, 12, 64]⟩
abbrev S64x2x12x64x1 : Shape := ⟨5, ![64, 2, 12, 64, 1]⟩
abbrev S64x2x12x128x64 : Shape := ⟨5, ![64, 2, 12, 128, 64]⟩
abbrev S64x2x64x12 : Shape := ⟨4, ![64, 2, 64, 12]⟩
abbrev S64x128x12 : Shape := ⟨3, ![64, 128, 12]⟩
abbrev S4x16x128x12 : Shape := ⟨4, ![4, 16, 128, 12]⟩
abbrev S4x128x16x12 : Shape := ⟨4, ![4, 128, 16, 12]⟩
abbrev S4x2048x12 : Shape := ⟨3, ![4, 2048, 12]⟩
abbrev S4x2048x12x1 : Shape := ⟨4, ![4, 2048, 12, 1]⟩
abbrev S512x16x1536 : Shape := ⟨3, ![512, 16, 1536]⟩
abbrev S16x512x1536 : Shape := ⟨3, ![16, 512, 1536]⟩
abbrev S512x16x12 : Shape := ⟨3, ![512, 16, 12]⟩
abbrev S16x512x12 : Shape := ⟨3, ![16, 512, 12]⟩
abbrev S16x512x128 : Shape := ⟨3, ![16, 512, 128]⟩

abbrev nBuf : Space → Nat
  | .hbm => 156
  | .vmem => 0
  | .smem => 0
  | _ => 0

abbrev hbmTy0_0 (i : Nat) : BufTy := match i % 128 with
  | 0 => ⟨S16384x4608, .f32⟩
  | 1 => ⟨S8192x4608, .f32⟩
  | 2 => ⟨S4x2048x4608, .f32⟩
  | 3 => ⟨S4x2048x1536, .f32⟩
  | 4 => ⟨S4x2048x12x128, .f32⟩
  | 5 => ⟨S_, .f32⟩
  | 6 => ⟨S_, .f32⟩
  | 7 => ⟨S4x2048x12x128, .f32⟩
  | 8 => ⟨S4x2048x12x128, .f32⟩
  | 9 => ⟨S4x2048x1536, .f32⟩
  | 10 => ⟨S4x2048x12x128, .f32⟩
  | 11 => ⟨S4x2048x1536, .f32⟩
  | 12 => ⟨S4x2048x12x128, .f32⟩
  | 13 => ⟨S12, .f32⟩
  | 14 => ⟨S_, .f32⟩
  | 15 => ⟨S12, .f32⟩
  | 16 => ⟨S12, .f32⟩
  | 17 => ⟨S_, .f32⟩
  | 18 => ⟨S12, .f32⟩
  | 19 => ⟨S12, .f32⟩
  | 20 => ⟨S_, .f32⟩
  | 21 => ⟨S12, .f32⟩
  | 22 => ⟨S12, .f32⟩
  | 23 => ⟨S_, .f32⟩
  | 24 => ⟨S12, .f32⟩
  | 25 => ⟨S12, .f32⟩
  | 26 => ⟨S12, .f32⟩
  | 27 => ⟨S4x128x16x12x128, .f32⟩
  | 28 => ⟨S4x16x128x12x128, .f32⟩
  | 29 => ⟨S64x128x12x128, .f32⟩
  | 30 => ⟨S_, .i32⟩
  | 31 => ⟨S_, .f32⟩
  | 32 => ⟨S64x128x12x128, .f32⟩
  | 33 => ⟨S64x2x64x12x128, .f32⟩
  | 34 => ⟨S4x128x16x12x128, .f32⟩
  | 35 => ⟨S4x16x128x12x128, .f32⟩
  | 36 => ⟨S64x128x12x128, .f32⟩
  | 37 => ⟨S_, .i32⟩
  | 38 => ⟨S_, .f32⟩
  | 39 => ⟨S64x256x12x128, .f32⟩
  | 40 => ⟨S64x4x64x12x128, .f32⟩
  | 41 => ⟨S64x2x64x12x128, .f32⟩
  | 42 => ⟨S64x2x64x12x128, .f32⟩
  | 43 => ⟨S64x2x64x12x128, .f32⟩
  | 44 => ⟨S64x2x192x12x128, .f32⟩
  | 45 => ⟨S4x128x16x12x128, .f32⟩
  | 46 => ⟨S4x16x128x12x128, .f32⟩
  | 47 => ⟨S64x128x12x128, .f32⟩
  | 48 => ⟨S_, .i32⟩
  | 49 => ⟨S_, .f32⟩
  | 50 => ⟨S64x256x12x128, .f32⟩
  | 51 => ⟨S64x4x64x12x128, .f32⟩
  | 52 => ⟨S64x2x64x12x128, .f32⟩
  | 53 => ⟨S64x2x64x12x128, .f32⟩
  | 54 => ⟨S64x2x64x12x128, .f32⟩
  | 55 => ⟨S64x2x192x12x128, .f32⟩
  | 56 => ⟨S64x2x12x64x192, .f32⟩
  | 57 => ⟨S64, .i32⟩
  | 58 => ⟨S64x1, .i32⟩
  | 59 => ⟨S192, .i32⟩
  | 60 => ⟨S1x192, .i32⟩
  | 61 => ⟨S_, .i32⟩
  | 62 => ⟨S1x192, .i32⟩
  | 63 => ⟨S1x192, .i32⟩
  | 64 => ⟨S64x192, .i32⟩
  | 65 => ⟨S64x192, .i32⟩
  | 66 => ⟨S64x192, .i32⟩
  | 67 => ⟨S2, .i32⟩
  | 68 => ⟨S2x1x1, .i32⟩
  | 69 => ⟨S_, .i32⟩
  | 70 => ⟨S2x1x1, .i32⟩
  | 71 => ⟨S2x1x1, .i32⟩
  | 72 => ⟨S_, .i32⟩
  | 73 => ⟨S1x192, .i32⟩
  | 74 => ⟨S1x192, .i32⟩
  | 75 => ⟨S1x1x192, .i32⟩
  | 76 => ⟨S2x1x192, .i32⟩
  | 77 => ⟨S2x1x192, .i32⟩
  | 78 => ⟨S2x1x192, .i32⟩
  | 79 => ⟨S64x192, .i32⟩
  | 80 => ⟨S_, .i32⟩
  | 81 => ⟨S64x192, .i32⟩
  | 82 => ⟨S64x192, .i1⟩
  | 83 => ⟨S1x64x192, .i1⟩
  | 84 => ⟨S_, .i32⟩
  | 85 => ⟨S2x1x192, .i32⟩
  | 86 => ⟨S2x1x192, .i1⟩
  | 87 => ⟨S2x64x192, .i1⟩
  | 88 => ⟨S2x64x192, .i1⟩
  | 89 => ⟨S2x64x192, .i1⟩
  | 90 => ⟨S_, .i32⟩
  | 91 => ⟨S2x1x192, .i32⟩
  | 92 => ⟨S2x1x192, .i1⟩
  | 93 => ⟨S2x64x192, .i1⟩
  | 94 => ⟨S2x64x192, .i1⟩
  | 95 => ⟨S12x1x1, .f32⟩
  | 96 => ⟨S12x1x1, .f32⟩
  | 97 => ⟨S64x192, .i32⟩
  | 98 => ⟨S_, .i32⟩
  | 99 => ⟨S64x192, .i32⟩
  | 100 => ⟨S64x192, .i32⟩
  | 101 => ⟨S64x192, .f32⟩
  | 102 => ⟨S1x64x192, .f32⟩
  | 103 => ⟨S12x64x192, .f32⟩
  | 104 => ⟨S12x64x192, .f32⟩
  | 105 => ⟨S12x64x192, .f32⟩
  | 106 => ⟨S1x2x1x64x192, .i1⟩
  | 107 => ⟨S1x1x12x64x192, .f32⟩
  | 108 => ⟨S64x2x12x64x192, .f32⟩
  | 109 => ⟨S64x2x12x64x192, .f32⟩
  | 110 => ⟨S_, .f32⟩
  | 111 => ⟨S_, .f32⟩
  | 112 => ⟨S64x2x12x64x192, .i1⟩
  | 113 => ⟨S64x2x12x64x192, .f32⟩
  | 114 => ⟨S64x2x12x64x192, .f32⟩
  | 115 => ⟨S_, .f32⟩
  | 116 => ⟨S64x2x12x64, .f32⟩
  | 117 => ⟨S64x2x12x64x1, .f32⟩
  | 118 => ⟨S64x2x12x64x192, .f32⟩
  | 119 => ⟨S64x2x12x64x192, .f32⟩
  | 120 => ⟨S64x2x12x64x192, .f32⟩
  | 121 => ⟨S_, .f32⟩
  | 122 => ⟨S64x2x12x64, .f32⟩
  | 123 => ⟨S64x2x12x128x64, .f32⟩
  | 124 => ⟨S64x2x64x12x128, .f32⟩
  | 125 => ⟨S64x128x12x128, .f32⟩
  | 126 => ⟨S4x16x128x12x128, .f32⟩
  | 127 => ⟨S4x128x16x12x128, .f32⟩
  | _ => ⟨S16384x4608, .f32⟩

abbrev hbmTy0_1 (i : Nat) : BufTy := match i % 128 with
  | 0 => ⟨S4x2048x12x128, .f32⟩
  | 1 => ⟨S64x2x64x12, .f32⟩
  | 2 => ⟨S64x128x12, .f32⟩
  | 3 => ⟨S4x16x128x12, .f32⟩
  | 4 => ⟨S4x128x16x12, .f32⟩
  | 5 => ⟨S4x2048x12, .f32⟩
  | 6 => ⟨S64x2x64x12, .f32⟩
  | 7 => ⟨S64x128x12, .f32⟩
  | 8 => ⟨S4x16x128x12, .f32⟩
  | 9 => ⟨S4x128x16x12, .f32⟩
  | 10 => ⟨S4x2048x12, .f32⟩
  | 11 => ⟨S4x2048x12x1, .f32⟩
  | 12 => ⟨S4x2048x12x128, .f32⟩
  | 13 => ⟨S4x2048x12x128, .f32⟩
  | 14 => ⟨S512x16x1536, .f32⟩
  | 15 => ⟨S16x512x1536, .f32⟩
  | 16 => ⟨S16x512x1536, .bf16⟩
  | 17 => ⟨S4x2048x12, .f32⟩
  | 18 => ⟨S4x2048x12, .f32⟩
  | 19 => ⟨S_, .f32⟩
  | 20 => ⟨S_, .f32⟩
  | 21 => ⟨S4x2048x12, .f32⟩
  | 22 => ⟨S4x2048x12, .f32⟩
  | 23 => ⟨S512x16x12, .f32⟩
  | 24 => ⟨S16x512x12, .f32⟩
  | 25 => ⟨S_, .i32⟩
  | 26 => ⟨S_, .f32⟩
  | 27 => ⟨S16x512x128, .f32⟩
  | _ => ⟨S16384x4608, .f32⟩

abbrev hbmTy (i : Nat) : BufTy := match i / 128 with
  | 0 => hbmTy0_0 i
  | 1 => hbmTy0_1 i
  | _ => ⟨S16384x4608, .f32⟩

abbrev bufTy : (tb : Table) → Fin (tcTables nBuf tb) → BufTy
  | .hbm, ⟨i, _⟩ => hbmTy i
  | _, _ => ⟨S16384x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_call1_v0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_5 : Ref sig .tc := ⟨.hbm, 48, rfl⟩
abbrev main_call2_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_7 : Ref sig .tc := ⟨.hbm, 69, rfl⟩
abbrev main_v56 : Ref sig .tc := ⟨.hbm, 70, rfl⟩
abbrev main_v57 : Ref sig .tc := ⟨.hbm, 71, rfl⟩
abbrev main_c_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c_11 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_12 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v91 : Ref sig .tc := ⟨.hbm, 114, rfl⟩
abbrev main_cst_14 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_15 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_16 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_17 : Ref sig .tc := ⟨.hbm, 153, rfl⟩
abbrev main_call4_v0 : Ref sig .tc := ⟨.hbm, 154, rfl⟩
abbrev main_v127 : Ref sig .tc := ⟨.hbm, 155, rfl⟩

abbrev nD : Nat := 1
abbrev τ : Topo := Topo.v7x

variable {F : FTy → Type} [FloatOps F]
-- ==== Kernel2.lean ====
abbrev S36864x2048 : Shape := ⟨2, ![36864, 2048]⟩
abbrev S72 : Shape := ⟨1, ![72]⟩
abbrev S1 : Shape := ⟨1, ![1]⟩
abbrev S8x2048x7168 : Shape := ⟨3, ![8, 2048, 7168]⟩
abbrev S36864x7168 : Shape := ⟨2, ![36864, 7168]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩
abbrev S1x512x1024 : Shape := ⟨3, ![1, 512, 1024]⟩
abbrev S128x2048 : Shape := ⟨2, ![128, 2048]⟩
abbrev S128x1024 : Shape := ⟨2, ![128, 1024]⟩
abbrev S384x1024 : Shape := ⟨2, ![384, 1024]⟩
abbrev S256x2048 : Shape := ⟨2, ![256, 2048]⟩
abbrev S256x1024 : Shape := ⟨2, ![256, 1024]⟩
abbrev S384x2048 : Shape := ⟨2, ![384, 2048]⟩

abbrev nBuf : Space → Nat
  | .hbm => 5
  | .vmem => 10
  | .smem => 4
  | _ => 0

abbrev bufTy : (tb : Table) → Fin (tcTables nBuf tb) → BufTy
  | .hbm, ⟨0, _⟩ => ⟨S36864x2048, .f32⟩
  | .hbm, ⟨1, _⟩ => ⟨S8x2048x7168, .f32⟩
  | .hbm, ⟨2, _⟩ => ⟨S8x2048x7168, .f32⟩
  | .hbm, ⟨3, _⟩ => ⟨S36864x2048, .bf16⟩
  | .hbm, ⟨4, _⟩ => ⟨S36864x7168, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .smem, ⟨0, _⟩ => ⟨S72, .i32⟩
  | .local _ .smem, ⟨1, _⟩ => ⟨S72, .i32⟩
  | .local _ .smem, ⟨2, _⟩ => ⟨S1, .i32⟩
  | .local _ .smem, ⟨3, _⟩ => ⟨S72, .i32⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 72], ![false, false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_17 : BitVec 32 := 0#32
  let c4_i32_18 : BitVec 32 := 4#32
  let v47 : BitVec 32 := Scalar.addi c0_i32_17 c4_i32_18
  let c1_i32_19 : BitVec 32 := 1#32
  ⟨c0_i32_17, v47, c1_i32_19⟩
def k0_mult1 (k0_t1 : Fin k0_t1_loop.trips) : BitVec 32 :=
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  v48
def k0_off3 (k0_t1 : Fin k0_t1_loop.trips) : Fin 3 → Nat :=
  let c0 : Index := 0#32
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  let v49 : BitVec 32 := v48
  let v50 : Index := Scalar.indexCast v49
  let c0_21 : Index := 0#32
  ![0, v50.toNat, 0]
def k0_off4 (k0_t1 : Fin k0_t1_loop.trips) : Fin 2 → Nat :=
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  let v49 : BitVec 32 := v48
  let v54 : Index := Scalar.indexCast v49
  let c0_22 : Index := 0#32
  ![v54.toNat, 0]
def k0_off5 (i : grid0.Coords) : Fin 1 → Nat :=
  let arg1 : BitVec 32 := BitVec.ofNat 32 (i 1).val
  let v11 : Index := Scalar.indexCast arg1
  ![v11.toNat]
def k0_cond2 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c0_i32_10 : BitVec 32 := 0#32
  let v32 : BitVec 1 := Scalar.cmpi .eq v31 c0_i32_10
  let v33 : BitVec 32 := Scalar.extui v32
  let c0_i32_11 : BitVec 32 := 0#32
  let v34 : BitVec 1 := Scalar.cmpi .ne v33 c0_i32_11
  v34

def k0_cond3 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c1_i32_12 : BitVec 32 := 1#32
  let v35 : BitVec 1 := Scalar.cmpi .eq v31 c1_i32_12
  let v36 : BitVec 32 := Scalar.extui v35
  let c0_i32_13 : BitVec 32 := 0#32
  let v37 : BitVec 1 := Scalar.cmpi .ne v36 c0_i32_13
  v37

def k0_cond4 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c2_i32 : BitVec 32 := 2#32
  let v38 : BitVec 1 := Scalar.cmpi .eq v31 c2_i32
  let v39 : BitVec 32 := Scalar.extui v38
  let c0_i32_14 : BitVec 32 := 0#32
  let v40 : BitVec 1 := Scalar.cmpi .ne v39 c0_i32_14
  v40

def k0_cond5 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c3_i32 : BitVec 32 := 3#32
  let v41 : BitVec 1 := Scalar.cmpi .eq v31 c3_i32
  let v42 : BitVec 32 := Scalar.extui v41
  let c0_i32_15 : BitVec 32 := 0#32
  let v43 : BitVec 1 := Scalar.cmpi .ne v42 c0_i32_15
  v43

def k0_cond6 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c4_i32 : BitVec 32 := 4#32
  let v44 : BitVec 1 := Scalar.cmpi .eq v31 c4_i32
  let v45 : BitVec 32 := Scalar.extui v44
  let c0_i32_16 : BitVec 32 := 0#32
  let v46 : BitVec 1 := Scalar.cmpi .ne v45 c0_i32_16
  v46

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  ![v1.toNat, c0_i32_0.toNat, v2.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  ![v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S36864x2048 : Shape := ⟨2, ![36864, 2048]⟩
abbrev S72 : Shape := ⟨1, ![72]⟩
abbrev S1 : Shape := ⟨1, ![1]⟩
abbrev S8x2048x7168 : Shape := ⟨3, ![8, 2048, 7168]⟩
abbrev S72x512 : Shape := ⟨2, ![72, 512]⟩
abbrev S36864 : Shape := ⟨1, ![36864]⟩
abbrev S512 : Shape := ⟨1, ![512]⟩
abbrev S1x512 : Shape := ⟨2, ![1, 512]⟩
abbrev S_ : Shape := ⟨0, ![]⟩
abbrev S36864x1 : Shape := ⟨2, ![36864, 1]⟩
abbrev S36864x7168 : Shape := ⟨2, ![36864, 7168]⟩
abbrev S1x2048x7168 : Shape := ⟨3, ![1, 2048, 7168]⟩
abbrev S2048x7168 : Shape := ⟨2, ![2048, 7168]⟩

abbrev nBuf : Space → Nat
  | .hbm => 215
  | .vmem => 0
  | .smem => 0
  | _ => 0

abbrev hbmTy0_0 (i : Nat) : BufTy := match i % 128 with
  | 0 => ⟨S36864x2048, .f32⟩
  | 1 => ⟨S72, .i32⟩
  | 2 => ⟨S72, .i32⟩
  | 3 => ⟨S1, .i32⟩
  | 4 => ⟨S72, .i32⟩
  | 5 => ⟨S8x2048x7168, .f32⟩
  | 6 => ⟨S8x2048x7168, .f32⟩
  | 7 => ⟨S72x512, .i32⟩
  | 8 => ⟨S36864, .i32⟩
  | 9 => ⟨S512, .i32⟩
  | 10 => ⟨S1x512, .i32⟩
  | 11 => ⟨S72x512, .i32⟩
  | 12 => ⟨S36864, .i32⟩
  | 13 => ⟨S_, .i32⟩
  | 14 => ⟨S_, .i32⟩
  | 15 => ⟨S36864, .i32⟩
  | 16 => ⟨S36864, .i32⟩
  | 17 => ⟨S36864, .i32⟩
  | 18 => ⟨S_, .i32⟩
  | 19 => ⟨S36864, .i32⟩
  | 20 => ⟨S36864, .i1⟩
  | 21 => ⟨S36864, .i32⟩
  | 22 => ⟨S36864, .i32⟩
  | 23 => ⟨S_, .i32⟩
  | 24 => ⟨S36864, .i32⟩
  | 25 => ⟨S36864, .i1⟩
  | 26 => ⟨S36864, .i1⟩
  | 27 => ⟨S_, .i32⟩
  | 28 => ⟨S36864, .i32⟩
  | 29 => ⟨S36864, .i32⟩
  | 30 => ⟨S36864, .i32⟩
  | 31 => ⟨S_, .i32⟩
  | 32 => ⟨S36864, .i32⟩
  | 33 => ⟨S36864, .i32⟩
  | 34 => ⟨S72x512, .i32⟩
  | 35 => ⟨S36864, .i32⟩
  | 36 => ⟨S36864, .i1⟩
  | 37 => ⟨S36864x1, .i32⟩
  | 38 => ⟨S36864x1, .i1⟩
  | 39 => ⟨S_, .f32⟩
  | 40 => ⟨S36864x7168, .f32⟩
  | 41 => ⟨S_, .i32⟩
  | 42 => ⟨S36864x1, .i32⟩
  | 43 => ⟨S36864x1, .i1⟩
  | 44 => ⟨S1x2048x7168, .f32⟩
  | 45 => ⟨S2048x7168, .f32⟩
  | 46 => ⟨S36864x7168, .f32⟩
  | 47 => ⟨S36864x7168, .f32⟩
  | 48 => ⟨S36864x7168, .f32⟩
  | 49 => ⟨S_, .f32⟩
  | 50 => ⟨S36864x7168, .f32⟩
  | 51 => ⟨S36864x7168, .f32⟩
  | 52 => ⟨S_, .f32⟩
  | 53 => ⟨S36864x7168, .f32⟩
  | 54 => ⟨S36864x7168, .f32⟩
  | 55 => ⟨S36864x7168, .f32⟩
  | 56 => ⟨S1x2048x7168, .f32⟩
  | 57 => ⟨S2048x7168, .f32⟩
  | 58 => ⟨S36864x7168, .f32⟩
  | 59 => ⟨S36864x7168, .f32⟩
  | 60 => ⟨S36864x7168, .i1⟩
  | 61 => ⟨S36864x7168, .f32⟩
  | 62 => ⟨S_, .i32⟩
  | 63 => ⟨S36864x1, .i32⟩
  | 64 => ⟨S36864x1, .i1⟩
  | 65 => ⟨S1x2048x7168, .f32⟩
  | 66 => ⟨S2048x7168, .f32⟩
  | 67 => ⟨S36864x7168, .f32⟩
  | 68 => ⟨S36864x7168, .f32⟩
  | 69 => ⟨S36864x7168, .f32⟩
  | 70 => ⟨S_, .f32⟩
  | 71 => ⟨S36864x7168, .f32⟩
  | 72 => ⟨S36864x7168, .f32⟩
  | 73 => ⟨S_, .f32⟩
  | 74 => ⟨S36864x7168, .f32⟩
  | 75 => ⟨S36864x7168, .f32⟩
  | 76 => ⟨S36864x7168, .f32⟩
  | 77 => ⟨S1x2048x7168, .f32⟩
  | 78 => ⟨S2048x7168, .f32⟩
  | 79 => ⟨S36864x7168, .f32⟩
  | 80 => ⟨S36864x7168, .f32⟩
  | 81 => ⟨S36864x7168, .i1⟩
  | 82 => ⟨S36864x7168, .f32⟩
  | 83 => ⟨S_, .i32⟩
  | 84 => ⟨S36864x1, .i32⟩
  | 85 => ⟨S36864x1, .i1⟩
  | 86 => ⟨S1x2048x7168, .f32⟩
  | 87 => ⟨S2048x7168, .f32⟩
  | 88 => ⟨S36864x7168, .f32⟩
  | 89 => ⟨S36864x7168, .f32⟩
  | 90 => ⟨S36864x7168, .f32⟩
  | 91 => ⟨S_, .f32⟩
  | 92 => ⟨S36864x7168, .f32⟩
  | 93 => ⟨S36864x7168, .f32⟩
  | 94 => ⟨S_, .f32⟩
  | 95 => ⟨S36864x7168, .f32⟩
  | 96 => ⟨S36864x7168, .f32⟩
  | 97 => ⟨S36864x7168, .f32⟩
  | 98 => ⟨S1x2048x7168, .f32⟩
  | 99 => ⟨S2048x7168, .f32⟩
  | 100 => ⟨S36864x7168, .f32⟩
  | 101 => ⟨S36864x7168, .f32⟩
  | 102 => ⟨S36864x7168, .i1⟩
  | 103 => ⟨S36864x7168, .f32⟩
  | 104 => ⟨S_, .i32⟩
  | 105 => ⟨S36864x1, .i32⟩
  | 106 => ⟨S36864x1, .i1⟩
  | 107 => ⟨S1x2048x7168, .f32⟩
  | 108 => ⟨S2048x7168, .f32⟩
  | 109 => ⟨S36864x7168, .f32⟩
  | 110 => ⟨S36864x7168, .f32⟩
  | 111 => ⟨S36864x7168, .f32⟩
  | 112 => ⟨S_, .f32⟩
  | 113 => ⟨S36864x7168, .f32⟩
  | 114 => ⟨S36864x7168, .f32⟩
  | 115 => ⟨S_, .f32⟩
  | 116 => ⟨S36864x7168, .f32⟩
  | 117 => ⟨S36864x7168, .f32⟩
  | 118 => ⟨S36864x7168, .f32⟩
  | 119 => ⟨S1x2048x7168, .f32⟩
  | 120 => ⟨S2048x7168, .f32⟩
  | 121 => ⟨S36864x7168, .f32⟩
  | 122 => ⟨S36864x7168, .f32⟩
  | 123 => ⟨S36864x7168, .i1⟩
  | 124 => ⟨S36864x7168, .f32⟩
  | 125 => ⟨S_, .i32⟩
  | 126 => ⟨S36864x1, .i32⟩
  | 127 => ⟨S36864x1, .i1⟩
  | _ => ⟨S36864x2048, .f32⟩

abbrev hbmTy0_1 (i : Nat) : BufTy := match i % 128 with
  | 0 => ⟨S1x2048x7168, .f32⟩
  | 1 => ⟨S2048x7168, .f32⟩
  | 2 => ⟨S36864x7168, .f32⟩
  | 3 => ⟨S36864x7168, .f32⟩
  | 4 => ⟨S36864x7168, .f32⟩
  | 5 => ⟨S_, .f32⟩
  | 6 => ⟨S36864x7168, .f32⟩
  | 7 => ⟨S36864x7168, .f32⟩
  | 8 => ⟨S_, .f32⟩
  | 9 => ⟨S36864x7168, .f32⟩
  | 10 => ⟨S36864x7168, .f32⟩
  | 11 => ⟨S36864x7168, .f32⟩
  | 12 => ⟨S1x2048x7168, .f32⟩
  | 13 => ⟨S2048x7168, .f32⟩
  | 14 => ⟨S36864x7168, .f32⟩
  | 15 => ⟨S36864x7168, .f32⟩
  | 16 => ⟨S36864x7168, .i1⟩
  | 17 => ⟨S36864x7168, .f32⟩
  | 18 => ⟨S_, .i32⟩
  | 19 => ⟨S36864x1, .i32⟩
  | 20 => ⟨S36864x1, .i1⟩
  | 21 => ⟨S1x2048x7168, .f32⟩
  | 22 => ⟨S2048x7168, .f32⟩
  | 23 => ⟨S36864x7168, .f32⟩
  | 24 => ⟨S36864x7168, .f32⟩
  | 25 => ⟨S36864x7168, .f32⟩
  | 26 => ⟨S_, .f32⟩
  | 27 => ⟨S36864x7168, .f32⟩
  | 28 => ⟨S36864x7168, .f32⟩
  | 29 => ⟨S_, .f32⟩
  | 30 => ⟨S36864x7168, .f32⟩
  | 31 => ⟨S36864x7168, .f32⟩
  | 32 => ⟨S36864x7168, .f32⟩
  | 33 => ⟨S1x2048x7168, .f32⟩
  | 34 => ⟨S2048x7168, .f32⟩
  | 35 => ⟨S36864x7168, .f32⟩
  | 36 => ⟨S36864x7168, .f32⟩
  | 37 => ⟨S36864x7168, .i1⟩
  | 38 => ⟨S36864x7168, .f32⟩
  | 39 => ⟨S_, .i32⟩
  | 40 => ⟨S36864x1, .i32⟩
  | 41 => ⟨S36864x1, .i1⟩
  | 42 => ⟨S1x2048x7168, .f32⟩
  | 43 => ⟨S2048x7168, .f32⟩
  | 44 => ⟨S36864x7168, .f32⟩
  | 45 => ⟨S36864x7168, .f32⟩
  | 46 => ⟨S36864x7168, .f32⟩
  | 47 => ⟨S_, .f32⟩
  | 48 => ⟨S36864x7168, .f32⟩
  | 49 => ⟨S36864x7168, .f32⟩
  | 50 => ⟨S_, .f32⟩
  | 51 => ⟨S36864x7168, .f32⟩
  | 52 => ⟨S36864x7168, .f32⟩
  | 53 => ⟨S36864x7168, .f32⟩
  | 54 => ⟨S1x2048x7168, .f32⟩
  | 55 => ⟨S2048x7168, .f32⟩
  | 56 => ⟨S36864x7168, .f32⟩
  | 57 => ⟨S36864x7168, .f32⟩
  | 58 => ⟨S36864x7168, .i1⟩
  | 59 => ⟨S36864x7168, .f32⟩
  | 60 => ⟨S_, .i32⟩
  | 61 => ⟨S36864x1, .i32⟩
  | 62 => ⟨S36864x1, .i1⟩
  | 63 => ⟨S1x2048x7168, .f32⟩
  | 64 => ⟨S2048x7168, .f32⟩
  | 65 => ⟨S36864x7168, .f32⟩
  | 66 => ⟨S36864x7168, .f32⟩
  | 67 => ⟨S36864x7168, .f32⟩
  | 68 => ⟨S_, .f32⟩
  | 69 => ⟨S36864x7168, .f32⟩
  | 70 => ⟨S36864x7168, .f32⟩
  | 71 => ⟨S_, .f32⟩
  | 72 => ⟨S36864x7168, .f32⟩
  | 73 => ⟨S36864x7168, .f32⟩
  | 74 => ⟨S36864x7168, .f32⟩
  | 75 => ⟨S1x2048x7168, .f32⟩
  | 76 => ⟨S2048x7168, .f32⟩
  | 77 => ⟨S36864x7168, .f32⟩
  | 78 => ⟨S36864x7168, .f32⟩
  | 79 => ⟨S36864x7168, .i1⟩
  | 80 => ⟨S36864x7168, .f32⟩
  | 81 => ⟨S_, .f32⟩
  | 82 => ⟨S_, .f32⟩
  | 83 => ⟨S36864x7168, .i1⟩
  | 84 => ⟨S36864x7168, .f32⟩
  | 85 => ⟨S36864x7168, .f32⟩
  | 86 => ⟨S36864x7168, .bf16⟩
  | _ => ⟨S36864x2048, .f32⟩

abbrev hbmTy (i : Nat) : BufTy := match i / 128 with
  | 0 => hbmTy0_0 i
  | 1 => hbmTy0_1 i
  | _ => ⟨S36864x2048, .f32⟩

abbrev bufTy : (tb : Table) → Fin (tcTables nBuf tb) → BufTy
  | .hbm, ⟨i, _⟩ => hbmTy i
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_c_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call2_v0 : Ref sig .tc := ⟨.hbm, 60, rfl⟩
abbrev main_v25 : Ref sig .tc := ⟨.hbm, 61, rfl⟩
abbrev main_c_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_call3_v0 : Ref sig .tc := ⟨.hbm, 68, rfl⟩
abbrev main_call3_v1 : Ref sig .tc := ⟨.hbm, 69, rfl⟩
abbrev main_call3_cst : Ref sig .tc := ⟨.hbm, 70, rfl⟩
abbrev main_call3_v2 : Ref sig .tc := ⟨.hbm, 71, rfl⟩
abbrev main_call3_v3 : Ref sig .tc := ⟨.hbm, 72, rfl⟩
abbrev main_call3_cst_0 : Ref sig .tc := ⟨.hbm, 73, rfl⟩
abbrev main_call3_v4 : Ref sig .tc := ⟨.hbm, 74, rfl⟩
abbrev main_call3_v5 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_call4_v0 : Ref sig .tc := ⟨.hbm, 81, rfl⟩
abbrev main_v36 : Ref sig .tc := ⟨.hbm, 82, rfl⟩
abbrev main_c_3 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call5_v0 : Ref sig .tc := ⟨.hbm, 89, rfl⟩
abbrev main_call5_v1 : Ref sig .tc := ⟨.hbm, 90, rfl⟩
abbrev main_call5_cst : Ref sig .tc := ⟨.hbm, 91, rfl⟩
abbrev main_call5_v2 : Ref sig .tc := ⟨.hbm, 92, rfl⟩
abbrev main_call5_v3 : Ref sig .tc := ⟨.hbm, 93, rfl⟩
abbrev main_call5_cst_0 : Ref sig .tc := ⟨.hbm, 94, rfl⟩
abbrev main_call5_v4 : Ref sig .tc := ⟨.hbm, 95, rfl⟩
abbrev main_call5_v5 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_call6_v0 : Ref sig .tc := ⟨.hbm, 102, rfl⟩
abbrev main_v47 : Ref sig .tc := ⟨.hbm, 103, rfl⟩
abbrev main_c_4 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_call8_v0 : Ref sig .tc := ⟨.hbm, 123, rfl⟩
abbrev main_v58 : Ref sig .tc := ⟨.hbm, 124, rfl⟩
abbrev main_c_5 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_call9_v0 : Ref sig .tc := ⟨.hbm, 131, rfl⟩
abbrev main_call9_v1 : Ref sig .tc := ⟨.hbm, 132, rfl⟩
abbrev main_call9_cst : Ref sig .tc := ⟨.hbm, 133, rfl⟩
abbrev main_call9_v2 : Ref sig .tc := ⟨.hbm, 134, rfl⟩
abbrev main_call9_v3 : Ref sig .tc := ⟨.hbm, 135, rfl⟩
abbrev main_call9_cst_0 : Ref sig .tc := ⟨.hbm, 136, rfl⟩
abbrev main_call9_v4 : Ref sig .tc := ⟨.hbm, 137, rfl⟩
abbrev main_call9_v5 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_call10_v0 : Ref sig .tc := ⟨.hbm, 144, rfl⟩
abbrev main_v69 : Ref sig .tc := ⟨.hbm, 145, rfl⟩
abbrev main_c_6 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_call11_v0 : Ref sig .tc := ⟨.hbm, 152, rfl⟩
abbrev main_call11_v1 : Ref sig .tc := ⟨.hbm, 153, rfl⟩
abbrev main_call11_cst : Ref sig .tc := ⟨.hbm, 154, rfl⟩
abbrev main_call11_v2 : Ref sig .tc := ⟨.hbm, 155, rfl⟩
abbrev main_call11_v3 : Ref sig .tc := ⟨.hbm, 156, rfl⟩
abbrev main_call11_cst_0 : Ref sig .tc := ⟨.hbm, 157, rfl⟩
abbrev main_call11_v4 : Ref sig .tc := ⟨.hbm, 158, rfl⟩
abbrev main_call11_v5 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_call12_v0 : Ref sig .tc := ⟨.hbm, 165, rfl⟩
abbrev main_v80 : Ref sig .tc := ⟨.hbm, 166, rfl⟩
abbrev main_c_7 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_call13_v0 : Ref sig .tc := ⟨.hbm, 173, rfl⟩
abbrev main_call13_v1 : Ref sig .tc := ⟨.hbm, 174, rfl⟩
abbrev main_call13_cst : Ref sig .tc := ⟨.hbm, 175, rfl⟩
abbrev main_call13_v2 : Ref sig .tc := ⟨.hbm, 176, rfl⟩
abbrev main_call13_v3 : Ref sig .tc := ⟨.hbm, 177, rfl⟩
abbrev main_call13_cst_0 : Ref sig .tc := ⟨.hbm, 178, rfl⟩
abbrev main_call13_v4 : Ref sig .tc := ⟨.hbm, 179, rfl⟩
abbrev main_call13_v5 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_call14_v0 : Ref sig .tc := ⟨.hbm, 186, rfl⟩
abbrev main_v91 : Ref sig .tc := ⟨.hbm, 187, rfl⟩
abbrev main_c_8 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_call15_v0 : Ref sig .tc := ⟨.hbm, 194, rfl⟩
abbrev main_call15_v1 : Ref sig .tc := ⟨.hbm, 195, rfl⟩
abbrev main_call15_cst : Ref sig .tc := ⟨.hbm, 196, rfl⟩
abbrev main_call15_v2 : Ref sig .tc := ⟨.hbm, 197, rfl⟩
abbrev main_call15_v3 : Ref sig .tc := ⟨.hbm, 198, rfl⟩
abbrev main_call15_cst_0 : Ref sig .tc := ⟨.hbm, 199, rfl⟩
abbrev main_call15_v4 : Ref sig .tc := ⟨.hbm, 200, rfl⟩
abbrev main_call15_v5 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_call16_v0 : Ref sig .tc := ⟨.hbm, 207, rfl⟩
abbrev main_v102 : Ref sig .tc := ⟨.hbm, 208, rfl⟩
abbrev main_cst_9 : Ref sig .tc := ⟨.hbm, 209, rfl⟩
abbrev main_call17_v0 : Ref sig .tc := ⟨.hbm, 210, rfl⟩
abbrev main_call17_v1 : Ref sig .tc := ⟨.hbm, 211, rfl⟩
abbrev main_call17_v2 : Ref sig .tc := ⟨.hbm, 212, rfl⟩
abbrev main_v103 : Ref sig .tc := ⟨.hbm, 213, rfl⟩
abbrev main_v104 : Ref sig .tc := ⟨.hbm, 214, rfl⟩

abbrev nD : Nat := 1
abbrev τ : Topo := Topo.v7x

variable {F : FTy → Type} [FloatOps F]
-- ==== Kernel3.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S36864x2048 : Shape := ⟨2, ![36864, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩
abbrev S1x512x512 : Shape := ⟨3, ![1, 512, 512]⟩
abbrev S128x7168 : Shape := ⟨2, ![128, 7168]⟩
abbrev S128x512 : Shape := ⟨2, ![128, 512]⟩
abbrev S384x512 : Shape := ⟨2, ![384, 512]⟩
abbrev S256x7168 : Shape := ⟨2, ![256, 7168]⟩
abbrev S256x512 : Shape := ⟨2, ![256, 512]⟩
abbrev S384x7168 : Shape := ⟨2, ![384, 7168]⟩

abbrev nBuf : Space → Nat
  | .hbm => 3
  | .vmem => 7
  | .smem => 4
  | _ => 0

abbrev bufTy : (tb : Table) → Fin (tcTables nBuf tb) → BufTy
  | .hbm, ⟨0, _⟩ => ⟨S36864x7168, .bf16⟩
  | .hbm, ⟨1, _⟩ => ⟨S8x7168x2048, .f32⟩
  | .hbm, ⟨2, _⟩ => ⟨S36864x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .f32⟩
  | .local _ .vmem, ⟨3, _⟩ => ⟨S1x7168x512, .f32⟩
  | .local _ .vmem, ⟨4, _⟩ => ⟨S512x512, .f32⟩
  | .local _ .vmem, ⟨5, _⟩ => ⟨S512x512, .f32⟩
  | .local _ .vmem, ⟨6, _⟩ => ⟨S7168x512, .bf16⟩
  | .local _ .smem, ⟨0, _⟩ => ⟨S72, .i32⟩
  | .local _ .smem, ⟨1, _⟩ => ⟨S72, .i32⟩
  | .local _ .smem, ⟨2, _⟩ => ⟨S1, .i32⟩
  | .local _ .smem, ⟨3, _⟩ => ⟨S72, .i32⟩
  | _, _ => ⟨S36864x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_17 : BitVec 32 := 0#32
  let c14_i32 : BitVec 32 := 14#32
  let v47 : BitVec 32 := Scalar.addi c0_i32_17 c14_i32
  let c1_i32_18 : BitVec 32 := 1#32
  ⟨c0_i32_17, v47, c1_i32_18⟩
def k0_mult1 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c512_i32 : BitVec 32 := 512#32
  let v48 : BitVec 32 := Scalar.muli arg10 c512_i32
  v48
def k0_off3 (k0_t1 : Fin k0_t1_loop.trips) : Fin 3 → Nat :=
  let c0 : Index := 0#32
  let c0_i32_17 : BitVec 32 := 0#32
  let c1_i32_18 : BitVec 32 := 1#32
  let arg10 : BitVec 32 := Scf.iv c0_i32_17 c1_i32_18 k0_t1
  let c512_i32 : BitVec 32 := 512#32
  let v48 : BitVec 32 := Scalar.muli arg10 c512_i32
  let v49 : BitVec 32 := v48
  let v50 : Index := Scalar.indexCast v49
  let c0_20 : Index := 0#32
  ![0, v50.toNat, 0]
def k0_off4 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c512_i32 : BitVec 32 := 512#32
  let v48 : BitVec 32 := Scalar.muli arg10 c512_i32
  let v49 : BitVec 32 := v48
  let v54 : Index := Scalar.indexCast v49
  let c0_21 : Index := 0#32
  ![v54.toNat, 0]
def k0_off5 (i : grid0.Coords) : Fin 1 → Nat :=
  let arg1 : BitVec 32 := BitVec.ofNat 32 (i 1).val
  let v11 : Index := Scalar.indexCast arg1
  ![v11.toNat]
def k0_cond2 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c0_i32_10 : BitVec 32 := 0#32
  let v32 : BitVec 1 := Scalar.cmpi .eq v31 c0_i32_10
  let v33 : BitVec 32 := Scalar.extui v32
  let c0_i32_11 : BitVec 32 := 0#32
  let v34 : BitVec 1 := Scalar.cmpi .ne v33 c0_i32_11
  v34

def k0_cond3 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c1_i32_12 : BitVec 32 := 1#32
  let v35 : BitVec 1 := Scalar.cmpi .eq v31 c1_i32_12
  let v36 : BitVec 32 := Scalar.extui v35
  let c0_i32_13 : BitVec 32 := 0#32
  let v37 : BitVec 1 := Scalar.cmpi .ne v36 c0_i32_13
  v37

def k0_cond4 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c2_i32 : BitVec 32 := 2#32
  let v38 : BitVec 1 := Scalar.cmpi .eq v31 c2_i32
  let v39 : BitVec 32 := Scalar.extui v38
  let c0_i32_14 : BitVec 32 := 0#32
  let v40 : BitVec 1 := Scalar.cmpi .ne v39 c0_i32_14
  v40

def k0_cond5 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c3_i32 : BitVec 32 := 3#32
  let v41 : BitVec 1 := Scalar.cmpi .eq v31 c3_i32
  let v42 : BitVec 32 := Scalar.extui v41
  let c0_i32_15 : BitVec 32 := 0#32
  let v43 : BitVec 1 := Scalar.cmpi .ne v42 c0_i32_15
  v43

def k0_cond6 (v12 : BitVec 32) : BitVec 1 :=
  let c128_i32 : BitVec 32 := 128#32
  let v13 : BitVec 32 := Scalar.addi v12 c128_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c128_i32_3 : BitVec 32 := 128#32
  let c0_i32_6 : BitVec 32 := 0#32
  let v21 : BitVec 1 := Scalar.cmpi .sgt c128_i32_3 c0_i32_6
  let v22 : BitVec 32 := Scalar.extui v21
  let c0_i32_7 : BitVec 32 := 0#32
  let v23 : BitVec 1 := Scalar.cmpi .slt c128_i32_3 c0_i32_7
  let v24 : BitVec 32 := Scalar.extui v23
  let v25 : BitVec 32 := Scalar.subi v22 v24
  let v26 : BitVec 1 := Scalar.cmpi .ne v20 v25
  let v27 : BitVec 32 := Scalar.remsi v14 c128_i32_3
  let c0_i32_8 : BitVec 32 := 0#32
  let v28 : BitVec 1 := Scalar.cmpi .ne v27 c0_i32_8
  let v29 : BitVec 1 := Scalar.andi v26 v28
  let v15 : BitVec 32 := Scalar.divsi v14 c128_i32_3
  let c1_i32_9 : BitVec 32 := 1#32
  let v30 : BitVec 32 := Scalar.subi v15 c1_i32_9
  let v31 : BitVec 32 := Scalar.select v29 v30 v15
  let c4_i32 : BitVec 32 := 4#32
  let v44 : BitVec 1 := Scalar.cmpi .eq v31 c4_i32
  let v45 : BitVec 32 := Scalar.extui v44
  let c0_i32_16 : BitVec 32 := 0#32
  let v46 : BitVec 1 := Scalar.cmpi .ne v45 c0_i32_16
  v46

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  ![v1.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x7168x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S36864x7168 : Shape := ⟨2, ![36864, 7168]⟩
abbrev S72 : Shape := ⟨1, ![72]⟩
abbrev S1 : Shape := ⟨1, ![1]⟩
abbrev S8x7168x2048 : Shape := ⟨3, ![8, 7168, 2048]⟩
abbrev S72x512 : Shape := ⟨2, ![72, 512]⟩
abbrev S36864 : Shape := ⟨1, ![36864]⟩
abbrev S512 : Shape := ⟨1, ![512]⟩
abbrev S1x512 : Shape := ⟨2, ![1, 512]⟩
abbrev S_ : Shape := ⟨0, ![]⟩
abbrev S36864x1 : Shape := ⟨2, ![36864, 1]⟩
abbrev S36864x2048 : Shape := ⟨2, ![36864, 2048]⟩
abbrev S1x7168x2048 : Shape := ⟨3, ![1, 7168, 2048]⟩
abbrev S7168x2048 : Shape := ⟨2, ![7168, 2048]⟩

abbrev nBuf : Space → Nat
  | .hbm => 117
  | .vmem => 0
  | .smem => 0
  | _ => 0

abbrev bufTy : (tb : Table) → Fin (tcTables nBuf tb) → BufTy
  | .hbm, ⟨0, _⟩ => ⟨S36864x7168, .bf16⟩
  | .hbm, ⟨1, _⟩ => ⟨S72, .i32⟩
  | .hbm, ⟨2, _⟩ => ⟨S72, .i32⟩
  | .hbm, ⟨3, _⟩ => ⟨S1, .i32⟩
  | .hbm, ⟨4, _⟩ => ⟨S72, .i32⟩
  | .hbm, ⟨5, _⟩ => ⟨S8x7168x2048, .f32⟩
  | .hbm, ⟨6, _⟩ => ⟨S72x512, .i32⟩
  | .hbm, ⟨7, _⟩ => ⟨S36864, .i32⟩
  | .hbm, ⟨8, _⟩ => ⟨S512, .i32⟩
  | .hbm, ⟨9, _⟩ => ⟨S1x512, .i32⟩
  | .hbm, ⟨10, _⟩ => ⟨S72x512, .i32⟩
  | .hbm, ⟨11, _⟩ => ⟨S36864, .i32⟩
  | .hbm, ⟨12, _⟩ => ⟨S_, .i32⟩
  | .hbm, ⟨13, _⟩ => ⟨S_, .i32⟩
  | .hbm, ⟨14, _⟩ => ⟨S36864, .i32⟩
  | .hbm, ⟨15, _⟩ => ⟨S36864, .i32⟩
  | .hbm, ⟨16, _⟩ => ⟨S36864, .i32⟩
  | .hbm, ⟨17, _⟩ => ⟨S_, .i32⟩
  | .hbm, ⟨18, _⟩ => ⟨S36864, .i32⟩
  | .hbm, ⟨19, _⟩ => ⟨S36864, .i1⟩
  | .hbm, ⟨20, _⟩ => ⟨S36864, .i32⟩
  | .hbm, ⟨21, _⟩ => ⟨S36864, .i32⟩
  | .hbm, ⟨22, _⟩ => ⟨S_, .i32⟩
  | .hbm, ⟨23, _⟩ => ⟨S36864, .i32⟩
  | .hbm, ⟨24, _⟩ => ⟨S36864, .i1⟩
  | .hbm, ⟨25, _⟩ => ⟨S36864, .i1⟩
  | .hbm, ⟨26, _⟩ => ⟨S_, .i32⟩
  | .hbm, ⟨27, _⟩ => ⟨S36864, .i32⟩
  | .hbm, ⟨28, _⟩ => ⟨S36864, .i32⟩
  | .hbm, ⟨29, _⟩ => ⟨S36864, .i32⟩
  | .hbm, ⟨30, _⟩ => ⟨S_, .i32⟩
  | .hbm, ⟨31, _⟩ => ⟨S36864, .i32⟩
  | .hbm, ⟨32, _⟩ => ⟨S36864, .i32⟩
  | .hbm, ⟨33, _⟩ => ⟨S72x512, .i32⟩
  | .hbm, ⟨34, _⟩ => ⟨S36864, .i32⟩
  | .hbm, ⟨35, _⟩ => ⟨S36864, .i1⟩
  | .hbm, ⟨36, _⟩ => ⟨S36864x1, .i32⟩
  | .hbm, ⟨37, _⟩ => ⟨S36864x1, .i1⟩
  | .hbm, ⟨38, _⟩ => ⟨S_, .f32⟩
  | .hbm, ⟨39, _⟩ => ⟨S36864x2048, .f32⟩
  | .hbm, ⟨40, _⟩ => ⟨S_, .i32⟩
  | .hbm, ⟨41, _⟩ => ⟨S36864x1, .i32⟩
  | .hbm, ⟨42, _⟩ => ⟨S36864x1, .i1⟩
  | .hbm, ⟨43, _⟩ => ⟨S36864x7168, .f32⟩
  | .hbm, ⟨44, _⟩ => ⟨S1x7168x2048, .f32⟩
  | .hbm, ⟨45, _⟩ => ⟨S7168x2048, .f32⟩
  | .hbm, ⟨46, _⟩ => ⟨S36864x2048, .f32⟩
  | .hbm, ⟨47, _⟩ => ⟨S36864x2048, .i1⟩
  | .hbm, ⟨48, _⟩ => ⟨S36864x2048, .f32⟩
  | .hbm, ⟨49, _⟩ => ⟨S_, .i32⟩
  | .hbm, ⟨50, _⟩ => ⟨S36864x1, .i32⟩
  | .hbm, ⟨51, _⟩ => ⟨S36864x1, .i1⟩
  | .hbm, ⟨52, _⟩ => ⟨S36864x7168, .f32⟩
  | .hbm, ⟨53, _⟩ => ⟨S1x7168x2048, .f32⟩
  | .hbm, ⟨54, _⟩ => ⟨S7168x2048, .f32⟩
  | .hbm, ⟨55, _⟩ => ⟨S36864x2048, .f32⟩
  | .hbm, ⟨56, _⟩ => ⟨S36864x2048, .i1⟩
  | .hbm, ⟨57, _⟩ => ⟨S36864x2048, .f32⟩
  | .hbm, ⟨58, _⟩ => ⟨S_, .i32⟩
  | .hbm, ⟨59, _⟩ => ⟨S36864x1, .i32⟩
  | .hbm, ⟨60, _⟩ => ⟨S36864x1, .i1⟩
  | .hbm, ⟨61, _⟩ => ⟨S36864x7168, .f32⟩
  | .hbm, ⟨62, _⟩ => ⟨S1x7168x2048, .f32⟩
  | .hbm, ⟨63, _⟩ => ⟨S7168x2048, .f32⟩
  | .hbm, ⟨64, _⟩ => ⟨S36864x2048, .f32⟩
  | .hbm, ⟨65, _⟩ => ⟨S36864x2048, .i1⟩
  | .hbm, ⟨66, _⟩ => ⟨S36864x2048, .f32⟩
  | .hbm, ⟨67, _⟩ => ⟨S_, .i32⟩
  | .hbm, ⟨68, _⟩ => ⟨S36864x1, .i32⟩
  | .hbm, ⟨69, _⟩ => ⟨S36864x1, .i1⟩
  | .hbm, ⟨70, _⟩ => ⟨S36864x7168, .f32⟩
  | .hbm, ⟨71, _⟩ => ⟨S1x7168x2048, .f32⟩
  | .hbm, ⟨72, _⟩ => ⟨S7168x2048, .f32⟩
  | .hbm, ⟨73, _⟩ => ⟨S36864x2048, .f32⟩
  | .hbm, ⟨74, _⟩ => ⟨S36864x2048, .i1⟩
  | .hbm, ⟨75, _⟩ => ⟨S36864x2048, .f32⟩
  | .hbm, ⟨76, _⟩ => ⟨S_, .i32⟩
  | .hbm, ⟨77, _⟩ => ⟨S36864x1, .i32⟩
  | .hbm, ⟨78, _⟩ => ⟨S36864x1, .i1⟩
  | .hbm, ⟨79, _⟩ => ⟨S36864x7168, .f32⟩
  | .hbm, ⟨80, _⟩ => ⟨S1x7168x2048, .f32⟩
  | .hbm, ⟨81, _⟩ => ⟨S7168x2048, .f32⟩
  | .hbm, ⟨82, _⟩ => ⟨S36864x2048, .f32⟩
  | .hbm, ⟨83, _⟩ => ⟨S36864x2048, .i1⟩
  | .hbm, ⟨84, _⟩ => ⟨S36864x2048, .f32⟩
  | .hbm, ⟨85, _⟩ => ⟨S_, .i32⟩
  | .hbm, ⟨86, _⟩ => ⟨S36864x1, .i32⟩
  | .hbm, ⟨87, _⟩ => ⟨S36864x1, .i1⟩
  | .hbm, ⟨88, _⟩ => ⟨S36864x7168, .f32⟩
  | .hbm, ⟨89, _⟩ => ⟨S1x7168x2048, .f32⟩
  | .hbm, ⟨90, _⟩ => ⟨S7168x2048, .f32⟩
  | .hbm, ⟨91, _⟩ => ⟨S36864x2048, .f32⟩
  | .hbm, ⟨92, _⟩ => ⟨S36864x2048, .i1⟩
  | .hbm, ⟨93, _⟩ => ⟨S36864x2048, .f32⟩
  | .hbm, ⟨94, _⟩ => ⟨S_, .i32⟩
  | .hbm, ⟨95, _⟩ => ⟨S36864x1, .i32⟩
  | .hbm, ⟨96, _⟩ => ⟨S36864x1, .i1⟩
  | .hbm, ⟨97, _⟩ => ⟨S36864x7168, .f32⟩
  | .hbm, ⟨98, _⟩ => ⟨S1x7168x2048, .f32⟩
  | .hbm, ⟨99, _⟩ => ⟨S7168x2048, .f32⟩
  | .hbm, ⟨100, _⟩ => ⟨S36864x2048, .f32⟩
  | .hbm, ⟨101, _⟩ => ⟨S36864x2048, .i1⟩
  | .hbm, ⟨102, _⟩ => ⟨S36864x2048, .f32⟩
  | .hbm, ⟨103, _⟩ => ⟨S_, .i32⟩
  | .hbm, ⟨104, _⟩ => ⟨S36864x1, .i32⟩
  | .hbm, ⟨105, _⟩ => ⟨S36864x1, .i1⟩
  | .hbm, ⟨106, _⟩ => ⟨S36864x7168, .f32⟩
  | .hbm, ⟨107, _⟩ => ⟨S1x7168x2048, .f32⟩
  | .hbm, ⟨108, _⟩ => ⟨S7168x2048, .f32⟩
  | .hbm, ⟨109, _⟩ => ⟨S36864x2048, .f32⟩
  | .hbm, ⟨110, _⟩ => ⟨S36864x2048, .i1⟩
  | .hbm, ⟨111, _⟩ => ⟨S36864x2048, .f32⟩
  | .hbm, ⟨112, _⟩ => ⟨S_, .f32⟩
  | .hbm, ⟨113, _⟩ => ⟨S_, .f32⟩
  | .hbm, ⟨114, _⟩ => ⟨S36864x2048, .i1⟩
  | .hbm, ⟨115, _⟩ => ⟨S36864x2048, .f32⟩
  | .hbm, ⟨116, _⟩ => ⟨S36864x2048, .f32⟩
  | _, _ => ⟨S36864x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_0 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_call1_v0 : Ref sig .tc := ⟨.hbm, 47, rfl⟩
abbrev main_v21 : Ref sig .tc := ⟨.hbm, 48, rfl⟩
abbrev main_c_2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call2_v0 : Ref sig .tc := ⟨.hbm, 56, rfl⟩
abbrev main_v28 : Ref sig .tc := ⟨.hbm, 57, rfl⟩
abbrev main_c_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_call3_v0 : Ref sig .tc := ⟨.hbm, 65, rfl⟩
abbrev main_v35 : Ref sig .tc := ⟨.hbm, 66, rfl⟩
abbrev main_c_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_call4_v0 : Ref sig .tc := ⟨.hbm, 74, rfl⟩
abbrev main_v42 : Ref sig .tc := ⟨.hbm, 75, rfl⟩
abbrev main_c_5 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call5_v0 : Ref sig .tc := ⟨.hbm, 83, rfl⟩
abbrev main_v49 : Ref sig .tc := ⟨.hbm, 84, rfl⟩
abbrev main_c_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call6_v0 : Ref sig .tc := ⟨.hbm, 92, rfl⟩
abbrev main_v56 : Ref sig .tc := ⟨.hbm, 93, rfl⟩
abbrev main_c_7 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call7_v0 : Ref sig .tc := ⟨.hbm, 101, rfl⟩
abbrev main_v63 : Ref sig .tc := ⟨.hbm, 102, rfl⟩
abbrev main_c_8 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call8_v0 : Ref sig .tc := ⟨.hbm, 110, rfl⟩
abbrev main_v70 : Ref sig .tc := ⟨.hbm, 111, rfl⟩
abbrev main_cst_9 : Ref sig .tc := ⟨.hbm, 112, rfl⟩
abbrev main_call9_v0 : Ref sig .tc := ⟨.hbm, 113, rfl⟩
abbrev main_call9_v1 : Ref sig .tc := ⟨.hbm, 114, rfl⟩
abbrev main_call9_v2 : Ref sig .tc := ⟨.hbm, 115, rfl⟩
abbrev main_v71 : Ref sig .tc := ⟨.hbm, 116, rfl⟩

abbrev nD : Nat := 1
abbrev τ : Topo := Topo.v7x

variable {F : FTy → Type} [FloatOps F]
-- ==== Kernel4.lean ====
abbrev S16384x2048 : Shape := ⟨2, ![16384, 2048]⟩
abbrev S1x2048x5632 : Shape := ⟨3, ![1, 2048, 5632]⟩
abbrev S16 : Shape := ⟨1, ![16]⟩
abbrev S_ : Shape := ⟨0, ![]⟩
abbrev S1 : Shape := ⟨1, ![1]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x512x512 : Shape := ⟨3, ![1, 512, 512]⟩
abbrev S512x512 : Shape := ⟨2, ![512, 512]⟩
abbrev S256x2048 : Shape := ⟨2, ![256, 2048]⟩
abbrev S256x512 : Shape := ⟨2, ![256, 512]⟩
abbrev S768x512 : Shape := ⟨2, ![768, 512]⟩
abbrev S512x2048 : Shape := ⟨2, ![512, 2048]⟩
abbrev S768x2048 : Shape := ⟨2, ![768, 2048]⟩

abbrev nBuf : Space → Nat
  | .hbm => 8
  | .vmem => 10
  | .smem => 4
  | _ => 0

abbrev bufTy : (tb : Table) → Fin (tcTables nBuf tb) → BufTy
  | .hbm, ⟨0, _⟩ => ⟨S16384x2048, .f32⟩
  | .hbm, ⟨1, _⟩ => ⟨S1x2048x5632, .f32⟩
  | .hbm, ⟨2, _⟩ => ⟨S1x2048x5632, .f32⟩
  | .hbm, ⟨3, _⟩ => ⟨S16384x2048, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .smem, ⟨0, _⟩ => ⟨S16, .i32⟩
  | .local _ .smem, ⟨1, _⟩ => ⟨S16, .i32⟩
  | .local _ .smem, ⟨2, _⟩ => ⟨S1, .i32⟩
  | .local _ .smem, ⟨3, _⟩ => ⟨S16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v4 : Ref sig .tc := ⟨.hbm, 7, rfl⟩
abbrev main_v1 : Ref sig .tc := ⟨.smem, 0, rfl⟩
abbrev main_c : Ref sig .tc := ⟨.smem, 1, rfl⟩
abbrev main_v2 : Ref sig .tc := ⟨.smem, 2, rfl⟩
abbrev main_v3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

abbrev pre0 : Pipeline.Prefetch sig := ⟨4, ![main_v1.idx, main_c.idx, main_v2.idx, main_v3.idx], fun | 0 => main_v1.names | 1 => main_c.names | 2 => main_v2.names | 3 => main_v3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_17 : BitVec 32 := 0#32
  let c4_i32_18 : BitVec 32 := 4#32
  let v47 : BitVec 32 := Scalar.addi c0_i32_17 c4_i32_18
  let c1_i32_19 : BitVec 32 := 1#32
  ⟨c0_i32_17, v47, c1_i32_19⟩
def k0_mult1 (k0_t1 : Fin k0_t1_loop.trips) : BitVec 32 :=
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  v48
def k0_off3 (k0_t1 : Fin k0_t1_loop.trips) : Fin 3 → Nat :=
  let c0 : Index := 0#32
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  let v49 : BitVec 32 := v48
  let v50 : Index := Scalar.indexCast v49
  let c0_21 : Index := 0#32
  ![0, v50.toNat, 0]
def k0_off4 (k0_t1 : Fin k0_t1_loop.trips) : Fin 2 → Nat :=
  let c0_i32_17 : BitVec 32 := 0#32
  let c1_i32_19 : BitVec 32 := 1#32
  let arg12 : BitVec 32 := Scf.iv c0_i32_17 c1_i32_19 k0_t1
  let c512_i32 : BitVec 32 := 512#32
  let v48 : BitVec 32 := Scalar.muli arg12 c512_i32
  let v49 : BitVec 32 := v48
  let v54 : Index := Scalar.indexCast v49
  let c0_22 : Index := 0#32
  ![v54.toNat, 0]
def k0_off5 (i : grid0.Coords) : Fin 1 → Nat :=
  let arg1 : BitVec 32 := BitVec.ofNat 32 (i 1).val
  let v11 : Index := Scalar.indexCast arg1
  ![v11.toNat]
def k0_cond2 (v12 : BitVec 32) : BitVec 1 :=
  let c256_i32 : BitVec 32 := 256#32
  let v13 : BitVec 32 := Scalar.addi v12 c256_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c256_i32_3 : BitVec 32 := 256#32
  let c0_i32_6 : BitVec 32 := 0#32
  let v21 : BitVec 1 := Scalar.cmpi .sgt c256_i32_3 c0_i32_6
  let v22 : BitVec 32 := Scalar.extui v21
  let c0_i32_7 : BitVec 32 := 0#32
  let v23 : BitVec 1 := Scalar.cmpi .slt c256_i32_3 c0_i32_7
  let v24 : BitVec 32 := Scalar.extui v23
  let v25 : BitVec 32 := Scalar.subi v22 v24
  let v26 : BitVec 1 := Scalar.cmpi .ne v20 v25
  let v27 : BitVec 32 := Scalar.remsi v14 c256_i32_3
  let c0_i32_8 : BitVec 32 := 0#32
  let v28 : BitVec 1 := Scalar.cmpi .ne v27 c0_i32_8
  let v29 : BitVec 1 := Scalar.andi v26 v28
  let v15 : BitVec 32 := Scalar.divsi v14 c256_i32_3
  let c1_i32_9 : BitVec 32 := 1#32
  let v30 : BitVec 32 := Scalar.subi v15 c1_i32_9
  let v31 : BitVec 32 := Scalar.select v29 v30 v15
  let c0_i32_10 : BitVec 32 := 0#32
  let v32 : BitVec 1 := Scalar.cmpi .eq v31 c0_i32_10
  let v33 : BitVec 32 := Scalar.extui v32
  let c0_i32_11 : BitVec 32 := 0#32
  let v34 : BitVec 1 := Scalar.cmpi .ne v33 c0_i32_11
  v34

def k0_cond3 (v12 : BitVec 32) : BitVec 1 :=
  let c256_i32 : BitVec 32 := 256#32
  let v13 : BitVec 32 := Scalar.addi v12 c256_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c256_i32_3 : BitVec 32 := 256#32
  let c0_i32_6 : BitVec 32 := 0#32
  let v21 : BitVec 1 := Scalar.cmpi .sgt c256_i32_3 c0_i32_6
  let v22 : BitVec 32 := Scalar.extui v21
  let c0_i32_7 : BitVec 32 := 0#32
  let v23 : BitVec 1 := Scalar.cmpi .slt c256_i32_3 c0_i32_7
  let v24 : BitVec 32 := Scalar.extui v23
  let v25 : BitVec 32 := Scalar.subi v22 v24
  let v26 : BitVec 1 := Scalar.cmpi .ne v20 v25
  let v27 : BitVec 32 := Scalar.remsi v14 c256_i32_3
  let c0_i32_8 : BitVec 32 := 0#32
  let v28 : BitVec 1 := Scalar.cmpi .ne v27 c0_i32_8
  let v29 : BitVec 1 := Scalar.andi v26 v28
  let v15 : BitVec 32 := Scalar.divsi v14 c256_i32_3
  let c1_i32_9 : BitVec 32 := 1#32
  let v30 : BitVec 32 := Scalar.subi v15 c1_i32_9
  let v31 : BitVec 32 := Scalar.select v29 v30 v15
  let c1_i32_12 : BitVec 32 := 1#32
  let v35 : BitVec 1 := Scalar.cmpi .eq v31 c1_i32_12
  let v36 : BitVec 32 := Scalar.extui v35
  let c0_i32_13 : BitVec 32 := 0#32
  let v37 : BitVec 1 := Scalar.cmpi .ne v36 c0_i32_13
  v37

def k0_cond4 (v12 : BitVec 32) : BitVec 1 :=
  let c256_i32 : BitVec 32 := 256#32
  let v13 : BitVec 32 := Scalar.addi v12 c256_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c256_i32_3 : BitVec 32 := 256#32
  let c0_i32_6 : BitVec 32 := 0#32
  let v21 : BitVec 1 := Scalar.cmpi .sgt c256_i32_3 c0_i32_6
  let v22 : BitVec 32 := Scalar.extui v21
  let c0_i32_7 : BitVec 32 := 0#32
  let v23 : BitVec 1 := Scalar.cmpi .slt c256_i32_3 c0_i32_7
  let v24 : BitVec 32 := Scalar.extui v23
  let v25 : BitVec 32 := Scalar.subi v22 v24
  let v26 : BitVec 1 := Scalar.cmpi .ne v20 v25
  let v27 : BitVec 32 := Scalar.remsi v14 c256_i32_3
  let c0_i32_8 : BitVec 32 := 0#32
  let v28 : BitVec 1 := Scalar.cmpi .ne v27 c0_i32_8
  let v29 : BitVec 1 := Scalar.andi v26 v28
  let v15 : BitVec 32 := Scalar.divsi v14 c256_i32_3
  let c1_i32_9 : BitVec 32 := 1#32
  let v30 : BitVec 32 := Scalar.subi v15 c1_i32_9
  let v31 : BitVec 32 := Scalar.select v29 v30 v15
  let c2_i32 : BitVec 32 := 2#32
  let v38 : BitVec 1 := Scalar.cmpi .eq v31 c2_i32
  let v39 : BitVec 32 := Scalar.extui v38
  let c0_i32_14 : BitVec 32 := 0#32
  let v40 : BitVec 1 := Scalar.cmpi .ne v39 c0_i32_14
  v40

def k0_cond5 (v12 : BitVec 32) : BitVec 1 :=
  let c256_i32 : BitVec 32 := 256#32
  let v13 : BitVec 32 := Scalar.addi v12 c256_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c256_i32_3 : BitVec 32 := 256#32
  let c0_i32_6 : BitVec 32 := 0#32
  let v21 : BitVec 1 := Scalar.cmpi .sgt c256_i32_3 c0_i32_6
  let v22 : BitVec 32 := Scalar.extui v21
  let c0_i32_7 : BitVec 32 := 0#32
  let v23 : BitVec 1 := Scalar.cmpi .slt c256_i32_3 c0_i32_7
  let v24 : BitVec 32 := Scalar.extui v23
  let v25 : BitVec 32 := Scalar.subi v22 v24
  let v26 : BitVec 1 := Scalar.cmpi .ne v20 v25
  let v27 : BitVec 32 := Scalar.remsi v14 c256_i32_3
  let c0_i32_8 : BitVec 32 := 0#32
  let v28 : BitVec 1 := Scalar.cmpi .ne v27 c0_i32_8
  let v29 : BitVec 1 := Scalar.andi v26 v28
  let v15 : BitVec 32 := Scalar.divsi v14 c256_i32_3
  let c1_i32_9 : BitVec 32 := 1#32
  let v30 : BitVec 32 := Scalar.subi v15 c1_i32_9
  let v31 : BitVec 32 := Scalar.select v29 v30 v15
  let c3_i32 : BitVec 32 := 3#32
  let v41 : BitVec 1 := Scalar.cmpi .eq v31 c3_i32
  let v42 : BitVec 32 := Scalar.extui v41
  let c0_i32_15 : BitVec 32 := 0#32
  let v43 : BitVec 1 := Scalar.cmpi .ne v42 c0_i32_15
  v43

def k0_cond6 (v12 : BitVec 32) : BitVec 1 :=
  let c256_i32 : BitVec 32 := 256#32
  let v13 : BitVec 32 := Scalar.addi v12 c256_i32
  let c1_i32_2 : BitVec 32 := 1#32
  let v14 : BitVec 32 := Scalar.subi v13 c1_i32_2
  let c0_i32_4 : BitVec 32 := 0#32
  let v16 : BitVec 1 := Scalar.cmpi .sgt v14 c0_i32_4
  let v17 : BitVec 32 := Scalar.extui v16
  let c0_i32_5 : BitVec 32 := 0#32
  let v18 : BitVec 1 := Scalar.cmpi .slt v14 c0_i32_5
  let v19 : BitVec 32 := Scalar.extui v18
  let v20 : BitVec 32 := Scalar.subi v17 v19
  let c256_i32_3 : BitVec 32 := 256#32
  let c0_i32_6 : BitVec 32 := 0#32
  let v21 : BitVec 1 := Scalar.cmpi .sgt c256_i32_3 c0_i32_6
  let v22 : BitVec 32 := Scalar.extui v21
  let c0_i32_7 : BitVec 32 := 0#32
  let v23 : BitVec 1 := Scalar.cmpi .slt c256_i32_3 c0_i32_7
  let v24 : BitVec 32 := Scalar.extui v23
  let v25 : BitVec 32 := Scalar.subi v22 v24
  let v26 : BitVec 1 := Scalar.cmpi .ne v20 v25
  let v27 : BitVec 32 := Scalar.remsi v14 c256_i32_3
  let c0_i32_8 : BitVec 32 := 0#32
  let v28 : BitVec 1 := Scalar.cmpi .ne v27 c0_i32_8
  let v29 : BitVec 1 := Scalar.andi v26 v28
  let v15 : BitVec 32 := Scalar.divsi v14 c256_i32_3
  let c1_i32_9 : BitVec 32 := 1#32
  let v30 : BitVec 32 := Scalar.subi v15 c1_i32_9
  let v31 : BitVec 32 := Scalar.select v29 v30 v15
  let c4_i32 : BitVec 32 := 4#32
  let v44 : BitVec 1 := Scalar.cmpi .eq v31 c4_i32
  let v45 : BitVec 32 := Scalar.extui v44
  let c0_i32_16 : BitVec 32 := 0#32
  let v46 : BitVec 1 := Scalar.cmpi .ne v45 c0_i32_16
  v46

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v2.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x2048 : Shape := ⟨2, ![16384, 2048]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x5632, .f32⟩
  | .hbm, ⟨2, _⟩ => ⟨S1x2048x5632, .f32⟩
  | .hbm, ⟨3, _⟩ => ⟨S2048x5632, .f32⟩
  | .hbm, ⟨4, _⟩ => ⟨S16384x5632, .f32⟩
  | .hbm, ⟨5, _⟩ => ⟨S16384x5632, .f32⟩
  | .hbm, ⟨6, _⟩ => ⟨S16384x5632, .f32⟩
  | .hbm, ⟨7, _⟩ => ⟨S_, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S2048x5632, .f32⟩
  | .hbm, ⟨15, _⟩ => ⟨S16384x5632, .f32⟩
  | .hbm, ⟨16, _⟩ => ⟨S16384x5632, .f32⟩
  | .hbm, ⟨17, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S16384x5632 : Shape := ⟨2, ![16384, 5632]⟩
abbrev S1x5632x2048 : Shape := ⟨3, ![1, 5632, 2048]⟩
abbrev S16384x2048 : Shape := ⟨2, ![16384, 2048]⟩
abbrev S8x12288 : Shape := ⟨2, ![8, 12288]⟩
abbrev S32 : Shape := ⟨1, ![32]⟩
abbrev S8x6x1x2048 : Shape := ⟨4, ![8, 6, 1, 2048]⟩
abbrev S_ : Shape := ⟨0, ![]⟩
abbrev S1 : Shape := ⟨1, ![1]⟩
abbrev S512x5632 : Shape := ⟨2, ![512, 5632]⟩
abbrev S1x5632x512 : Shape := ⟨3, ![1, 5632, 512]⟩
abbrev S512x512 : Shape := ⟨2, ![512, 512]⟩
abbrev S1x1x1x512 : Shape := ⟨4, ![1, 1, 1, 512]⟩
abbrev S5632x512 : Shape := ⟨2, ![5632, 512]⟩
abbrev S1x512x512 : Shape := ⟨3, ![1, 512, 512]⟩
abbrev S1x512 : Shape := ⟨2, ![1, 512]⟩

abbrev nBuf : Space → Nat
  | .hbm => 9
  | .vmem => 11
  | .smem => 4
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S16384x2048, .f32⟩
  | .hbm, ⟨3, _⟩ => ⟨S8x12288, .f32⟩
  | .hbm, ⟨4, _⟩ => ⟨S8x6x1x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x1x1x512, .f32⟩
  | .local _ .vmem, ⟨7, _⟩ => ⟨S1x1x1x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | .local _ .smem, ⟨0, _⟩ => ⟨S32, .i32⟩
  | .local _ .smem, ⟨1, _⟩ => ⟨S32, .i32⟩
  | .local _ .smem, ⟨2, _⟩ => ⟨S1, .i32⟩
  | .local _ .smem, ⟨3, _⟩ => ⟨S32, .i32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v4 : Ref sig .tc := ⟨.hbm, 8, rfl⟩
abbrev main_v1 : Ref sig .tc := ⟨.smem, 0, rfl⟩
abbrev main_c : Ref sig .tc := ⟨.smem, 1, rfl⟩
abbrev main_v2 : Ref sig .tc := ⟨.smem, 2, rfl⟩
abbrev main_v3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

abbrev pre0 : Pipeline.Prefetch sig := ⟨4, ![main_v1.idx, main_c.idx, main_v2.idx, main_v3.idx], fun | 0 => main_v1.names | 1 => main_c.names | 2 => main_v2.names | 3 => main_v3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_13 : BitVec 32 := 0#32
  let c11_i32 : BitVec 32 := 11#32
  let v21 : BitVec 32 := Scalar.addi c0_i32_13 c11_i32
  let c1_i32_14 : BitVec 32 := 1#32
  ⟨c0_i32_13, v21, c1_i32_14⟩
def k0_mult1 (k0_t1 : Fin k0_t1_loop.trips) : BitVec 32 :=
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  v22
def k0_off3 (k0_t1 : Fin k0_t1_loop.trips) : Fin 3 → Nat :=
  let c0_16 : Index := 0#32
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  let v23 : BitVec 32 := v22
  let v24 : Index := Scalar.indexCast v23
  let c0_17 : Index := 0#32
  ![0, v24.toNat, 0]
def k0_off4 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  let v23 : BitVec 32 := v22
  let v28 : Index := Scalar.indexCast v23
  let c0_18 : Index := 0#32
  ![v28.toNat, 0]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S32) ![v0.toNat] S1.size (k0_off1_inb i)) numel1_S1
  let c5_i32 : BitVec 32 := 5#32
  let c0_i32 : BitVec 32 := 0#32
  let c0_i32_0 : BitVec 32 := 0#32
  ![v1.toNat, c5_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x5632 : Shape := ⟨2, ![16384, 5632]⟩
abbrev S1x5632x2048 : Shape := ⟨3, ![1, 5632, 2048]⟩
abbrev S16384x2048 : Shape := ⟨2, ![16384, 2048]⟩
abbrev S8x12288 : Shape := ⟨2, ![8, 12288]⟩
abbrev S5632x2048 : Shape := ⟨2, ![5632, 2048]⟩
abbrev S8x2048 : Shape := ⟨2, ![8, 2048]⟩
abbrev S8192x2048 : Shape := ⟨2, ![8192, 2048]⟩
abbrev S2x4096x2048 : Shape := ⟨3, ![2, 4096, 2048]⟩
abbrev S2x2048 : Shape := ⟨2, ![2, 2048]⟩
abbrev S2x1x2048 : Shape := ⟨3, ![2, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1x5632x2048, .f32⟩
  | .hbm, ⟨2, _⟩ => ⟨S16384x2048, .f32⟩
  | .hbm, ⟨3, _⟩ => ⟨S8x12288, .f32⟩
  | .hbm, ⟨4, _⟩ => ⟨S16384x5632, .f32⟩
  | .hbm, ⟨5, _⟩ => ⟨S5632x2048, .f32⟩
  | .hbm, ⟨6, _⟩ => ⟨S16384x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8192x2048, .f32⟩
  | .hbm, ⟨14, _⟩ => ⟨S2x4096x2048, .f32⟩
  | .hbm, ⟨15, _⟩ => ⟨S8192x2048, .f32⟩
  | .hbm, ⟨16, _⟩ => ⟨S2x4096x2048, .f32⟩
  | .hbm, ⟨17, _⟩ => ⟨S2x2048, .f32⟩
  | .hbm, ⟨18, _⟩ => ⟨S2x1x2048, .f32⟩
  | .hbm, ⟨19, _⟩ => ⟨S2x4096x2048, .f32⟩
  | .hbm, ⟨20, _⟩ => ⟨S2x4096x2048, .f32⟩
  | .hbm, ⟨21, _⟩ => ⟨S2x4096x2048, .f32⟩
  | .hbm, ⟨22, _⟩ => ⟨S8192x2048, .f32⟩
  | .hbm, ⟨23, _⟩ => ⟨S4x2048x2048, .f32⟩
  | .hbm, ⟨24, _⟩ => ⟨S8192x2048, .f32⟩
  | .hbm, ⟨25, _⟩ => ⟨S4x2048x2048, .f32⟩
  | .hbm, ⟨26, _⟩ => ⟨S4x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S8192x2048, .f32⟩
  | .hbm, ⟨33, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel6.lean ====
abbrev S16384x2048 : Shape := ⟨2, ![16384, 2048]⟩
abbrev S2x2048x5120 : Shape := ⟨3, ![2, 2048, 5120]⟩
abbrev S16 : Shape := ⟨1, ![16]⟩
abbrev S_ : Shape := ⟨0, ![]⟩
abbrev S1 : Shape := ⟨1, ![1]⟩
abbrev S1x16384x4608 : Shape := ⟨3, ![1, 16384, 4608]⟩
abbrev S4x4096x4608 : Shape := ⟨3, ![4, 4096, 4608]⟩
abbrev S16x1024x4608 : Shape := ⟨3, ![16, 1024, 4608]⟩
abbrev S1024x2048 : Shape := ⟨2, ![1024, 2048]⟩
abbrev S1x2048x512 : Shape := ⟨3, ![1, 2048, 512]⟩
abbrev S1x1024x512 : Shape := ⟨3, ![1, 1024, 512]⟩
abbrev S4x256x512 : Shape := ⟨3, ![4, 256, 512]⟩
abbrev S16x64x512 : Shape := ⟨3, ![16, 64, 512]⟩
abbrev S2048x512 : Shape := ⟨2, ![2048, 512]⟩
abbrev S4x1024x128 : Shape := ⟨3, ![4, 1024, 128]⟩
abbrev S1x512x512 : Shape := ⟨3, ![1, 512, 512]⟩
abbrev S512x512 : Shape := ⟨2, ![512, 512]⟩
abbrev S1024x512 : Shape := ⟨2, ![1024, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 9
  | .vmem => 13
  | .smem => 4
  | _ => 0

abbrev bufTy : (tb : Table) → Fin (tcTables nBuf tb) → BufTy
  | .hbm, ⟨0, _⟩ => ⟨S16384x2048, .f32⟩
  | .hbm, ⟨1, _⟩ => ⟨S2x2048x5120, .f32⟩
  | .hbm, ⟨2, _⟩ => ⟨S16384x2048, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x16384x4608, .bf16⟩
  | .hbm, ⟨7, _⟩ => ⟨S4x4096x4608, .bf16⟩
  | .hbm, ⟨8, _⟩ => ⟨S16x1024x4608, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1024x512, .bf16⟩
  | .local _ .vmem, ⟨5, _⟩ => ⟨S1x1024x512, .bf16⟩
  | .local _ .vmem, ⟨6, _⟩ => ⟨S4x256x512, .bf16⟩
  | .local _ .vmem, ⟨7, _⟩ => ⟨S4x256x512, .bf16⟩
  | .local _ .vmem, ⟨8, _⟩ => ⟨S16x64x512, .bf16⟩
  | .local _ .vmem, ⟨9, _⟩ => ⟨S16x64x512, .bf16⟩
  | .local _ .vmem, ⟨10, _⟩ => ⟨S2048x512, .bf16⟩
  | .local _ .vmem, ⟨11, _⟩ => ⟨S4x1024x128, .f32⟩
  | .local _ .vmem, ⟨12, _⟩ => ⟨S4x1024x128, .f32⟩
  | .local _ .smem, ⟨0, _⟩ => ⟨S16, .i32⟩
  | .local _ .smem, ⟨1, _⟩ => ⟨S16, .i32⟩
  | .local _ .smem, ⟨2, _⟩ => ⟨S1, .i32⟩
  | .local _ .smem, ⟨3, _⟩ => ⟨S16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v1 : Ref sig .tc := ⟨.smem, 0, rfl⟩
abbrev main_c : Ref sig .tc := ⟨.smem, 1, rfl⟩
abbrev main_v2 : Ref sig .tc := ⟨.smem, 2, rfl⟩
abbrev main_v3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 16], ![false, false]⟩

abbrev pre0 : Pipeline.Prefetch sig := ⟨4, ![main_v1.idx, main_c.idx, main_v2.idx, main_v3.idx], fun | 0 => main_v1.names | 1 => main_c.names | 2 => main_v2.names | 3 => main_v3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_521 : BitVec 32 := 0#32
  let c4_i32 : BitVec 32 := 4#32
  let v567 : BitVec 32 := Scalar.addi c0_i32_521 c4_i32
  let c1_i32_522 : BitVec 32 := 1#32
  ⟨c0_i32_521, v567, c1_i32_522⟩
def k0_mult1 (k0_t1 : Fin k0_t1_loop.trips) : BitVec 32 :=
  let c0_i32_521 : BitVec 32 := 0#32
  let c1_i32_522 : BitVec 32 := 1#32
  let arg14 : BitVec 32 := Scf.iv c0_i32_521 c1_i32_522 k0_t1
  let c512_i32 : BitVec 32 := 512#32
  let v568 : BitVec 32 := Scalar.muli arg14 c512_i32
  v568
def k0_off3 (k0_t1 : Fin k0_t1_loop.trips) : Fin 3 → Nat :=
  let c0_524 : Index := 0#32
  let c0_i32_521 : BitVec 32 := 0#32
  let c1_i32_522 : BitVec 32 := 1#32
  let arg14 : BitVec 32 := Scf.iv c0_i32_521 c1_i32_522 k0_t1
  let c512_i32 : BitVec 32 := 512#32
  let v568 : BitVec 32 := Scalar.muli arg14 c512_i32
  let v569 : BitVec 32 := v568
  let v570 : Index := Scalar.indexCast v569
  let c0_525 : Index := 0#32
  ![0, v570.toNat, 0]
def k0_off4 (k0_t1 : Fin k0_t1_loop.trips) : Fin 2 → Nat :=
  let c0_i32_521 : BitVec 32 := 0#32
  let c1_i32_522 : BitVec 32 := 1#32
  let arg14 : BitVec 32 := Scf.iv c0_i32_521 c1_i32_522 k0_t1
  let c512_i32 : BitVec 32 := 512#32
  let v568 : BitVec 32 := Scalar.muli arg14 c512_i32
  let v569 : BitVec 32 := v568
  let v574 : Index := Scalar.indexCast v569
  let c0_526 : Index := 0#32
  ![v574.toNat, 0]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c1_i32 : BitVec 32 := 1#32
  let v2 : BitVec 32 := Scalar.addi c1_i32 arg0
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "q_scale" => some ((((Real.sqrt 128) * (Real.log 2))⁻¹ : ℝ) : EReal)
  | _ => none
-- ==== Reference6Ideal.lean ====
abbrev S16384x2048 : Shape := ⟨2, ![16384, 2048]⟩
abbrev S2x2048x5120 : Shape := ⟨3, ![2, 2048, 5120]⟩
abbrev S1x2048x5120 : Shape := ⟨3, ![1, 2048, 5120]⟩
abbrev S2048x5120 : Shape := ⟨2, ![2048, 5120]⟩
abbrev S16384x5120 : Shape := ⟨2, ![16384, 5120]⟩
abbrev S16384x1536 : Shape := ⟨2, ![16384, 1536]⟩
abbrev S_ : Shape := ⟨0, ![]⟩
abbrev S16384x3072 : Shape := ⟨2, ![16384, 3072]⟩
abbrev S16384x4608 : Shape := ⟨2, ![16384, 4608]⟩
abbrev S16384x1x4608 : Shape := ⟨3, ![16384, 1, 4608]⟩
abbrev S1x16384x4608 : Shape := ⟨3, ![1, 16384, 4608]⟩
abbrev S4096x4x4608 : Shape := ⟨3, ![4096, 4, 4608]⟩
abbrev S4x4096x4608 : Shape := ⟨3, ![4, 4096, 4608]⟩
abbrev S1024x16x4608 : Shape := ⟨3, ![1024, 16, 4608]⟩
abbrev S16x1024x4608 : Shape := ⟨3, ![16, 1024, 4608]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x5120, .f32⟩
  | .hbm, ⟨2, _⟩ => ⟨S1x2048x5120, .f32⟩
  | .hbm, ⟨3, _⟩ => ⟨S2048x5120, .f32⟩
  | .hbm, ⟨4, _⟩ => ⟨S16384x5120, .f32⟩
  | .hbm, ⟨5, _⟩ => ⟨S16384x1536, .f32⟩
  | .hbm, ⟨6, _⟩ => ⟨S_, .f32⟩
  | .hbm, ⟨7, _⟩ => ⟨S_, .f32⟩
  | .hbm, ⟨8, _⟩ => ⟨S16384x1536, .f32⟩
  | .hbm, ⟨9, _⟩ => ⟨S16384x1536, .f32⟩
  | .hbm, ⟨10, _⟩ => ⟨S_, .f32⟩
  | .hbm, ⟨11, _⟩ => ⟨S_, .f32⟩
  | .hbm, ⟨12, _⟩ => ⟨S16384x1536, .f32⟩
  | .hbm, ⟨13, _⟩ => ⟨S16384x1536, .f32⟩
  | .hbm, ⟨14, _⟩ => ⟨S16384x3072, .f32⟩
  | .hbm, ⟨15, _⟩ => ⟨S16384x4608, .f32⟩
  | .hbm, ⟨16, _⟩ => ⟨S16384x4608, .bf16⟩
  | .hbm, ⟨17, _⟩ => ⟨S16384x1x4608, .bf16⟩
  | .hbm, ⟨18, _⟩ => ⟨S1x16384x4608, .bf16⟩
  | .hbm, ⟨19, _⟩ => ⟨S4096x4x4608, .bf16⟩
  | .hbm, ⟨20, _⟩ => ⟨S4x4096x4608, .bf16⟩
  | .hbm, ⟨21, _⟩ => ⟨S1024x16x4608, .bf16⟩
  | .hbm, ⟨22, _⟩ => ⟨S16x1024x4608, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel7.lean ====
abbrev S16384x2048 : Shape := ⟨2, ![16384, 2048]⟩
abbrev S2x2048x2048 : Shape := ⟨3, ![2, 2048, 2048]⟩
abbrev S8x12288 : Shape := ⟨2, ![8, 12288]⟩
abbrev S16 : Shape := ⟨1, ![16]⟩
abbrev S8x6x1x2048 : Shape := ⟨4, ![8, 6, 1, 2048]⟩
abbrev S_ : Shape := ⟨0, ![]⟩
abbrev S1 : Shape := ⟨1, ![1]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1x1024 : Shape := ⟨4, ![1, 1, 1, 1024]⟩
abbrev S2048x1024 : Shape := ⟨2, ![2048, 1024]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 9
  | .vmem => 11
  | .smem => 4
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S8x12288, .f32⟩
  | .hbm, ⟨4, _⟩ => ⟨S8x6x1x2048, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | .local _ .smem, ⟨0, _⟩ => ⟨S16, .i32⟩
  | .local _ .smem, ⟨1, _⟩ => ⟨S16, .i32⟩
  | .local _ .smem, ⟨2, _⟩ => ⟨S1, .i32⟩
  | .local _ .smem, ⟨3, _⟩ => ⟨S16, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v4 : Ref sig .tc := ⟨.hbm, 8, rfl⟩
abbrev main_v1 : Ref sig .tc := ⟨.smem, 0, rfl⟩
abbrev main_c : Ref sig .tc := ⟨.smem, 1, rfl⟩
abbrev main_v2 : Ref sig .tc := ⟨.smem, 2, rfl⟩
abbrev main_v3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

abbrev pre0 : Pipeline.Prefetch sig := ⟨4, ![main_v1.idx, main_c.idx, main_v2.idx, main_v3.idx], fun | 0 => main_v1.names | 1 => main_c.names | 2 => main_v2.names | 3 => main_v3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_13 : BitVec 32 := 0#32
  let c4_i32 : BitVec 32 := 4#32
  let v21 : BitVec 32 := Scalar.addi c0_i32_13 c4_i32
  let c1_i32_14 : BitVec 32 := 1#32
  ⟨c0_i32_13, v21, c1_i32_14⟩
def k0_mult1 (k0_t1 : Fin k0_t1_loop.trips) : BitVec 32 :=
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  v22
def k0_off3 (k0_t1 : Fin k0_t1_loop.trips) : Fin 3 → Nat :=
  let c0_16 : Index := 0#32
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  let v23 : BitVec 32 := v22
  let v24 : Index := Scalar.indexCast v23
  let c0_17 : Index := 0#32
  ![0, v24.toNat, 0]
def k0_off4 (k0_t1 : Fin k0_t1_loop.trips) : Fin 2 → Nat :=
  let c0_i32_13 : BitVec 32 := 0#32
  let c1_i32_14 : BitVec 32 := 1#32
  let arg12 : BitVec 32 := Scf.iv c0_i32_13 c1_i32_14 k0_t1
  let c512_i32 : BitVec 32 := 512#32
  let v22 : BitVec 32 := Scalar.muli arg12 c512_i32
  let v23 : BitVec 32 := v22
  let v28 : Index := Scalar.indexCast v23
  let c0_18 : Index := 0#32
  ![v28.toNat, 0]
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let v2 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S16) ![v0.toNat] S1.size (k0_off1_inb i)) numel1_S1
  let c2_i32 : BitVec 32 := 2#32
  let c0_i32 : BitVec 32 := 0#32
  let c0_i32_0 : BitVec 32 := 0#32
  ![v1.toNat, c2_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x2048 : Shape := ⟨2, ![16384, 2048]⟩
abbrev S2x2048x2048 : Shape := ⟨3, ![2, 2048, 2048]⟩
abbrev S8x12288 : Shape := ⟨2, ![8, 12288]⟩
abbrev S1x2048x2048 : Shape := ⟨3, ![1, 2048, 2048]⟩
abbrev S2048x2048 : Shape := ⟨2, ![2048, 2048]⟩
abbrev S8x2048 : Shape := ⟨2, ![8, 2048]⟩
abbrev S8192x2048 : Shape := ⟨2, ![8192, 2048]⟩
abbrev S2x4096x2048 : Shape := ⟨3, ![2, 4096, 2048]⟩
abbrev S2x2048 : Shape := ⟨2, ![2, 2048]⟩
abbrev S2x1x2048 : Shape := ⟨3, ![2, 1, 2048]⟩
abbrev S4x2048x2048 : Shape := ⟨3, ![4, 2048, 2048]⟩
abbrev S4x2048 : Shape := ⟨2, ![4, 2048]⟩
abbrev S4x1x2048 : Shape := ⟨3, ![4, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S8x12288, .f32⟩
  | .hbm, ⟨4, _⟩ => ⟨S16384x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8192x2048, .f32⟩
  | .hbm, ⟨15, _⟩ => ⟨S2x4096x2048, .f32⟩
  | .hbm, ⟨16, _⟩ => ⟨S8192x2048, .f32⟩
  | .hbm, ⟨17, _⟩ => ⟨S2x4096x2048, .f32⟩
  | .hbm, ⟨18, _⟩ => ⟨S2x2048, .f32⟩
  | .hbm, ⟨19, _⟩ => ⟨S2x1x2048, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S8192x2048, .f32⟩
  | .hbm, ⟨24, _⟩ => ⟨S4x2048x2048, .f32⟩
  | .hbm, ⟨25, _⟩ => ⟨S8192x2048, .f32⟩
  | .hbm, ⟨26, _⟩ => ⟨S4x2048x2048, .f32⟩
  | .hbm, ⟨27, _⟩ => ⟨S4x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S8192x2048, .f32⟩
  | .hbm, ⟨33, _⟩ => ⟨S8192x2048, .f32⟩
  | .hbm, ⟨34, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel8.lean ====
abbrev S16384x2048 : Shape := ⟨2, ![16384, 2048]⟩
abbrev S2x2048 : Shape := ⟨2, ![2, 2048]⟩
abbrev S8x12288 : Shape := ⟨2, ![8, 12288]⟩
abbrev S32 : Shape := ⟨1, ![32]⟩
abbrev S1x2048 : Shape := ⟨2, ![1, 2048]⟩
abbrev S8x6x1x2048 : Shape := ⟨4, ![8, 6, 1, 2048]⟩
abbrev S512x2048 : Shape := ⟨2, ![512, 2048]⟩
abbrev S1x1x1x2048 : Shape := ⟨4, ![1, 1, 1, 2048]⟩
abbrev S1 : Shape := ⟨1, ![1]⟩
abbrev S512 : Shape := ⟨1, ![512]⟩
abbrev S512x1 : Shape := ⟨2, ![512, 1]⟩

abbrev nBuf : Space → Nat
  | .hbm => 6
  | .vmem => 9
  | .smem => 1
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S8x12288, .f32⟩
  | .hbm, ⟨3, _⟩ => ⟨S1x2048, .f32⟩
  | .hbm, ⟨4, _⟩ => ⟨S8x6x1x2048, .f32⟩
  | .hbm, ⟨5, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S512x2048, .bf16⟩
  | .local _ .vmem, ⟨8, _⟩ => ⟨S512x2048, .bf16⟩
  | .local _ .smem, ⟨0, _⟩ => ⟨S32, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c4_i32 : BitVec 32 := 4#32
  let c0_i32 : BitVec 32 := 0#32
  let c0_i32_0 : BitVec 32 := 0#32
  let c0_i32_1 : BitVec 32 := 0#32
  ![v1.toNat, c4_i32.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![v1.toNat, c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x2048 : Shape := ⟨2, ![16384, 2048]⟩
abbrev S2x2048 : Shape := ⟨2, ![2, 2048]⟩
abbrev S8x12288 : Shape := ⟨2, ![8, 12288]⟩
abbrev S8x2048 : Shape := ⟨2, ![8, 2048]⟩
abbrev S8192x2048 : Shape := ⟨2, ![8192, 2048]⟩
abbrev S2x4096x2048 : Shape := ⟨3, ![2, 4096, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .f32⟩
  | .hbm, ⟨2, _⟩ => ⟨S8x12288, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8192x2048, .f32⟩
  | .hbm, ⟨10, _⟩ => ⟨S2x4096x2048, .f32⟩
  | .hbm, ⟨11, _⟩ => ⟨S1x2048, .f32⟩
  | .hbm, ⟨12, _⟩ => ⟨S2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x2048, .f32⟩
  | .hbm, ⟨30, _⟩ => ⟨S2x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x4096x2048, .f32⟩
  | .hbm, ⟨36, _⟩ => ⟨S2x4096x2048, .f32⟩
  | .hbm, ⟨37, _⟩ => ⟨S2x1x2048, .f32⟩
  | .hbm, ⟨38, _⟩ => ⟨S2x4096x2048, .f32⟩
  | .hbm, ⟨39, _⟩ => ⟨S2x4096x2048, .f32⟩
  | .hbm, ⟨40, _⟩ => ⟨S8192x2048, .f32⟩
  | .hbm, ⟨41, _⟩ => ⟨S4x2048x2048, .f32⟩
  | .hbm, ⟨42, _⟩ => ⟨S1x2048, .f32⟩
  | .hbm, ⟨43, _⟩ => ⟨S2048, .f32⟩
  | .hbm, ⟨44, _⟩ => ⟨S4x2048x2048, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x2048, .f32⟩
  | .hbm, ⟨56, _⟩ => ⟨S4x2048x2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S4x2048, .f32⟩
  | .hbm, ⟨61, _⟩ => ⟨S4x2048, .f32⟩
  | .hbm, ⟨62, _⟩ => ⟨S4x1x2048, .f32⟩
  | .hbm, ⟨63, _⟩ => ⟨S_, .f32⟩
  | .hbm, ⟨64, _⟩ => ⟨S4x1x2048, .f32⟩
  | .hbm, ⟨65, _⟩ => ⟨S4x1x2048, .f32⟩
  | .hbm, ⟨66, _⟩ => ⟨S4x2048x2048, .f32⟩
  | .hbm, ⟨67, _⟩ => ⟨S4x2048x2048, .f32⟩
  | .hbm, ⟨68, _⟩ => ⟨S4x1x2048, .f32⟩
  | .hbm, ⟨69, _⟩ => ⟨S4x2048x2048, .f32⟩
  | .hbm, ⟨70, _⟩ => ⟨S4x2048x2048, .f32⟩
  | .hbm, ⟨71, _⟩ => ⟨S8192x2048, .f32⟩
  | .hbm, ⟨72, _⟩ => ⟨S8192x2048, .f32⟩
  | .hbm, ⟨73, _⟩ => ⟨S16384x2048, .f32⟩
  | .hbm, ⟨74, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Proof.Soft.lean ====
/- Softmax over a masked family of scores, in extended reals: the maximum and the sums over the scores that the
   mask keeps, and the same softmax in base two of scores scaled by the reciprocal of log 2. -/
module

public import Idealize.ShloMosaic.PureOps.Ideal
public import Mathlib.Data.EReal.Operations
public import Mathlib.Data.EReal.Inv
public import Mathlib.Analysis.SpecialFunctions.Pow.Real
public import Mathlib.Data.Finset.Lattice.Fold
public import Mathlib.Algebra.BigOperators.Group.Finset.Basic

@[expose] public section

noncomputable section

namespace Cert.Soft

open Idealize.ShloMosaic

/-- The reciprocal of the natural logarithm of two, as a real. -/
abbrev L2 : ℝ := (Real.log 2)⁻¹

theorem L2_pos : 0 < L2 := inv_pos.mpr (Real.log_pos (by norm_num))

/-- A maximum over a family that is bottom off a mask is the maximum over what the mask keeps. -/
theorem fold_masked {ι κ : Type} [Fintype ι] (A : Finset κ) (P : ι → Prop) (e : ι → κ)
    (he : ∀ c, P c → e c ∈ A) (hs : ∀ j ∈ A, ∃ c, P c ∧ e c = j) (f : κ → EReal) (x : ι → EReal)
    (h1 : ∀ c, P c → x c = f (e c)) (h2 : ∀ c, ¬ P c → x c = ⊥) :
    Finset.univ.fold max (⊥ : EReal) x = A.sup f := by
  have hfold : Finset.univ.fold max (⊥ : EReal) x = Finset.univ.sup x := rfl
  rw [hfold]
  apply le_antisymm
  · refine Finset.sup_le fun c _ => ?_
    by_cases hc : P c
    · rw [h1 c hc]; exact Finset.le_sup (he c hc)
    · rw [h2 c hc]; exact bot_le
  · refine Finset.sup_le fun j hj => ?_
    obtain ⟨c, hc, rfl⟩ := hs j hj
    rw [← h1 c hc]
    exact Finset.le_sup (Finset.mem_univ c)

/-- A sum over a family that is zero off a mask is the sum over what the mask keeps. -/
theorem sum_masked {ι κ : Type} [Fintype ι] (A : Finset κ) (P : ι → Prop) (e : ι → κ)
    (he : ∀ c, P c → e c ∈ A) (hs : ∀ j ∈ A, ∃ c, P c ∧ e c = j)
    (hi : ∀ c c', P c → P c' → e c = e c' → c = c') (f : κ → EReal) (x : ι → EReal)
    (h1 : ∀ c, P c → x c = f (e c)) (h2 : ∀ c, ¬ P c → x c = 0) :
    ∑ c, x c = ∑ j ∈ A, f j := by
  classical
  rw [← Finset.sum_filter_add_sum_filter_not Finset.univ P x,
    Finset.sum_eq_zero (s := Finset.univ.filter fun c => ¬ P c) (fun c hc => h2 c (Finset.mem_filter.mp hc).2), add_zero]
  refine Finset.sum_bij (fun c _ => e c) (fun c hc => he c (Finset.mem_filter.mp hc).2)
    (fun c hc c' hc' h => hi c c' (Finset.mem_filter.mp hc).2 (Finset.mem_filter.mp hc').2 h) (fun j hj => ?_)
    (fun c hc => h1 c (Finset.mem_filter.mp hc).2)
  obtain ⟨c, hc, h⟩ := hs j hj
  exact ⟨c, Finset.mem_filter.mpr ⟨Finset.mem_univ c, hc⟩, h⟩

theorem pos_mul_add (r : ℝ) (hr : 0 < r) (x y : EReal) : (r : EReal) * (x + y) = r * x + r * y :=
  EReal.left_distrib_of_nonneg_of_ne_top (EReal.coe_nonneg.mpr hr.le) (EReal.coe_ne_top r) x y

theorem pos_mul_sum {ι : Type} (A : Finset ι) (r : ℝ) (hr : 0 < r) (f : ι → EReal) :
    (r : EReal) * ∑ c ∈ A, f c = ∑ c ∈ A, (r : EReal) * f c := by
  classical
  induction A using Finset.induction_on with
  | empty => simp
  | insert a s ha ih => rw [Finset.sum_insert ha, Finset.sum_insert ha, pos_mul_add r hr, ih]

theorem pos_mul_sup {ι : Type} (A : Finset ι) (r : ℝ) (hr : 0 < r) (f : ι → EReal) :
    A.sup (fun c => (r : EReal) * f c) = (r : EReal) * A.sup f := by
  have hm : Monotone fun x : EReal => (r : EReal) * x := fun x y h => mul_le_mul_of_nonneg_left h (EReal.coe_nonneg.mpr hr.le)
  exact (Finset.comp_sup_eq_sup_comp (fun x : EReal => (r : EReal) * x) (fun x y => hm.map_sup x y)
    (EReal.coe_mul_bot_of_pos hr)).symm

theorem exp2_scaled (x : EReal) : Ideal.exp2 ((L2 : EReal) * x) = Ideal.exp x := by
  induction x with
  | bot => rw [EReal.coe_mul_bot_of_pos L2_pos]; rfl
  | top => rw [EReal.coe_mul_top_of_pos L2_pos]; rfl
  | coe r =>
    rw [← EReal.coe_mul]
    show ((Real.rpow 2 (L2 * r) : ℝ) : EReal) = (Real.exp r : EReal)
    congr 1
    show (2 : ℝ) ^ (L2 * r) = _
    rw [Real.rpow_def_of_pos (by norm_num)]
    have : Real.log 2 ≠ 0 := (Real.log_pos (by norm_num)).ne'
    congr 1; unfold L2; field_simp

theorem exp2_diff (s m : EReal) : Ideal.exp2 ((L2 : EReal) * s - (L2 : EReal) * m) = Ideal.exp (s - m) := by
  rw [← exp2_scaled, sub_eq_add_neg, sub_eq_add_neg, pos_mul_add L2 L2_pos, mul_neg]

theorem exp_bot_sub (m : EReal) : Ideal.exp (⊥ - m) = 0 := by
  rw [sub_eq_add_neg, EReal.bot_add]; rfl

theorem exp2_bot_sub (m : EReal) : Ideal.exp2 (⊥ - m) = 0 := by
  rw [sub_eq_add_neg, EReal.bot_add]; rfl

theorem div_coe (x : EReal) (r : ℝ) (hr : r ≠ 0) : Ideal.div x (r : EReal) = x * ((r⁻¹ : ℝ) : EReal) := by
  unfold Ideal.div
  rw [if_neg (by exact_mod_cast hr), EReal.coe_inv]

/-! ## The softmax of a masked family -/

section
variable {ι κ : Type} [Fintype ι] (A : Finset κ)

/-- The softmax's denominator over the kept scores. -/
def den (s : κ → EReal) : EReal := ∑ j ∈ A, Ideal.exp (s j - A.sup s)

/-- The softmax's numerator over the kept scores, weighting `v`. -/
def num (s v : κ → EReal) : EReal := ∑ j ∈ A, Ideal.exp (s j - A.sup s) * v j

variable (P : ι → Prop) (e : ι → κ) (he : ∀ c, P c → e c ∈ A) (hs : ∀ j ∈ A, ∃ c, P c ∧ e c = j)
    (hi : ∀ c c', P c → P c' → e c = e c' → c = c') (s : κ → EReal) (x : ι → EReal)
include he hs hi

/-- Scores kept as they are, bottom elsewhere: the maximum, the denominator and the numerator. -/
theorem natural_max (h1 : ∀ c, P c → x c = s (e c)) (h2 : ∀ c, ¬ P c → x c = ⊥) :
    Finset.univ.fold max (⊥ : EReal) x = A.sup s := fold_masked A P e he hs s x h1 h2

theorem natural_den (h1 : ∀ c, P c → x c = s (e c)) (h2 : ∀ c, ¬ P c → x c = ⊥) :
    ∑ c, Ideal.exp (x c - A.sup s) = den A s := by
  refine sum_masked A P e he hs hi (fun j => Ideal.exp (s j - A.sup s)) _ (fun c hc => ?_) (fun c hc => ?_)
  · rw [h1 c hc]
  · rw [h2 c hc, exp_bot_sub]

theorem natural_num (h1 : ∀ c, P c → x c = s (e c)) (h2 : ∀ c, ¬ P c → x c = ⊥) (v : κ → EReal) (w : ι → EReal)
    (hw : ∀ c, P c → w c = v (e c)) :
    ∑ c, Ideal.exp (x c - A.sup s) * w c = num A s v := by
  refine sum_masked A P e he hs hi (fun j => Ideal.exp (s j - A.sup s) * v j) _ (fun c hc => ?_) (fun c hc => ?_)
  · simp only [h1 c hc, hw c hc]
  · simp only [h2 c hc, exp_bot_sub, zero_mul]

/-- Scores scaled by the reciprocal of log 2, bottom elsewhere: the same in base two. -/
theorem binary_max (h1 : ∀ c, P c → x c = (L2 : EReal) * s (e c)) (h2 : ∀ c, ¬ P c → x c = ⊥) :
    Finset.univ.fold max (⊥ : EReal) x = (L2 : EReal) * A.sup s := by
  rw [fold_masked A P e he hs (fun j => (L2 : EReal) * s j) x h1 h2, pos_mul_sup A L2 L2_pos]

theorem binary_den (h1 : ∀ c, P c → x c = (L2 : EReal) * s (e c)) (h2 : ∀ c, ¬ P c → x c = ⊥) :
    ∑ c, Ideal.exp2 (x c - (L2 : EReal) * A.sup s) = den A s := by
  refine sum_masked A P e he hs hi (fun j => Ideal.exp (s j - A.sup s)) _ (fun c hc => ?_) (fun c hc => ?_)
  · rw [h1 c hc, exp2_diff]
  · rw [h2 c hc, exp2_bot_sub]

theorem binary_num (h1 : ∀ c, P c → x c = (L2 : EReal) * s (e c)) (h2 : ∀ c, ¬ P c → x c = ⊥) (v : κ → EReal) (w : ι → EReal)
    (hw : ∀ c, P c → w c = v (e c)) :
    ∑ c, Ideal.exp2 (x c - (L2 : EReal) * A.sup s) * w c = num A s v := by
  refine sum_masked A P e he hs hi (fun j => Ideal.exp (s j - A.sup s) * v j) _ (fun c hc => ?_) (fun c hc => ?_)
  · simp only [h1 c hc, exp2_diff, hw c hc]
  · simp only [h2 c hc, exp2_bot_sub, zero_mul]

end

/-- How far two positions lie apart. -/
def apart (r c : ℕ) : ℕ := if c < r then r - c else c - r

end Cert.Soft

end
-- ==== Proof.Head.lean ====
/- One head of one pair of subsequences at an index: its scores, their maximum, the denominator, the weighted values,
   and the tile of log-sum-exponents, one lane a head. -/
module

public import proofs.«01_k».proof.Proof.Gen.KernelIdeal.Value
public import proofs.«01_k».proof.Proof.Soft
public import Idealize.ShloMosaic.Lib.Pointwise

@[expose] public section

set_option maxRecDepth 16384

noncomputable section

namespace Cert.KernelIdeal.Head

open Cert.KernelIdeal Cert.KernelIdeal.Gen Idealize.ShloMosaic Idealize.ShloMosaic.Pointwise

/-- The kernel's scale of a logarithm is the reciprocal of log 2. -/
theorem log2e : Named.named (F := Ideal) Cert.KernelIdeal.κ "log2e" (φ := .f32) 0x3FB8AA3B#32 = ((Soft.L2 : ℝ) : EReal) :=
  IdealRules.named_const.ideal_named_scalar _ _ _ _ rfl

theorem ofBits_bot : Ideal.ofBits FTy.f32 0xFF800000#32 = ⊥ := by
  simp [Ideal.ofBits, Ideal.ieee]

section
variable (q k v : Vec Ideal S2x128x128 .bf16) (b : Vec Ideal S1x1x256x256 .f32)

/-- The score of row `r` against row `c` of the pair's 256 rows. -/
def score (r c : Fin 256) : EReal :=
  ∑ x : Fin 128, q (ix3 ⟨r / 128, by omega⟩ ⟨r % 128, by omega⟩ x) * k (ix3 ⟨c / 128, by omega⟩ ⟨c % 128, by omega⟩ x) + b (ix4 0 0 r c)

/-- The largest score of row `r`. -/
def top (r : Fin 256) : EReal := Finset.univ.fold max ⊥ (fun c : Fin 256 => score q k b r c)

/-- The sum of the exponentials of row `r`. -/
def mass (r : Fin 256) : EReal := ∑ c : Fin 256, Ideal.exp2 (score q k b r c - top q k b r)

/-- The values that row `r` collects in lane `d`. -/
def pull (r : Fin 256) (d : Fin 128) : EReal :=
  ∑ c : Fin 256, Ideal.exp2 (score q k b r c - top q k b r) * v (ix3 ⟨c / 128, by omega⟩ ⟨c % 128, by omega⟩ d)

theorem score_apply (r c : Fin 256) : k0_pay28 q k b (ix2 r c) = score q k b r c := by
  pointwise [k0_pay28]
  rfl

theorem top_apply (r : Fin 256) (z : Fin 1) : k0_pay29 q k b (ix2 r z) = top q k b r := by
  pointwise [k0_pay29]
  rw [ofBits_bot]
  simp only [score_apply]
  rfl

theorem exp_apply (r c : Fin 256) : k0_pay30 q k b (ix2 r c) = Ideal.exp2 (score q k b r c - top q k b r) := by
  pointwise [k0_pay30]
  rw [score_apply, top_apply]
  rfl

theorem mass_apply (r : Fin 256) (z : Fin 1) : k0_pay31 q k b (ix2 r z) = mass q k b r := by
  pointwise [k0_pay31]
  simp only [exp_apply]
  rfl

theorem out_apply (a : Fin 2) (i d : Fin 128) : k0_pay32 q k v b (ix3 a i d)
    = Ideal.div (pull q k v b ⟨a * 128 + i, by omega⟩ d) (mass q k b ⟨a * 128 + i, by omega⟩) := by
  pointwise [k0_pay32]
  simp only [exp_apply, mass_apply]
  rfl

/-- The tile of log-sum-exponents with the lane of head `h` filled in. -/
def lseStep (a0 h : BitVec 32) (p : FVec Ideal S256x128 .f32) : FVec Ideal S256x128 .f32 :=
  k0_pay34 p (k0_pay29 q k b) (k0_pay31 q k b)
    (cmpi .eq (iota Kind.tc S256x128 32 [1] iota_S256x128_d1_w32) (broadcast S256x128 (Scalar.addi (Scalar.muli a0 12#32) h)))

theorem lseStep_apply (h : Fin 12) (p : FVec Ideal S256x128 .f32) (r : Fin 256) (l : Fin 128) :
    lseStep q k b 0#32 (BitVec.ofNat 32 h) p (ix2 r l)
      = if l.val = h.val then top q k b r + Ideal.log (mass q k b r) * (Soft.L2 : EReal) else p (ix2 r l) := by
  pointwise [lseStep, k0_pay34]
  rw [top_apply, mass_apply, log2e]
  have key : ∀ (l : Fin 128) (h : Fin 12), IntOp.cmpi CmpIPredicate.eq (BitVec.ofNat 32 l) (Scalar.addi (Scalar.muli 0#32 12#32) (BitVec.ofNat 32 h))
      = if l.val = h.val then 1#1 else 0#1 := by decide +kernel
  rw [key]
  by_cases e : l.val = h.val <;> simp only [e, ↓reduceIte] <;> rfl
end

/-- The lanes of the first `n` heads filled in, zero elsewhere. -/
def lseTile (a0 : BitVec 32) (q k : Fin 12 → Vec Ideal S2x128x128 .bf16) (b : Fin 12 → Vec Ideal S1x1x256x256 .f32) :
    (n : ℕ) → n ≤ 12 → FVec Ideal S256x128 .f32
  | 0, _ => k0_pay27
  | n + 1, h => lseStep (q ⟨n, h⟩) (k ⟨n, h⟩) (b ⟨n, h⟩) a0 (BitVec.ofNat 32 n) (lseTile a0 q k b n (Nat.le_of_succ_le h))

theorem lseTile_apply (q k : Fin 12 → Vec Ideal S2x128x128 .bf16) (b : Fin 12 → Vec Ideal S1x1x256x256 .f32)
    (r : Fin 256) (l : Fin 128) (n : ℕ) (hn : n ≤ 12) :
    lseTile 0#32 q k b n hn (ix2 r l) = if h : l.val < n then
      top (q ⟨l, by omega⟩) (k ⟨l, by omega⟩) (b ⟨l, by omega⟩) r
        + Ideal.log (mass (q ⟨l, by omega⟩) (k ⟨l, by omega⟩) (b ⟨l, by omega⟩) r) * (Soft.L2 : EReal) else 0 := by
  induction n with
  | zero =>
    rw [dif_neg (by omega)]
    show k0_pay27 (ix2 r l) = 0
    pointwise [k0_pay27]
  | succ n ih =>
    show lseStep _ _ _ _ (BitVec.ofNat 32 (⟨n, hn⟩ : Fin 12).val) _ _ = _
    rw [lseStep_apply, ih]
    by_cases h1 : l.val = n
    · subst h1; simp
    · rw [if_neg h1]
      by_cases h2 : l.val < n
      · rw [dif_pos h2, dif_pos (by omega)]
      · rw [dif_neg h2, dif_neg (by omega)]

end Cert.KernelIdeal.Head

end
-- ==== Proof.Trip.lean ====
/- What one trip of the kernel's loop stores: twelve tiles, one a head, and the tile of log-sum-exponents, as one
   function of the head. -/
module

public import proofs.«01_k».proof.Proof.Head
public import Idealize.ShloMosaic.Lib.Pipeline.ReadBack

@[expose] public section

set_option maxRecDepth 16384

noncomputable section

namespace Cert.KernelIdeal.Trip

open Cert.KernelIdeal Cert.KernelIdeal.Gen Cert.KernelIdeal.Head Idealize.ShloMosaic Idealize.ShloMosaic.TcCoe Idealize.SL.Sem

/-- Where head `h` of trip `k` lies. -/
def offs (k : Fin k0_t1_loop.trips) : Fin 12 → Fin 3 → ℕ :=
  ![k0_off2 k, k0_off3 k, k0_off4 k, k0_off5 k, k0_off6 k, k0_off7 k, k0_off8 k, k0_off9 k, k0_off10 k, k0_off11 k, k0_off12 k, k0_off13 k]

theorem offs_eq : ∀ (k : Fin k0_t1_loop.trips) (h : Fin 12), offs k h = ![2 * k.val, 0, 128 * h.val] := by decide +kernel

theorem offs_inb (k : Fin k0_t1_loop.trips) (h : Fin 12) (a : Fin 3) : offs k h a + S2x128x128.size a ≤ S8x128x1536.size a := by
  revert k h a; decide +kernel

theorem bias_inb (h : Fin 12) (a : Fin 4) : (![0, h.val, 0, 0] : Fin 4 → ℕ) a + S1x1x256x256.size a ≤ S1x12x256x256.size a := by
  revert h a; decide +kernel

/-- The tile of head `h` of trip `k`. -/
abbrev tile (arg : Memref sig .tc .vmem S8x128x1536 .bf16) (X : BufTy.Contents (Elt Ideal) arg.view.ty)
    (k : Fin k0_t1_loop.trips) (h : Fin 12) : Vec Ideal S2x128x128 .bf16 :=
  View.readAt (Elt Ideal) arg.view (Rect.unit (s := S8x128x1536) (offs k h) S2x128x128.size (offs_inb k h)).toLoadRect X

/-- The bias of head `h`. -/
abbrev biasTile (arg : Memref sig .tc .vmem S1x12x256x256 .f32) (X : BufTy.Contents (Elt Ideal) arg.view.ty)
    (h : Fin 12) : Vec Ideal S1x1x256x256 .f32 :=
  View.readAt (Elt Ideal) arg.view (Rect.unit (s := S1x12x256x256) ![0, h.val, 0, 0] S1x1x256x256.size (bias_inb h)).toLoadRect X

/-- The heads, the last first. -/
def heads : List (Fin 12) := [11, 10, 9, 8, 7, 6, 5, 4, 3, 2, 1, 0]

variable (𝒱 : Variants) (c : Dev nD) (bd : Option 𝒱.V) (i : grid0.Coords) (arg3 : Memref sig .tc .smem S12 .f32) (harg3 : arg3.IsWhole) (arg4 : Memref sig .tc .vmem S8x128x1536 .bf16) (harg4 : arg4.IsWhole) (arg5 : Memref sig .tc .vmem S8x128x1536 .bf16) (harg5 : arg5.IsWhole) (arg6 : Memref sig .tc .vmem S8x128x1536 .bf16) (harg6 : arg6.IsWhole) (arg7 : Memref sig .tc .vmem S8x128x1536 .bf16) (harg7 : arg7.IsWhole) (arg8 : Memref sig .tc .vmem S8x128x128 .f32) (harg8 : arg8.IsWhole) (arg9 : Memref sig .tc .vmem S1x12x256x256 .f32) (harg9 : arg9.IsWhole)
  (X4 : BufTy.Contents (Elt Ideal) arg4.view.ty) (X5 : BufTy.Contents (Elt Ideal) arg5.view.ty) (X6 : BufTy.Contents (Elt Ideal) arg6.view.ty) (X9 : BufTy.Contents (Elt Ideal) arg9.view.ty) (k : Fin k0_t1_loop.trips)

set_option maxHeartbeats 2000000 in
theorem trip_out :
    (tripL_k0_t1 (F := Ideal) 𝒱 c bd i arg3 harg3 arg4 harg4 arg5 harg5 arg6 harg6 arg7 harg7 arg8 harg8 arg9 harg9 (BitVec.ofNat 32 ↑(i 0)) (iota Kind.tc S256x128 32 [1] iota_S256x128_d1_w32) X4 X5 X6 X9 k).1
      = heads.map fun h => ⟨Rect.unit (s := S8x128x1536) (offs k h) S2x128x128.size (offs_inb k h), k0_pay32 (tile arg4 X4 k h) (tile arg5 X5 k h) (tile arg6 X6 k h) (biasTile arg9 X9 h)⟩ := by
  unfold tripL_k0_t1 trip_k0_t1
  rfl

set_option maxHeartbeats 2000000 in
theorem trip_lse :
    (tripL_k0_t1 (F := Ideal) 𝒱 c bd i arg3 harg3 arg4 harg4 arg5 harg5 arg6 harg6 arg7 harg7 arg8 harg8 arg9 harg9 (BitVec.ofNat 32 ↑(i 0)) (iota Kind.tc S256x128 32 [1] iota_S256x128_d1_w32) X4 X5 X6 X9 k).2
      = [⟨Rect.unit (s := S8x128x128) (k0_off14 k) S2x128x128.size (k0_off14_inb k),
          shapeCast S2x128x128 (lseTile (BitVec.ofNat 32 ↑(i 0)) (tile arg4 X4 k) (tile arg5 X5 k) (biasTile arg9 X9) 12 le_rfl) shapeCasts_S256x128_S2x128x128⟩] := by
  unfold tripL_k0_t1 trip_k0_t1
  rfl

end Cert.KernelIdeal.Trip

end
-- ==== Proof.Bias.lean ====
/- The bias that the first step of every sweep stores: of the rows of one subsequence at most 64 apart, minus the
   head's slope times their distance, in base two; minus infinity elsewhere. -/
module

public import proofs.«01_k».proof.Proof.Trip

@[expose] public section

set_option maxRecDepth 16384

noncomputable section

namespace Cert.KernelIdeal.Bias

open Cert.Soft (apart)
open Cert.KernelIdeal Cert.KernelIdeal.Gen Cert.KernelIdeal.Head Cert.KernelIdeal.Trip Idealize.ShloMosaic Idealize.ShloMosaic.Pointwise

theorem minus_inf : Named.named (F := Ideal) Cert.KernelIdeal.κ "minus_inf" (φ := .f32) 0xF149F2CA#32 = (⊥ : EReal) :=
  IdealRules.named_const.ideal_named_scalar _ _ _ _ rfl

theorem ofBits_16 : Ideal.ofBits FTy.f32 0x41800000#32 = ((16 : ℝ) : EReal) := by
  simp [Ideal.ofBits, Ideal.ieee, zpow_neg]
  rw [← EReal.coe_mul]
  norm_num

theorem dist_word (r c : Fin 256) :
    IntOp.absi (IntOp.subi (IntOp.subi (BitVec.ofNat 32 c) (BitVec.ofNat 32 r)) 0#32) = BitVec.ofNat 32 (apart r c) := by
  have hc := c.isLt
  have hr := r.isLt
  unfold IntOp.absi IntOp.subi apart
  apply BitVec.eq_of_toNat_eq
  by_cases h : c.val < r.val
  · rw [if_pos h, if_pos (by rw [BitVec.msb_eq_decide]; simp; omega)]
    simp; omega
  · rw [if_neg h, if_neg (by rw [BitVec.msb_eq_decide]; simp; omega)]
    simp; omega

theorem dist_apply (r c : Fin 256) : k0_pay8 (ix2 r c) = BitVec.ofNat 32 (apart r c) := by
  pointwise [k0_pay8]
  exact dist_word r c

/-- The rows that the mask keeps. -/
abbrev Keeps (r c : ℕ) : Prop := apart r c ≤ 64 ∧ r / 128 = c / 128

theorem row_word (r : Fin 256) : Scalar.select
    (IntOp.andi
      (IntOp.cmpi CmpIPredicate.ne
        (IntOp.subi (BitVec.setWidth 32 (IntOp.cmpi CmpIPredicate.sgt (BitVec.ofNat 32 ↑r) 0#32))
          (BitVec.setWidth 32 (IntOp.cmpi CmpIPredicate.slt (BitVec.ofNat 32 ↑r) 0#32)))
        1#32)
      (IntOp.cmpi CmpIPredicate.ne (IntOp.remsi ArithUnit.vector (BitVec.ofNat 32 ↑r) 128#32) 0#32))
    (IntOp.subi (IntOp.divsi ArithUnit.vector (BitVec.ofNat 32 ↑r) 128#32) 1#32)
    (IntOp.divsi ArithUnit.vector (BitVec.ofNat 32 ↑r) 128#32) = BitVec.ofNat 32 (r / 128) := by
  revert r; decide +kernel

theorem le64_word (n : ℕ) (h : n < 256) : IntOp.cmpi CmpIPredicate.sle (BitVec.ofNat 32 n) 64#32 = if n ≤ 64 then 1#1 else 0#1 := by
  have key : ∀ n : Fin 256, IntOp.cmpi CmpIPredicate.sle (BitVec.ofNat 32 n) 64#32 = if n.val ≤ 64 then 1#1 else 0#1 := by decide +kernel
  exact key ⟨n, h⟩

theorem same_word (a b : ℕ) (ha : a < 2) (hb : b < 2) :
    IntOp.cmpi CmpIPredicate.eq (BitVec.ofNat 32 a) (BitVec.ofNat 32 b) = if a = b then 1#1 else 0#1 := by
  have key : ∀ a b : Fin 2, IntOp.cmpi CmpIPredicate.eq (BitVec.ofNat 32 a) (BitVec.ofNat 32 b) = if a.val = b.val then 1#1 else 0#1 := by decide +kernel
  exact key ⟨a, ha⟩ ⟨b, hb⟩

theorem apart_lt (r c : Fin 256) : apart r c < 256 := by
  unfold apart; split <;> omega

theorem mask_apply (r c : Fin 256) :
    k0_pay13 kernelRun0_A.sl.v8 k0_pay9 k0_pay10 (128#32) k0_pay11 k0_pay12 (1#32) (ix2 r c)
      = if Keeps r c then 1#1 else 0#1 := by
  pointwise [k0_pay13, k0_pay9, k0_pay10, k0_pay11, k0_pay12, kernelRun0_A.sl.v8]
  have h1 : Scalar.subi (Scalar.extui (Scalar.cmpi CmpIPredicate.sgt 128#32 0#32)) (Scalar.extui (Scalar.cmpi CmpIPredicate.slt 128#32 0#32)) = 1#32 := by
    decide +kernel
  rw [h1, row_word r, row_word c, dist_apply, le64_word _ (apart_lt r c), same_word _ _ (by omega) (by omega)]
  unfold Keeps
  by_cases h : apart r c ≤ 64 <;> by_cases h' : r.val / 128 = c.val / 128 <;> simp only [h, h', ↓reduceIte, and_true, true_and, and_false, false_and, and_self] <;> rfl

/-- One head's bias from its slope. -/
def bias (s : Ideal .f32) : FVec Ideal S1x1x256x256 .f32 :=
  k0_pay15 kernelRun0_A.sl.v8 k0_pay8 k0_pay9 k0_pay10 (128#32) k0_pay11 k0_pay12 (1#32) s

theorem bias_apply (s : Ideal .f32) (r c : Fin 256) :
    bias s (ix4 0 0 r c) = if Keeps r c then (0 - s * (Soft.L2 : EReal)) * (((apart r c : ℕ) : ℝ) * (16 : ℝ) : EReal) else ⊥ := by
  pointwise [bias, k0_pay15, k0_pay14]
  rw [mask_apply, dist_apply, log2e, minus_inf, ofBits_16]
  have h := apart_lt r c
  have hi : FloatOps.sitofp (F := Ideal) FTy.f32 (BitVec.ofNat 32 (apart r c)) = (((apart r c : ℕ) : ℝ) : EReal) := by
    show (((BitVec.ofNat 32 (apart r c)).toInt : ℝ) : EReal) = _
    have : (BitVec.ofNat 32 (apart r c)).toInt = (apart r c : ℕ) := by
      rw [BitVec.toInt_eq_toNat_cond]; simp; omega
    rw [this]; norm_cast
  rw [hi]
  by_cases hk : Keeps r c
  · rw [if_pos hk, if_pos hk]; rfl
  · rw [if_neg hk, if_neg hk]; rfl

theorem off1_eq : ∀ (i : grid0.Coords) (h : Fin 12), k0_off1 i (BitVec.ofNat 32 h) = ![h.val] := by decide +kernel

/-- The slope of head `h`, as the kernel loads it. -/
theorem off1_inb (i : grid0.Coords) (h : Fin 12) (a : Fin 1) : k0_off1 i (BitVec.ofNat 32 h) a + S1.size a ≤ S12.size a := by
  revert i h a; decide +kernel

theorem numel1_pos : 0 < S1.numel := by decide

/-- The pieces of the bias: one a head. -/
theorem bias_pieces (c : Dev nD) (i : grid0.Coords) (arg3 : Memref sig .tc .smem S12 .f32) (harg3 : arg3.IsWhole) (hc0 : cond0_0 i)
    (x0 : Vec Ideal S12 .f32) : kernelRun0_A.sl.HS0_12 c i arg3 harg3 hc0 x0
      = heads.map fun h => ⟨Rect.unit (s := S1x12x256x256) ![0, h.val, 0, 0] S1x1x256x256.size (bias_inb h),
          bias (View.readAt (Elt Ideal) arg3.view (Rect.unit (s := S12) (k0_off1 i (BitVec.ofNat 32 h)) S1.size (off1_inb i h)).toLoadRect
            (harg3.unread x0) (Shape.Idx.first numel1_pos))⟩ := by
  unfold kernelRun0_A.sl.HS0_12
  rfl

end Cert.KernelIdeal.Bias

end
-- ==== Proof.Blocks.lean ====
/- What a point of the kernel's grid leaves: each pair of subsequences attends within itself, head by head, under the
   bias that the first point stored. -/
module

public import proofs.«01_k».proof.Proof.Bias
public import Idealize.ShloMosaic.Lib.Pipeline.ValueKit

@[expose] public section

set_option maxRecDepth 16384

noncomputable section

namespace Cert.KernelIdeal.Blocks

open Cert.KernelIdeal Cert.KernelIdeal.Gen Cert.KernelIdeal.Head Cert.KernelIdeal.Trip Cert.KernelIdeal.Bias
open Idealize.ShloMosaic Idealize.ShloMosaic.Pointwise Idealize.ShloMosaic.TcCoe

/-- Head `h` of pair `g` of a block of eight subsequences. -/
def slab (x : Vec Ideal S8x128x1536 .bf16) (g : Fin 4) (h : Fin 12) : Vec Ideal S2x128x128 .bf16 :=
  fun j => x (ix3 ⟨2 * g + (j 0).val, by have := (j 0).isLt; change (j 0).val < 2 at this; omega⟩ (j 1)
    ⟨128 * h + (j 2).val, by have := (j 2).isLt; change (j 2).val < 128 at this; omega⟩)

/-- Head `h` of the bias. -/
def biasOf (B : Vec Ideal S1x12x256x256 .f32) (h : Fin 12) : Vec Ideal S1x1x256x256 .f32 := fun j => B (ix4 0 h (j 2) (j 3))

section
variable (q k v : Vec Ideal S8x128x1536 .bf16) (B : Vec Ideal S1x12x256x256 .f32)

/-- The block of attended values. -/
def outBlock : Vec Ideal S8x128x1536 .bf16 := fun y =>
  have h0 : (y 0).val < 8 := (y 0).isLt
  have h2 : (y 2).val < 1536 := (y 2).isLt
  let g : Fin 4 := ⟨(y 0).val / 2, by omega⟩
  let h : Fin 12 := ⟨(y 2).val / 128, by omega⟩
  k0_pay32 (slab q g h) (slab k g h) (slab v g h) (biasOf B h)
    (ix3 ⟨(y 0).val % 2, by omega⟩ (y 1) ⟨(y 2).val % 128, by omega⟩)

/-- The block of log-sum-exponents. -/
def lseBlock : Vec Ideal S8x128x128 .f32 := fun y =>
  have h0 : (y 0).val < 8 := (y 0).isLt
  have h1 : (y 1).val < 128 := (y 1).isLt
  let g : Fin 4 := ⟨(y 0).val / 2, by omega⟩
  lseTile 0#32 (slab q g) (slab k g) (biasOf B) 12 le_rfl (ix2 ⟨(y 0).val % 2 * 128 + (y 1).val, by omega⟩ (y 2))
end

/-- The biases of the twelve heads from their slopes. -/
def biasAll (s : Vec Ideal S12 .f32) : Vec Ideal S1x12x256x256 .f32 := fun y =>
  bias (s (ix1 (y 1))) (ix4 0 0 (y 2) (y 3))

theorem mem_heads (h : Fin 12) : h ∈ heads := by
  revert h; decide

theorem trips_le (k : Fin k0_t1_loop.trips) : k.val < 4 := Nat.lt_of_lt_of_le k.isLt k0_t1_abs.2.1

theorem tile_eq (arg : Memref sig .tc .vmem S8x128x1536 .bf16) (harg : arg.IsWhole) (x : Vec Ideal S8x128x1536 .bf16)
    (k : Fin k0_t1_loop.trips) (h : Fin 12) : tile arg (harg.unread x) k h = slab x ⟨k, trips_le k⟩ h := by
  funext j
  unfold tile slab
  rw [View.readAt_eq_ld, harg.read_unread]
  refine View.ld_unit_apply_of _ _ _ _ _ _ (fun a => Eq.trans ?_ (congrArg (· + (j a).val) (congrFun (offs_eq k h) a)).symm)
  fin_cases a
  · rfl
  · show (j 1).val = 0 + (j 1).val; omega
  · rfl

theorem biasTile_eq (arg : Memref sig .tc .vmem S1x12x256x256 .f32) (X : BufTy.Contents (Elt Ideal) arg.view.ty)
    (B : Vec Ideal S1x12x256x256 .f32) (hB : arg.view.read (Elt Ideal) X = B) (h : Fin 12) : biasTile arg X h = biasOf B h := by
  funext j
  unfold biasTile biasOf
  rw [View.readAt_eq_ld, hB]
  refine View.ld_unit_apply_of _ _ _ _ _ _ (fun a => ?_)
  have h0 : (j 0).val < 1 := (j 0).isLt
  have h1 : (j 1).val < 1 := (j 1).isLt
  fin_cases a
  · show 0 = 0 + (j 0).val; omega
  · show h.val = h.val + (j 1).val; omega
  · show (j 2).val = 0 + (j 2).val; omega
  · show (j 3).val = 0 + (j 3).val; omega

theorem out_emb (q k v : Vec Ideal S8x128x1536 .bf16) (B : Vec Ideal S1x12x256x256 .f32) (n : Fin k0_t1_loop.trips) (h : Fin 12)
    (x : S2x128x128.Idx) :
    k0_pay32 (slab q ⟨n, trips_le n⟩ h) (slab k ⟨n, trips_le n⟩ h) (slab v ⟨n, trips_le n⟩ h) (biasOf B h) x
      = outBlock q k v B ((Rect.unit (s := S8x128x1536) (offs n h) S2x128x128.size (offs_inb n h)).emb x) := by
  have hx0 : (x 0).val < 2 := (x 0).isLt
  have hx2 : (x 2).val < 128 := (x 2).isLt
  have e : (Rect.unit (s := S8x128x1536) (offs n h) S2x128x128.size (offs_inb n h)).emb x
      = ix3 ⟨2 * n + (x 0).val, by have := trips_le n; omega⟩ (x 1) ⟨128 * h + (x 2).val, by omega⟩ := by
    funext a
    apply Fin.ext
    refine (Rect.idx_unit_val _ _ _ x a).trans ((congrArg (· + (x a).val) (congrFun (offs_eq n h) a)).trans ?_)
    fin_cases a
    · rfl
    · show 0 + (x 1).val = (x 1).val; omega
    · rfl
  rw [e]
  unfold outBlock
  have hg : (⟨(2 * n.val + (x 0).val) / 2, by have := trips_le n; omega⟩ : Fin 4) = ⟨n, trips_le n⟩ := Fin.ext (by show (2 * n.val + (x 0).val) / 2 = n.val; omega)
  have hh : (⟨(128 * h.val + (x 2).val) / 128, by omega⟩ : Fin 12) = h := Fin.ext (by show (128 * h.val + (x 2).val) / 128 = h.val; omega)
  have hz : x = ix3 ⟨(2 * n.val + (x 0).val) % 2, by omega⟩ (x 1) ⟨(128 * h.val + (x 2).val) % 128, by omega⟩ := by
    funext a
    apply Fin.ext
    fin_cases a
    · show (x 0).val = _; show _ = (2 * n.val + (x 0).val) % 2; omega
    · rfl
    · show (x 2).val = (128 * h.val + (x 2).val) % 128; omega
  show _ = k0_pay32 (slab q ⟨(2 * n.val + (x 0).val) / 2, _⟩ ⟨(128 * h.val + (x 2).val) / 128, _⟩) (slab k ⟨(2 * n.val + (x 0).val) / 2, _⟩ ⟨(128 * h.val + (x 2).val) / 128, _⟩)
    (slab v ⟨(2 * n.val + (x 0).val) / 2, _⟩ ⟨(128 * h.val + (x 2).val) / 128, _⟩) (biasOf B ⟨(128 * h.val + (x 2).val) / 128, _⟩)
    (ix3 ⟨(2 * n.val + (x 0).val) % 2, _⟩ (x 1) ⟨(128 * h.val + (x 2).val) % 128, _⟩)
  rw [hg, hh]
  exact congrArg _ hz

theorem lse_emb (q k : Vec Ideal S8x128x1536 .bf16) (B : Vec Ideal S1x12x256x256 .f32) (n : Fin k0_t1_loop.trips)
    (x : S2x128x128.Idx) :
    shapeCast S2x128x128 (lseTile 0#32 (slab q ⟨n, trips_le n⟩) (slab k ⟨n, trips_le n⟩) (biasOf B) 12 le_rfl) shapeCasts_S256x128_S2x128x128 x
      = lseBlock q k B ((Rect.unit (s := S8x128x128) (k0_off14 n) S2x128x128.size (k0_off14_inb n)).emb x) := by
  have hx0 : (x 0).val < 2 := (x 0).isLt
  have e : (Rect.unit (s := S8x128x128) (k0_off14 n) S2x128x128.size (k0_off14_inb n)).emb x
      = ix3 ⟨2 * n + (x 0).val, by have := trips_le n; omega⟩ (x 1) (x 2) := by
    funext a
    apply Fin.ext
    refine (Rect.idx_unit_val _ _ _ x a).trans ((congrArg (· + (x a).val) (congrFun (k0_off14_eq n) a)).trans ?_)
    fin_cases a
    · rfl
    · show 0 + (x 1).val = (x 1).val; omega
    · show 0 + (x 2).val = (x 2).val; omega
  rw [e]
  unfold lseBlock
  have hg : (⟨(2 * n.val + (x 0).val) / 2, by have := trips_le n; omega⟩ : Fin 4) = ⟨n, trips_le n⟩ := Fin.ext (by show (2 * n.val + (x 0).val) / 2 = n.val; omega)
  have hm : (2 * n.val + (x 0).val) % 2 = (x 0).val := by omega
  show _ = lseTile 0#32 (slab q ⟨(2 * n.val + (x 0).val) / 2, _⟩) (slab k ⟨(2 * n.val + (x 0).val) / 2, _⟩) (biasOf B) 12 le_rfl
    (ix2 ⟨(2 * n.val + (x 0).val) % 2 * 128 + (x 1).val, _⟩ (x 2))
  rw [hg]
  simp only [hm]
  generalize lseTile 0#32 (slab q ⟨n, trips_le n⟩) (slab k ⟨n, trips_le n⟩) (biasOf B) 12 le_rfl = T
  idx_vars x
  pointwise []

section
variable (c : Dev nD) (i : grid0.Coords) (arg3 : Memref sig .tc .smem S12 .f32) (harg3 : arg3.IsWhole) (arg4 : Memref sig .tc .vmem S8x128x1536 .bf16) (harg4 : arg4.IsWhole) (arg5 : Memref sig .tc .vmem S8x128x1536 .bf16) (harg5 : arg5.IsWhole) (arg6 : Memref sig .tc .vmem S8x128x1536 .bf16) (harg6 : arg6.IsWhole) (arg7 : Memref sig .tc .vmem S8x128x1536 .bf16) (harg7 : arg7.IsWhole) (arg8 : Memref sig .tc .vmem S8x128x128 .f32) (harg8 : arg8.IsWhole) (arg9 : Memref sig .tc .vmem S1x12x256x256 .f32) (harg9 : arg9.IsWhole)
  (x0 : Vec Ideal S12 .f32) (x1 x2 x3 : Vec Ideal S8x128x1536 .bf16) (X9 : BufTy.Contents (Elt Ideal) arg9.view.ty)
  (B : Vec Ideal S1x12x256x256 .f32) (hB : arg9.view.read (Elt Ideal) X9 = B)

theorem first_zero (i : grid0.Coords) : BitVec.ofNat 32 (i 0).val = 0#32 := by
  have h : (i 0).val < 1 := (i 0).isLt
  rw [show (i 0).val = 0 by omega]

include hB in
theorem loop_pieces : ∀ n, n ≤ k0_t1_loop.trips →
    (∀ p ∈ (pb_k0_t1 (F := Ideal) Variants.none c none i arg3 harg3 arg4 harg4 arg5 harg5 arg6 harg6 arg7 harg7 arg8 harg8 arg9 harg9 (BitVec.ofNat 32 ↑(i 0)) (iota Kind.tc S256x128 32 [1] iota_S256x128_d1_w32) (harg4.unread x1) (harg5.unread x2) (harg6.unread x3) X9 n).1,
        ∀ x : p.1.shape.Idx, p.2 x = outBlock x1 x2 x3 B (p.1.emb x))
    ∧ (∀ p ∈ (pb_k0_t1 (F := Ideal) Variants.none c none i arg3 harg3 arg4 harg4 arg5 harg5 arg6 harg6 arg7 harg7 arg8 harg8 arg9 harg9 (BitVec.ofNat 32 ↑(i 0)) (iota Kind.tc S256x128 32 [1] iota_S256x128_d1_w32) (harg4.unread x1) (harg5.unread x2) (harg6.unread x3) X9 n).2,
        ∀ x : p.1.shape.Idx, p.2 x = lseBlock x1 x2 B (p.1.emb x)) := by
  intro n
  induction n with
  | zero => intro _; exact ⟨fun p hp => absurd hp List.not_mem_nil, fun p hp => absurd hp List.not_mem_nil⟩
  | succ n ih =>
    intro hn
    have ih := ih (Nat.le_of_succ_le hn)
    rw [pb_k0_t1_succ (F := Ideal) Variants.none c none i arg3 harg3 arg4 harg4 arg5 harg5 arg6 harg6 arg7 harg7 arg8 harg8 arg9 harg9 (BitVec.ofNat 32 ↑(i 0)) (iota Kind.tc S256x128 32 [1] iota_S256x128_d1_w32) (harg4.unread x1) (harg5.unread x2) (harg6.unread x3) X9 ⟨n, hn⟩]
    refine ⟨fun p hp => ?_, fun p hp => ?_⟩
    · rcases List.mem_append.mp hp with hp | hp
      · rw [trip_out] at hp
        obtain ⟨h, _, rfl⟩ := List.mem_map.mp hp
        intro x
        dsimp only
        rw [tile_eq, tile_eq, tile_eq, biasTile_eq _ _ B hB]
        exact out_emb x1 x2 x3 B ⟨n, hn⟩ h x
      · exact ih.1 p hp
    · rcases List.mem_append.mp hp with hp | hp
      · rw [trip_lse] at hp
        obtain rfl := List.mem_singleton.mp hp
        intro x
        dsimp only
        rw [first_zero, funext (tile_eq arg4 harg4 x1 ⟨n, hn⟩), funext (tile_eq arg5 harg5 x2 ⟨n, hn⟩), funext (biasTile_eq _ _ B hB)]
        exact lse_emb x1 x2 B ⟨n, hn⟩ x
      · exact ih.2 p hp

theorem bias_emb (h : Fin 12) (x : S1x1x256x256.Idx) :
    bias (View.readAt (Elt Ideal) arg3.view (Rect.unit (s := S12) (k0_off1 i (BitVec.ofNat 32 h)) S1.size (off1_inb i h)).toLoadRect
            (harg3.unread x0) (Shape.Idx.first numel1_pos)) x
      = biasAll x0 ((Rect.unit (s := S1x12x256x256) ![0, h.val, 0, 0] S1x1x256x256.size (bias_inb h)).emb x) := by
  have h0 : (x 0).val < 1 := (x 0).isLt
  have h1 : (x 1).val < 1 := (x 1).isLt
  have e : (Rect.unit (s := S1x12x256x256) ![0, h.val, 0, 0] S1x1x256x256.size (bias_inb h)).emb x = ix4 0 h (x 2) (x 3) := by
    funext a
    apply Fin.ext
    refine (Rect.idx_unit_val _ _ _ x a).trans ?_
    fin_cases a
    · show 0 + (x 0).val = 0; omega
    · show h.val + (x 1).val = h.val; omega
    · show 0 + (x 2).val = (x 2).val; omega
    · show 0 + (x 3).val = (x 3).val; omega
  have hz : x = ix4 0 0 (x 2) (x 3) := by
    funext a
    apply Fin.ext
    fin_cases a
    · show (x 0).val = 0; omega
    · show (x 1).val = 0; omega
    · rfl
    · rfl
  have hs : View.readAt (Elt Ideal) arg3.view (Rect.unit (s := S12) (k0_off1 i (BitVec.ofNat 32 h)) S1.size (off1_inb i h)).toLoadRect
            (harg3.unread x0) (Shape.Idx.first numel1_pos) = x0 (ix1 h) := by
    rw [View.readAt_eq_ld, harg3.read_unread]
    refine View.ld_unit_apply_of _ _ _ _ _ _ (fun a => Eq.trans ?_ (congrArg (· + _) (congrFun (off1_eq i h) a)).symm)
    fin_cases a
    rfl
  rw [e, hs]
  unfold biasAll
  conv_lhs => rw [hz]
  rfl

theorem bias_canon (hc0 : cond0_0 i) (hcov : ∀ y : S1x12x256x256.Idx, ∃ p ∈ kernelRun0_A.sl.HS0_12 c i arg3 harg3 hc0 x0, y ∈ p.1.set) :
    View.canon (kernelRun0_A.sl.HS0_12 c i arg3 harg3 hc0 x0) = biasAll x0 := by
  funext y
  rw [← List.append_nil (kernelRun0_A.sl.HS0_12 c i arg3 harg3 hc0 x0)]
  refine View.canon_append_of_pieces (biasAll x0) [] _ (fun p hp x => ?_) y (hcov y)
  rw [bias_pieces] at hp
  obtain ⟨h, _, rfl⟩ := List.mem_map.mp hp
  exact bias_emb i arg3 harg3 x0 h x

/-! ## The two kinds of point -/

theorem scratch_A (hc0 : cond0_0 i) :
    sout0_A_0 (F := Ideal) c i arg3 harg3 arg4 harg4 arg5 harg5 arg6 harg6 arg7 harg7 arg8 harg8 arg9 harg9 hc0 x0 x1 x2 x3 = biasAll x0 := by
  unfold sout0_A_0
  rw [View.read_writes_junk_eq_canon]
  have hcov := scover0_A_0 (F := Ideal) c i arg3 harg3 arg4 harg4 arg5 harg5 arg6 harg6 arg7 harg7 arg8 harg8 arg9 harg9 hc0 x0 x1 x2 x3
  unfold kernelRun0_A at hcov ⊢
  exact bias_canon c i arg3 harg3 x0 hc0 hcov

include harg4 arg4 arg5 harg5 arg6 harg6 arg7 harg7 arg8 harg8 harg9 x1 x2 x3 in
theorem bias_read (hc0 : cond0_0 i) : arg9.view.read (Elt Ideal) (arg9.view.writes (Elt Ideal) arg9.view.junk (kernelRun0_A.sl.HS0_12 c i arg3 harg3 hc0 x0)) = biasAll x0 := by
  rw [View.read_writes_junk_eq_canon]
  have hcov := scover0_A_0 (F := Ideal) c i arg3 harg3 arg4 harg4 arg5 harg5 arg6 harg6 arg7 harg7 arg8 harg8 arg9 harg9 hc0 x0 x1 x2 x3
  unfold kernelRun0_A at hcov
  exact bias_canon c i arg3 harg3 x0 hc0 hcov

theorem out_A (hc0 : cond0_0 i) :
    out0_A_4 (F := Ideal) c i arg3 harg3 arg4 harg4 arg5 harg5 arg6 harg6 arg7 harg7 arg8 harg8 arg9 harg9 hc0 x0 x1 x2 x3 = outBlock x1 x2 x3 (biasAll x0)
    ∧ out0_A_5 (F := Ideal) c i arg3 harg3 arg4 harg4 arg5 harg5 arg6 harg6 arg7 harg7 arg8 harg8 arg9 harg9 hc0 x0 x1 x2 x3 = lseBlock x1 x2 (biasAll x0) := by
  have hcov := cover0_A_4 (F := Ideal) c i arg3 harg3 arg4 harg4 arg5 harg5 arg6 harg6 arg7 harg7 arg8 harg8 arg9 harg9 hc0 x0 x1 x2 x3
  have hcov' := cover0_A_5 (F := Ideal) c i arg3 harg3 arg4 harg4 arg5 harg5 arg6 harg6 arg7 harg7 arg8 harg8 arg9 harg9 hc0 x0 x1 x2 x3
  have hB := bias_read c i arg3 harg3 arg4 harg4 arg5 harg5 arg6 harg6 arg7 harg7 arg8 harg8 arg9 harg9 x0 x1 x2 x3 hc0
  have hp := loop_pieces c i arg3 harg3 arg4 harg4 arg5 harg5 arg6 harg6 arg7 harg7 arg8 harg8 arg9 harg9 x1 x2 x3 _ _ hB _ le_rfl
  unfold out0_A_4 out0_A_5
  rw [View.read_writes_junk_eq_canon, View.read_writes_junk_eq_canon]
  unfold kernelRun0_A at hcov hcov' ⊢
  constructor
  · funext y
    have := View.canon_append_of_pieces (outBlock x1 x2 x3 (biasAll x0)) [] _ hp.1 y (hcov y)
    rwa [List.append_nil] at this
  · funext y
    have := View.canon_append_of_pieces (lseBlock x1 x2 (biasAll x0)) [] _ hp.2 y (hcov' y)
    rwa [List.append_nil] at this
end

end Cert.KernelIdeal.Blocks

end
-- ==== Proof.Sweep.lean ====
/- The whole grid: the bias that the first point stored serves every later point, so each point's blocks are the attention
   of its own eight subsequences; then the blocks' contents in terms of the array of queries, keys and values. -/
module

public import proofs.«01_k».proof.Proof.Blocks
public import proofs.«01_k».proof.Proof.Gen.KernelIdeal.Value
public import Idealize.ShloMosaic.Lib.Pipeline.ValueKit

@[expose] public section

set_option maxRecDepth 16384

noncomputable section

namespace Cert.KernelIdeal.Sweep

open Cert.KernelIdeal Cert.KernelIdeal.Gen Cert.KernelIdeal.Blocks Cert.KernelIdeal.Value
open Idealize.ShloMosaic Idealize.ShloMosaic.TcCoe

section
variable (c : Dev nD) (i : grid0.Coords) (arg3 : Memref sig .tc .smem S12 .f32) (harg3 : arg3.IsWhole) (arg4 : Memref sig .tc .vmem S8x128x1536 .bf16) (harg4 : arg4.IsWhole) (arg5 : Memref sig .tc .vmem S8x128x1536 .bf16) (harg5 : arg5.IsWhole) (arg6 : Memref sig .tc .vmem S8x128x1536 .bf16) (harg6 : arg6.IsWhole) (arg7 : Memref sig .tc .vmem S8x128x1536 .bf16) (harg7 : arg7.IsWhole) (arg8 : Memref sig .tc .vmem S8x128x128 .f32) (harg8 : arg8.IsWhole) (arg9 : Memref sig .tc .vmem S1x12x256x256 .f32) (harg9 : arg9.IsWhole)
  (x0 : Vec Ideal S12 .f32) (x1 x2 x3 : Vec Ideal S8x128x1536 .bf16) (xs : Vec Ideal S1x12x256x256 .f32)

theorem out_B (hc0 : ¬cond0_0 i) :
    out0_B_4 (F := Ideal) c i arg3 harg3 arg4 harg4 arg5 harg5 arg6 harg6 arg7 harg7 arg8 harg8 arg9 harg9 hc0 x0 x1 x2 x3 xs = outBlock x1 x2 x3 xs
    ∧ out0_B_5 (F := Ideal) c i arg3 harg3 arg4 harg4 arg5 harg5 arg6 harg6 arg7 harg7 arg8 harg8 arg9 harg9 hc0 x0 x1 x2 x3 xs = lseBlock x1 x2 xs := by
  have hcov := cover0_B_4 (F := Ideal) c i arg3 harg3 arg4 harg4 arg5 harg5 arg6 harg6 arg7 harg7 arg8 harg8 arg9 harg9 hc0 x0 x1 x2 x3 xs
  have hcov' := cover0_B_5 (F := Ideal) c i arg3 harg3 arg4 harg4 arg5 harg5 arg6 harg6 arg7 harg7 arg8 harg8 arg9 harg9 hc0 x0 x1 x2 x3 xs
  have hp := loop_pieces c i arg3 harg3 arg4 harg4 arg5 harg5 arg6 harg6 arg7 harg7 arg8 harg8 arg9 harg9 x1 x2 x3 _ _ (harg9.read_unread xs) _ le_rfl
  unfold out0_B_4 out0_B_5
  rw [View.read_writes_junk_eq_canon, View.read_writes_junk_eq_canon]
  unfold kernelRun0_B at hcov hcov' ⊢
  constructor
  · funext y
    have := View.canon_append_of_pieces (outBlock x1 x2 x3 xs) [] _ hp.1 y (hcov y)
    rwa [List.append_nil] at this
  · funext y
    have := View.canon_append_of_pieces (lseBlock x1 x2 xs) [] _ hp.2 y (hcov' y)
    rwa [List.append_nil] at this
end

variable (m : (ℓ : Loc nD τ sig) → Buf (Elt Ideal) ℓ) (c : Dev nD)

theorem idx : ∀ t : Fin cfg0.N, win0_0.index t = ![0] ∧ win0_1.index t = ![t.val % 2, t.val / 2 + 4, 0]
    ∧ win0_2.index t = ![t.val % 2, t.val / 2 + 4, 1] ∧ win0_3.index t = ![t.val % 2, t.val / 2 + 4, 2] :=
  (by decide +kernel : ∀ t : Fin grid0.N, win0_0.index t = ![0] ∧ win0_1.index t = ![t.val % 2, t.val / 2 + 4, 0]
    ∧ win0_2.index t = ![t.val % 2, t.val / 2 + 4, 1] ∧ win0_3.index t = ![t.val % 2, t.val / 2 + 4, 2])

/-- The heads' slopes, as the host computes them. -/
def slopes : FVec Ideal S12 .f32 :=
  Host.exp (mulf (broadcastInDim S12 ![] bcast_S_S12 (constant S_ .f32 0x3F317218#32))
    (Host.divf (mulf (broadcastInDim S12 ![] bcast_S_S12 (constant S_ .f32 0xC1000000#32))
      (addf (sitofp .f32 (iotaInDim S12 32 0)) (broadcastInDim S12 ![] bcast_S_S12 (constant S_ .f32 0x3F800000#32))))
      (broadcastInDim S12 ![] bcast_S_S12 (constant S_ .f32 0x41400000#32))))

theorem slopes_entry : (V m c main_v9 : FVec Ideal S12 .f32) = slopes := by
  entry_read
  rfl

theorem slopes_read (t : Fin cfg0.N) : (iblk m c 0 t : Vec Ideal S12 .f32) = slopes := by
  rw [← slopes_entry m c]
  funext y
  blk_ext [iblk, idx t]

theorem carried (t : Fin cfg0.N) : outsAt0 m c t.val t.isLt
    = (outBlock (iblk m c 1 t) (iblk m c 2 t) (iblk m c 3 t) (biasAll slopes), lseBlock (iblk m c 1 t) (iblk m c 2 t) (biasAll slopes), biasAll slopes) := by
  obtain ⟨n, hn⟩ := t
  induction n with
  | zero =>
    rw [outsAt0_A m c ⟨0, hn⟩ (Nat.zero_mod 8), scratch_A, (out_A ..).1, (out_A ..).2, slopes_read]
  | succ n ih =>
    have hN : cfg0.N = 8 := N_0
    have h : (n + 1) % 8 ≠ 0 := by omega
    rw [outsAt0_B m c ⟨n + 1, hn⟩ h, (out_B ..).1, (out_B ..).2]
    unfold sout0_B_0
    have := ih (Nat.lt_of_succ_lt hn)
    have hs : (outsAt0 m c (n + 1 - 1) (Nat.lt_of_le_of_lt (Nat.sub_le _ _) hn)).2.2 = biasAll slopes := congrArg (fun z => z.2.2) this
    exact congrArg (fun z => (outBlock (iblk m c 1 ⟨n + 1, hn⟩) (iblk m c 2 ⟨n + 1, hn⟩) (iblk m c 3 ⟨n + 1, hn⟩) z, lseBlock (iblk m c 1 ⟨n + 1, hn⟩) (iblk m c 2 ⟨n + 1, hn⟩) z, z)) hs

theorem G4_at (a : Fin 16) (p : Fin 512) (d : Fin 1536) : G4 m c (ix3 a p d)
    = outBlock (iblk m c 1 ⟨a / 8 + 2 * (p / 128), by have : cfg0.N = 8 := N_0; omega⟩)
        (iblk m c 2 ⟨a / 8 + 2 * (p / 128), by have : cfg0.N = 8 := N_0; omega⟩)
        (iblk m c 3 ⟨a / 8 + 2 * (p / 128), by have : cfg0.N = 8 := N_0; omega⟩) (biasAll slopes)
        (ix3 ⟨a % 8, by omega⟩ ⟨p % 128, by omega⟩ d) := by
  have hN : cfg0.N = 8 := N_0
  have e : pt4Of (ix3 a p d) = a / 8 + 2 * (p / 128) := by
    show 1 * (a.val / 8 - 0) + 2 * (p.val / 128 - 0) + 8 * (d.val / 1536 - 0) = _
    omega
  have el : loc4Of (ix3 a p d) = ix3 ⟨a % 8, by omega⟩ ⟨p % 128, by omega⟩ d := by
    funext k
    fin_cases k
    · rfl
    · rfl
    · exact Fin.ext (Nat.mod_eq_of_lt d.isLt)
  have h : pt4Of (ix3 a p d) < cfg0.N := by rw [e]; omega
  unfold G4
  rw [dif_pos h, el]
  have hs := (outsAt0_sweep m c (pt4Of (ix3 a p d)) h).symm.trans (carried m c ⟨_, h⟩)
  have ht : (⟨pt4Of (ix3 a p d), h⟩ : Fin cfg0.N) = ⟨a / 8 + 2 * (p / 128), by omega⟩ := Fin.ext e
  rw [hs, ht]

theorem G5_at (a : Fin 16) (p : Fin 512) (l : Fin 128) : G5 m c (ix3 a p l)
    = lseBlock (iblk m c 1 ⟨a / 8 + 2 * (p / 128), by have : cfg0.N = 8 := N_0; omega⟩)
        (iblk m c 2 ⟨a / 8 + 2 * (p / 128), by have : cfg0.N = 8 := N_0; omega⟩) (biasAll slopes)
        (ix3 ⟨a % 8, by omega⟩ ⟨p % 128, by omega⟩ l) := by
  have hN : cfg0.N = 8 := N_0
  have e : pt5Of (ix3 a p l) = a / 8 + 2 * (p / 128) := by
    show 1 * (a.val / 8 - 0) + 2 * (p.val / 128 - 0) + 8 * (l.val / 128 - 0) = _
    omega
  have el : loc5Of (ix3 a p l) = ix3 ⟨a % 8, by omega⟩ ⟨p % 128, by omega⟩ l := by
    funext k
    fin_cases k
    · rfl
    · rfl
    · exact Fin.ext (Nat.mod_eq_of_lt l.isLt)
  have h : pt5Of (ix3 a p l) < cfg0.N := by rw [e]; omega
  unfold G5
  rw [dif_pos h, el]
  have hs := (outsAt0_sweep m c (pt5Of (ix3 a p l)) h).symm.trans (carried m c ⟨_, h⟩)
  have ht : (⟨pt5Of (ix3 a p l), h⟩ : Fin cfg0.N) = ⟨a / 8 + 2 * (p / 128), by omega⟩ := Fin.ext e
  rw [hs, ht]

end Cert.KernelIdeal.Sweep

end
-- ==== Proof.Canon.lean ====
/- The attention of the sample rows in one form, in which the kernel and the reference are both brought: a query sees the
   keys of its own subsequence that lie at most sixty-four steps away. -/
module

public import proofs.«01_k».proof.Proof.Soft

@[expose] public section

noncomputable section

namespace Cert.Canon

open Idealize.ShloMosaic Cert.Soft

/-- Place `l` of subsequence `a` of sample sequence `n`, as a row of the array. -/
def row (a : Fin 16) (n : Fin 4) (l : Fin 128) : Fin 16384 := ⟨8192 + (n * 2048 + (l * 16 + a)), by omega⟩

/-- The keys that the query at place `i` sees. -/
def near (i : Fin 128) : Finset (Fin 128) := Finset.univ.filter fun l => apart i l ≤ 64

section
variable (X : Fin 16384 → Fin 4608 → EReal) (slope : EReal) (a : Fin 16) (n : Fin 4) (h : Fin 12) (i : Fin 128) (d : Fin 128) (l : Fin 128)

/-- The score of the key at place `l`. -/
def sc : EReal := ∑ x : Fin 128, Ideal.div (X (row a n i) ⟨h * 128 + x, by omega⟩) (Ideal.sqrt (Ideal.ofBits FTy.f32 1124073472#32)) * X (row a n l) ⟨1536 + (h * 128 + x), by omega⟩
  + -slope * (((16 * apart i l : ℕ) : ℝ) : EReal)

/-- The value at place `l`. -/
def va : EReal := X (row a n l) ⟨3072 + (h * 128 + d), by omega⟩

/-- The attended value. -/
def attn : EReal := Ideal.div (num (near i) (sc X slope a n h i) (va X a n h d)) (den (near i) (sc X slope a n h i))

/-- The logarithm of the sum of the exponentials. -/
def lse : EReal := ((near i).sup (sc X slope a n h i) + Ideal.log (den (near i) (sc X slope a n h i))) * ((L2 : ℝ) : EReal)
end

end Cert.Canon

end
-- ==== Proof.KerOut.lean ====
/- The kernel is the attention in the common form. -/
module

public import proofs.«01_k».proof.Proof.Sweep
public import proofs.«01_k».proof.Proof.Canon

@[expose] public section

set_option maxRecDepth 16384

noncomputable section

namespace Cert.KernelIdeal.Ker

open Cert.KernelIdeal Cert.KernelIdeal.Gen Cert.KernelIdeal.Head Cert.KernelIdeal.Bias Cert.KernelIdeal.Blocks Cert.KernelIdeal.Sweep
open Cert.Soft Cert.Canon
open Idealize.ShloMosaic Idealize.ShloMosaic.TcCoe

/-- The scaled queries, the keys and the values by subsequences, as the host lays them out. -/
def packed (X : FVec Ideal S16384x4608 .f32) : FVec Ideal S16x1024x4608 .bf16 :=
  transpose S16x1024x4608 [1, 0, 2] (shapeCast S1024x16x4608 (truncf .bf16 (concatenate S16384x4608 1
    [⟨S16384x1536, Host.divf (Host.divf (extractStridedSlice S16384x1536 ![0, 0] X slices_S16384x4608_S16384x1536_0_0)
        (broadcastInDim S16384x1536 ![] bcast_S_S16384x1536 (Host.sqrt (constant S_ .f32 0x43000000#32))))
        (broadcastInDim S16384x1536 ![] bcast_S_S16384x1536 (Host.log (constant S_ .f32 0x40000000#32)))⟩,
     ⟨S16384x3072, extractStridedSlice S16384x3072 ![0, 1536] X slices_S16384x4608_S16384x3072_0_1536⟩]
    concatenates_S16384x1536_S16384x3072_S16384x4608_d1) bitsLt_bf16_f32) shapeCasts_S16384x4608_S1024x16x4608)
    transposes_S1024x16x4608_S16x1024x4608_1_0_2

section
open Idealize.ShloMosaic.Pointwise

theorem log2_word : Ideal.log (Ideal.ofBits FTy.f32 1073741824#32) = ((Real.log 2 : ℝ) : EReal) := by
  have : Ideal.ofBits FTy.f32 1073741824#32 = ((2 : ℝ) : EReal) := by
    simp [Ideal.ofBits, Ideal.ieee, zpow_neg]
    rw [← EReal.coe_mul]
    norm_num
  rw [this]
  show Ideal.log ((2 : ℝ) : EReal) = _
  exact if_neg (by norm_num)

theorem packed_at (X : FVec Ideal S16384x4608 .f32) (a : Fin 16) (r : Fin 1024) (e : Fin 4608) : packed X (ix3 a r e)
    = if e.val < 1536 then Ideal.div (X (ix2 ⟨r * 16 + a, by omega⟩ e)) (Ideal.sqrt (Ideal.ofBits FTy.f32 1124073472#32)) * ((L2 : ℝ) : EReal)
      else X (ix2 ⟨r * 16 + a, by omega⟩ e) := by
  pointwise [packed]
  by_cases he : e.val < 1536
  · rw [dif_pos he, if_pos he, log2_word, div_coe _ _ (Real.log_pos (by norm_num)).ne']
  · rw [dif_neg he, if_neg he]
    congr 3
    show 1536 + (e.val - 1536) = e.val
    omega
end

variable (m : (ℓ : Loc nD τ sig) → Buf (Elt Ideal) ℓ) (c : Dev nD)

/-- The array as rows and columns. -/
abbrev cells : Fin 16384 → Fin 4608 → EReal := fun r e => (m ((c.tc : Thread nD τ).loc main_arg0) : FVec Ideal S16384x4608 .f32) (ix2 r e)

theorem packed_entry : (V m c main_v21 : FVec Ideal S16x1024x4608 .bf16) = packed (m ((c.tc : Thread nD τ).loc main_arg0)) := by
  entry_read
  rfl

section
variable (t : Fin cfg0.N) (s : Fin 8) (l : Fin 128) (e : Fin 1536)

theorem t_lt : t.val < 8 := Nat.lt_of_lt_of_eq t.isLt N_0

theorem q_block : (iblk m c 1 t : Vec Ideal S8x128x1536 .bf16) (ix3 s l e)
    = packed (m ((c.tc : Thread nD τ).loc main_arg0)) (ix3 ⟨t % 2 * 8 + s, by omega⟩ ⟨(t / 2 + 4) * 128 + l, by have := t_lt t; omega⟩ ⟨e, by omega⟩) := by
  rw [← packed_entry]
  blk_ext [iblk, idx t]

theorem k_block : (iblk m c 2 t : Vec Ideal S8x128x1536 .bf16) (ix3 s l e)
    = packed (m ((c.tc : Thread nD τ).loc main_arg0)) (ix3 ⟨t % 2 * 8 + s, by omega⟩ ⟨(t / 2 + 4) * 128 + l, by have := t_lt t; omega⟩ ⟨1536 + e, by omega⟩) := by
  rw [← packed_entry]
  blk_ext [iblk, idx t]

theorem v_block : (iblk m c 3 t : Vec Ideal S8x128x1536 .bf16) (ix3 s l e)
    = packed (m ((c.tc : Thread nD τ).loc main_arg0)) (ix3 ⟨t % 2 * 8 + s, by omega⟩ ⟨(t / 2 + 4) * 128 + l, by have := t_lt t; omega⟩ ⟨3072 + e, by omega⟩) := by
  rw [← packed_entry]
  blk_ext [iblk, idx t]

/-- The subsequence of the block's place `s`, and the sequence. -/
abbrev subOf : Fin 16 := ⟨t % 2 * 8 + s, by omega⟩
abbrev seqOf : Fin 4 := ⟨t / 2, by have := t_lt t; omega⟩

theorem row_eq : (⟨((t / 2 + 4) * 128 + l : ℕ) * 16 + (t % 2 * 8 + s : ℕ), by have := t_lt t; omega⟩ : Fin 16384) = row (subOf t s) (seqOf t) l := by
  apply Fin.ext
  show ((t.val / 2 + 4) * 128 + l.val) * 16 + (t.val % 2 * 8 + s.val) = 8192 + (t.val / 2 * 2048 + (l.val * 16 + (t.val % 2 * 8 + s.val)))
  omega

theorem q_read : (iblk m c 1 t : Vec Ideal S8x128x1536 .bf16) (ix3 s l e)
    = Ideal.div (cells m c (row (subOf t s) (seqOf t) l) ⟨e, by omega⟩) (Ideal.sqrt (Ideal.ofBits FTy.f32 1124073472#32)) * ((L2 : ℝ) : EReal) := by
  rw [q_block, packed_at, if_pos e.isLt, row_eq]

theorem k_read : (iblk m c 2 t : Vec Ideal S8x128x1536 .bf16) (ix3 s l e) = cells m c (row (subOf t s) (seqOf t) l) ⟨1536 + e, by omega⟩ := by
  rw [k_block, packed_at, if_neg (by show ¬ (1536 + e.val < 1536); omega), row_eq]

theorem v_read : (iblk m c 3 t : Vec Ideal S8x128x1536 .bf16) (ix3 s l e) = cells m c (row (subOf t s) (seqOf t) l) ⟨3072 + e, by omega⟩ := by
  rw [v_block, packed_at, if_neg (by show ¬ (3072 + e.val < 1536); omega), row_eq]
end

/-! ## One head of one pair of subsequences -/

section
variable (t : Fin cfg0.N) (g : Fin 4) (h : Fin 12) (r : Fin 256) (d : Fin 128)

/-- The subsequence of row `r` of pair `g`. -/
abbrev pairSub : Fin 16 := subOf t ⟨2 * g + r / 128, by omega⟩

/-- The place of a row in its subsequence. -/
abbrev inSub (r : Fin 256) : Fin 128 := ⟨r % 128, by omega⟩

theorem keeps_apart (r x : Fin 256) (hk : Keeps r x) : apart (inSub r) (inSub x) = apart r x := by
  have := hk.2
  unfold apart
  dsimp only
  split <;> split <;> omega

theorem keeps_near (r x : Fin 256) (hk : Keeps r x) : inSub x ∈ near (inSub r) := by
  refine Finset.mem_filter.mpr ⟨Finset.mem_univ _, ?_⟩
  rw [keeps_apart r x hk]
  exact hk.1

theorem keeps_onto (r : Fin 256) (l : Fin 128) (hl : l ∈ near (inSub r)) : ∃ x : Fin 256, Keeps r x ∧ inSub x = l := by
  have hl := (Finset.mem_filter.mp hl).2
  have hsub : inSub ⟨r / 128 * 128 + l, by omega⟩ = l := by
    apply Fin.ext
    show (r.val / 128 * 128 + l.val) % 128 = l.val
    omega
  have hrow : r.val / 128 = (r.val / 128 * 128 + l.val) / 128 := by omega
  refine ⟨⟨r / 128 * 128 + l, by omega⟩, ⟨?_, hrow⟩, hsub⟩
  have e : apart (inSub r) l = apart r (r / 128 * 128 + l) := by
    unfold apart
    dsimp only
    split <;> split <;> omega
  exact e ▸ hl

theorem keeps_inj (r x x' : Fin 256) (hx : Keeps r x) (hx' : Keeps r x') (e : inSub x = inSub x') : x = x' := by
  have := congrArg Fin.val e
  have h1 := hx.2
  have h2 := hx'.2
  dsimp only at this
  omega

theorem score_kept (x : Fin 256) (hk : Keeps r x) :
    score (slab (iblk m c 1 t) g h) (slab (iblk m c 2 t) g h) (biasOf (biasAll slopes) h) r x
      = ((L2 : ℝ) : EReal) * sc (cells m c) (slopes (ix1 h)) (pairSub t g r) (seqOf t) h (inSub r) (inSub x) := by
  have hb : biasOf (biasAll slopes) h (ix4 0 0 r x) = ((L2 : ℝ) : EReal) * (-slopes (ix1 h) * (((16 * apart (inSub r) (inSub x) : ℕ) : ℝ) : EReal)) := by
    show bias (slopes (ix1 h)) (ix4 0 0 r x) = _
    rw [bias_apply, if_pos hk, keeps_apart r x hk, sub_eq_add_neg, zero_add]
    push_cast
    rw [EReal.neg_mul, EReal.neg_mul, mul_neg]
    congr 1
    ac_rfl
  have hq : ∀ y : Fin 128, slab (iblk m c 1 t) g h (ix3 ⟨r / 128, by omega⟩ ⟨r % 128, by omega⟩ y)
      = Ideal.div (cells m c (row (pairSub t g r) (seqOf t) (inSub r)) ⟨h * 128 + y, by omega⟩) (Ideal.sqrt (Ideal.ofBits FTy.f32 1124073472#32)) * ((L2 : ℝ) : EReal) := fun y => by
    refine (q_read m c t ⟨2 * g + r / 128, by omega⟩ (inSub r) ⟨128 * h + y, by omega⟩).trans ?_
    simp only [Nat.mul_comm 128]
  have hs : (pairSub t g x) = pairSub t g r := by
    apply Fin.ext
    show t.val % 2 * 8 + (2 * g.val + x.val / 128) = t.val % 2 * 8 + (2 * g.val + r.val / 128)
    have := hk.2
    omega
  have hkk : ∀ y : Fin 128, slab (iblk m c 2 t) g h (ix3 ⟨x / 128, by omega⟩ ⟨x % 128, by omega⟩ y)
      = cells m c (row (pairSub t g r) (seqOf t) (inSub x)) ⟨1536 + (h * 128 + y), by omega⟩ := fun y => by
    refine (k_read m c t ⟨2 * g + x / 128, by omega⟩ (inSub x) ⟨128 * h + y, by omega⟩).trans ?_
    rw [← hs]
    simp only [Nat.mul_comm 128]
  unfold score sc
  rw [hb, pos_mul_add L2 L2_pos, pos_mul_sum _ L2 L2_pos]
  refine congrArg (· + _) (Finset.sum_congr rfl fun y _ => ?_)
  rw [hq, hkk]
  ac_rfl

theorem score_masked (x : Fin 256) (hk : ¬ Keeps r x) :
    score (slab (iblk m c 1 t) g h) (slab (iblk m c 2 t) g h) (biasOf (biasAll slopes) h) r x = ⊥ := by
  have hb : biasOf (biasAll slopes) h (ix4 0 0 r x) = ⊥ := by
    show bias (slopes (ix1 h)) (ix4 0 0 r x) = _
    rw [bias_apply, if_neg hk]
  unfold score
  rw [hb, EReal.add_bot]

theorem value_kept (x : Fin 256) (hk : Keeps r x) :
    slab (iblk m c 3 t) g h (ix3 ⟨x / 128, by omega⟩ ⟨x % 128, by omega⟩ d) = va (cells m c) (pairSub t g r) (seqOf t) h d (inSub x) := by
  have hs : (pairSub t g x) = pairSub t g r := by
    apply Fin.ext
    show t.val % 2 * 8 + (2 * g.val + x.val / 128) = t.val % 2 * 8 + (2 * g.val + r.val / 128)
    have := hk.2
    omega
  refine (v_read m c t ⟨2 * g + x / 128, by omega⟩ (inSub x) ⟨128 * h + d, by omega⟩).trans ?_
  unfold va
  rw [← hs]
  simp only [Nat.mul_comm 128]

theorem top_canon : top (slab (iblk m c 1 t) g h) (slab (iblk m c 2 t) g h) (biasOf (biasAll slopes) h) r
    = ((L2 : ℝ) : EReal) * (near (inSub r)).sup (sc (cells m c) (slopes (ix1 h)) (pairSub t g r) (seqOf t) h (inSub r)) :=
  binary_max _ (fun x : Fin 256 => Keeps r x) inSub (keeps_near r) (keeps_onto r) (keeps_inj r) _ _ (score_kept m c t g h r) (score_masked m c t g h r)

theorem mass_canon : mass (slab (iblk m c 1 t) g h) (slab (iblk m c 2 t) g h) (biasOf (biasAll slopes) h) r
    = den (near (inSub r)) (sc (cells m c) (slopes (ix1 h)) (pairSub t g r) (seqOf t) h (inSub r)) := by
  unfold mass
  rw [top_canon]
  exact binary_den _ (fun x : Fin 256 => Keeps r x) inSub (keeps_near r) (keeps_onto r) (keeps_inj r) _ _ (score_kept m c t g h r) (score_masked m c t g h r)

theorem pull_canon : pull (slab (iblk m c 1 t) g h) (slab (iblk m c 2 t) g h) (slab (iblk m c 3 t) g h) (biasOf (biasAll slopes) h) r d
    = num (near (inSub r)) (sc (cells m c) (slopes (ix1 h)) (pairSub t g r) (seqOf t) h (inSub r)) (va (cells m c) (pairSub t g r) (seqOf t) h d) := by
  unfold pull
  rw [top_canon]
  exact binary_num _ (fun x : Fin 256 => Keeps r x) inSub (keeps_near r) (keeps_onto r) (keeps_inj r) _ _ (score_kept m c t g h r) (score_masked m c t g h r)
    _ _ (value_kept m c t g h r d)
end

/-! ## The results -/

variable (a : Fin 16) (p : Fin 512)

/-- The point that writes place `p` of subsequence `a`. -/
abbrev point : Fin cfg0.N := ⟨a / 8 + 2 * (p / 128), by have : cfg0.N = 8 := N_0; omega⟩

theorem where_sub : pairSub (point a p) ⟨a % 8 / 2, by omega⟩ ⟨a % 8 % 2 * 128 + p % 128, by omega⟩ = a := by
  apply Fin.ext
  show (a.val / 8 + 2 * (p.val / 128)) % 2 * 8 + (2 * (a.val % 8 / 2) + (a.val % 8 % 2 * 128 + p.val % 128) / 128) = a.val
  omega

theorem where_seq : seqOf (point a p) = ⟨p / 128, by omega⟩ := by
  apply Fin.ext
  show (a.val / 8 + 2 * (p.val / 128)) / 2 = p.val / 128
  omega

theorem where_at : inSub ⟨(a % 8 % 2 : ℕ) * 128 + p % 128, by omega⟩ = ⟨p % 128, by omega⟩ := by
  apply Fin.ext
  show (a.val % 8 % 2 * 128 + p.val % 128) % 128 = p.val % 128
  omega

theorem attn_canon (e : Fin 1536) : Cert.KernelIdeal.Value.G4 m c (ix3 a p e)
    = attn (cells m c) (slopes (ix1 ⟨e / 128, by omega⟩)) a ⟨p / 128, by omega⟩ ⟨e / 128, by omega⟩ ⟨p % 128, by omega⟩ ⟨e % 128, by omega⟩ := by
  rw [G4_at]
  refine (out_apply _ _ _ _ ⟨a % 8 % 2, by omega⟩ ⟨p % 128, by omega⟩ ⟨e % 128, by omega⟩).trans ?_
  refine (congrArg₂ Ideal.div (pull_canon m c (point a p) ⟨a % 8 / 2, by omega⟩ ⟨e / 128, by omega⟩ ⟨a % 8 % 2 * 128 + p % 128, by omega⟩ ⟨e % 128, by omega⟩)
    (mass_canon m c (point a p) ⟨a % 8 / 2, by omega⟩ ⟨e / 128, by omega⟩ ⟨a % 8 % 2 * 128 + p % 128, by omega⟩)).trans ?_
  rw [where_sub, where_seq, where_at]
  rfl

theorem lse_canon (e : Fin 128) : Cert.KernelIdeal.Value.G5 m c (ix3 a p e)
    = if he : e.val < 12 then lse (cells m c) (slopes (ix1 ⟨e, he⟩)) a ⟨p / 128, by omega⟩ ⟨e, he⟩ ⟨p % 128, by omega⟩ else 0 := by
  rw [G5_at]
  refine (lseTile_apply _ _ _ ⟨a % 8 % 2 * 128 + p % 128, by omega⟩ e 12 le_rfl).trans ?_
  refine dite_congr rfl (fun he => ?_) fun _ => rfl
  refine (congrArg₂ (fun x y : EReal => x + Ideal.log y * ((L2 : ℝ) : EReal)) (top_canon m c (point a p) ⟨a % 8 / 2, by omega⟩ ⟨e, he⟩ ⟨a % 8 % 2 * 128 + p % 128, by omega⟩)
    (mass_canon m c (point a p) ⟨a % 8 / 2, by omega⟩ ⟨e, he⟩ ⟨a % 8 % 2 * 128 + p % 128, by omega⟩)).trans ?_
  rw [where_sub, where_seq, where_at, mul_comm (Ideal.log _), ← pos_mul_add L2 L2_pos, mul_comm]
  rfl

end Cert.KernelIdeal.Ker

end
-- ==== Proof.Ref.lean ====
/- The reference's stages, named as its program computes them, and each at an index. -/
module

public import proofs.«01_k».proof.Proof.Soft
public import proofs.«01_k».proof.Proof.Gen.ReferenceIdeal.Run
public import Idealize.ShloMosaic.Lib.Pipeline.ValueKit

@[expose] public section

set_option maxRecDepth 16384

noncomputable section

namespace Cert.ReferenceIdeal.Stage

open Cert.ReferenceIdeal Cert.ReferenceIdeal.Gen Cert.ReferenceIdeal.Value
open Idealize.ShloMosaic Idealize.ShloMosaic.TcCoe Idealize.ShloMosaic.Pointwise

section
variable (X : FVec Ideal S16384x4608 .f32)

/-- The sample rows. -/
def rows : FVec Ideal S4x2048x4608 .f32 :=
  shapeCast _ (extractStridedSlice S8192x4608 ![8192, 0] X slices_S16384x4608_S8192x4608_8192_0) shapeCasts_S8192x4608_S4x2048x4608

/-- The scaled queries, head by head. -/
def queries : FVec Ideal S4x2048x12x128 .f32 :=
  Host.divf (shapeCast _ (extractStridedSlice S4x2048x1536 ![0, 0, 0] (rows X) slices_S4x2048x4608_S4x2048x1536_0_0_0) shapeCasts_S4x2048x1536_S4x2048x12x128)
    (broadcastInDim S4x2048x12x128 ![] bcast_S_S4x2048x12x128 (Host.sqrt (constant S_ .f32 0x43000000#32)))

/-- The keys, head by head. -/
def keys : FVec Ideal S4x2048x12x128 .f32 :=
  shapeCast _ (extractStridedSlice S4x2048x1536 ![0, 0, 1536] (rows X) slices_S4x2048x4608_S4x2048x1536_0_0_1536) shapeCasts_S4x2048x1536_S4x2048x12x128

/-- The values, head by head. -/
def vals : FVec Ideal S4x2048x12x128 .f32 :=
  shapeCast _ (extractStridedSlice S4x2048x1536 ![0, 0, 3072] (rows X) slices_S4x2048x4608_S4x2048x1536_0_0_3072) shapeCasts_S4x2048x1536_S4x2048x12x128
end

/-- The rows regrouped into subsequences of stride sixteen. -/
def subs (t : FVec Ideal S4x2048x12x128 .f32) : FVec Ideal S64x128x12x128 .f32 :=
  shapeCast _ (transpose S4x16x128x12x128 [0, 2, 1, 3, 4] (shapeCast _ t shapeCasts_S4x2048x12x128_S4x128x16x12x128) transposes_S4x128x16x12x128_S4x16x128x12x128_0_2_1_3_4) shapeCasts_S4x16x128x12x128_S64x128x12x128

/-- The queries in blocks of sixty-four. -/
def qblocks (t : FVec Ideal S4x2048x12x128 .f32) : FVec Ideal S64x2x64x12x128 .f32 :=
  shapeCast _ (pad S64x128x12x128 ![0, 0, 0, 0] ![0, 0, 0, 0] ![0, 0, 0, 0] (subs t) (sitofp .f32 (constantI S_ 32 0#32)) pads_S64x128x12x128_S64x128x12x128_000_000_000_000 h_S_) shapeCasts_S64x128x12x128_S64x2x64x12x128

/-- The subsequences between two blocks of zeros, in blocks of sixty-four. -/
def padded (t : FVec Ideal S4x2048x12x128 .f32) : FVec Ideal S64x4x64x12x128 .f32 :=
  shapeCast _ (pad S64x256x12x128 ![0, 64, 0, 0] ![0, 64, 0, 0] ![0, 0, 0, 0] (subs t) (sitofp .f32 (constantI S_ 32 0#32)) pads_S64x128x12x128_S64x256x12x128_000_64640_000_000 h_S_) shapeCasts_S64x256x12x128_S64x4x64x12x128

/-- Each block with its two neighbours. -/
def windows (t : FVec Ideal S4x2048x12x128 .f32) : FVec Ideal S64x2x192x12x128 .f32 :=
  concatenate S64x2x192x12x128 2 [⟨S64x2x64x12x128, extractStridedSlice S64x2x64x12x128 ![0, 0, 0, 0, 0] (padded t) slices_S64x4x64x12x128_S64x2x64x12x128_0_0_0_0_0⟩,
    ⟨S64x2x64x12x128, extractStridedSlice S64x2x64x12x128 ![0, 1, 0, 0, 0] (padded t) slices_S64x4x64x12x128_S64x2x64x12x128_0_1_0_0_0⟩,
    ⟨S64x2x64x12x128, extractStridedSlice S64x2x64x12x128 ![0, 2, 0, 0, 0] (padded t) slices_S64x4x64x12x128_S64x2x64x12x128_0_2_0_0_0⟩]
    concatenates_S64x2x64x12x128_S64x2x64x12x128_S64x2x64x12x128_S64x2x192x12x128_d2

/-- How far a key lies from a query, in steps of the subsequence. -/
def rel : IVec S64x192 32 :=
  subi (broadcastInDim S64x192 ![0, 1] bcast_S1x192_S64x192_0_1 (subi (broadcastInDim S1x192 ![1] bcast_S192_S1x192_1 (iotaInDim S192 32 0)) (broadcastInDim S1x192 ![] bcast_S_S1x192 (constantI S_ 32 64#32)))) (broadcastInDim S64x192 ![0, 1] bcast_S64x1_S64x192_0_1 (broadcastInDim S64x1 ![0] bcast_S64_S64x1_0 (iotaInDim S64 32 0)))

/-- A key's place in its subsequence. -/
def place : IVec S2x1x192 32 :=
  addi (broadcastInDim S2x1x192 ![0, 1, 2] bcast_S2x1x1_S2x1x192_0_1_2 (muli (broadcastInDim S2x1x1 ![0] bcast_S2_S2x1x1_0 (iotaInDim S2 32 0)) (broadcastInDim S2x1x1 ![] bcast_S_S2x1x1 (constantI S_ 32 64#32)))) (broadcastInDim S2x1x192 ![0, 1, 2] bcast_S1x1x192_S2x1x192_0_1_2 (broadcastInDim S1x1x192 ![1, 2] bcast_S1x192_S1x1x192_1_2 (subi (broadcastInDim S1x192 ![1] bcast_S192_S1x192_1 (iotaInDim S192 32 0)) (broadcastInDim S1x192 ![] bcast_S_S1x192 (constantI S_ 32 64#32)))))

/-- Which keys a query sees. -/
def seen : IVec S2x64x192 1 :=
  andi (andi (broadcastInDim S2x64x192 ![0, 1, 2] bcast_S1x64x192_S2x64x192_0_1_2 (broadcastInDim S1x64x192 ![1, 2] bcast_S64x192_S1x64x192_1_2 (cmpi .sle (absi rel) (broadcastInDim S64x192 ![] bcast_S_S64x192 (constantI S_ 32 64#32)))))
    (broadcastInDim S2x64x192 ![0, 1, 2] bcast_S2x1x192_S2x64x192_0_1_2 (cmpi .sge place (broadcastInDim S2x1x192 ![] bcast_S_S2x1x192 (constantI S_ 32 0#32)))))
    (broadcastInDim S2x64x192 ![0, 1, 2] bcast_S2x1x192_S2x64x192_0_1_2 (cmpi .slt place (broadcastInDim S2x1x192 ![] bcast_S_S2x1x192 (constantI S_ 32 128#32))))

/-- The heads' slopes. -/
def slopes : FVec Ideal S12 .f32 :=
  Host.exp (mulf (broadcastInDim S12 ![] bcast_S_S12 (constant S_ .f32 0x3F317218#32))
    (Host.divf (mulf (broadcastInDim S12 ![] bcast_S_S12 (constant S_ .f32 0xC1000000#32))
      (addf (sitofp .f32 (iotaInDim S12 32 0)) (broadcastInDim S12 ![] bcast_S_S12 (constant S_ .f32 0x3F800000#32))))
      (broadcastInDim S12 ![] bcast_S_S12 (constant S_ .f32 0x41400000#32))))

/-- The bias. -/
def tilt : FVec Ideal S12x64x192 .f32 :=
  mulf (broadcastInDim S12x64x192 ![0, 1, 2] bcast_S12x1x1_S12x64x192_0_1_2 (Host.negf (broadcastInDim S12x1x1 ![0] bcast_S12_S12x1x1_0 slopes)))
    (broadcastInDim S12x64x192 ![0, 1, 2] bcast_S1x64x192_S12x64x192_0_1_2 (broadcastInDim S1x64x192 ![1, 2] bcast_S64x192_S1x64x192_1_2 (sitofp .f32 (muli (broadcastInDim S64x192 ![] bcast_S_S64x192 (constantI S_ 32 16#32)) (absi rel)))))

section
variable (q k v : FVec Ideal S4x2048x12x128 .f32)

/-- The masked scores. -/
def scores : FVec Ideal S64x2x12x64x192 .f32 :=
  select (broadcastInDim S64x2x12x64x192 ![0, 1, 2, 3, 4] bcast_S1x2x1x64x192_S64x2x12x64x192_0_1_2_3_4 (broadcastInDim S1x2x1x64x192 ![1, 3, 4] bcast_S2x64x192_S1x2x1x64x192_1_3_4 seen))
    (addf (Host.dotGeneral dot_S64x2x64x12x128_S64x2x192x12x128_S64x2x12x64x192_4_4_2_2_013_013 none (qblocks q) (windows k))
      (broadcastInDim S64x2x12x64x192 ![0, 1, 2, 3, 4] bcast_S1x1x12x64x192_S64x2x12x64x192_0_1_2_3_4 (broadcastInDim S1x1x12x64x192 ![2, 3, 4] bcast_S12x64x192_S1x1x12x64x192_2_3_4 tilt)))
    (broadcastInDim S64x2x12x64x192 ![] bcast_S_S64x2x12x64x192 (id (constant S_ .f32 0xFF800000#32)))

/-- The largest score of each query. -/
def tops : FVec Ideal S64x2x12x64 .f32 :=
  Host.reduce FloatOps.maximumf (scores q k) (constant S_ .f32 0xFF800000#32) reducesTo_S64x2x12x64x192_S64x2x12x64_d4 h_S_

/-- The weights. -/
def weights : FVec Ideal S64x2x12x64x192 .f32 :=
  Host.exp (subf (scores q k) (broadcastInDim S64x2x12x64x192 ![0, 1, 2, 3, 4] bcast_S64x2x12x64x1_S64x2x12x64x192_0_1_2_3_4 (broadcastInDim S64x2x12x64x1 ![0, 1, 2, 3] bcast_S64x2x12x64_S64x2x12x64x1_0_1_2_3 (tops q k))))

/-- The weights' sums. -/
def masses : FVec Ideal S64x2x12x64 .f32 :=
  Host.reduceAdd (weights q k) (constant S_ .f32 0x00000000#32) reducesTo_S64x2x12x64x192_S64x2x12x64_d4 h_S_

/-- The weighted sums of the values. -/
def pulls : FVec Ideal S64x2x12x128x64 .f32 :=
  Host.dotGeneral dot_S64x2x192x12x128_S64x2x12x64x192_S64x2x12x128x64_2_4_4_3_013_012 none (windows v) (weights q k)

/-- One number per query, back in the order of the rows. -/
def back (t : FVec Ideal S64x2x12x64 .f32) : FVec Ideal S4x2048x12 .f32 :=
  shapeCast _ (transpose S4x128x16x12 [0, 2, 1, 3] (shapeCast _ (shapeCast _ (transpose S64x2x64x12 [0, 1, 3, 2] t transposes_S64x2x12x64_S64x2x64x12_0_1_3_2) shapeCasts_S64x2x64x12_S64x128x12) shapeCasts_S64x128x12_S4x16x128x12) transposes_S4x16x128x12_S4x128x16x12_0_2_1_3) shapeCasts_S4x128x16x12_S4x2048x12

/-- The weighted sums, back in the order of the rows. -/
def backRows (t : FVec Ideal S64x2x12x128x64 .f32) : FVec Ideal S4x2048x12x128 .f32 :=
  shapeCast _ (transpose S4x128x16x12x128 [0, 2, 1, 3, 4] (shapeCast _ (shapeCast _ (transpose S64x2x64x12x128 [0, 1, 4, 2, 3] t transposes_S64x2x12x128x64_S64x2x64x12x128_0_1_4_2_3) shapeCasts_S64x2x64x12x128_S64x128x12x128) shapeCasts_S64x128x12x128_S4x16x128x12x128) transposes_S4x16x128x12x128_S4x128x16x12x128_0_2_1_3_4) shapeCasts_S4x128x16x12x128_S4x2048x12x128

/-- The quotient of sums and masses. -/
def ratio (t : FVec Ideal S4x2048x12x128 .f32) (u : FVec Ideal S4x2048x12 .f32) : FVec Ideal S4x2048x12x128 .f32 :=
  Host.divf t (broadcastInDim S4x2048x12x128 ![0, 1, 2, 3] bcast_S4x2048x12x1_S4x2048x12x128_0_1_2_3 (broadcastInDim S4x2048x12x1 ![0, 1, 2] bcast_S4x2048x12_S4x2048x12x1_0_1_2 u))

/-- The layout that the call returns. -/
def laidOut (t : FVec Ideal S4x2048x12x128 .f32) : FVec Ideal S16x512x1536 .bf16 :=
  truncf .bf16 (transpose S16x512x1536 [1, 0, 2] (shapeCast _ t shapeCasts_S4x2048x12x128_S512x16x1536) transposes_S512x16x1536_S16x512x1536_1_0_2) bitsLt_bf16_f32

/-- The attention. -/
def attended : FVec Ideal S16x512x1536 .bf16 := laidOut (ratio (backRows (pulls q k v)) (back (masses q k)))

/-- The largest score and the logarithm of the mass, in base two. -/
def logSum (u w : FVec Ideal S4x2048x12 .f32) : FVec Ideal S4x2048x12 .f32 :=
  Host.divf (addf u (Host.log w)) (broadcastInDim S4x2048x12 ![] bcast_S_S4x2048x12 (Host.log (constant S_ .f32 0x40000000#32)))

/-- One number per head, by subsequences. -/
def bySubs (t : FVec Ideal S4x2048x12 .f32) : FVec Ideal S16x512x12 .f32 :=
  transpose S16x512x12 [1, 0, 2] (shapeCast _ t shapeCasts_S4x2048x12_S512x16x12) transposes_S512x16x12_S16x512x12_1_0_2

/-- Lanes of zeros behind the twelve heads. -/
def wide (t : FVec Ideal S16x512x12 .f32) : FVec Ideal S16x512x128 .f32 :=
  pad S16x512x128 ![0, 0, 0] ![0, 0, 116] ![0, 0, 0] t (sitofp .f32 (constantI S_ 32 0#32)) pads_S16x512x12_S16x512x128_000_000_01160 h_S_

/-- The logarithms of the weights' sums. -/
def logs : FVec Ideal S16x512x128 .f32 := wide (bySubs (logSum (back (tops q k)) (back (masses q k))))
end

variable (m : (ℓ : Loc nD τ sig) → Buf (Elt Ideal) ℓ) (c : Dev nD)

theorem out0_eq : res_out0 m c = attended (queries (m ((c.tc : Thread nD τ).loc main_arg0))) (keys (m ((c.tc : Thread nD τ).loc main_arg0))) (vals (m ((c.tc : Thread nD τ).loc main_arg0))) := rfl

theorem out1_eq : res_out1 m c = logs (queries (m ((c.tc : Thread nD τ).loc main_arg0))) (keys (m ((c.tc : Thread nD τ).loc main_arg0))) := rfl

end Cert.ReferenceIdeal.Stage

end
-- ==== Proof.RefAt.lean ====
/- The reference's results at an index, in the common form. -/
module

public import proofs.«01_k».proof.Proof.Ref
public import proofs.«01_k».proof.Proof.Canon

@[expose] public section

set_option maxRecDepth 16384

noncomputable section

namespace Cert.ReferenceIdeal.Stage

open Cert.ReferenceIdeal Cert.ReferenceIdeal.Gen Cert.ReferenceIdeal.Value Cert.Soft Cert.Canon
open Idealize.ShloMosaic Idealize.ShloMosaic.TcCoe Idealize.ShloMosaic.Pointwise

variable (X : FVec Ideal S16384x4608 .f32) (t q k v : FVec Ideal S4x2048x12x128 .f32) (g : Fin 64) (n : Fin 2) (h : Fin 12)
  (i : Fin 64) (j : Fin 192) (d : Fin 128)

theorem queries_at (b : Fin 4) (s : Fin 2048) : queries X (ix4 b s h d)
    = Ideal.div (X (ix2 ⟨8192 + (b * 2048 + s), by omega⟩ ⟨h * 128 + d, by omega⟩)) (Ideal.sqrt (Ideal.ofBits FTy.f32 1124073472#32)) := by
  pointwise [queries, rows]

theorem keys_at (b : Fin 4) (s : Fin 2048) : keys X (ix4 b s h d) = X (ix2 ⟨8192 + (b * 2048 + s), by omega⟩ ⟨1536 + (h * 128 + d), by omega⟩) := by
  pointwise [keys, rows]

theorem vals_at (b : Fin 4) (s : Fin 2048) : vals X (ix4 b s h d) = X (ix2 ⟨8192 + (b * 2048 + s), by omega⟩ ⟨3072 + (h * 128 + d), by omega⟩) := by
  pointwise [vals, rows]

theorem subs_at (l : Fin 128) : subs t (ix4 g l h d) = t (ix4 ⟨g / 16, by omega⟩ ⟨l * 16 + g % 16, by omega⟩ h d) := by
  pointwise [subs]

theorem qblocks_at : qblocks t (ix5 g n i h d) = subs t (ix4 g ⟨n * 64 + i, by omega⟩ h d) := by
  pointwise [qblocks]
  rw [dif_pos (by omega)]

/-- The place of a key of the window, if it has one. -/
abbrev Inside (n : Fin 2) (j : Fin 192) : Prop := 64 ≤ n.val * 64 + j.val ∧ n.val * 64 + j.val < 192

theorem windows_at (hin : Inside n j) : windows t (ix5 g n j h d) = subs t (ix4 g ⟨n * 64 + j - 64, by omega⟩ h d) := by
  pointwise [windows, padded]
  by_cases h1 : j.val < 64
  · rw [dif_pos h1, dif_pos (by omega)]
  · rw [dif_neg h1]
    by_cases h2 : j.val - 64 < 64
    · rw [dif_pos h2, dif_pos (by omega)]
      congr 3; show (1 + n.val) * 64 + (j.val - 64) - 64 = n.val * 64 + j.val - 64; omega
    · rw [dif_neg h2, dif_pos (by omega)]
      congr 3; show (2 + n.val) * 64 + (j.val - 64 - 64) - 64 = n.val * 64 + j.val - 64; omega

/-- How far the key at place `j` of the window lies from the query at place `i` of the block. -/
theorem rel_word (i : Fin 64) (j : Fin 192) : IntOp.absi (IntOp.subi (IntOp.subi (BitVec.ofNat 32 j) 64#32) (BitVec.ofNat 32 i)) = BitVec.ofNat 32 (apart (64 + i) j) := by
  have hi := i.isLt
  have hj := j.isLt
  unfold IntOp.absi IntOp.subi apart
  apply BitVec.eq_of_toNat_eq
  by_cases h : j.val < 64 + i.val
  · rw [if_pos h, if_pos (by rw [BitVec.msb_eq_decide]; simp; omega)]
    simp; omega
  · rw [if_neg h, if_neg (by rw [BitVec.msb_eq_decide]; simp; omega)]
    simp; omega

theorem apart_lt (i : Fin 64) (j : Fin 192) : apart (64 + i) j < 256 := by
  unfold apart; split <;> omega

theorem le64_word (m : ℕ) (h : m < 256) : IntOp.cmpi CmpIPredicate.sle (BitVec.ofNat 32 m) 64#32 = if m ≤ 64 then 1#1 else 0#1 := by
  have key : ∀ m : Fin 256, IntOp.cmpi CmpIPredicate.sle (BitVec.ofNat 32 m) 64#32 = if m.val ≤ 64 then 1#1 else 0#1 := by decide +kernel
  exact key ⟨m, h⟩

theorem place_word : ∀ (n : Fin 2) (j : Fin 192),
    IntOp.cmpi CmpIPredicate.sge (IntOp.addi (IntOp.muli (BitVec.ofNat 32 n) 64#32) (IntOp.subi (BitVec.ofNat 32 j) 64#32)) 0#32
      = (if 64 ≤ n.val * 64 + j.val then 1#1 else 0#1)
    ∧ IntOp.cmpi CmpIPredicate.slt (IntOp.addi (IntOp.muli (BitVec.ofNat 32 n) 64#32) (IntOp.subi (BitVec.ofNat 32 j) 64#32)) 128#32
      = (if n.val * 64 + j.val < 192 then 1#1 else 0#1) := by decide +kernel

/-- The keys that the mask keeps. -/
abbrev Sees (n : Fin 2) (i : Fin 64) (j : Fin 192) : Prop := apart (64 + i) j ≤ 64 ∧ Inside n j

theorem seen_at : seen (ix3 n i j) = if Sees n i j then 1#1 else 0#1 := by
  pointwise [seen, place, rel]
  rw [rel_word, le64_word _ (apart_lt i j), (place_word n j).1, (place_word n j).2]
  unfold Sees Inside
  by_cases h1 : apart (64 + i) j ≤ 64 <;> by_cases h2 : 64 ≤ n.val * 64 + j.val <;> by_cases h3 : n.val * 64 + j.val < 192 <;>
    simp only [h1, h2, h3, ↓reduceIte, and_true, true_and, and_false, false_and, and_self] <;> rfl

theorem tilt_at : tilt (ix3 h i j) = -slopes (ix1 h) * (((16 * apart (64 + i) j : ℕ) : ℝ) : EReal) := by
  pointwise [tilt, rel]
  rw [rel_word]
  have hd := apart_lt i j
  have e : FloatOps.sitofp (F := Ideal) FTy.f32 (IntOp.muli (16#32) (BitVec.ofNat 32 (apart (64 + i) j))) = (((16 * apart (64 + i) j : ℕ) : ℝ) : EReal) := by
    show (((IntOp.muli (16#32) (BitVec.ofNat 32 (apart (64 + i) j))).toInt : ℝ) : EReal) = _
    have : (IntOp.muli (16#32) (BitVec.ofNat 32 (apart (64 + i) j))).toInt = (16 * apart (64 + i) j : ℕ) := by
      unfold IntOp.muli
      rw [BitVec.toInt_eq_toNat_cond]; simp; omega
    rw [this]; norm_cast
  rw [e]

theorem ofBits_bot : Ideal.ofBits FTy.f32 4286578688#32 = ⊥ := by
  simp [Ideal.ofBits, Ideal.ieee]

theorem scores_at : scores q k (ix5 g n h i j)
    = if Sees n i j then ∑ x, qblocks q (ix5 g n i h x) * windows k (ix5 g n j h x) + tilt (ix3 h i j) else ⊥ := by
  pointwise [scores]
  rw [seen_at]
  by_cases hs : Sees n i j
  · rw [if_pos hs, if_pos hs]; rfl
  · rw [if_neg hs, if_neg hs]; exact ofBits_bot

theorem tops_at : tops q k (ix4 g n h i) = Finset.univ.fold max ⊥ fun x => scores q k (ix5 g n h i x) := by
  pointwise [tops]
  rw [ofBits_bot]

theorem masses_at : masses q k (ix4 g n h i) = ∑ x, Ideal.exp (scores q k (ix5 g n h i x) - tops q k (ix4 g n h i)) := by
  pointwise [masses, weights]

theorem pulls_at : pulls q k v (ix5 g n h d i) = ∑ x, Ideal.exp (scores q k (ix5 g n h i x) - tops q k (ix4 g n h i)) * windows v (ix5 g n x h d) := by
  pointwise [pulls, weights]
  exact Finset.sum_congr rfl fun x _ => mul_comm _ _

theorem back_at (u : FVec Ideal S64x2x12x64 .f32) (b : Fin 4) (s : Fin 2048) :
    back u (ix3 b s h) = u (ix4 ⟨b * 16 + s % 16, by omega⟩ ⟨s / 16 / 64, by omega⟩ h ⟨s / 16 % 64, by omega⟩) := by
  pointwise [back]

theorem backRows_at (u : FVec Ideal S64x2x12x128x64 .f32) (b : Fin 4) (s : Fin 2048) :
    backRows u (ix4 b s h d) = u (ix5 ⟨b * 16 + s % 16, by omega⟩ ⟨s / 16 / 64, by omega⟩ h d ⟨s / 16 % 64, by omega⟩) := by
  pointwise [backRows]

theorem ratio_at (u : FVec Ideal S4x2048x12 .f32) (b : Fin 4) (s : Fin 2048) : ratio t u (ix4 b s h d) = Ideal.div (t (ix4 b s h d)) (u (ix3 b s h)) := by
  pointwise [ratio]

theorem laidOut_at (a : Fin 16) (p : Fin 512) (e : Fin 1536) :
    laidOut t (ix3 a p e) = t (ix4 ⟨p / 128, by omega⟩ ⟨p % 128 * 16 + a, by omega⟩ ⟨e / 128, by omega⟩ ⟨e % 128, by omega⟩) := by
  pointwise [laidOut]

theorem log2_word : Ideal.log (Ideal.ofBits FTy.f32 1073741824#32) = ((Real.log 2 : ℝ) : EReal) := by
  have : Ideal.ofBits FTy.f32 1073741824#32 = ((2 : ℝ) : EReal) := by
    simp [Ideal.ofBits, Ideal.ieee, zpow_neg]
    rw [← EReal.coe_mul]
    norm_num
  rw [this]
  show Ideal.log ((2 : ℝ) : EReal) = _
  exact if_neg (by norm_num)

theorem logSum_at (u w : FVec Ideal S4x2048x12 .f32) (b : Fin 4) (s : Fin 2048) :
    logSum u w (ix3 b s h) = (u (ix3 b s h) + Ideal.log (w (ix3 b s h))) * ((L2 : ℝ) : EReal) := by
  pointwise [logSum]
  rw [log2_word, div_coe _ _ (Real.log_pos (by norm_num)).ne']

theorem bySubs_at (w : FVec Ideal S4x2048x12 .f32) (a : Fin 16) (p : Fin 512) :
    bySubs w (ix3 a p h) = w (ix3 ⟨p / 128, by omega⟩ ⟨p % 128 * 16 + a, by omega⟩ h) := by
  pointwise [bySubs]

theorem wide_at (w : FVec Ideal S16x512x12 .f32) (a : Fin 16) (p : Fin 512) (e : Fin 128) :
    wide w (ix3 a p e) = if he : e.val < 12 then w (ix3 a p ⟨e, he⟩) else 0 := by
  pointwise [wide]
  by_cases he : e.val < 12
  · rw [dif_pos he, dif_pos he]
  · rw [dif_neg he, dif_neg he]
    show (((0#32 : BitVec 32).toInt : ℝ) : EReal) = 0
    simp

end Cert.ReferenceIdeal.Stage

end
-- ==== Proof.RefOut.lean ====
/- The reference is the attention in the common form. -/
module

public import proofs.«01_k».proof.Proof.RefAt

@[expose] public section

set_option maxRecDepth 16384

noncomputable section

namespace Cert.ReferenceIdeal.Stage

open Cert.ReferenceIdeal Cert.ReferenceIdeal.Gen Cert.ReferenceIdeal.Value Cert.Soft Cert.Canon
open Idealize.ShloMosaic Idealize.ShloMosaic.TcCoe

section
variable (X : FVec Ideal S16384x4608 .f32) (g : Fin 64) (n : Fin 2) (h : Fin 12) (i : Fin 64) (d : Fin 128)

/-- The array as rows and columns. -/
abbrev cells : Fin 16384 → Fin 4608 → EReal := fun r c => X (ix2 r c)

/-- The place of the query. -/
abbrev at' : Fin 128 := ⟨n * 64 + i, by omega⟩

/-- The subsequence and the sequence of group `g`. -/
abbrev sub' : Fin 16 := ⟨g % 16, by omega⟩
abbrev seq' : Fin 4 := ⟨g / 16, by omega⟩

/-- The place of a key of the window in its subsequence. -/
def key (n : Fin 2) (j : Fin 192) : Fin 128 := ⟨(n * 64 + j - 64) % 128, by omega⟩

theorem key_eq (n : Fin 2) (j : Fin 192) (hin : Inside n j) : key n j = ⟨n * 64 + j - 64, by omega⟩ :=
  Fin.ext (Nat.mod_eq_of_lt (by omega))

theorem apart_key (n : Fin 2) (i : Fin 64) (j : Fin 192) (hin : Inside n j) : apart (at' n i) (key n j) = apart (64 + i) j := by
  rw [key_eq n j hin]
  unfold apart
  dsimp only
  split <;> split <;> omega

theorem key_near (n : Fin 2) (i : Fin 64) (j : Fin 192) (hj : Sees n i j) : key n j ∈ near (at' n i) := by
  refine Finset.mem_filter.mpr ⟨Finset.mem_univ _, ?_⟩
  rw [apart_key n i j hj.2]
  exact hj.1

theorem key_onto (n : Fin 2) (i : Fin 64) (l : Fin 128) (hl : l ∈ near (at' n i)) : ∃ j, Sees n i j ∧ key n j = l := by
  have hl := (Finset.mem_filter.mp hl).2
  have b1 : l.val < n.val * 64 + i.val → n.val * 64 + i.val - l.val ≤ 64 := fun hh => by
    unfold apart at hl; rwa [if_pos hh] at hl
  have b2 : ¬ l.val < n.val * 64 + i.val → l.val - (n.val * 64 + i.val) ≤ 64 := fun hh => by
    unfold apart at hl; rwa [if_neg hh] at hl
  have hlt : l.val + 64 - n.val * 64 < 192 := by omega
  have hin : Inside n ⟨l.val + 64 - n.val * 64, hlt⟩ := by
    constructor
    · show 64 ≤ n.val * 64 + (l.val + 64 - n.val * 64); omega
    · show n.val * 64 + (l.val + 64 - n.val * 64) < 192; omega
  have hk : key n ⟨l.val + 64 - n.val * 64, hlt⟩ = l := by
    rw [key_eq n _ hin]
    apply Fin.ext
    show n.val * 64 + (l.val + 64 - n.val * 64) - 64 = l.val
    omega
  refine ⟨_, ⟨?_, hin⟩, hk⟩
  rw [← apart_key n i _ hin, hk]
  exact hl

theorem key_inj (n : Fin 2) (i : Fin 64) (j j' : Fin 192) (hj : Sees n i j) (hj' : Sees n i j') (e : key n j = key n j') : j = j' := by
  rw [key_eq n j hj.2, key_eq n j' hj'.2] at e
  have := congrArg Fin.val e
  have h1 := hj.2
  have h2 := hj'.2
  unfold Inside at h1 h2
  dsimp only at this
  omega

theorem scores_seen (j : Fin 192) (hj : Sees n i j) : scores (queries X) (keys X) (ix5 g n h i j)
    = sc (cells X) (slopes (ix1 h)) (sub' g) (seq' g) h (at' n i) (key n j) := by
  rw [scores_at, if_pos hj, tilt_at, key_eq n j hj.2]
  have ha := apart_key n i j hj.2
  rw [key_eq n j hj.2] at ha
  unfold sc
  rw [ha]
  refine congrArg (· + _) (Finset.sum_congr rfl fun x _ => ?_)
  rw [qblocks_at, windows_at _ _ _ _ _ _ hj.2, subs_at, subs_at, queries_at, keys_at]
  rfl

theorem scores_unseen (j : Fin 192) (hj : ¬ Sees n i j) : scores (queries X) (keys X) (ix5 g n h i j) = ⊥ := by
  rw [scores_at, if_neg hj]

theorem windows_seen (j : Fin 192) (hj : Sees n i j) : windows (vals X) (ix5 g n j h d)
    = va (cells X) (sub' g) (seq' g) h d (key n j) := by
  rw [windows_at _ _ _ _ _ _ hj.2, subs_at, vals_at, key_eq n j hj.2]
  rfl

theorem tops_canon : tops (queries X) (keys X) (ix4 g n h i) = (near (at' n i)).sup (sc (cells X) (slopes (ix1 h)) (sub' g) (seq' g) h (at' n i)) := by
  rw [tops_at]
  exact natural_max _ (Sees n i) (key n) (key_near n i) (key_onto n i) (key_inj n i) _ _ (scores_seen X g n h i) (scores_unseen X g n h i)

theorem masses_canon : masses (queries X) (keys X) (ix4 g n h i) = den (near (at' n i)) (sc (cells X) (slopes (ix1 h)) (sub' g) (seq' g) h (at' n i)) := by
  rw [masses_at, tops_canon]
  exact natural_den _ (Sees n i) (key n) (key_near n i) (key_onto n i) (key_inj n i) _ _ (scores_seen X g n h i) (scores_unseen X g n h i)

theorem pulls_canon : pulls (queries X) (keys X) (vals X) (ix5 g n h d i)
    = num (near (at' n i)) (sc (cells X) (slopes (ix1 h)) (sub' g) (seq' g) h (at' n i)) (va (cells X) (sub' g) (seq' g) h d) := by
  rw [pulls_at, tops_canon]
  exact natural_num _ (Sees n i) (key n) (key_near n i) (key_onto n i) (key_inj n i) _ _ (scores_seen X g n h i) (scores_unseen X g n h i) _ _
    (windows_seen X g n h i d)
end

variable (X : FVec Ideal S16384x4608 .f32) (a : Fin 16) (p : Fin 512)

/-- Where the row of subsequence `a`, place `p` of the result stands among the groups. -/
theorem where_sub : sub' ⟨(p / 128 : ℕ) * 16 + (p % 128 * 16 + a : ℕ) % 16, by omega⟩ = a := by
  apply Fin.ext
  show ((p.val / 128) * 16 + (p.val % 128 * 16 + a.val) % 16) % 16 = a.val
  omega

theorem where_seq : seq' ⟨(p / 128 : ℕ) * 16 + (p % 128 * 16 + a : ℕ) % 16, by omega⟩ = ⟨p / 128, by omega⟩ := by
  apply Fin.ext
  show ((p.val / 128) * 16 + (p.val % 128 * 16 + a.val) % 16) / 16 = p.val / 128
  omega

theorem where_at : at' ⟨(p % 128 * 16 + a : ℕ) / 16 / 64, by omega⟩ ⟨(p % 128 * 16 + a : ℕ) / 16 % 64, by omega⟩ = ⟨p % 128, by omega⟩ := by
  apply Fin.ext
  show (p.val % 128 * 16 + a.val) / 16 / 64 * 64 + (p.val % 128 * 16 + a.val) / 16 % 64 = p.val % 128
  omega

theorem attended_canon (e : Fin 1536) : attended (queries X) (keys X) (vals X) (ix3 a p e)
    = attn (cells X) (slopes (ix1 ⟨e / 128, by omega⟩)) a ⟨p / 128, by omega⟩ ⟨e / 128, by omega⟩ ⟨p % 128, by omega⟩ ⟨e % 128, by omega⟩ := by
  unfold attended
  rw [laidOut_at, ratio_at, backRows_at, back_at, pulls_canon, masses_canon, where_sub, where_seq, where_at]
  rfl

theorem logs_canon (e : Fin 128) : logs (queries X) (keys X) (ix3 a p e)
    = if he : e.val < 12 then lse (cells X) (slopes (ix1 ⟨e, he⟩)) a ⟨p / 128, by omega⟩ ⟨e, he⟩ ⟨p % 128, by omega⟩ else 0 := by
  unfold logs
  rw [wide_at]
  refine dite_congr rfl (fun he => ?_) fun _ => rfl
  rw [bySubs_at, logSum_at, back_at, back_at, tops_canon, masses_canon, where_sub, where_seq, where_at]
  rfl

end Cert.ReferenceIdeal.Stage

end
-- ==== Proof.Attention.lean ====
/- The claims about the attention: the three frames, the named constants, and the equality of kernel and reference. -/
module

public import proofs.«01_k».proof.Defs
public import proofs.«01_k».proof.Proof.Gen.Kernel.Frame
public import proofs.«01_k».proof.Proof.Gen.KernelIdeal.Frame
public import proofs.«01_k».proof.Proof.KerOut
public import proofs.«01_k».proof.Proof.RefOut
public import Idealize.ShloMosaic.Adequacy
public import Idealize.ShloMosaic.Init

@[expose] public section

noncomputable section

namespace Cert.Proof.Attention

open Idealize.ShloMosaic Idealize.SL.Sem

theorem slopes_same (h : Fin 12) : Cert.KernelIdeal.Sweep.slopes (ix1 h) = Cert.ReferenceIdeal.Stage.slopes (ix1 h) := rfl

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "minus_inf" .f32 0xF149F2CA#32 ⊥ rfl⟩

theorem algebraic : Cert.algebraic_KernelIdeal_ReferenceIdeal := by
  intro m ρ m' ρ' _ hagree
  refine ⟨_, _, Cert.KernelIdeal.Value.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Stage.out0_eq m' c).trans ?_
    rw [hagree c]
    refine funext fun (i : Cert.KernelIdeal.S16x512x1536.Idx) => ?_
    obtain ⟨a, p, e, rfl⟩ : ∃ (a : Fin 16) (p : Fin 512) (e : Fin 1536), i = ix3 a p e := ⟨i 0, i 1, i 2, by funext k; fin_cases k <;> rfl⟩
    refine (Cert.ReferenceIdeal.Stage.attended_canon _ a p e).trans ((Cert.KernelIdeal.Ker.attn_canon m c a p e).trans ?_).symm
    rw [slopes_same]
  · refine (Cert.ReferenceIdeal.Stage.out1_eq m' c).trans ?_
    rw [hagree c]
    refine funext fun (i : Cert.KernelIdeal.S16x512x128.Idx) => ?_
    obtain ⟨a, p, e, rfl⟩ : ∃ (a : Fin 16) (p : Fin 512) (e : Fin 128), i = ix3 a p e := ⟨i 0, i 1, i 2, by funext k; fin_cases k <;> rfl⟩
    refine (Cert.ReferenceIdeal.Stage.logs_canon _ a p e).trans ((Cert.KernelIdeal.Ker.lse_canon m c a p e).trans ?_).symm
    refine dite_congr rfl (fun he => ?_) fun _ => rfl
    rw [slopes_same]

end Cert.Proof.Attention

end
-- ==== Proof.SwKit.lean ====
/- The launch of the routed pair of products, set up for every contents of its prefetched tables: what the region
   finds in the buffers, the tables read off the launch memory, the windows' blocks, and the names of the memrefs
   the body is called with. -/
module

public import proofs.«01_k».proof.Proof.Gen.Kernel2Ideal.Launch
public import proofs.«01_k».proof.Proof.Gen.Kernel2Ideal.Skeleton
public import proofs.«01_k».proof.Proof.Gen.Kernel2Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Sw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory with the one host conversion done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- Every buffer but the converted rows is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S72 .i32 := Memref.whole main_arg1
abbrev mT1 : Memref sig .tc .smem S72 .i32 := Memref.whole main_arg2
abbrev mT2 : Memref sig .tc .smem S1 .i32 := Memref.whole main_arg3
abbrev mT3 : Memref sig .tc .smem S72 .i32 := Memref.whole main_arg4

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S512x2048 .bf16 := spec0_0.stage ((cfgM m hO).slots t 0)
abbrev ms1 (hO : Ok m) (t : Fin (cfgM m hO).N) : Memref sig .tc .vmem S1x2048x1024 .f32 := spec0_1.stage ((cfgM m hO).slots t 1)
abbrev ms2 (hO : Ok m) (t : Fin (cfgM m hO).N) : Memref sig .tc .vmem S1x2048x1024 .f32 := spec0_2.stage ((cfgM m hO).slots t 2)
abbrev ms3 (hO : Ok m) (t : Fin (cfgM m hO).N) : Memref sig .tc .vmem S512x1024 .bf16 := spec0_3.stage ((cfgM m hO).slots t 3)
abbrev scr0 : Memref sig .tc .vmem S2048x1024 .bf16 := Memref.whole cc0_scratch0
abbrev scr1 : Memref sig .tc .vmem S2048x1024 .bf16 := Memref.whole cc0_scratch1

/-- The body at point `t`, on what the pipeline calls it with. -/
abbrev bodyAt (a : (pcfg0 (F := F)).Adm) (t : Fin (cfg0 a).N) : Prog (TpuEff nD τ sig (Elt F) Λ₀ .tc) PUnit :=
  cc0_matmul_swiglu (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    scr0 (Memref.isWhole_whole _) scr1 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the two scratch buffers at some contents. -/
theorem own_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t)
    ∧ ((∀ t, dat.after 2 t = iblk m hO c 2 t) → ∀ t d, dat.before 2 t d = iblk m hO c 2 t) := by
  refine ⟨fun ha t d => ?_, fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hv : ∀ b : Ref sig .tc, b ≠ main_v0 → V m c b = m ((c.tc : Thread nD τ).loc b) := V_of_ne m c
  refine ⟨((h c).2 main_arg0 (by decide : main_arg0 ∈ Pipeline.restRefs sig spec0)).trans (hv _ (by decide)), ((h c).2 main_arg1 (by decide : main_arg1 ∈ Pipeline.restRefs sig spec0)).trans (hv _ (by decide)),
    ((h c).2 main_arg2 (by decide : main_arg2 ∈ Pipeline.restRefs sig spec0)).trans (hv _ (by decide)), ((h c).2 main_arg3 (by decide : main_arg3 ∈ Pipeline.restRefs sig spec0)).trans (hv _ (by decide)),
    ((h c).2 main_arg4 (by decide : main_arg4 ∈ Pipeline.restRefs sig spec0)).trans (hv _ (by decide)), ?_, ?_⟩
  · exact ((h c).1 1).trans (((dats 0 c).arrAt_in 1 rfl _).trans ((hA c 1).trans (hv main_arg5 (by decide))))
  · exact ((h c).1 2).trans (((dats 0 c).arrAt_in 2 rfl _).trans ((hA c 2).trans (hv main_arg6 (by decide))))

end Cert.Kernel2Ideal.Sw

end
-- ==== Proof.SwCast.lean ====
/- The weight copies the body keeps: what its loop leaves in a scratch buffer is the whole weight block rounded, and
   what the body leaves in the output block, quarter by quarter. -/
module

public import proofs.«01_k».proof.Proof.SwKit
public import Idealize.ShloMosaic.Lib.WritesUnit
public import Idealize.ShloMosaic.Lib.VecWindow
public import Idealize.ShloMosaic.Lib.Pointwise

@[expose] public section

set_option maxRecDepth 16384

noncomputable section

namespace Cert.Kernel2Ideal.Sw

open Idealize.ShloMosaic Idealize.ShloMosaic.TcCoe Idealize.ShloMosaic.Tactic
open Idealize.SL Idealize.SL.Sem
open Gen

variable {F : FTy → Type} [FloatOps F]

/-- A weight block rounded to bf16, without its unit axis. -/
def castW (x : Vec F S1x2048x1024 .f32) : FVec F S2048x1024 .bf16 :=
  truncf .bf16 ((fun y => x (ix3 0 (y 0) (y 1))) : FVec F S2048x1024 .f32) bitsLt_bf16_f32

theorem castW_at (x : Vec F S1x2048x1024 .f32) (r : Fin 2048) (s : Fin 1024) :
    castW x (ix2 r s) = FloatOps.truncf .bf16 bitsLt_bf16_f32 (x (ix3 0 r s)) := rfl

theorem pay6_at (v : Vec F S1x512x1024 .f32) (a : Fin 512) (b : Fin 1024) :
    k0_pay6 (F := F) v (ix2 a b) = FloatOps.truncf .bf16 bitsLt_bf16_f32 (v (ix3 0 a b)) := by
  pointwise [k0_pay6]

theorem pay7_at (v : Vec F S1x512x1024 .f32) (a : Fin 512) (b : Fin 1024) :
    k0_pay7 (F := F) v (ix2 a b) = FloatOps.truncf .bf16 bitsLt_bf16_f32 (v (ix3 0 a b)) := by
  pointwise [k0_pay7]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 4 := by decide +kernel

variable (𝒱 : Variants) (c : Dev nD) (bd : Option 𝒱.V) (i : grid0.Coords) (arg2 : Memref sig .tc .smem S72 .i32) (harg2 : arg2.IsWhole) (arg3 : Memref sig .tc .smem S72 .i32) (harg3 : arg3.IsWhole) (arg4 : Memref sig .tc .smem S1 .i32) (harg4 : arg4.IsWhole) (arg5 : Memref sig .tc .smem S72 .i32) (harg5 : arg5.IsWhole) (arg6 : Memref sig .tc .vmem S512x2048 .bf16) (harg6 : arg6.IsWhole) (arg7 : Memref sig .tc .vmem S1x2048x1024 .f32) (harg7 : arg7.IsWhole) (arg8 : Memref sig .tc .vmem S1x2048x1024 .f32) (harg8 : arg8.IsWhole) (arg9 : Memref sig .tc .vmem S512x1024 .bf16) (harg9 : arg9.IsWhole) (arg10 : Memref sig .tc .vmem S2048x1024 .bf16) (harg10 : arg10.IsWhole) (arg11 : Memref sig .tc .vmem S2048x1024 .bf16) (harg11 : arg11.IsWhole)
  (X7 : BufTy.Contents (Elt F) arg7.view.ty) (X8 : BufTy.Contents (Elt F) arg8.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 X7 X8 k
      = ([⟨Rect.unit (s := S2048x1024) (k0_off4 k) S512x1024.size (k0_off4_inb k), k0_pay6 (arg7.view.readAt (Elt F) (Rect.unit (s := S1x2048x1024) (k0_off3 k) S1x512x1024.size (k0_off3_inb k)).toLoadRect X7)⟩],
         [⟨Rect.unit (s := S2048x1024) (k0_off4 k) S512x1024.size (k0_off4_inb k), k0_pay7 (arg8.view.readAt (Elt F) (Rect.unit (s := S1x2048x1024) (k0_off3 k) S1x512x1024.size (k0_off3_inb k)).toLoadRect X8)⟩]) := by
  unfold tripL_k0_t1 trip_k0_t1
  rfl

/-- A rounded row block is the rounded weight at the rows it is stored to. -/
theorem piece_eq (k : Fin k0_t1_loop.trips) (arg : Memref sig .tc .vmem S1x2048x1024 .f32) (X : BufTy.Contents (Elt F) arg.view.ty)
    (p : FVec F S512x1024 .bf16)
    (hp : ∀ a b, p (ix2 a b) = FloatOps.truncf .bf16 bitsLt_bf16_f32 (arg.view.readAt (Elt F) (Rect.unit (s := S1x2048x1024) (k0_off3 k) S1x512x1024.size (k0_off3_inb k)).toLoadRect X (ix3 0 a b)))
    (x : S512x1024.Idx) :
    p x = castW (arg.view.read (Elt F) X) ((Rect.unit (s := S2048x1024) (k0_off4 k) S512x1024.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`, in both scratch buffers: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 X7 X8 k).1, ∀ x, p.2 x = castW (arg7.view.read (Elt F) X7) (p.1.emb x))
    ∧ (∀ p ∈ (pb_k0_t1 (F := F) 𝒱 c bd i arg2 harg2 arg3 harg3 arg4 harg4 arg5 harg5 arg6 harg6 arg7 harg7 arg8 harg8 arg9 harg9 arg10 harg10 arg11 harg11 X7 X8 k).2, ∀ x, p.2 x = castW (arg8.view.read (Elt F) X8) (p.1.emb x))
    ∧ (∀ y : S2048x1024.Idx, (y 0).val < 512 * k → (∃ p ∈ (pb_k0_t1 (F := F) 𝒱 c bd i arg2 harg2 arg3 harg3 arg4 harg4 arg5 harg5 arg6 harg6 arg7 harg7 arg8 harg8 arg9 harg9 arg10 harg10 arg11 harg11 X7 X8 k).1, y ∈ p.1.set)
      ∧ (∃ p ∈ (pb_k0_t1 (F := F) 𝒱 c bd i arg2 harg2 arg3 harg3 arg4 harg4 arg5 harg5 arg6 harg6 arg7 harg7 arg8 harg8 arg9 harg9 arg10 harg10 arg11 harg11 X7 X8 k).2, y ∈ p.1.set)) := by
  intro k
  induction k with
  | zero =>
      intro _
      refine ⟨fun p hp => absurd hp List.not_mem_nil, fun p hp => absurd hp List.not_mem_nil, fun y hy => absurd hy (by omega)⟩
  | succ k ih =>
      intro hk
      obtain ⟨i1, i2, i3⟩ := ih (by omega)
      have hs := pb_k0_t1_succ (F := F) 𝒱 c bd i arg2 harg2 arg3 harg3 arg4 harg4 arg5 harg5 arg6 harg6 arg7 harg7 arg8 harg8 arg9 harg9 arg10 harg10 arg11 harg11 X7 X8 ⟨k, by omega⟩
      rw [trip_pieces] at hs
      dsimp only at hs
      rw [hs]
      have hmem : ∀ y : S2048x1024.Idx, 512 * k ≤ (y 0).val → (y 0).val < 512 * (k + 1) →
          y ∈ (Rect.unit (s := S2048x1024) (k0_off4 ⟨k, by omega⟩) S512x1024.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 1024; have : (y 1).val < 1024 := (y 1).isLt; omega⟩
      refine ⟨fun p hp => ?_, fun p hp => ?_, fun y hy => ?_⟩
      · rcases List.mem_append.mp hp with h | h
        · rw [List.mem_singleton] at h; subst h
          exact piece_eq (F := F) _ arg7 X7 _ (fun a b => pay6_at _ a b)
        · exact i1 p h
      · rcases List.mem_append.mp hp with h | h
        · rw [List.mem_singleton] at h; subst h
          exact piece_eq (F := F) _ arg8 X8 _ (fun a b => pay7_at _ a b)
        · exact i2 p h
      · by_cases hlt : (y 0).val < 512 * k
        · obtain ⟨⟨p, hp, hy1⟩, ⟨q, hq, hy2⟩⟩ := i3 y hlt
          exact ⟨⟨p, List.mem_append.mpr (.inr hp), hy1⟩, ⟨q, List.mem_append.mpr (.inr hq), hy2⟩⟩
        · have h := hmem y (by omega) hy
          exact ⟨⟨_, List.mem_append.mpr (.inl (List.mem_singleton.mpr rfl)), h⟩, ⟨_, List.mem_append.mpr (.inl (List.mem_singleton.mpr rfl)), h⟩⟩

/-- After the loop the two scratch buffers hold the two weight blocks rounded. -/
theorem loop_read (f10 : BufTy.Contents (Elt F) arg10.view.ty) (f11 : BufTy.Contents (Elt F) arg11.view.ty) :
    arg10.view.read (Elt F) (arg10.view.writes (Elt F) f10 (pb_k0_t1 (F := F) 𝒱 c bd i arg2 harg2 arg3 harg3 arg4 harg4 arg5 harg5 arg6 harg6 arg7 harg7 arg8 harg8 arg9 harg9 arg10 harg10 arg11 harg11 X7 X8 k0_t1_loop.trips).1) = castW (arg7.view.read (Elt F) X7)
    ∧ arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 X7 X8 k0_t1_loop.trips).2) = castW (arg8.view.read (Elt F) X8) := by
  obtain ⟨h1, h2, h3⟩ := pieces_upto (F := F) 𝒱 c bd i arg2 harg2 arg3 harg3 arg4 harg4 arg5 harg5 arg6 harg6 arg7 harg7 arg8 harg8 arg9 harg9 arg10 harg10 arg11 harg11 X7 X8 k0_t1_loop.trips le_rfl
  have hr : ∀ y : S2048x1024.Idx, (y 0).val < 512 * k0_t1_loop.trips := fun y => by
    rw [trips_eq]; exact (y 0).isLt
  exact ⟨funext fun y => View.read_writes_apply_of_pieces _ _ _ _ h1 y (h3 y (hr y)).1,
    funext fun y => View.read_writes_apply_of_pieces _ _ _ _ h2 y (h3 y (hr y)).2⟩

/-! ## The output block -/

/-- The first `R` rows of the row block. -/
def top (R : ℕ) (hR : R ≤ 512) (x : Vec F S512x2048 .bf16) : Vec F (⟨2, ![R, 2048]⟩ : Shape) .bf16 :=
  fun y => x (ix2 ⟨(y 0).val, lt_of_lt_of_le (y 0).isLt hR⟩ (y 1))

/-- A block whose first `R` rows are `p` and whose other rows are zero. -/
def rowsOut (R : ℕ) (p : Vec F (⟨2, ![R, 1024]⟩ : Shape) .bf16) : Vec F S512x1024 .bf16 :=
  fun y => if h : (y 0).val < R then p (ix2 ⟨(y 0).val, h⟩ (y 1)) else (Scalar.ofBits .bf16 0x0000#16 : F .bf16)

/-- What the body leaves in the output block where `q` quarters of the tile hold rows. -/
def outV (q : ℕ) (x : Vec F S512x2048 .bf16) (w0 w1 : Vec F S2048x1024 .bf16) : Vec F S512x1024 .bf16 :=
  match q with
  | 0 => k0_pay8
  | 1 => rowsOut 128 (k0_pay9 (top 128 (by decide) x) w0 w1)
  | 2 => rowsOut 256 (k0_pay1 (top 256 (by decide) x) w0 w1)
  | 3 => rowsOut 384 (k0_pay3 (top 384 (by decide) x) w0 w1)
  | _ => k0_pay5 x w0 w1

theorem readAt_top (R : ℕ) (hR : R ≤ 512) (M : Memref sig .tc .vmem S512x2048 .bf16) (f : BufTy.Contents (Elt F) M.view.ty)
    (inb : ∀ a : Fin 2, (![0, 0] : Fin 2 → ℕ) a + (⟨2, ![R, 2048]⟩ : Shape).size a ≤ S512x2048.size a) :
    M.view.readAt (Elt F) (Rect.unit (s := S512x2048) ![0, 0] (⟨2, ![R, 2048]⟩ : Shape).size inb).toLoadRect f = top R hR (M.view.read (Elt F) f) := by
  funext y
  refine congrArg (M.view.read (Elt F) f) (funext fun a => Fin.ext ?_)
  fin_cases a
  · show 0 + 1 * (y 0).val = (y 0).val; omega
  · show 0 + 1 * (y 1).val = (y 1).val; omega

/-- Two stores, of the first rows and of the zeros below them, read back. -/
theorem read_two (R R' : ℕ) (hR : R + R' = 512) (v : View sig .tc .vmem S512x1024 .bf16) (f : v.ty.Contents (Elt F))
    (inb : ∀ a : Fin 2, (![0, 0] : Fin 2 → ℕ) a + (⟨2, ![R, 1024]⟩ : Shape).size a ≤ S512x1024.size a)
    (inb' : ∀ a : Fin 2, (![R, 0] : Fin 2 → ℕ) a + (⟨2, ![R', 1024]⟩ : Shape).size a ≤ S512x1024.size a)
    (p : Vec F (⟨2, ![R, 1024]⟩ : Shape) .bf16) :
    v.read (Elt F) (v.writes (Elt F) f [⟨Rect.unit (s := S512x1024) ![R, 0] (⟨2, ![R', 1024]⟩ : Shape).size inb', (broadcast _ (Scalar.ofBits .bf16 0x0000#16 : F .bf16) : FVec F (⟨2, ![R', 1024]⟩ : Shape) .bf16)⟩, ⟨Rect.unit (s := S512x1024) ![0, 0] (⟨2, ![R, 1024]⟩ : Shape).size inb, p⟩])
      = rowsOut R p := by
  funext y
  have hy : (y 0).val < 512 := (y 0).isLt
  by_cases h : (y 0).val < R
  · rw [View.read_writes_cons_rows_of_not_mem (W := R') v f inb' _ _ y rfl rfl (.inl h)]
    refine (View.read_writes_cons_rows_of_mem v f inb p [] y (ix2 ⟨(y 0).val, h⟩ (y 1)) rfl (Nat.zero_add _).symm rfl).trans ?_
    unfold rowsOut; rw [dif_pos h]
  · refine (View.read_writes_cons_rows_of_mem v f inb' _ _ y (ix2 ⟨(y 0).val - R, by omega⟩ (y 1)) rfl (by show (y 0).val = R + ((y 0).val - R); omega) rfl).trans ?_
    unfold rowsOut; rw [dif_neg h]; rfl

end Cert.Kernel2Ideal.Sw

end
-- ==== Proof.SwBody.lean ====
/- One run of the body, at any grid point and any words of the tables: where the expert changes the two weight blocks
   are rounded into the scratch buffers, and the output block holds the gated product of the tile's live quarters. -/
module

public import proofs.«01_k».proof.Proof.SwCast

@[expose] public section

set_option maxRecDepth 16384

noncomputable section

namespace Cert.Kernel2Ideal.Sw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ (UR sig nD τ) ℕ

/-- The tile's own expert, the expert of the tile before it, and the tile's count of rows, as the body reads them. -/
abbrev teNow (c : Dev nD) (i : grid0.Coords) (f : Buf (Elt F) (mT0.view.loc (c : Thread nD τ))) : BitVec 32 :=
  View.readAt (Elt F) mT0.view (Rect.unit (s := S72) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S72) (k0_off2 i) S1.size (k0_off2_inb i)).toLoadRect f (Shape.Idx.first (show 0 < S1.numel from by decide))
abbrev vaNow (c : Dev nD) (i : grid0.Coords) (f : Buf (Elt F) (mT3.view.loc (c : Thread nD τ))) : BitVec 32 :=
  View.readAt (Elt F) mT3.view (Rect.unit (s := S72) (k0_off5 i) S1.size (k0_off5_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

/-- Of the body's five conditionals on the count of rows exactly number `q` is taken. -/
structure Quarter (w : BitVec 32) (q : ℕ) : Prop where
  c2 : k0_cond2 w = 1#1 ↔ q = 0
  c3 : k0_cond3 w = 1#1 ↔ q = 1
  c4 : k0_cond4 w = 1#1 ↔ q = 2
  c5 : k0_cond5 w = 1#1 ↔ q = 3
  c6 : k0_cond6 w = 1#1 ↔ q = 4

section Fin

variable {v9 : View sig .tc .vmem S512x1024 .bf16} (f : v9.ty.Contents (Elt F)) {M : Memref sig .tc .vmem S512x2048 .bf16} (fx : BufTy.Contents (Elt F) M.view.ty)
  {u0 u1 : Memref sig .tc .vmem S2048x1024 .bf16} {g0 : BufTy.Contents (Elt F) u0.view.ty} {g1 : BufTy.Contents (Elt F) u1.view.ty}
  {x : Vec F S512x2048 .bf16} {w0 w1 : Vec F S2048x1024 .bf16}

/-- A weight copy as the body loads it. -/
abbrev ldW (u : Memref sig .tc .vmem S2048x1024 .bf16) (g : BufTy.Contents (Elt F) u.view.ty) : Vec F S2048x1024 .bf16 :=
  u.view.readAt (Elt F) (Rect.unit (s := S2048x1024) ![0, 0] S2048x1024.size inb_S2048x1024_S2048x1024_0_0).toLoadRect g

theorem ldW_eq {u : Memref sig .tc .vmem S2048x1024 .bf16} {g : BufTy.Contents (Elt F) u.view.ty} {w : Vec F S2048x1024 .bf16}
    (h : u.view.read (Elt F) g = w) : ldW u g = w := (View.readAt_full u.view g _).trans h

/-- A store of the whole output block, read back. -/
theorem read_one (p : Vec F S512x1024 .bf16) :
    v9.read (Elt F) (v9.writes (Elt F) f [⟨Rect.unit (s := S512x1024) ![0, 0] S512x1024.size inb_S512x1024_S512x1024_0_0, p⟩]) = p :=
  funext fun y => View.read_writes_cons_rows_of_mem v9 f inb_S512x1024_S512x1024_0_0 p [] y y rfl (Nat.zero_add _).symm rfl

theorem fin0 (x : Vec F S512x2048 .bf16) (w0 w1 : Vec F S2048x1024 .bf16) :
    v9.read (Elt F) (v9.writes (Elt F) f [⟨Rect.unit (s := S512x1024) ![0, 0] S512x1024.size inb_S512x1024_S512x1024_0_0, k0_pay8 (F := F)⟩]) = outV 0 x w0 w1 :=
  read_one f _

theorem fin1 (hx : M.view.read (Elt F) fx = x) (h0 : u0.view.read (Elt F) g0 = w0) (h1 : u1.view.read (Elt F) g1 = w1) :
    v9.read (Elt F) (v9.writes (Elt F) f [⟨Rect.unit (s := S512x1024) ![128, 0] S384x1024.size inb_S512x1024_S384x1024_128_0, k0_pay10 (F := F)⟩,
        ⟨Rect.unit (s := S512x1024) ![0, 0] S128x1024.size inb_S512x1024_S128x1024_0_0, k0_pay9 (M.view.readAt (Elt F) (Rect.unit (s := S512x2048) ![0, 0] S128x2048.size inb_S512x2048_S128x2048_0_0).toLoadRect fx) (ldW u0 g0) (ldW u1 g1)⟩])
      = outV 1 x w0 w1 := by
  rw [ldW_eq h0, ldW_eq h1, readAt_top 128 (by decide), hx]
  exact read_two 128 384 rfl v9 f _ _ _

theorem fin2 (hx : M.view.read (Elt F) fx = x) (h0 : u0.view.read (Elt F) g0 = w0) (h1 : u1.view.read (Elt F) g1 = w1) :
    v9.read (Elt F) (v9.writes (Elt F) f [⟨Rect.unit (s := S512x1024) ![256, 0] S256x1024.size inb_S512x1024_S256x1024_256_0, k0_pay2 (F := F)⟩,
        ⟨Rect.unit (s := S512x1024) ![0, 0] S256x1024.size inb_S512x1024_S256x1024_0_0, k0_pay1 (M.view.readAt (Elt F) (Rect.unit (s := S512x2048) ![0, 0] S256x2048.size inb_S512x2048_S256x2048_0_0).toLoadRect fx) (ldW u0 g0) (ldW u1 g1)⟩])
      = outV 2 x w0 w1 := by
  rw [ldW_eq h0, ldW_eq h1, readAt_top 256 (by decide), hx]
  exact read_two 256 256 rfl v9 f _ _ _

theorem fin3 (hx : M.view.read (Elt F) fx = x) (h0 : u0.view.read (Elt F) g0 = w0) (h1 : u1.view.read (Elt F) g1 = w1) :
    v9.read (Elt F) (v9.writes (Elt F) f [⟨Rect.unit (s := S512x1024) ![384, 0] S128x1024.size inb_S512x1024_S128x1024_384_0, k0_pay4 (F := F)⟩,
        ⟨Rect.unit (s := S512x1024) ![0, 0] S384x1024.size inb_S512x1024_S384x1024_0_0, k0_pay3 (M.view.readAt (Elt F) (Rect.unit (s := S512x2048) ![0, 0] S384x2048.size inb_S512x2048_S384x2048_0_0).toLoadRect fx) (ldW u0 g0) (ldW u1 g1)⟩])
      = outV 3 x w0 w1 := by
  rw [ldW_eq h0, ldW_eq h1, readAt_top 384 (by decide), hx]
  exact read_two 384 128 rfl v9 f _ _ _

theorem fin4 (hx : M.view.read (Elt F) fx = x) (h0 : u0.view.read (Elt F) g0 = w0) (h1 : u1.view.read (Elt F) g1 = w1) :
    v9.read (Elt F) (v9.writes (Elt F) f [⟨Rect.unit (s := S512x1024) ![0, 0] S512x1024.size inb_S512x1024_S512x1024_0_0, k0_pay5 (M.view.readAt (Elt F) (Rect.unit (s := S512x2048) ![0, 0] S512x2048.size inb_S512x2048_S512x2048_0_0).toLoadRect fx) (ldW u0 g0) (ldW u1 g1)⟩])
      = outV 4 x w0 w1 := by
  rw [ldW_eq h0, ldW_eq h1, View.readAt_full, hx]
  exact read_one f _

end Fin

variable (c : Dev nD) (i : grid0.Coords) (arg6 : Memref sig .tc .vmem S512x2048 .bf16) (harg6 : arg6.IsWhole) (arg7 : Memref sig .tc .vmem S1x2048x1024 .f32) (harg7 : arg7.IsWhole) (arg8 : Memref sig .tc .vmem S1x2048x1024 .f32) (harg8 : arg8.IsWhole) (arg9 : Memref sig .tc .vmem S512x1024 .bf16) (harg9 : arg9.IsWhole)
    (x0 : Vec F S512x2048 .bf16) (x1 : Vec F S1x2048x1024 .f32) (x2 : Vec F S1x2048x1024 .f32)
    (xt0 : Buf (Elt F) (mT0.view.loc (c : Thread nD τ))) (xt3 : Buf (Elt F) (mT3.view.loc (c : Thread nD τ)))

/-- What the body holds while it runs: the three input blocks, the output block, the scratch buffers, the two tables. -/
abbrev Held (out : sProp 𝕄) (s0 s1 : Vec F S2048x1024 .bf16) : sProp 𝕄 :=
  iprop(owns (c : Thread nD τ) arg6 fullShare x0 ∗ owns (c : Thread nD τ) arg7 fullShare x1 ∗ owns (c : Thread nD τ) arg8 fullShare x2 ∗ out ∗ owns (c : Thread nD τ) scr0 fullShare s0 ∗ owns (c : Thread nD τ) scr1 fullShare s1 ∗ tabPt c mT0 xt0 ∗ tabPt c mT3 xt3)

set_option maxHeartbeats 4000000 in
theorem body_run (s0 s1 w0 w1 : Vec F S2048x1024 .bf16) (q : ℕ) (hq : q < 5) (hQ : Quarter (vaNow c i xt3) q)
    (hw : Chg i (teNow c i xt0) (tePrev c i xt0) → w0 = castW x1 ∧ w1 = castW x2)
    (hs : ¬Chg i (teNow c i xt0) (tePrev c i xt0) → w0 = s0 ∧ w1 = s1) (E : Set ℕ) :
    Held c arg6 arg7 arg8 x0 x1 x2 xt0 xt3 (iprop(∃ d, owns (c : Thread nD τ) arg9 fullShare d)) s0 s1
      ⊢ wp frame (wpE (defs₀ (F := F)) Variants.none c none) E (cc0_matmul_swiglu i mT0 (Memref.isWhole_whole _) mT1 (Memref.isWhole_whole _) mT2 (Memref.isWhole_whole _) mT3 (Memref.isWhole_whole _) arg6 harg6 arg7 harg7 arg8 harg8 arg9 harg9 scr0 (Memref.isWhole_whole _) scr1 (Memref.isWhole_whole _))
          (fun _ => Held c arg6 arg7 arg8 x0 x1 x2 xt0 xt3 (owns (c : Thread nD τ) arg9 fullShare (outV q x0 w0 w1)) w0 w1) := by
  simp only [cc0_matmul_swiglu_eq_skeleton]; unfold cc0_matmul_swiglu_skel
  simp only [k0_part1_eq_skeleton]
  unfold Held owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT3⟩
  obtain ⟨c2, c3, c4, c5, c6⟩ := hQ
  by_cases hC : Chg i (teNow c i xt0) (tePrev c i xt0)
  · have hL := loop_read (F := F) Variants.none c none i mT0 (Memref.isWhole_whole _) mT1 (Memref.isWhole_whole _) mT2 (Memref.isWhole_whole _) mT3 (Memref.isWhole_whole _) arg6 harg6 arg7 harg7 arg8 harg8 arg9 harg9 scr0 (Memref.isWhole_whole _) scr1 (Memref.isWhole_whole _) f1 f2 fs0 fs1
    have e0 := hL.1.trans ((congrArg castW hf1).trans (hw hC).1.symm)
    have e1 := hL.2.trans ((congrArg castW hf2).trans (hw hC).2.symm)
    rcases (by omega : q = 0 ∨ q = 1 ∨ q = 2 ∨ q = 3 ∨ q = 4) with rfl | rfl | rfl | rfl | rfl
    all_goals
      simp only [reduceCtorEq, Nat.reduceEqDiff, OfNat.ofNat_ne_zero, OfNat.zero_ne_ofNat, OfNat.ofNat_ne_one, OfNat.one_ne_ofNat, one_ne_zero, zero_ne_one, iff_true, iff_false] at c2 c3 c4 c5 c6
      sl_exec
      sl_step
      isplitl [H0]; · iexists _; isplitr; swap; iexact H0; ipureintro; exact hf0
      isplitl [H1]; · iexists _; isplitr; swap; iexact H1; ipureintro; exact hf1
      isplitl [H2]; · iexists _; isplitr; swap; iexact H2; ipureintro; exact hf2
      isplitl [H3]
      rotate_left
      · isplitl [HS0]; · iexists _; isplitr; swap; iexact HS0; ipureintro; exact e0
        isplitl [HS1]; · iexists _; isplitr; swap; iexact HS1; ipureintro; exact e1
        isplitl [HT0]; · iexact HT0
        iexact HT3
      iexists _; isplitr; swap; iexact H3; ipureintro
    · exact fin0 _ _ _ _
    · exact fin1 _ _ hf0 e0 e1
    · exact fin2 _ _ hf0 e0 e1
    · exact fin3 _ _ hf0 e0 e1
    · exact fin4 _ _ hf0 e0 e1
  · have e0 := hfs0.trans (hs hC).1.symm
    have e1 := hfs1.trans (hs hC).2.symm
    rcases (by omega : q = 0 ∨ q = 1 ∨ q = 2 ∨ q = 3 ∨ q = 4) with rfl | rfl | rfl | rfl | rfl
    all_goals
      simp only [reduceCtorEq, Nat.reduceEqDiff, OfNat.ofNat_ne_zero, OfNat.zero_ne_ofNat, OfNat.ofNat_ne_one, OfNat.one_ne_ofNat, one_ne_zero, zero_ne_one, iff_true, iff_false] at c2 c3 c4 c5 c6
      sl_exec
      sl_step
      isplitl [H0]; · iexists _; isplitr; swap; iexact H0; ipureintro; exact hf0
      isplitl [H1]; · iexists _; isplitr; swap; iexact H1; ipureintro; exact hf1
      isplitl [H2]; · iexists _; isplitr; swap; iexact H2; ipureintro; exact hf2
      isplitl [H3]
      rotate_left
      · isplitl [HS0]; · iexists _; isplitr; swap; iexact HS0; ipureintro; exact e0
        isplitl [HS1]; · iexists _; isplitr; swap; iexact HS1; ipureintro; exact e1
        isplitl [HT0]; · iexact HT0
        iexact HT3
      iexists _; isplitr; swap; iexact H3; ipureintro
    · exact fin0 _ _ _ _
    · exact fin1 _ _ hf0 e0 e1
    · exact fin2 _ _ hf0 e0 e1
    · exact fin3 _ _ hf0 e0 e1
    · exact fin4 _ _ hf0 e0 e1

end Cert.Kernel2Ideal.Sw

end
-- ==== Proof.SwWord.lean ====
/- The words the routed pair of products reads from its tables: the tiles' experts, their counts of rows and the number
   of tiles in use; what the plan says of them, and what the grid's points make of them. -/
module

public import proofs.«01_k».proof.Proof.SwBody

@[expose] public section

set_option maxRecDepth 16384

noncomputable section

namespace Cert.Kernel2Ideal.Sw

open Idealize.ShloMosaic Idealize.ShloMosaic.TcCoe Idealize.ShloMosaic.Tactic
open Gen

variable {F : FTy → Type} [FloatOps F] (m : (ℓ : Loc nD τ sig) → Buf (Elt F) ℓ)

/-- Tile `k`'s expert, the number of tiles in use, tile `k`'s count of rows. -/
def teAt (k : Fin 72) : BitVec 32 := (tbl m 0 : IVec S72 32) (ix1 k)
def usAt : BitVec 32 := (tbl m 2 : IVec S1 32) (ix1 0)
def vaAt (k : Fin 72) : BitVec 32 := (tbl m 3 : IVec S72 32) (ix1 k)

/-- What the plan says of the tables. -/
structure Plan : Prop where
  te_lt : ∀ k, (teAt m k).toNat < 8
  us_pos : 1 ≤ (usAt m).toNat
  us_le : (usAt m).toNat ≤ 72
  va_le : ∀ k, (vaAt m k).toNat ≤ 512
  live : ∀ k : Fin 72, vaAt m k ≠ 0#32 → k.val < (usAt m).toNat

/-! ## Coordinates -/

theorem toNat_coord (i : grid0.Coords) : (BitVec.ofNat 32 (i 1).val).toNat = (i 1).val :=
  (BitVec.toNat_ofNat _ _).trans (Nat.mod_eq_of_lt (lt_trans (i 1).isLt (by decide)))

theorem toNat_coord0 (i : grid0.Coords) : (BitVec.ofNat 32 (i 0).val).toNat = (i 0).val :=
  (BitVec.toNat_ofNat _ _).trans (Nat.mod_eq_of_lt (lt_trans (i 0).isLt (by decide)))

/-- The tile of a point, and the tile before it (the first tile's is itself). -/
abbrev tile (i : grid0.Coords) : Fin 72 := i 1
abbrev tileBack (i : grid0.Coords) : Fin 72 := ⟨(i 1).val - 1, lt_of_le_of_lt (Nat.sub_le _ _) (i 1).isLt⟩

theorem off1_eq (i : grid0.Coords) : k0_off1 i 0 = (i 1).val := toNat_coord i
theorem off5_eq (i : grid0.Coords) : k0_off5 i 0 = (i 1).val := toNat_coord i

theorem back_word : ∀ n : Fin 72, (Scalar.maxsi (Scalar.subi (BitVec.ofNat 32 n.val) 1#32) 0#32 : BitVec 32).toNat = n.val - 1 := by
  decide +kernel

theorem off2_eq (i : grid0.Coords) : k0_off2 i 0 = (i 1).val - 1 := back_word (i 1)

theorem teNow_eq (c : Dev nD) (i : grid0.Coords) : teNow c i (tbl m 0) = teAt m (tile i) := by
  exact congrArg (tbl m 0 : IVec S72 32) (funext fun a : Fin 1 => by
    obtain rfl : a = 0 := Subsingleton.elim a 0
    exact Fin.ext ((Nat.add_zero _).trans (off1_eq i)))

theorem tePrev_eq (c : Dev nD) (i : grid0.Coords) : tePrev c i (tbl m 0) = teAt m (tileBack i) := by
  exact congrArg (tbl m 0 : IVec S72 32) (funext fun a : Fin 1 => by
    obtain rfl : a = 0 := Subsingleton.elim a 0
    exact Fin.ext ((Nat.add_zero _).trans (off2_eq i)))

theorem vaNow_eq (c : Dev nD) (i : grid0.Coords) : vaNow c i (tbl m 3) = vaAt m (tile i) := by
  exact congrArg (tbl m 3 : IVec S72 32) (funext fun a : Fin 1 => by
    obtain rfl : a = 0 := Subsingleton.elim a 0
    exact Fin.ext ((Nat.add_zero _).trans (off5_eq i)))

/-! ## Conditions -/

/-- The number of quarters a tile's count of rows reaches into. -/
def qOf (w : BitVec 32) : ℕ := (w.toNat + 127) / 128

theorem qOf_lt {w : BitVec 32} (h : w.toNat ≤ 512) : qOf w < 5 := by unfold qOf; omega

theorem quarter_words : ∀ n : Fin 513, (k0_cond2 (BitVec.ofNat 32 n.val) = 1#1 ↔ (n.val + 127) / 128 = 0) ∧ (k0_cond3 (BitVec.ofNat 32 n.val) = 1#1 ↔ (n.val + 127) / 128 = 1)
    ∧ (k0_cond4 (BitVec.ofNat 32 n.val) = 1#1 ↔ (n.val + 127) / 128 = 2) ∧ (k0_cond5 (BitVec.ofNat 32 n.val) = 1#1 ↔ (n.val + 127) / 128 = 3)
    ∧ (k0_cond6 (BitVec.ofNat 32 n.val) = 1#1 ↔ (n.val + 127) / 128 = 4) := by
  decide +kernel

theorem quarter_of {w : BitVec 32} (h : w.toNat ≤ 512) : Quarter w (qOf w) := by
  have := quarter_words ⟨w.toNat, Nat.lt_succ_of_le h⟩
  simp only [BitVec.ofNat_toNat, BitVec.setWidth_eq] at this
  exact ⟨this.1, this.2.1, this.2.2.1, this.2.2.2.1, this.2.2.2.2⟩

theorem bit_cases (b : BitVec 1) : b = 0#1 ∨ b = 1#1 := by
  revert b; decide

/-- No change of expert: not the first tile, and the tile's expert is that of the tile before. -/
theorem of_not_chg {i : grid0.Coords} {a b : BitVec 32} (h : ¬Chg i a b) : (i 1).val ≠ 0 ∧ a = b := by
  have key : ∀ p q : BitVec 1, ¬(Scalar.cmpi .ne (Scalar.extui (Scalar.ori p q) : BitVec 32) 0#32 = 1#1) → p = 0#1 ∧ q = 0#1 := by decide
  have hk := key _ _ h
  refine ⟨fun h0 => ?_, ?_⟩
  · have := hk.1
    rw [h0] at this
    exact absurd this (by decide)
  · by_contra hab
    have : Scalar.cmpi .ne a b = 1#1 := by
      show BitVec.ofBool (a != b) = 1#1
      rw [bne_iff_ne.mpr hab]; rfl
    exact absurd (this.symm.trans hk.2) (by decide)

theorem chg_first {i : grid0.Coords} (a b : BitVec 32) (h : (i 1).val = 0) : Chg i a b := by
  by_contra hc
  exact (of_not_chg hc).1 h

/-! ## Points -/

theorem coord1 (t : Fin grid0.N) : (grid0.coords t 1).val = t.val % 72 := by
  have := Pipeline.Grid.coords_val t 1 (S := 1) (B := 72) (by decide) rfl
  simpa using this

theorem coord0 (t : Fin grid0.N) : (grid0.coords t 0).val = t.val / 72 := by
  have h := Pipeline.Grid.coords_val t 0 (S := 72) (B := 7) (by decide) rfl
  have ht : t.val < 504 := t.isLt
  rw [h]; omega

theorem transform1_eq (i : grid0.Coords) : cc0_transform_1 k0_off1_inb numel1_S1 (tbl m) i = ![(teAt m (tile i)).toNat, 0, (i 0).val] := by
  have h1 : (tbl m).at 0 (Rect.unit (s := S72) (k0_off1 i) S1.size (k0_off1_inb i)) numel1_S1 = teAt m (tile i) := teNow_eq m 0 i
  have h0 : (Scalar.addi 0#32 (BitVec.ofNat 32 (i 0).val) : BitVec 32).toNat = (i 0).val := by
    rw [show (Scalar.addi 0#32 (BitVec.ofNat 32 (i 0).val) : BitVec 32) = BitVec.ofNat 32 (i 0).val from BitVec.zero_add _]
    exact toNat_coord0 i
  funext a
  match a with
  | ⟨0, _⟩ => exact congrArg BitVec.toNat h1
  | ⟨1, _⟩ => rfl
  | ⟨2, _⟩ => exact h0

theorem transform2_eq (i : grid0.Coords) : cc0_transform_2 k0_off1_inb numel1_S1 (tbl m) i = ![(teAt m (tile i)).toNat, 0, (i 0).val] :=
  transform1_eq m i

/-- The row block fetched for a tile: its own, or the last in use. -/
def rowTile (i : grid0.Coords) : ℕ := min (i 1).val ((usAt m).toNat - 1)

theorem min_word : ∀ (n : Fin 72) (u : Fin 73), 1 ≤ u.val →
    (Scalar.minsi (BitVec.ofNat 32 n.val) (Scalar.subi (BitVec.ofNat 32 u.val) 1#32) : BitVec 32).toNat = min n.val (u.val - 1) := by
  decide +kernel

theorem transform0_eq (hP : Plan m) (i : grid0.Coords) : cc0_transform_0 inb_S1_S1_0 numel1_S1 (tbl m) i = ![rowTile m i, 0] := by
  have h1 : (tbl m).at 2 (Rect.unit (s := S1) ![0] S1.size inb_S1_S1_0) numel1_S1 = usAt m := by
    exact congrArg (tbl m 2 : IVec S1 32) (funext fun a : Fin 1 => by
      obtain rfl : a = 0 := Subsingleton.elim a 0
      rfl)
  funext a
  match a with
  | ⟨0, _⟩ =>
    have := min_word (i 1) ⟨(usAt m).toNat, Nat.lt_succ_of_le hP.us_le⟩ hP.us_pos
    simp only [BitVec.ofNat_toNat, BitVec.setWidth_eq] at this
    exact (congrArg (fun u => (Scalar.minsi (BitVec.ofNat 32 (i 1).val) (Scalar.subi u 1#32) : BitVec 32).toNat) h1).trans this
  | ⟨1, _⟩ => rfl

theorem transform3_eq (i : grid0.Coords) : cc0_transform_3 i = ![(i 1).val, (i 0).val] := by
  funext a
  match a with
  | ⟨0, _⟩ => exact toNat_coord i
  | ⟨1, _⟩ => exact toNat_coord0 i

/-! ## The side condition -/

theorem rowTile_lt (i : grid0.Coords) : rowTile m i < 72 := lt_of_le_of_lt (Nat.min_le_left _ _) (i 1).isLt

theorem inside1 (hP : Plan m) (i : grid0.Coords) (a : Fin 3) :
    (cc0_transform_1 k0_off1_inb numel1_S1 (tbl m) i a + 1) * S1x2048x1024.size a ≤ S8x2048x7168.size a := by
  rw [transform1_eq]
  have h0 := hP.te_lt (tile i)
  have h2 : (i 0).val < 7 := (i 0).isLt
  match a with
  | ⟨0, _⟩ => show ((teAt m (tile i)).toNat + 1) * 1 ≤ 8; omega
  | ⟨1, _⟩ => show (0 + 1) * 2048 ≤ 2048; omega
  | ⟨2, _⟩ => show ((i 0).val + 1) * 1024 ≤ 7168; omega

theorem inside0 (hP : Plan m) (i : grid0.Coords) (a : Fin 2) :
    (cc0_transform_0 inb_S1_S1_0 numel1_S1 (tbl m) i a + 1) * S512x2048.size a ≤ S36864x2048.size a := by
  rw [transform0_eq m hP]
  have h0 := rowTile_lt m i
  match a with
  | ⟨0, _⟩ => show (rowTile m i + 1) * 512 ≤ 36864; omega
  | ⟨1, _⟩ => show (0 + 1) * 2048 ≤ 2048; omega

/-- Under the plan every window's block lies inside its array. -/
theorem ok_of_plan (hP : Plan m) : Ok m :=
  ⟨fun i => ⟨inside0 m hP i, .inr (Affine.block_words_dvd (of_decide_eq_true rfl) (by decide))⟩,
    fun i => ⟨inside1 m hP i, .inl rfl⟩, fun i => ⟨inside1 m hP i, .inl rfl⟩⟩

end Cert.Kernel2Ideal.Sw

end
-- ==== Proof.SwRun.lean ====
/- The whole run of the routed pair of products: the two weight copies are followed from point to point, at each of the
   grid's points the output block is what one run of the body leaves, and the argument arrays end as launched. -/
module

public import proofs.«01_k».proof.Proof.SwWord

@[expose] public section

set_option maxRecDepth 16384

noncomputable section

namespace Cert.Kernel2Ideal.Sw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the windows read at a point, with their own types; the weight blocks rounded. -/
abbrev xBlk (hO : Ok m) (c : Dev nD) (t : Fin (cfgM m hO).N) : Vec F S512x2048 .bf16 := iblk m hO c 0 t
abbrev w0Blk (hO : Ok m) (c : Dev nD) (t : Fin (cfgM m hO).N) : Vec F S2048x1024 .bf16 := castW (iblk m hO c 1 t)
abbrev w1Blk (hO : Ok m) (c : Dev nD) (t : Fin (cfgM m hO).N) : Vec F S2048x1024 .bf16 := castW (iblk m hO c 2 t)

/-- The output block after the body at a point. -/
abbrev outBlk (hO : Ok m) (c : Dev nD) (t : Fin (cfgM m hO).N) : Vec F S512x1024 .bf16 :=
  outV (qOf (vaAt m (tile (grid0.coords t)))) (xBlk m hO c t) (w0Blk m hO c t) (w1Blk m hO c t)

/-- The point before a point that is not the first. -/
abbrev prev (hO : Ok m) (n : ℕ) (h : n < (cfgM m hO).N + 1) (h0 : n ≠ 0) : Fin (cfgM m hO).N := ⟨n - 1, by omega⟩

/-- What is held between points: at the start the scratch buffers at anything, later the weight copies of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(iprop(owns (c : Thread nD τ) scr0 fullShare (w0Blk m hO c (prev m hO n hn h)) ∗ owns (c : Thread nD τ) scr1 fullShare (w1Blk m hO c (prev m hO n hn h)))
    ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk m hO c t
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outBlk m hO c t := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2.1 (after_1 m hO c) t d
theorem before_2 (hO : Ok m) (c : Dev nD) (t : Fin (cfgM m hO).N) (d) : (dats m hO 0 c).before 2 t d = iblk m hO c 2 t :=
  (before_of m hO (dats m hO 0 c) (A_eq m hO c)).2.2 (after_2 m hO c) t d

/-! ## The weight blocks of two points with the same expert and column -/

/-- A weight block's place in its array, from the block's index. -/
def wIdx (i : Fin 3 → ℕ) (h : ∀ a, (i a + 1) * S1x2048x1024.size a ≤ S8x2048x7168.size a) (y : S1x2048x1024.Idx) : S8x2048x7168.Idx :=
  fun (a : Fin 3) => (⟨i a * S1x2048x1024.size a + 1 * (y a).val, by
    have h1 := h a; have h2 : (y a).val < S1x2048x1024.size a := (y a).isLt
    rw [Nat.add_mul, one_mul] at h1; omega⟩ : Fin (S8x2048x7168.size a))

theorem iblk1_at (hO : Ok m) (c : Dev nD) (t : Fin (cfgM m hO).N) (y : S1x2048x1024.Idx) :
    (iblk m hO c 1 t : Vec F S1x2048x1024 .f32) y
      = (V m c main_arg5 : Vec F S8x2048x7168 .f32) (wIdx (cc0_transform_1 k0_off1_inb numel1_S1 (tbl m) (grid0.coords t)) (hO.2.1 (grid0.coords t)).fst y) := rfl

theorem iblk2_at (hO : Ok m) (c : Dev nD) (t : Fin (cfgM m hO).N) (y : S1x2048x1024.Idx) :
    (iblk m hO c 2 t : Vec F S1x2048x1024 .f32) y
      = (V m c main_arg6 : Vec F S8x2048x7168 .f32) (wIdx (cc0_transform_1 k0_off1_inb numel1_S1 (tbl m) (grid0.coords t)) (hO.2.1 (grid0.coords t)).fst y) := rfl

theorem wIdx_congr {i j : Fin 3 → ℕ} (h : i = j) (hi : ∀ a, (i a + 1) * S1x2048x1024.size a ≤ S8x2048x7168.size a) (hj) (y : S1x2048x1024.Idx) :
    wIdx i hi y = wIdx j hj y := by subst h; rfl

theorem iblk_same (hO : Ok m) (c : Dev nD) (t u : Fin (cfgM m hO).N)
    (h : cc0_transform_1 k0_off1_inb numel1_S1 (tbl m) (grid0.coords t) = cc0_transform_1 k0_off1_inb numel1_S1 (tbl m) (grid0.coords u)) :
    w0Blk m hO c t = w0Blk m hO c u ∧ w1Blk m hO c t = w1Blk m hO c u :=
  ⟨congrArg castW (funext fun y => (iblk1_at m hO c t y).trans ((congrArg (V m c main_arg5 : Vec F S8x2048x7168 .f32) (wIdx_congr h _ _ y)).trans (iblk1_at m hO c u y).symm)),
    congrArg castW (funext fun y => (iblk2_at m hO c t y).trans ((congrArg (V m c main_arg6 : Vec F S8x2048x7168 .f32) (wIdx_congr h _ _ y)).trans (iblk2_at m hO c u y).symm))⟩

/-- Where the expert does not change, the blocks are the ones of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    w0Blk m hO c t = w0Blk m hO c (prev m hO t.val (lt_trans t.isLt (Nat.lt_succ_self _)) h0)
      ∧ w1Blk m hO c t = w1Blk m hO c (prev m hO t.val (lt_trans t.isLt (Nat.lt_succ_self _)) h0) := by
  obtain ⟨h1, he⟩ := of_not_chg hC
  rw [teNow_eq, tePrev_eq] at he
  apply iblk_same
  rw [transform1_eq, transform1_eq]
  have c1 := coord1 t
  have c1' := coord1 (prev m hO t.val (lt_trans t.isLt (Nat.lt_succ_self _)) h0)
  have c0 := coord0 t
  have c0' := coord0 (prev m hO t.val (lt_trans t.isLt (Nat.lt_succ_self _)) h0)
  rw [c1] at h1
  have e0 : (grid0.coords t 0).val = (grid0.coords (prev m hO t.val (lt_trans t.isLt (Nat.lt_succ_self _)) h0) 0).val := by
    rw [c0, c0']; show t.val / 72 = (t.val - 1) / 72; omega
  have e1 : tileBack (grid0.coords t) = tile (grid0.coords (prev m hO t.val (lt_trans t.isLt (Nat.lt_succ_self _)) h0)) := by
    apply Fin.ext
    show (grid0.coords t 1).val - 1 = (grid0.coords (prev m hO t.val (lt_trans t.isLt (Nat.lt_succ_self _)) h0) 1).val
    rw [c1, c1']; show t.val % 72 - 1 = (t.val - 1) % 72; omega
  rw [he, e0, e1]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem quarter_now (hV : ∀ k, (vaAt m k).toNat ≤ 512) (c : Dev nD) (i : grid0.Coords) :
    Quarter (vaNow c i (tbl m 3)) (qOf (vaAt m (tile i))) :=
  (congrArg (fun w => Quarter w (qOf (vaAt m (tile i)))) (vaNow_eq m c i)).mpr (quarter_of (hV _))

/-- One run of the body between two points, the scratch buffers entered at `s0`, `s1`. -/
theorem point_run (hO : Ok m) (hV : ∀ k, (vaAt m k).toNat ≤ 512) (c : Dev nD) (t : Fin (cfgM m hO).N) (s0 s1 : Vec F S2048x1024 .bf16)
    (hs : ¬Chg (grid0.coords t) (teNow c (grid0.coords t) (tbl m 0)) (tePrev c (grid0.coords t) (tbl m 0)) → w0Blk m hO c t = s0 ∧ w1Blk m hO c t = s1) :
    Held c (ms0 m hO t) (ms1 m hO t) (ms2 m hO t) (xBlk m hO c t) (iblk m hO c 1 t) (iblk m hO c 2 t) (tbl m 0) (tbl m 3) (iprop(∃ d, owns (c : Thread nD τ) (ms3 m hO t) fullShare d)) s0 s1
      ⊢ wp frame (wpE (defs₀ (F := F)) Variants.none c none) Set.univ (bodyAt (adm m hO) t)
          (fun _ => Held c (ms0 m hO t) (ms1 m hO t) (ms2 m hO t) (xBlk m hO c t) (iblk m hO c 1 t) (iblk m hO c 2 t) (tbl m 0) (tbl m 3) (owns (c : Thread nD τ) (ms3 m hO t) fullShare (outBlk m hO c t)) (w0Blk m hO c t) (w1Blk m hO c t)) :=
  body_run c (grid0.coords t) (ms0 m hO t) _ (ms1 m hO t) _ (ms2 m hO t) _ (ms3 m hO t) _ (xBlk m hO c t) (iblk m hO c 1 t) (iblk m hO c 2 t) (tbl m 0) (tbl m 3) s0 s1 (w0Blk m hO c t) (w1Blk m hO c t) (qOf (vaAt m (tile (grid0.coords t))))
    (qOf_lt (hV _)) (quarter_now m hV c _) (fun _ => ⟨rfl, rfl⟩) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(iprop(owns (c : Thread nD τ) scr0 fullShare (w0Blk m hO c (prev m hO n hn h)) ∗ owns (c : Thread nD τ) scr1 fullShare (w1Blk m hO c (prev m hO n hn h)))
      ∗ (∃ r, prngReg c r)) ∗ Pipeline.ΦT pre0 (tbl m) c) := dif_neg h

theorem inv_succ (hO : Ok m) (c : Dev nD) (t : Fin (cfgM m hO).N) :
    inv m hO c t.succ = iprop(iprop(iprop(owns (c : Thread nD τ) scr0 fullShare (w0Blk m hO c t) ∗ owns (c : Thread nD τ) scr1 fullShare (w1Blk m hO c t))
      ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

theorem inv_cast (hO : Ok m) (c : Dev nD) (t : Fin (cfgM m hO).N) (h0 : t.val ≠ 0) :
    inv m hO c t.castSucc = iprop(iprop(iprop(owns (c : Thread nD τ) scr0 fullShare (w0Blk m hO c (prev m hO t.val (lt_trans t.isLt (Nat.lt_succ_self _)) h0)) ∗ owns (c : Thread nD τ) scr1 fullShare (w1Blk m hO c (prev m hO t.val (lt_trans t.isLt (Nat.lt_succ_self _)) h0)))
      ∗ (∃ r, prngReg c r)) ∗ Pipeline.ΦT pre0 (tbl m) c) :=
  (inv_val m hO c t.castSucc t.val (lt_trans t.isLt (Nat.lt_succ_self _)) (Fin.val_castSucc t)).trans (invN_pos m hO c t.val _ h0)

theorem inv_first (hO : Ok m) (c : Dev nD) (t : Fin (cfgM m hO).N) (h0 : t.val = 0) :
    inv m hO c t.castSucc = iprop(Pipeline.ΦA spec0 c ∗ Pipeline.ΦT pre0 (tbl m) c) :=
  (inv_val m hO c t.castSucc t.val (lt_trans t.isLt (Nat.lt_succ_self _)) (Fin.val_castSucc t)).trans (invN_zero m hO c t.val _ h0)

theorem sound_body (hO : Ok m) (hV : ∀ k, (vaAt m k).toNat ≤ 512) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1, before_2]
  rw [show (dats m hO 0 c).owesAt () t.succ = (dats m hO 0 c).owesAt () t.castSucc from rfl, after_0, after_1, after_2, after_3,
    show (dats m hO 0 c).Φ t.succ = inv m hO c t.succ from rfl, show (dats m hO 0 c).Φ t.castSucc = inv m hO c t.castSucc from rfl, inv_succ, tables_eq]
  by_cases h0 : t.val = 0
  · rw [inv_first m hO c t h0, own_eq, tables_eq]
    iintro ⟨⟨⟨⟨⟨%s0, HS0⟩, ⟨%s1, HS1⟩⟩, Hg⟩, ⟨HT0, HT1, HT2, HT3⟩⟩, Ho, ⟨%d0, H0⟩, ⟨%d1, H1⟩, ⟨%d2, H2⟩, ⟨%d3, H3⟩⟩
    iapply (wp_wand_r Idealize.ShloMosaic.frame (wpE (defs₀ (F := F)) Variants.none c none) Set.univ)
    isplitl [H0 H1 H2 H3 HS0 HS1 HT0 HT3]
    · iapply (point_run m hO hV c t s0 s1 (fun hC => absurd (chg_first _ _ (by rw [coord1, h0])) hC))
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iexact HT3
    iintro %_ ⟨H0, H1, H2, H3, HS0, HS1, HT0, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3
  · rw [inv_cast m hO c t h0, tables_eq]
    iintro ⟨⟨⟨⟨HS0, HS1⟩, Hg⟩, ⟨HT0, HT1, HT2, HT3⟩⟩, Ho, ⟨%d0, H0⟩, ⟨%d1, H1⟩, ⟨%d2, H2⟩, ⟨%d3, H3⟩⟩
    iapply (wp_wand_r Idealize.ShloMosaic.frame (wpE (defs₀ (F := F)) Variants.none c none) Set.univ)
    isplitl [H0 H1 H2 H3 HS0 HS1 HT0 HT3]
    · iapply (point_run m hO hV c t _ _ (kept m hO c t h0))
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iexact HT3
    iintro %_ ⟨H0, H1, H2, H3, HS0, HS1, HT0, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3

/-- The output block is written back at every point. -/
theorem flush_3 (a : (pcfg0 (F := F)).Adm) (t : Fin (cfg0 a).N) : ((cfg0 a).win 3).flush t = true :=
  ((fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) :
    ∀ t : Fin grid0.N, Pipeline.Window.flushOf grid0 true cc0_transform_3 t = true)) t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (hV : ∀ k, (vaAt m k).toNat ≤ 512) (c : Dev nD) :
    BodyObligation (dats (F := F) m hO 0 c) (defs₀ (F := F)) Variants.none () Set.univ := fun t => by
  rw [bigSep_W0, bigSep_W0, row_eq m hO]
  refine triple_restated (sound_body m hO hV c t) rfl .rfl fun _ => ?_
  unfold bodyPost
  refine sep_mono .rfl (sep_mono .rfl (sep_mono .rfl (sep_mono .rfl (sep_mono .rfl ?_))))
  exact written (F := F) ((cfgM m hO).idle 3 ((cfgM m hO).grid.coords t)) (((cfgM m hO).win 3).flush t) _ _ (flush_3 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨⟨HS0, HS1⟩, Hg⟩, -⟩
  isplitl [HS0 HS1]
  · isplitl [HS0]; · iexists _; iexact HS0
    iexists _; iexact HS1
  iexact Hg

set_option backward.isDefEq.respectTransparency.types false in
/-- The launch: every run ends, the arrays as the proof data give them, every counter at zero. -/
theorem run_main (hO : Ok m) (hV : ∀ k, (vaAt m k).toNat ≤ 512) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hV c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero, whatever the tables under the plan. -/
theorem frame (hP : Plan m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨unchanged_of m (ok_of_plan m hP) (dats m (ok_of_plan m hP)) (A_eq m (ok_of_plan m hP)) r h.1, h.2⟩)
    (run_main m ρ (ok_of_plan m hP) hP.va_le)

end Cert.Kernel2Ideal.Sw

end
-- ==== Proof.SwPlan.lean ====
/- From the precondition on the routed products' tables to what the kernel's run needs of their words. -/
module

public import proofs.«01_k».proof.Proof.SwRun
public import proofs.«01_k».proof.Proof.Gen.Pre_plan2

@[expose] public section

set_option maxRecDepth 16384

noncomputable section

namespace Cert.Kernel2Ideal.Sw

open Idealize.ShloMosaic Idealize.ShloMosaic.TcCoe Idealize.ShloMosaic.Tactic
open Gen

theorem both : ∀ {a b : BitVec 1}, a &&& b = 1#1 → a = 1#1 ∧ b = 1#1 := by decide

theorem either : ∀ {a b : BitVec 1}, a ||| b = 1#1 → a = 1#1 ∨ b = 1#1 := by decide

theorem of_ofBool {p : Prop} [Decidable p] (h : BitVec.ofBool (decide p) = 1#1) : p := by
  by_contra hp
  rw [decide_eq_false hp] at h
  exact absurd h (by decide)

/-- A word at least zero is the number it spells. -/
theorem toInt_of_nonneg {w : BitVec 32} (h : 0 ≤ w.toInt) : w.toInt = w.toNat := by
  have hw := w.isLt
  rw [BitVec.toInt_eq_toNat_cond] at h ⊢
  split at h <;> split <;> omega

/-- A word between two small words. -/
theorem word_range {w : BitVec 32} (lo hi : ℕ) (h1 : (lo : ℤ) ≤ w.toInt) (h2 : w.toInt ≤ hi) : lo ≤ w.toNat ∧ w.toNat ≤ hi := by
  have := toInt_of_nonneg (le_trans (by omega) h1)
  omega

section
variable [Cert.Pre_plan2.Facts] {F : FTy → Type} [FloatOps F]
  (x : FVec F Pre_plan2.S36864x2048 .f32) (te rows va : IVec Pre_plan2.S72 32) (us : IVec Pre_plan2.S1 32) (w1 w3 : FVec F Pre_plan2.S8x2048x7168 .f32)

/-- The one place of an array of one element. -/
theorem only (z : Pre_plan2.S1.Idx) : z = ix1 0 :=
  funext fun a : Fin 1 => by
    obtain rfl : a = 0 := Subsingleton.elim a 0
    exact Subsingleton.elim (α := Fin 1) _ _

theorem te_of (h : (Pre_plan2.fn x te rows us va w1 w3).1 = fun _ => 1#1) (k : Fin 72) : (te (ix1 k)).toNat < 8 := by
  have h0 : IntOp.cmpi .sge (te (ix1 k)) 0#32 &&& IntOp.cmpi .slt (te (ix1 k)) 8#32 = 1#1 := congrFun h (ix1 k)
  have h1 : (0#32).toInt ≤ (te (ix1 k)).toInt := of_ofBool (both h0).1
  have h2 : (te (ix1 k)).toInt < (8#32).toInt := of_ofBool (both h0).2
  have e0 : (0#32).toInt = 0 := by decide
  have e8 : (8#32).toInt = 8 := by decide
  exact Nat.lt_of_le_of_lt (word_range 0 7 (by omega) (by omega)).2 (by decide)

theorem us_of (h : (Pre_plan2.fn x te rows us va w1 w3).2.1 = fun _ => 1#1) : 1 ≤ (us (ix1 0)).toNat ∧ (us (ix1 0)).toNat ≤ 72 := by
  have h0 : IntOp.cmpi .sge (us (ix1 0)) 1#32 &&& IntOp.cmpi .sle (us (ix1 0)) 72#32 = 1#1 := congrFun h (ix1 0)
  have h1 : (1#32).toInt ≤ (us (ix1 0)).toInt := of_ofBool (both h0).1
  have h2 : (us (ix1 0)).toInt ≤ (72#32).toInt := of_ofBool (both h0).2
  have e0 : (1#32).toInt = 1 := by decide
  have e8 : (72#32).toInt = 72 := by decide
  exact word_range 1 72 (by omega) (by omega)

theorem va_of (h : (Pre_plan2.fn x te rows us va w1 w3).2.2.1 = fun _ => 1#1) (k : Fin 72) : (va (ix1 k)).toNat ≤ 512 := by
  have h0 : IntOp.cmpi .sge (va (ix1 k)) 0#32 &&& IntOp.cmpi .sle (va (ix1 k)) 512#32 = 1#1 := congrFun h (ix1 k)
  have h1 : (0#32).toInt ≤ (va (ix1 k)).toInt := of_ofBool (both h0).1
  have h2 : (va (ix1 k)).toInt ≤ (512#32).toInt := of_ofBool (both h0).2
  have e0 : (0#32).toInt = 0 := by decide
  have e8 : (512#32).toInt = 512 := by decide
  exact (word_range 0 512 (by omega) (by omega)).2

theorem live_of (h : (Pre_plan2.fn x te rows us va w1 w3).2.2.2 = fun _ => 1#1) (hu : (us (ix1 0)).toNat ≤ 72) (k : Fin 72) (hk : va (ix1 k) ≠ 0#32) :
    k.val < (us (ix1 0)).toNat := by
  have h0 : IntOp.cmpi .eq (va (ix1 k)) 0#32 ||| IntOp.cmpi .slt (BitVec.ofNat 32 k.val) (us (ix1 0)) = 1#1 := by
    refine Eq.trans ?_ (congrFun h (ix1 k))
    exact congrArg (fun z => IntOp.cmpi .eq (va (ix1 k)) 0#32 ||| IntOp.cmpi .slt (BitVec.ofNat 32 k.val) (us z)) (only _).symm
  rcases either h0 with h1 | h1
  · exact absurd (of_ofBool (p := va (ix1 k) = 0#32) (h1)) hk
  · have h2 : (BitVec.ofNat 32 k.val).toInt < (us (ix1 0)).toInt := of_ofBool h1
    have hk' := k.isLt
    have e1 : (BitVec.ofNat 32 k.val).toInt = k.val := by
      rw [BitVec.toInt_eq_toNat_cond, BitVec.toNat_ofNat, Nat.mod_eq_of_lt (by omega), if_pos (by omega)]
    have e2 : (us (ix1 0)).toInt = (us (ix1 0)).toNat := by
      rw [BitVec.toInt_eq_toNat_cond, if_pos (by omega)]
    omega

end

variable [Cert.Pre_plan2.Facts] {F : FTy → Type} [FloatOps F] (m : (ℓ : Loc nD τ sig) → Buf (Elt F) ℓ)

/-- The precondition, in the kernel's memory. -/
theorem plan_of (h : ∀ c : Dev nD,
    (Pre_plan2.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
    ∧ (Pre_plan2.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)
    ∧ (Pre_plan2.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2.1 = (fun _ => 1#1)
    ∧ (Pre_plan2.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2.2 = (fun _ => 1#1)) :
    Plan m := by
  obtain ⟨h1, h2, h3, h4⟩ := h 0
  have e1 : (tbl m 0 : IVec S72 32) = m (((0 : Dev nD).tc : Thread nD τ).loc main_arg1) := V_of_ne m 0 main_arg1 (by decide)
  have e3 : (tbl m 2 : IVec S1 32) = m (((0 : Dev nD).tc : Thread nD τ).loc main_arg3) := V_of_ne m 0 main_arg3 (by decide)
  have e4 : (tbl m 3 : IVec S72 32) = m (((0 : Dev nD).tc : Thread nD τ).loc main_arg4) := V_of_ne m 0 main_arg4 (by decide)
  have eu : usAt m = (m (((0 : Dev nD).tc : Thread nD τ).loc main_arg3) : IVec S1 32) (ix1 0) := congrFun e3 (ix1 0)
  have ev : ∀ k, vaAt m k = (m (((0 : Dev nD).tc : Thread nD τ).loc main_arg4) : IVec S72 32) (ix1 k) := fun k => congrFun e4 (ix1 k)
  have et : ∀ k, teAt m k = (m (((0 : Dev nD).tc : Thread nD τ).loc main_arg1) : IVec S72 32) (ix1 k) := fun k => congrFun e1 (ix1 k)
  have hu := us_of _ _ _ _ _ _ _ h2
  refine ⟨fun k => ?_, ?_, ?_, fun k => ?_, fun k hk => ?_⟩
  · rw [et]; exact te_of _ _ _ _ _ _ _ h1 k
  · rw [eu]; exact hu.1
  · rw [eu]; exact hu.2
  · rw [ev]; exact va_of _ _ _ _ _ _ _ h3 k
  · rw [eu]; rw [ev] at hk; exact live_of _ _ _ _ _ _ _ h4 hu.2 k hk

end Cert.Kernel2Ideal.Sw
-- ==== Proof.SwRef.lean ====
/- The routed pair of products as the reference computes it: its stages, and each at an index. -/
module

public import proofs.«01_k».proof.Proof.Gen.Reference2Ideal.Run
public import Idealize.ShloMosaic.Lib.Pipeline.ValueKit
public import Idealize.ShloMosaic.Lib.WordCmp

@[expose] public section

set_option maxRecDepth 16384

noncomputable section

namespace Cert.Reference2Ideal.Stage

open Cert.Reference2Ideal Cert.Reference2Ideal.Gen Cert.Reference2Ideal.Value
open Idealize.ShloMosaic Idealize.ShloMosaic.TcCoe Idealize.ShloMosaic.Pointwise

/-- The gate: a number times its sigmoid. -/
def gate (z : EReal) : EReal := z * Ideal.div 1 (1 + Ideal.exp (-z))

section
variable (tab : IVec S72 32)

/-- A table's entry on each of its tile's rows. -/
def perRow : IVec S36864 32 := shapeCast _ (broadcastInDim S72x512 ![0] bcast_S72_S72x512_0 tab) shapeCasts_S72x512_S36864

/-- The same as a column. -/
def column : IVec S36864x1 32 := broadcastInDim S36864x1 ![0] bcast_S36864_S36864x1_0 (perRow tab)

/-- A row's place in its tile. -/
def inTile : IVec S36864 32 :=
  shapeCast _ (broadcastInDim S72x512 ![0, 1] bcast_S1x512_S72x512_0_1 (shapeCast _ (iotaInDim S512 32 0) shapeCasts_S512_S1x512)) shapeCasts_S72x512_S36864

/-- The size of a quarter. -/
def quarter : IVec S_ 32 := id (constantI S_ 32 128#32)

/-- The quotient rounded to zero. -/
def quot : IVec S36864 32 := Host.divsi inTile (broadcastInDim S36864 ![] bcast_S_S36864 quarter)

/-- The quotient rounded down. -/
def floored : IVec S36864 32 :=
  select (andi (cmpi .ne (signi inTile) (broadcastInDim S36864 ![] bcast_S_S36864 (signi quarter))) (cmpi .ne (Host.remsi inTile (broadcastInDim S36864 ![] bcast_S_S36864 quarter)) (broadcastInDim S36864 ![] bcast_S_S36864 (constantI S_ 32 0#32))))
    (subi quot (broadcastInDim S36864 ![] bcast_S_S36864 (constantI S_ 32 1#32))) quot

/-- Whether a row's quarter holds rows. -/
def live : IVec S36864x1 1 :=
  broadcastInDim S36864x1 ![0] bcast_S36864_S36864x1_0 (cmpi .slt (muli floored (broadcastInDim S36864 ![] bcast_S_S36864 (constantI S_ 32 128#32))) (perRow tab))

theorem perRow_at (r : Fin 36864) : perRow tab (ix1 r) = tab (ix1 ⟨r / 512, by omega⟩) := by
  pointwise [perRow]

theorem column_at (r : Fin 36864) (z : Fin 1) : column tab (ix2 r z) = tab (ix1 ⟨r / 512, by omega⟩) := by
  pointwise [column, perRow]

theorem inTile_at (r : Fin 36864) : inTile (ix1 r) = BitVec.ofNat 32 (r % 512) := by
  pointwise [inTile]

/-- The sign of a word. -/
def sign (w : BitVec 32) : BitVec 32 := if w = 0 then 0 else if w.msb = true then -1 else 1

/-- A place in a tile, taken down to the start of its quarter. -/
def start (w : BitVec 32) : BitVec 32 :=
  IntOp.muli (Scalar.select (IntOp.andi (IntOp.cmpi .ne (sign w) (sign 128#32)) (IntOp.cmpi .ne (IntOp.remsi .host w 128#32) 0#32))
    (IntOp.subi (IntOp.divsi .host w 128#32) 1#32) (IntOp.divsi .host w 128#32)) 128#32

theorem start_eq : ∀ n : Fin 512, (start (BitVec.ofNat 32 n.val)).toInt = (n.val / 128 * 128 : ℕ) := by decide +kernel

theorem live_at (r : Fin 36864) (z : Fin 1) : live tab (ix2 r z) = IntOp.cmpi .slt (start (BitVec.ofNat 32 (r % 512))) (tab (ix1 ⟨r / 512, by omega⟩)) := by
  pointwise [live, floored, quot, quarter]
  rw [perRow_at, inTile_at]
  rfl

/-- A row is live where its quarter starts below its tile's count. -/
theorem live_iff (r : Fin 36864) (z : Fin 1) (hle : (tab (ix1 ⟨r / 512, by omega⟩)).toNat ≤ 512) :
    live tab (ix2 r z) = 1#1 ↔ r % 512 / 128 * 128 < (tab (ix1 ⟨r / 512, by omega⟩)).toNat := by
  rw [live_at]
  have h1 := start_eq ⟨r % 512, Nat.mod_lt _ (by decide)⟩
  have h2 : (tab (ix1 ⟨r / 512, by omega⟩)).toInt = (tab (ix1 ⟨r / 512, by omega⟩)).toNat := by
    rw [BitVec.toInt_eq_toNat_cond, if_pos (by omega)]
  rw [WordCmp.cmpi_slt_eq, h1, h2, WordCmp.ofBool_decide_eq_one_iff]
  exact Int.ofNat_lt

end

section
variable (xs : FVec Ideal S36864x2048 .f32) (w w1 w3 : FVec Ideal S8x2048x7168 .f32) (te : IVec S72 32)

/-- One expert's matrix. -/
def slab (off : Fin 3 → ℕ) (h : S8x2048x7168.Slices off S1x2048x7168) : FVec Ideal S2048x7168 .f32 :=
  shapeCast _ (extractStridedSlice S1x2048x7168 off w h) shapeCasts_S1x2048x7168_S2048x7168

/-- Every row by one matrix. -/
def prod (b : FVec Ideal S2048x7168 .f32) : FVec Ideal S36864x7168 .f32 :=
  Host.dotGeneral dot_S36864x2048_S2048x7168_S36864x7168_1_0_0_1_n_n none xs b

/-- The gated product of two. -/
def gated (a b : FVec Ideal S36864x7168 .f32) : FVec Ideal S36864x7168 .f32 :=
  mulf (mulf a (Host.divf (broadcastInDim S36864x7168 ![] bcast_S_S36864x7168 (constant S_ .f32 0x3F800000#32))
    (addf (broadcastInDim S36864x7168 ![] bcast_S_S36864x7168 (constant S_ .f32 0x3F800000#32)) (Host.exp (Host.negf a))))) b

/-- One expert's rows put in place. -/
def pick (e : BitVec 32) (a b : FVec Ideal S36864x7168 .f32) : FVec Ideal S36864x7168 .f32 :=
  select (broadcastInDim S36864x7168 ![0, 1] bcast_S36864x1_S36864x7168_0_1 (cmpi .eq (column te) (broadcastInDim S36864x1 ![] bcast_S_S36864x1 (constantI S_ 32 e)))) a b

/-- The zeros the rows start from. -/
def zeros : FVec Ideal S36864x7168 .f32 := broadcastInDim S36864x7168 ![] bcast_S_S36864x7168 (constant S_ .f32 0x00000000#32)

variable (r : Fin 36864) (c : Fin 7168)

theorem slab_at (e : Fin 8) (off : Fin 3 → ℕ) (h : S8x2048x7168.Slices off S1x2048x7168) (hoff : off = ![e.val, 0, 0]) (k : Fin 2048) :
    slab w off h (ix2 k c) = w (ix3 e k c) := by
  subst hoff
  pointwise [slab]

theorem prod_at (b : FVec Ideal S2048x7168 .f32) : prod xs b (ix2 r c) = ∑ k, xs (ix2 r k) * b (ix2 k c) := by
  pointwise [prod]

theorem gated_at (a b : FVec Ideal S36864x7168 .f32) : gated a b (ix2 r c) = gate (a (ix2 r c)) * b (ix2 r c) := by
  pointwise [gated, gate]

theorem pick_at (e : BitVec 32) (a b : FVec Ideal S36864x7168 .f32) :
    pick te e a b (ix2 r c) = if te (ix1 ⟨r / 512, by omega⟩) = e then a (ix2 r c) else b (ix2 r c) := by
  pointwise [pick]
  rw [column_at]
  by_cases h : te (ix1 ⟨r / 512, by omega⟩) = e
  · rw [if_pos h, WordCmp.cmpi_eq_eq]; exact if_pos ((WordCmp.ofBool_decide_eq_one_iff _).mpr h)
  · rw [if_neg h, WordCmp.cmpi_eq_eq]; exact if_neg (fun h' => h ((WordCmp.ofBool_decide_eq_one_iff _).mp h'))

theorem zeros_at : zeros (ix2 r c) = 0 := by
  pointwise [zeros]

/-- Every row's gated product by its expert's matrices. -/
def acts : FVec Ideal S36864x7168 .f32 :=
  pick te 7#32 (gated (prod xs (slab w1 ![7, 0, 0] slices_S8x2048x7168_S1x2048x7168_7_0_0)) (prod xs (slab w3 ![7, 0, 0] slices_S8x2048x7168_S1x2048x7168_7_0_0)))
    (pick te 6#32 (gated (prod xs (slab w1 ![6, 0, 0] slices_S8x2048x7168_S1x2048x7168_6_0_0)) (prod xs (slab w3 ![6, 0, 0] slices_S8x2048x7168_S1x2048x7168_6_0_0)))
    (pick te 5#32 (gated (prod xs (slab w1 ![5, 0, 0] slices_S8x2048x7168_S1x2048x7168_5_0_0)) (prod xs (slab w3 ![5, 0, 0] slices_S8x2048x7168_S1x2048x7168_5_0_0)))
    (pick te 4#32 (gated (prod xs (slab w1 ![4, 0, 0] slices_S8x2048x7168_S1x2048x7168_4_0_0)) (prod xs (slab w3 ![4, 0, 0] slices_S8x2048x7168_S1x2048x7168_4_0_0)))
    (pick te 3#32 (gated (prod xs (slab w1 ![3, 0, 0] slices_S8x2048x7168_S1x2048x7168_3_0_0)) (prod xs (slab w3 ![3, 0, 0] slices_S8x2048x7168_S1x2048x7168_3_0_0)))
    (pick te 2#32 (gated (prod xs (slab w1 ![2, 0, 0] slices_S8x2048x7168_S1x2048x7168_2_0_0)) (prod xs (slab w3 ![2, 0, 0] slices_S8x2048x7168_S1x2048x7168_2_0_0)))
    (pick te 1#32 (gated (prod xs (slab w1 ![1, 0, 0] slices_S8x2048x7168_S1x2048x7168_1_0_0)) (prod xs (slab w3 ![1, 0, 0] slices_S8x2048x7168_S1x2048x7168_1_0_0)))
    (pick te 0#32 (gated (prod xs (slab w1 ![0, 0, 0] slices_S8x2048x7168_S1x2048x7168_0_0_0)) (prod xs (slab w3 ![0, 0, 0] slices_S8x2048x7168_S1x2048x7168_0_0_0)))
    zeros)))))))

/-- One expert's gated product at a row and a column. -/
def cell (e : Fin 8) : EReal := gate (∑ k, xs (ix2 r k) * w1 (ix3 e k c)) * ∑ k, xs (ix2 r k) * w3 (ix3 e k c)

theorem expert_at (e : Fin 8) (off : Fin 3 → ℕ) (h : S8x2048x7168.Slices off S1x2048x7168) (hoff : off = ![e.val, 0, 0]) :
    gated (prod xs (slab w1 off h)) (prod xs (slab w3 off h)) (ix2 r c) = cell xs w1 w3 r c e := by
  rw [gated_at, prod_at, prod_at]
  simp only [slab_at _ _ e off h hoff]
  rfl

theorem acts_at (e : Fin 8) (he : te (ix1 ⟨r / 512, by omega⟩) = BitVec.ofNat 32 e.val) : acts xs w1 w3 te (ix2 r c) = cell xs w1 w3 r c e := by
  unfold acts
  simp only [pick_at, he]
  fin_cases e <;> exact expert_at xs w1 w3 r c _ _ _ rfl

/-- The reference's result, from its arguments. -/
def outcome (va : IVec S72 32) : FVec Ideal S36864x7168 .bf16 :=
  truncf .bf16 (select (broadcastInDim S36864x7168 ![0, 1] bcast_S36864x1_S36864x7168_0_1 (live va)) (acts xs w1 w3 te)
    (broadcastInDim S36864x7168 ![] bcast_S_S36864x7168 (id (constant S_ .f32 0x00000000#32)))) bitsLt_bf16_f32

/-- A row of a live quarter is its expert's gated product; the other rows are zero. -/
theorem outcome_at (va : IVec S72 32) (hte : (te (ix1 ⟨r / 512, by omega⟩)).toNat < 8) (hva : (va (ix1 ⟨r / 512, by omega⟩)).toNat ≤ 512) :
    outcome xs w1 w3 te va (ix2 r c)
      = if r % 512 / 128 * 128 < (va (ix1 ⟨r / 512, by omega⟩)).toNat then cell xs w1 w3 r c ⟨_, hte⟩ else 0 := by
  pointwise [outcome]
  rw [acts_at xs w1 w3 te r c ⟨_, hte⟩ (by simp)]
  by_cases h : r % 512 / 128 * 128 < (va (ix1 ⟨r / 512, by omega⟩)).toNat
  · rw [if_pos h]; exact if_pos ((live_iff va r _ hva).mpr h)
  · rw [if_neg h]; refine (if_neg (fun h' => h ((live_iff va r _ hva).mp h'))).trans ?_
    show Ideal.ofBits .f32 0x00000000#32 = 0
    simp

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v104) = outcome (m ((c.tc : Thread nD τ).loc main_arg0)) (m ((c.tc : Thread nD τ).loc main_arg5)) (m ((c.tc : Thread nD τ).loc main_arg6)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans rfl, (h c).2⟩) (Value.run (F := Ideal) m ρ)

end Cert.Reference2Ideal.Stage
-- ==== Proof.SwOut.lean ====
/- The routed pair of products at the ideal instance: each element of the output is what the reference says. -/
module

public import proofs.«01_k».proof.Proof.SwPlan
public import proofs.«01_k».proof.Proof.SwRef

@[expose] public section

set_option maxRecDepth 16384

noncomputable section

namespace Cert.Kernel2Ideal.Sw

open Idealize.ShloMosaic Idealize.ShloMosaic.TcCoe Idealize.ShloMosaic.Tactic Idealize.ShloMosaic.Pointwise
open Gen
open Cert.Reference2Ideal.Stage (gate cell outcome)

/-! ## The body's values at an element -/

/-- The gated product of a row of rows and a column of the two weight blocks. -/
def mix {R : ℕ} (x : FVec Ideal (⟨2, ![R, 2048]⟩ : Shape) .bf16) (w0 w1 : FVec Ideal S2048x1024 .bf16) (p : Fin R) (s : Fin 1024) : EReal :=
  gate (∑ k : Fin 2048, x (ix2 p k) * w0 (ix2 k s)) * ∑ k : Fin 2048, x (ix2 p k) * w1 (ix2 k s)

section
variable (w0 w1 : FVec Ideal S2048x1024 .bf16) (s : Fin 1024)

theorem pay9_at (x : FVec Ideal S128x2048 .bf16) (p : Fin 128) : k0_pay9 (F := Ideal) x w0 w1 (ix2 p s) = mix x w0 w1 p s := by
  pointwise [k0_pay9, mix, gate]
  rfl

theorem pay1_at (x : FVec Ideal S256x2048 .bf16) (p : Fin 256) : k0_pay1 (F := Ideal) x w0 w1 (ix2 p s) = mix x w0 w1 p s := by
  pointwise [k0_pay1, mix, gate]
  rfl

theorem pay3_at (x : FVec Ideal S384x2048 .bf16) (p : Fin 384) : k0_pay3 (F := Ideal) x w0 w1 (ix2 p s) = mix x w0 w1 p s := by
  pointwise [k0_pay3, mix, gate]
  rfl

theorem pay5_at (x : FVec Ideal S512x2048 .bf16) (p : Fin 512) : k0_pay5 (F := Ideal) x w0 w1 (ix2 p s) = mix x w0 w1 p s := by
  pointwise [k0_pay5, mix, gate]
  rfl

theorem zero_bits : (Scalar.ofBits .bf16 0x0000#16 : Ideal .bf16) = (0 : EReal) := by
  show Ideal.ofBits .bf16 0x0000#16 = 0
  simp

theorem rowsOut_at (R : ℕ) (hR : R ≤ 512) (x : FVec Ideal S512x2048 .bf16) (p' : FVec Ideal (⟨2, ![R, 1024]⟩ : Shape) .bf16)
    (h : ∀ p : Fin R, p' (ix2 p s) = mix (top (F := Ideal) R hR x) w0 w1 p s) (p : Fin 512) :
    rowsOut (F := Ideal) R p' (ix2 p s) = if p.val < R then mix x w0 w1 p s else 0 := by
  unfold rowsOut
  by_cases hp : p.val < R
  · rw [if_pos hp]
    exact (dif_pos hp).trans (h ⟨p.val, hp⟩)
  · rw [if_neg hp]
    exact (dif_neg hp).trans zero_bits

/-- What the body leaves at an element: the gated product on the first quarters, zero below them. -/
theorem outV_at (q : ℕ) (hq : q < 5) (x : FVec Ideal S512x2048 .bf16) (p : Fin 512) :
    outV (F := Ideal) q x w0 w1 (ix2 p s) = if p.val < 128 * q then mix x w0 w1 p s else 0 := by
  have hp := p.isLt
  rcases (by omega : q = 0 ∨ q = 1 ∨ q = 2 ∨ q = 3 ∨ q = 4) with rfl | rfl | rfl | rfl | rfl
  · rw [if_neg (by omega)]; exact zero_bits
  · exact rowsOut_at w0 w1 s 128 (by decide) x _ (pay9_at w0 w1 s _) p
  · exact rowsOut_at w0 w1 s 256 (by decide) x _ (pay1_at w0 w1 s _) p
  · exact rowsOut_at w0 w1 s 384 (by decide) x _ (pay3_at w0 w1 s _) p
  · rw [if_pos (by omega)]; exact pay5_at w0 w1 s x p

end

/-! ## The blocks a point reads -/

variable (m : (ℓ : Loc nD τ sig) → Buf (Elt Ideal) ℓ) (ρ : Dev nD → PrngReg)

/-- The rows, as launched. -/
abbrev rowsIn (c : Dev nD) : FVec Ideal S36864x2048 .f32 := m ((c.tc : Thread nD τ).loc main_arg0)
abbrev gateIn (c : Dev nD) : FVec Ideal S8x2048x7168 .f32 := m ((c.tc : Thread nD τ).loc main_arg5)
abbrev lineIn (c : Dev nD) : FVec Ideal S8x2048x7168 .f32 := m ((c.tc : Thread nD τ).loc main_arg6)

/-- The converted rows are the rows. -/
theorem V_rows (c : Dev nD) : (V m c main_v0 : FVec Ideal S36864x2048 .bf16) = fun i => rowsIn m c i := by
  entry_read
  rfl

/-- Where an element of a row block stands in the rows. -/
def xIdx (i : Fin 2 → ℕ) (h : ∀ a, (i a + 1) * S512x2048.size a ≤ S36864x2048.size a) (y : S512x2048.Idx) : S36864x2048.Idx :=
  fun (a : Fin 2) => (⟨i a * S512x2048.size a + 1 * (y a).val, by
    have h1 := h a; have h2 : (y a).val < S512x2048.size a := (y a).isLt
    rw [Nat.add_mul, one_mul] at h1; omega⟩ : Fin (S36864x2048.size a))

theorem xBlk_idx (hO : Ok m) (c : Dev nD) (t : Fin (cfgM m hO).N) (y : S512x2048.Idx) :
    (xBlk m hO c t : FVec Ideal S512x2048 .bf16) y
      = (V m c main_v0 : FVec Ideal S36864x2048 .bf16) (xIdx (cc0_transform_0 inb_S1_S1_0 numel1_S1 (tbl m) (grid0.coords t)) (hO.1 (grid0.coords t)).fst y) := rfl

theorem xIdx_congr {i j : Fin 2 → ℕ} (h : i = j) (hi : ∀ a, (i a + 1) * S512x2048.size a ≤ S36864x2048.size a) (hj) (y : S512x2048.Idx) :
    xIdx i hi y = xIdx j hj y := by subst h; rfl

theorem xBlk_at (hP : Plan m) (c : Dev nD) (t : Fin (cfgM m (ok_of_plan m hP)).N) (p : Fin 512) (k : Fin 2048)
    (r : Fin 36864) (hr : r.val = rowTile m (grid0.coords t) * 512 + p) :
    (xBlk m (ok_of_plan m hP) c t : FVec Ideal S512x2048 .bf16) (ix2 p k) = rowsIn m c (ix2 r k) := by
  refine (xBlk_idx m _ c t _).trans ((congrFun (V_rows m c) _).trans (congrArg (rowsIn m c) ?_))
  have hj := (ok_of_plan m hP).1 (grid0.coords t)
  have e := transform0_eq m hP (grid0.coords t)
  refine (xIdx_congr e hj.fst (e ▸ hj.fst) _).trans (funext fun a : Fin 2 => Fin.ext ?_)
  match a with
  | ⟨0, _⟩ => show rowTile m (grid0.coords t) * 512 + 1 * p.val = r.val; omega
  | ⟨1, _⟩ => show 0 * 2048 + 1 * k.val = k.val; omega

theorem wIdx_at (hP : Plan m) (t : Fin (cfgM m (ok_of_plan m hP)).N) (hj) (k : Fin 2048) (s : Fin 1024) (e : Fin 8) (q : Fin 7168)
    (he : e.val = (teAt m (tile (grid0.coords t))).toNat) (hq : q.val = (grid0.coords t 0).val * 1024 + s) :
    wIdx (cc0_transform_1 k0_off1_inb numel1_S1 (tbl m) (grid0.coords t)) hj (ix3 0 k s) = ix3 e k q := by
  have et := transform1_eq m (grid0.coords t)
  refine (wIdx_congr et hj (et ▸ hj) _).trans (funext fun a : Fin 3 => Fin.ext ?_)
  match a with
  | ⟨0, _⟩ => show (teAt m (tile (grid0.coords t))).toNat * 1 + 1 * 0 = e.val; omega
  | ⟨1, _⟩ => show 0 * 2048 + 1 * k.val = k.val; omega
  | ⟨2, _⟩ => show (grid0.coords t 0).val * 1024 + 1 * s.val = q.val; omega

theorem w0Blk_at (hP : Plan m) (c : Dev nD) (t : Fin (cfgM m (ok_of_plan m hP)).N) (k : Fin 2048) (s : Fin 1024) (e : Fin 8) (q : Fin 7168)
    (he : e.val = (teAt m (tile (grid0.coords t))).toNat) (hq : q.val = (grid0.coords t 0).val * 1024 + s) :
    (w0Blk m (ok_of_plan m hP) c t : FVec Ideal S2048x1024 .bf16) (ix2 k s) = gateIn m c (ix3 e k q) :=
  (castW_at _ k s).trans ((iblk1_at m _ c t _).trans ((congrFun (V_of_ne m c main_arg5 (by decide)) _).trans
    (congrArg (gateIn m c) (wIdx_at m hP t _ k s e q he hq))))

theorem w1Blk_at (hP : Plan m) (c : Dev nD) (t : Fin (cfgM m (ok_of_plan m hP)).N) (k : Fin 2048) (s : Fin 1024) (e : Fin 8) (q : Fin 7168)
    (he : e.val = (teAt m (tile (grid0.coords t))).toNat) (hq : q.val = (grid0.coords t 0).val * 1024 + s) :
    (w1Blk m (ok_of_plan m hP) c t : FVec Ideal S2048x1024 .bf16) (ix2 k s) = lineIn m c (ix3 e k q) :=
  (castW_at _ k s).trans ((iblk2_at m _ c t _).trans ((congrFun (V_of_ne m c main_arg6 (by decide)) _).trans
    (congrArg (lineIn m c) (wIdx_at m hP t _ k s e q he hq))))

/-! ## An element of the output block -/

/-- A row lies in the quarters that hold rows where its own quarter starts below the count. -/
theorem quarter_rule (p v : ℕ) : p < 128 * ((v + 127) / 128) ↔ p / 128 * 128 < v := by omega

theorem outBlk_at (hP : Plan m) (c : Dev nD) (t : Fin (cfgM m (ok_of_plan m hP)).N) (p : Fin 512) (s : Fin 1024) (r : Fin 36864) (q : Fin 7168)
    (hr : r.val = (grid0.coords t 1).val * 512 + p) (hq : q.val = (grid0.coords t 0).val * 1024 + s) :
    (outBlk m (ok_of_plan m hP) c t : FVec Ideal S512x1024 .bf16) (ix2 p s)
      = if p.val / 128 * 128 < (vaAt m (tile (grid0.coords t))).toNat
        then cell (rowsIn m c) (gateIn m c) (lineIn m c) r q ⟨(teAt m (tile (grid0.coords t))).toNat, hP.te_lt _⟩ else 0 := by
  refine (outV_at _ _ s _ (qOf_lt (hP.va_le _)) _ p).trans ?_
  refine if_ctx_congr (quarter_rule _ _) (fun h => ?_) fun _ => rfl
  have hne : vaAt m (tile (grid0.coords t)) ≠ 0#32 := fun e => by rw [e] at h; exact absurd h (Nat.not_lt_zero _)
  have hl := hP.live _ hne
  have hrow : rowTile m (grid0.coords t) = (grid0.coords t 1).val := by unfold rowTile; have : (tile (grid0.coords t)).val = (grid0.coords t 1).val := rfl; omega
  have ex := fun k => xBlk_at m hP c t p k r (by rw [hrow]; exact hr)
  have e0 := fun k => w0Blk_at m hP c t k s ⟨_, hP.te_lt _⟩ q rfl hq
  have e1 := fun k => w1Blk_at m hP c t k s ⟨_, hP.te_lt _⟩ q rfl hq
  unfold mix cell
  simp only [ex, e0, e1]

/-! ## The whole array -/

abbrev expertIn (c : Dev nD) : IVec S72 32 := m ((c.tc : Thread nD τ).loc main_arg1)
abbrev countIn (c : Dev nD) : IVec S72 32 := m ((c.tc : Thread nD τ).loc main_arg4)

theorem teAt_eq (c : Dev nD) (k : Fin 72) : teAt m k = expertIn m c (ix1 k) := by
  obtain rfl : c = 0 := Subsingleton.elim _ _
  exact congrFun (V_of_ne m 0 main_arg1 (by decide)) (ix1 k)

theorem vaAt_eq (c : Dev nD) (k : Fin 72) : vaAt m k = countIn m c (ix1 k) := by
  obtain rfl : c = 0 := Subsingleton.elim _ _
  exact congrFun (V_of_ne m 0 main_arg4 (by decide)) (ix1 k)

/-- What the reference leaves, from the kernel's arguments. -/
abbrev result (c : Dev nD) : FVec Ideal S36864x7168 .bf16 := outcome (rowsIn m c) (gateIn m c) (lineIn m c) (expertIn m c) (countIn m c)

theorem result_at (hP : Plan m) (c : Dev nD) (k : Fin 72) (r : Fin 36864) (q : Fin 7168) (hk : k.val = r.val / 512) :
    result m c (ix2 r q) = if r.val % 512 / 128 * 128 < (vaAt m k).toNat then cell (rowsIn m c) (gateIn m c) (lineIn m c) r q ⟨(teAt m k).toNat, hP.te_lt k⟩ else 0 := by
  have hb : r.val / 512 < 72 := Nat.div_lt_of_lt_mul r.isLt
  obtain rfl : k = ⟨r.val / 512, hb⟩ := Fin.ext hk
  have ht := hP.te_lt ⟨r.val / 512, hb⟩
  have hv := hP.va_le ⟨r.val / 512, hb⟩
  rw [teAt_eq m c] at ht
  rw [vaAt_eq m c] at hv
  refine (Cert.Reference2Ideal.Stage.outcome_at _ _ _ _ r q _ ht hv).trans ?_
  simp only [teAt_eq m c, vaAt_eq m c]

/-- The block of a point agrees with the reference. -/
theorem block_result (hP : Plan m) (c : Dev nD) (t : Fin (cfgM m (ok_of_plan m hP)).N) (p : Fin 512) (s : Fin 1024) (r : Fin 36864) (q : Fin 7168)
    (hr : r.val = (grid0.coords t 1).val * 512 + p) (hq : q.val = (grid0.coords t 0).val * 1024 + s) :
    (outBlk m (ok_of_plan m hP) c t : FVec Ideal S512x1024 .bf16) (ix2 p s) = result m c (ix2 r q) := by
  have hp := p.isLt
  refine (outBlk_at m hP c t p s r q hr hq).trans ((result_at m hP c (tile (grid0.coords t)) r q (by show (grid0.coords t 1).val = r.val / 512; omega)).trans ?_).symm
  rw [show r.val % 512 = p.val by omega]

/-- Where an element of an output block stands in the output. -/
def oIdx (i : Fin 2 → ℕ) (h : ∀ a, (i a + 1) * S512x1024.size a ≤ S36864x7168.size a) (y : S512x1024.Idx) : S36864x7168.Idx :=
  fun (a : Fin 2) => (⟨i a * S512x1024.size a + 1 * (y a).val, by
    have h1 := h a; have h2 : (y a).val < S512x1024.size a := (y a).isLt
    rw [Nat.add_mul, one_mul] at h1; omega⟩ : Fin (S36864x7168.size a))

theorem oIdx_congr {i j : Fin 2 → ℕ} (h : i = j) (hi : ∀ a, (i a + 1) * S512x1024.size a ≤ S36864x7168.size a) (hj) (y : S512x1024.Idx) :
    oIdx i hi y = oIdx j hj y := by subst h; rfl

theorem inside3 (i : grid0.Coords) (a : Fin 2) : (cc0_transform_3 i a + 1) * S512x1024.size a ≤ S36864x7168.size a := by
  rw [transform3_eq]
  have h0 : (i 0).val < 7 := (i 0).isLt
  have h1 : (i 1).val < 72 := (i 1).isLt
  match a with
  | ⟨0, _⟩ => show ((i 1).val + 1) * 512 ≤ 36864; omega
  | ⟨1, _⟩ => show ((i 0).val + 1) * 1024 ≤ 7168; omega

theorem blk_emb (hO : Ok m) (t : Fin (cfgM m hO).N) (y : S512x1024.Idx) :
    (((cfgM m hO).win 3).blk t).view.emb y = oIdx (cc0_transform_3 (grid0.coords t)) (inside3 _) y := rfl

theorem oIdx_at (i : grid0.Coords) (p : Fin 512) (s : Fin 1024) (r : Fin 36864) (q : Fin 7168)
    (hr : r.val = (i 1).val * 512 + p) (hq : q.val = (i 0).val * 1024 + s) : oIdx (cc0_transform_3 i) (inside3 i) (ix2 p s) = ix2 r q := by
  have e := transform3_eq i
  refine (oIdx_congr e (inside3 i) (e ▸ inside3 i) _).trans (funext fun a : Fin 2 => Fin.ext ?_)
  match a with
  | ⟨0, _⟩ => show (i 1).val * 512 + 1 * p.val = r.val; omega
  | ⟨1, _⟩ => show (i 0).val * 1024 + 1 * s.val = q.val; omega

/-- After the run the output array is the reference's result. -/
theorem final (hP : Plan m) (c : Dev nD) :
    (dats m (ok_of_plan m hP) 0 c).arrAt 3 (cfgM m (ok_of_plan m hP)).N = result m c := by
  refine (dats m (ok_of_plan m hP) 0 c).arrAt_eq_of_emb 3 _ (fun t _ (y : S512x1024.Idx) => ?_) (fun (i : S36864x7168.Idx) => ?_)
  · obtain ⟨p, s, rfl⟩ : ∃ (p : Fin 512) (s : Fin 1024), y = ix2 p s := ⟨y 0, y 1, by funext k; fin_cases k <;> rfl⟩
    have h0 : (grid0.coords t 0).val < 7 := (grid0.coords t 0).isLt
    have h1 : (grid0.coords t 1).val < 72 := (grid0.coords t 1).isLt
    have hp := p.isLt
    have hs := s.isLt
    refine Eq.trans ?_ (congrArg (result m c) ((blk_emb m _ t _).trans
      (oIdx_at (grid0.coords t) p s ⟨(grid0.coords t 1).val * 512 + p, by omega⟩ ⟨(grid0.coords t 0).val * 1024 + s, by omega⟩ rfl rfl)).symm)
    refine Eq.trans ?_ (block_result m hP c t p s _ _ rfl rfl)
    exact congrFun (after_3 m _ c t) (ix2 p s)
  · obtain ⟨r, q, rfl⟩ : ∃ (r : Fin 36864) (q : Fin 7168), i = ix2 r q := ⟨i 0, i 1, by funext k; fin_cases k <;> rfl⟩
    have hN : (cfgM m (ok_of_plan m hP)).N = 504 := rfl
    have hr := r.isLt
    have hq := q.isLt
    let t : Fin grid0.N := ⟨q.val / 1024 * 72 + r.val / 512, by rw [show grid0.N = 504 from rfl]; omega⟩
    refine ⟨t, flush_3 _ t, ?_⟩
    have hc1 := coord1 t
    have hc0 := coord0 t
    have e := oIdx_at (grid0.coords t) ⟨r.val % 512, by omega⟩ ⟨q.val % 1024, by omega⟩ r q
      (by rw [hc1]; show r.val = (q.val / 1024 * 72 + r.val / 512) % 72 * 512 + r.val % 512; omega)
      (by rw [hc0]; show q.val = (q.val / 1024 * 72 + r.val / 512) / 72 * 1024 + q.val % 1024; omega)
    exact e ▸ (((cfgM m (ok_of_plan m hP)).win 3).blk t).view.emb_mem_set (ix2 ⟨r.val % 512, by omega⟩ ⟨q.val % 1024, by omega⟩ : S512x1024.Idx)

/-- The kernel's run leaves the reference's result, and its arguments as launched. -/
theorem value (hP : Plan m) : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1.out_eq c (3 : Fin 4)).trans (final m hP c),
      unchanged_of m (ok_of_plan m hP) (dats m (ok_of_plan m hP)) (A_eq m (ok_of_plan m hP)) r h.1 c⟩)
    (run_main m ρ (ok_of_plan m hP) hP.va_le)

end Cert.Kernel2Ideal.Sw
-- ==== Proof.SwFrame.lean ====
/- The claims on the routed pair of products: the frames of its two readings and of its reference, and that the kernel at
   the ideal instance leaves what the reference leaves. -/
module

public import proofs.«01_k».proof.Proof.SwOut
public import proofs.«01_k».proof.Proof.Gen.Kernel2
public import proofs.«01_k».proof.Proof.Gen.Reference2Ideal.Run
public import proofs.«01_k».proof.Defs

@[expose] public section

noncomputable section

namespace Cert.Routed

open Idealize.ShloMosaic Idealize.ShloMosaic.TcCoe Idealize.ShloMosaic.Tactic

theorem frame_pi : quiescent_Kernel2Ideal (hKernel2Ideal := Kernel2Ideal.Gen.facts) (hPre_plan2 := Pre_plan2.Gen.facts) :=
  fun m g h => Kernel2Ideal.Sw.frame m g (Kernel2Ideal.Sw.plan_of m h)

/-- The two readings have one body table. -/
theorem defs0_same : @Kernel2.defs₀ Bits _ Kernel2.Gen.facts = @Kernel2Ideal.defs₀ Bits _ Kernel2Ideal.Gen.facts := by
  refine congrArg Defs.onTc ?_
  funext l x
  fin_cases l
  rfl

theorem defs_same : @Kernel2.defs Bits _ Kernel2.Gen.facts = @Kernel2Ideal.defs Bits _ Kernel2Ideal.Gen.facts :=
  congrArg (Pipeline.defs (@Kernel2Ideal.pcfgs Bits _ Kernel2Ideal.Gen.facts)) defs0_same

theorem frame_p : quiescent_Kernel2 (hKernel2 := Kernel2.Gen.facts) (hPre_plan2 := Pre_plan2.Gen.facts) := fun m g h =>
  (congrArg (fun d => θ_run d (onTc (τ := Kernel2Ideal.τ) (Kernel2Ideal.main (F := Bits))) ⟨m, fun _ => 0, g⟩ _) defs_same).mpr
    (Kernel2Ideal.Sw.frame (F := Bits) m g (Kernel2Ideal.Sw.plan_of (F := Bits) m h))

theorem frame_ri : quiescent_Reference2Ideal (hReference2Ideal := Reference2Ideal.Gen.facts) (hPre_plan2 := Pre_plan2.Gen.facts) := fun m g _ =>
  (θ_run Reference2Ideal.defs (onTc (τ := Reference2Ideal.τ) Reference2Ideal.main) ⟨m, fun _ => 0, g⟩).mono
    (fun r h => ⟨fun c => (h c).2, Idealize.ShloMosaic.sem_eq_zero_of_no_sems (by decide) r.2⟩) (Reference2Ideal.Value.run (F := Idealize.ShloMosaic.Ideal) m g)

theorem algebraic : algebraic_Kernel2Ideal_Reference2Ideal (hKernel2Ideal := Kernel2Ideal.Gen.facts) (hReference2Ideal := Reference2Ideal.Gen.facts) (hPre_plan2 := Pre_plan2.Gen.facts) := by
  intro m g m' g' h hagree
  refine ⟨Kernel2Ideal.Sw.result m, Kernel2Ideal.Sw.value m g (Kernel2Ideal.Sw.plan_of m h), ?_⟩
  refine (θ_run Reference2Ideal.defs _ _).mono (fun _ hr c => ⟨(hr c).1.trans ?_, (hr c).2⟩) (Reference2Ideal.Stage.run m' g')
  obtain ⟨a0, a1, -, -, a4, a5, a6⟩ := hagree c
  rw [a0, a1, a4, a5, a6]

end Cert.Routed
-- ==== Proof.DnKit.lean ====
/- The launch of the experts' second product, set up for every contents of its prefetched tables: the tables read off
   the launch memory, the windows' blocks, and the names of the memrefs the body is called with. -/
module

public import proofs.«01_k».proof.Proof.Gen.Kernel3Ideal.Launch
public import proofs.«01_k».proof.Proof.Gen.Kernel3Ideal.Skeleton
public import proofs.«01_k».proof.Proof.Gen.Kernel3Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory, no host operation being before it. -/
abbrev V (c : Dev nD) (b : Ref sig .tc) : Buf (Elt F) ((c : Thread nD τ).loc b) := m ((c.tc : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun _ => rfl

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S72 .i32 := Memref.whole main_arg1
abbrev mT1 : Memref sig .tc .smem S72 .i32 := Memref.whole main_arg2
abbrev mT2 : Memref sig .tc .smem S1 .i32 := Memref.whole main_arg3
abbrev mT3 : Memref sig .tc .smem S72 .i32 := Memref.whole main_arg4

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S512x7168 .bf16 := spec0_0.stage ((cfgM m hO).slots t 0)
abbrev ms1 (hO : Ok m) (t : Fin (cfgM m hO).N) : Memref sig .tc .vmem S1x7168x512 .f32 := spec0_1.stage ((cfgM m hO).slots t 1)
abbrev ms2 (hO : Ok m) (t : Fin (cfgM m hO).N) : Memref sig .tc .vmem S512x512 .f32 := spec0_2.stage ((cfgM m hO).slots t 2)
abbrev scr0 : Memref sig .tc .vmem S7168x512 .bf16 := Memref.whole cc0_scratch0

/-- The body at point `t`, on what the pipeline calls it with. -/
abbrev bodyAt (a : (pcfg0 (F := F)).Adm) (t : Fin (cfg0 a).N) : Prog (TpuEff nD τ sig (Elt F) Λ₀ .tc) PUnit :=
  cc0_matmul (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) scr0 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the scratch buffer at some contents. -/
theorem own_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t) := by
  refine ⟨fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hr : ∀ b : Ref sig .tc, b ∈ Pipeline.restRefs sig spec0 → r.2.mem ((c.tc : Thread nD τ).loc b) = m ((c.tc : Thread nD τ).loc b) := (h c).2
  exact ⟨((h c).1 0).trans (((dats 0 c).arrAt_in 0 rfl _).trans (hA c 0)), hr main_arg1 (by decide), hr main_arg2 (by decide), hr main_arg3 (by decide), hr main_arg4 (by decide),
    ((h c).1 1).trans (((dats 0 c).arrAt_in 1 rfl _).trans (hA c 1))⟩

end Cert.Kernel3Ideal.Dn

end
-- ==== Proof.DnCast.lean ====
/- The weight copy the body keeps: what its loop leaves in the scratch buffer is the whole weight block rounded, and
   what the body leaves in the output block, quarter by quarter. -/
module

public import proofs.«01_k».proof.Proof.DnKit
public import Idealize.ShloMosaic.Lib.WritesUnit
public import Idealize.ShloMosaic.Lib.VecWindow
public import Idealize.ShloMosaic.Lib.Pointwise

@[expose] public section

set_option maxRecDepth 16384

noncomputable section

namespace Cert.Kernel3Ideal.Dn

open Idealize.ShloMosaic Idealize.ShloMosaic.TcCoe Idealize.ShloMosaic.Tactic
open Idealize.SL Idealize.SL.Sem
open Gen

variable {F : FTy → Type} [FloatOps F]

/-- A weight block rounded to bf16, without its unit axis. -/
def castW (x : Vec F S1x7168x512 .f32) : FVec F S7168x512 .bf16 :=
  truncf .bf16 ((fun y => x (ix3 0 (y 0) (y 1))) : FVec F S7168x512 .f32) bitsLt_bf16_f32

theorem castW_at (x : Vec F S1x7168x512 .f32) (r : Fin 7168) (s : Fin 512) :
    castW x (ix2 r s) = FloatOps.truncf .bf16 bitsLt_bf16_f32 (x (ix3 0 r s)) := rfl

theorem pay6_at (v : Vec F S1x512x512 .f32) (a : Fin 512) (b : Fin 512) :
    k0_pay6 (F := F) v (ix2 a b) = FloatOps.truncf .bf16 bitsLt_bf16_f32 (v (ix3 0 a b)) := by
  pointwise [k0_pay6]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 14 := by decide +kernel

variable (𝒱 : Variants) (c : Dev nD) (bd : Option 𝒱.V) (i : grid0.Coords) (arg2 : Memref sig .tc .smem S72 .i32) (harg2 : arg2.IsWhole) (arg3 : Memref sig .tc .smem S72 .i32) (harg3 : arg3.IsWhole) (arg4 : Memref sig .tc .smem S1 .i32) (harg4 : arg4.IsWhole) (arg5 : Memref sig .tc .smem S72 .i32) (harg5 : arg5.IsWhole) (arg6 : Memref sig .tc .vmem S512x7168 .bf16) (harg6 : arg6.IsWhole) (arg7 : Memref sig .tc .vmem S1x7168x512 .f32) (harg7 : arg7.IsWhole) (arg8 : Memref sig .tc .vmem S512x512 .f32) (harg8 : arg8.IsWhole) (arg9 : Memref sig .tc .vmem S7168x512 .bf16) (harg9 : arg9.IsWhole)
  (X7 : BufTy.Contents (Elt F) arg7.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 X7 k
      = [⟨Rect.unit (s := S7168x512) (k0_off4 k) S512x512.size (k0_off4_inb k), k0_pay6 (arg7.view.readAt (Elt F) (Rect.unit (s := S1x7168x512) (k0_off3 k) S1x512x512.size (k0_off3_inb k)).toLoadRect X7)⟩] := by
  unfold tripL_k0_t1 trip_k0_t1
  rfl

/-- A rounded row block is the rounded weight at the rows it is stored to. -/
theorem piece_eq (k : Fin k0_t1_loop.trips) (arg : Memref sig .tc .vmem S1x7168x512 .f32) (X : BufTy.Contents (Elt F) arg.view.ty)
    (p : FVec F S512x512 .bf16)
    (hp : ∀ a b, p (ix2 a b) = FloatOps.truncf .bf16 bitsLt_bf16_f32 (arg.view.readAt (Elt F) (Rect.unit (s := S1x7168x512) (k0_off3 k) S1x512x512.size (k0_off3_inb k)).toLoadRect X (ix3 0 a b)))
    (x : S512x512.Idx) :
    p x = castW (arg.view.read (Elt F) X) ((Rect.unit (s := S7168x512) (k0_off4 k) S512x512.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 X7 k), ∀ x, p.2 x = castW (arg7.view.read (Elt F) X7) (p.1.emb x))
    ∧ ∀ y : S7168x512.Idx, (y 0).val < 512 * k → ∃ p ∈ (pb_k0_t1 (F := F) 𝒱 c bd i arg2 harg2 arg3 harg3 arg4 harg4 arg5 harg5 arg6 harg6 arg7 harg7 arg8 harg8 arg9 harg9 X7 k), y ∈ p.1.set := by
  intro k
  induction k with
  | zero =>
      intro _
      refine ⟨fun p hp => absurd hp List.not_mem_nil, fun y hy => absurd hy (by omega)⟩
  | succ k ih =>
      intro hk
      obtain ⟨i1, i3⟩ := ih (by omega)
      have hs := pb_k0_t1_succ (F := F) 𝒱 c bd i arg2 harg2 arg3 harg3 arg4 harg4 arg5 harg5 arg6 harg6 arg7 harg7 arg8 harg8 arg9 harg9 X7 ⟨k, by omega⟩
      rw [trip_pieces] at hs
      dsimp only at hs
      rw [hs]
      have hmem : ∀ y : S7168x512.Idx, 512 * k ≤ (y 0).val → (y 0).val < 512 * (k + 1) →
          y ∈ (Rect.unit (s := S7168x512) (k0_off4 ⟨k, by omega⟩) S512x512.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 512; have : (y 1).val < 512 := (y 1).isLt; omega⟩
      refine ⟨fun p hp => ?_, fun y hy => ?_⟩
      · rcases List.mem_append.mp hp with h | h
        · rw [List.mem_singleton] at h; subst h
          exact piece_eq (F := F) _ arg7 X7 _ (fun a b => pay6_at _ a b)
        · exact i1 p h
      · by_cases hlt : (y 0).val < 512 * k
        · obtain ⟨p, hp, hy1⟩ := i3 y hlt
          exact ⟨p, List.mem_append.mpr (.inr hp), hy1⟩
        · exact ⟨_, List.mem_append.mpr (.inl (List.mem_singleton.mpr rfl)), hmem y (by omega) hy⟩

/-- After the loop the scratch buffer holds the weight block rounded. -/
theorem loop_read (f9 : BufTy.Contents (Elt F) arg9.view.ty) :
    arg9.view.read (Elt F) (arg9.view.writes (Elt F) f9 (pb_k0_t1 (F := F) 𝒱 c bd i arg2 harg2 arg3 harg3 arg4 harg4 arg5 harg5 arg6 harg6 arg7 harg7 arg8 harg8 arg9 harg9 X7 k0_t1_loop.trips)) = castW (arg7.view.read (Elt F) X7) := by
  obtain ⟨h1, h3⟩ := pieces_upto (F := F) 𝒱 c bd i arg2 harg2 arg3 harg3 arg4 harg4 arg5 harg5 arg6 harg6 arg7 harg7 arg8 harg8 arg9 harg9 X7 k0_t1_loop.trips le_rfl
  have hr : ∀ y : S7168x512.Idx, (y 0).val < 512 * k0_t1_loop.trips := fun y => by
    rw [trips_eq]; exact (y 0).isLt
  exact funext fun y => View.read_writes_apply_of_pieces _ _ _ _ h1 y (h3 y (hr y))

/-! ## The output block -/

/-- The first `R` rows of the row block. -/
def top (R : ℕ) (hR : R ≤ 512) (x : Vec F S512x7168 .bf16) : Vec F (⟨2, ![R, 7168]⟩ : Shape) .bf16 :=
  fun y => x (ix2 ⟨(y 0).val, lt_of_lt_of_le (y 0).isLt hR⟩ (y 1))

/-- A block whose first `R` rows are `p` and whose other rows are zero. -/
def rowsOut (R : ℕ) (p : Vec F (⟨2, ![R, 512]⟩ : Shape) .f32) : Vec F S512x512 .f32 :=
  fun y => if h : (y 0).val < R then p (ix2 ⟨(y 0).val, h⟩ (y 1)) else (Scalar.ofBits .f32 0x00000000#32 : F .f32)

/-- What the body leaves in the output block where `q` quarters of the tile hold rows. -/
def outV (q : ℕ) (x : Vec F S512x7168 .bf16) (w : Vec F S7168x512 .bf16) : Vec F S512x512 .f32 :=
  match q with
  | 0 => k0_pay7
  | 1 => rowsOut 128 (k0_pay8 (top 128 (by decide) x) w)
  | 2 => rowsOut 256 (k0_pay1 (top 256 (by decide) x) w)
  | 3 => rowsOut 384 (k0_pay3 (top 384 (by decide) x) w)
  | _ => k0_pay5 x w

theorem readAt_top (R : ℕ) (hR : R ≤ 512) (M : Memref sig .tc .vmem S512x7168 .bf16) (f : BufTy.Contents (Elt F) M.view.ty)
    (inb : ∀ a : Fin 2, (![0, 0] : Fin 2 → ℕ) a + (⟨2, ![R, 7168]⟩ : Shape).size a ≤ S512x7168.size a) :
    M.view.readAt (Elt F) (Rect.unit (s := S512x7168) ![0, 0] (⟨2, ![R, 7168]⟩ : Shape).size inb).toLoadRect f = top R hR (M.view.read (Elt F) f) := by
  funext y
  refine congrArg (M.view.read (Elt F) f) (funext fun a => Fin.ext ?_)
  fin_cases a
  · show 0 + 1 * (y 0).val = (y 0).val; omega
  · show 0 + 1 * (y 1).val = (y 1).val; omega

/-- Two stores, of the first rows and of the zeros below them, read back. -/
theorem read_two (R R' : ℕ) (hR : R + R' = 512) (v : View sig .tc .vmem S512x512 .f32) (f : v.ty.Contents (Elt F))
    (inb : ∀ a : Fin 2, (![0, 0] : Fin 2 → ℕ) a + (⟨2, ![R, 512]⟩ : Shape).size a ≤ S512x512.size a)
    (inb' : ∀ a : Fin 2, (![R, 0] : Fin 2 → ℕ) a + (⟨2, ![R', 512]⟩ : Shape).size a ≤ S512x512.size a)
    (p : Vec F (⟨2, ![R, 512]⟩ : Shape) .f32) :
    v.read (Elt F) (v.writes (Elt F) f [⟨Rect.unit (s := S512x512) ![R, 0] (⟨2, ![R', 512]⟩ : Shape).size inb', (broadcast _ (Scalar.ofBits .f32 0x00000000#32 : F .f32) : FVec F (⟨2, ![R', 512]⟩ : Shape) .f32)⟩, ⟨Rect.unit (s := S512x512) ![0, 0] (⟨2, ![R, 512]⟩ : Shape).size inb, p⟩])
      = rowsOut R p := by
  funext y
  have hy : (y 0).val < 512 := (y 0).isLt
  by_cases h : (y 0).val < R
  · rw [View.read_writes_cons_rows_of_not_mem (W := R') v f inb' _ _ y rfl rfl (.inl h)]
    refine (View.read_writes_cons_rows_of_mem v f inb p [] y (ix2 ⟨(y 0).val, h⟩ (y 1)) rfl (Nat.zero_add _).symm rfl).trans ?_
    unfold rowsOut; rw [dif_pos h]
  · refine (View.read_writes_cons_rows_of_mem v f inb' _ _ y (ix2 ⟨(y 0).val - R, by omega⟩ (y 1)) rfl (by show (y 0).val = R + ((y 0).val - R); omega) rfl).trans ?_
    unfold rowsOut; rw [dif_neg h]; rfl

end Cert.Kernel3Ideal.Dn

end
-- ==== Proof.DnBody.lean ====
/- One run of the body, at any grid point and any words of the tables: where the expert changes the weight block is
   rounded into the scratch buffer, and the output block holds the product of the tile's live quarters. -/
module

public import proofs.«01_k».proof.Proof.DnCast

@[expose] public section

set_option maxRecDepth 16384

noncomputable section

namespace Cert.Kernel3Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ (UR sig nD τ) ℕ

/-- The tile's own expert, the expert of the tile before it, and the tile's count of rows, as the body reads them. -/
abbrev teNow (c : Dev nD) (i : grid0.Coords) (f : Buf (Elt F) (mT0.view.loc (c : Thread nD τ))) : BitVec 32 :=
  View.readAt (Elt F) mT0.view (Rect.unit (s := S72) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S72) (k0_off2 i) S1.size (k0_off2_inb i)).toLoadRect f (Shape.Idx.first (show 0 < S1.numel from by decide))
abbrev vaNow (c : Dev nD) (i : grid0.Coords) (f : Buf (Elt F) (mT3.view.loc (c : Thread nD τ))) : BitVec 32 :=
  View.readAt (Elt F) mT3.view (Rect.unit (s := S72) (k0_off5 i) S1.size (k0_off5_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

/-- Of the body's five conditionals on the count of rows exactly number `q` is taken. -/
structure Quarter (w : BitVec 32) (q : ℕ) : Prop where
  c2 : k0_cond2 w = 1#1 ↔ q = 0
  c3 : k0_cond3 w = 1#1 ↔ q = 1
  c4 : k0_cond4 w = 1#1 ↔ q = 2
  c5 : k0_cond5 w = 1#1 ↔ q = 3
  c6 : k0_cond6 w = 1#1 ↔ q = 4

section Fin

variable {v9 : View sig .tc .vmem S512x512 .f32} (f : v9.ty.Contents (Elt F)) {M : Memref sig .tc .vmem S512x7168 .bf16} (fx : BufTy.Contents (Elt F) M.view.ty)
  {u : Memref sig .tc .vmem S7168x512 .bf16} {g : BufTy.Contents (Elt F) u.view.ty}
  {x : Vec F S512x7168 .bf16} {w : Vec F S7168x512 .bf16}

/-- A weight copy as the body loads it. -/
abbrev ldW (u : Memref sig .tc .vmem S7168x512 .bf16) (g : BufTy.Contents (Elt F) u.view.ty) : Vec F S7168x512 .bf16 :=
  u.view.readAt (Elt F) (Rect.unit (s := S7168x512) ![0, 0] S7168x512.size inb_S7168x512_S7168x512_0_0).toLoadRect g

theorem ldW_eq {u : Memref sig .tc .vmem S7168x512 .bf16} {g : BufTy.Contents (Elt F) u.view.ty} {w : Vec F S7168x512 .bf16}
    (h : u.view.read (Elt F) g = w) : ldW u g = w := (View.readAt_full u.view g _).trans h

/-- A store of the whole output block, read back. -/
theorem read_one (p : Vec F S512x512 .f32) :
    v9.read (Elt F) (v9.writes (Elt F) f [⟨Rect.unit (s := S512x512) ![0, 0] S512x512.size inb_S512x512_S512x512_0_0, p⟩]) = p :=
  funext fun y => View.read_writes_cons_rows_of_mem v9 f inb_S512x512_S512x512_0_0 p [] y y rfl (Nat.zero_add _).symm rfl

theorem fin0 (x : Vec F S512x7168 .bf16) (w : Vec F S7168x512 .bf16) :
    v9.read (Elt F) (v9.writes (Elt F) f [⟨Rect.unit (s := S512x512) ![0, 0] S512x512.size inb_S512x512_S512x512_0_0, k0_pay7 (F := F)⟩]) = outV 0 x w :=
  read_one f _

theorem fin1 (hx : M.view.read (Elt F) fx = x) (h0 : u.view.read (Elt F) g = w) :
    v9.read (Elt F) (v9.writes (Elt F) f [⟨Rect.unit (s := S512x512) ![128, 0] S384x512.size inb_S512x512_S384x512_128_0, k0_pay9 (F := F)⟩,
        ⟨Rect.unit (s := S512x512) ![0, 0] S128x512.size inb_S512x512_S128x512_0_0, k0_pay8 (M.view.readAt (Elt F) (Rect.unit (s := S512x7168) ![0, 0] S128x7168.size inb_S512x7168_S128x7168_0_0).toLoadRect fx) (ldW u g)⟩])
      = outV 1 x w := by
  rw [ldW_eq h0, readAt_top 128 (by decide), hx]
  exact read_two 128 384 rfl v9 f _ _ _

theorem fin2 (hx : M.view.read (Elt F) fx = x) (h0 : u.view.read (Elt F) g = w) :
    v9.read (Elt F) (v9.writes (Elt F) f [⟨Rect.unit (s := S512x512) ![256, 0] S256x512.size inb_S512x512_S256x512_256_0, k0_pay2 (F := F)⟩,
        ⟨Rect.unit (s := S512x512) ![0, 0] S256x512.size inb_S512x512_S256x512_0_0, k0_pay1 (M.view.readAt (Elt F) (Rect.unit (s := S512x7168) ![0, 0] S256x7168.size inb_S512x7168_S256x7168_0_0).toLoadRect fx) (ldW u g)⟩])
      = outV 2 x w := by
  rw [ldW_eq h0, readAt_top 256 (by decide), hx]
  exact read_two 256 256 rfl v9 f _ _ _

theorem fin3 (hx : M.view.read (Elt F) fx = x) (h0 : u.view.read (Elt F) g = w) :
    v9.read (Elt F) (v9.writes (Elt F) f [⟨Rect.unit (s := S512x512) ![384, 0] S128x512.size inb_S512x512_S128x512_384_0, k0_pay4 (F := F)⟩,
        ⟨Rect.unit (s := S512x512) ![0, 0] S384x512.size inb_S512x512_S384x512_0_0, k0_pay3 (M.view.readAt (Elt F) (Rect.unit (s := S512x7168) ![0, 0] S384x7168.size inb_S512x7168_S384x7168_0_0).toLoadRect fx) (ldW u g)⟩])
      = outV 3 x w := by
  rw [ldW_eq h0, readAt_top 384 (by decide), hx]
  exact read_two 384 128 rfl v9 f _ _ _

theorem fin4 (hx : M.view.read (Elt F) fx = x) (h0 : u.view.read (Elt F) g = w) :
    v9.read (Elt F) (v9.writes (Elt F) f [⟨Rect.unit (s := S512x512) ![0, 0] S512x512.size inb_S512x512_S512x512_0_0, k0_pay5 (M.view.readAt (Elt F) (Rect.unit (s := S512x7168) ![0, 0] S512x7168.size inb_S512x7168_S512x7168_0_0).toLoadRect fx) (ldW u g)⟩])
      = outV 4 x w := by
  rw [ldW_eq h0, View.readAt_full, hx]
  exact read_one f _

end Fin

variable (c : Dev nD) (i : grid0.Coords) (arg6 : Memref sig .tc .vmem S512x7168 .bf16) (harg6 : arg6.IsWhole) (arg7 : Memref sig .tc .vmem S1x7168x512 .f32) (harg7 : arg7.IsWhole) (arg8 : Memref sig .tc .vmem S512x512 .f32) (harg8 : arg8.IsWhole)
    (x0 : Vec F S512x7168 .bf16) (x1 : Vec F S1x7168x512 .f32)
    (xt0 : Buf (Elt F) (mT0.view.loc (c : Thread nD τ))) (xt3 : Buf (Elt F) (mT3.view.loc (c : Thread nD τ)))

/-- What the body holds while it runs: the two input blocks, the output block, the scratch buffer, the two tables. -/
abbrev Held (out : sProp 𝕄) (s : Vec F S7168x512 .bf16) : sProp 𝕄 :=
  iprop(owns (c : Thread nD τ) arg6 fullShare x0 ∗ owns (c : Thread nD τ) arg7 fullShare x1 ∗ out ∗ owns (c : Thread nD τ) scr0 fullShare s ∗ tabPt c mT0 xt0 ∗ tabPt c mT3 xt3)

set_option maxHeartbeats 4000000 in
theorem body_run (s w : Vec F S7168x512 .bf16) (q : ℕ) (hq : q < 5) (hQ : Quarter (vaNow c i xt3) q)
    (hw : Chg i (teNow c i xt0) (tePrev c i xt0) → w = castW x1) (hs : ¬Chg i (teNow c i xt0) (tePrev c i xt0) → w = s) (E : Set ℕ) :
    Held c arg6 arg7 x0 x1 xt0 xt3 (iprop(∃ d, owns (c : Thread nD τ) arg8 fullShare d)) s
      ⊢ wp frame (wpE (defs₀ (F := F)) Variants.none c none) E (cc0_matmul i mT0 (Memref.isWhole_whole _) mT1 (Memref.isWhole_whole _) mT2 (Memref.isWhole_whole _) mT3 (Memref.isWhole_whole _) arg6 harg6 arg7 harg7 arg8 harg8 scr0 (Memref.isWhole_whole _))
          (fun _ => Held c arg6 arg7 x0 x1 xt0 xt3 (owns (c : Thread nD τ) arg8 fullShare (outV q x0 w)) w) := by
  simp only [cc0_matmul_eq_skeleton]; unfold cc0_matmul_skel
  simp only [k0_part1_eq_skeleton]
  unfold Held owns
  iintro ⟨⟨%f0, %hf0, H0⟩, ⟨%f1, %hf1, H1⟩, ⟨%d3, %f3, -, H3⟩, ⟨%fs, %hfs, HS⟩, HT0, HT3⟩
  obtain ⟨c2, c3, c4, c5, c6⟩ := hQ
  by_cases hC : Chg i (teNow c i xt0) (tePrev c i xt0)
  · have hL := loop_read (F := F) Variants.none c none i mT0 (Memref.isWhole_whole _) mT1 (Memref.isWhole_whole _) mT2 (Memref.isWhole_whole _) mT3 (Memref.isWhole_whole _) arg6 harg6 arg7 harg7 arg8 harg8 scr0 (Memref.isWhole_whole _) f1 fs
    have e0 := hL.trans ((congrArg castW hf1).trans (hw hC).symm)
    rcases (by omega : q = 0 ∨ q = 1 ∨ q = 2 ∨ q = 3 ∨ q = 4) with rfl | rfl | rfl | rfl | rfl
    all_goals
      simp only [reduceCtorEq, Nat.reduceEqDiff, OfNat.ofNat_ne_zero, OfNat.zero_ne_ofNat, OfNat.ofNat_ne_one, OfNat.one_ne_ofNat, one_ne_zero, zero_ne_one, iff_true, iff_false] at c2 c3 c4 c5 c6
      sl_exec
      sl_step
      isplitl [H0]; · iexists _; isplitr; swap; iexact H0; ipureintro; exact hf0
      isplitl [H1]; · iexists _; isplitr; swap; iexact H1; ipureintro; exact hf1
      isplitl [H3]
      rotate_left
      · isplitl [HS]; · iexists _; isplitr; swap; iexact HS; ipureintro; exact e0
        isplitl [HT0]; · iexact HT0
        iexact HT3
      iexists _; isplitr; swap; iexact H3; ipureintro
    · exact fin0 _ _ _
    · exact fin1 _ _ hf0 e0
    · exact fin2 _ _ hf0 e0
    · exact fin3 _ _ hf0 e0
    · exact fin4 _ _ hf0 e0
  · have e0 := hfs.trans (hs hC).symm
    rcases (by omega : q = 0 ∨ q = 1 ∨ q = 2 ∨ q = 3 ∨ q = 4) with rfl | rfl | rfl | rfl | rfl
    all_goals
      simp only [reduceCtorEq, Nat.reduceEqDiff, OfNat.ofNat_ne_zero, OfNat.zero_ne_ofNat, OfNat.ofNat_ne_one, OfNat.one_ne_ofNat, one_ne_zero, zero_ne_one, iff_true, iff_false] at c2 c3 c4 c5 c6
      sl_exec
      sl_step
      isplitl [H0]; · iexists _; isplitr; swap; iexact H0; ipureintro; exact hf0
      isplitl [H1]; · iexists _; isplitr; swap; iexact H1; ipureintro; exact hf1
      isplitl [H3]
      rotate_left
      · isplitl [HS]; · iexists _; isplitr; swap; iexact HS; ipureintro; exact e0
        isplitl [HT0]; · iexact HT0
        iexact HT3
      iexists _; isplitr; swap; iexact H3; ipureintro
    · exact fin0 _ _ _
    · exact fin1 _ _ hf0 e0
    · exact fin2 _ _ hf0 e0
    · exact fin3 _ _ hf0 e0
    · exact fin4 _ _ hf0 e0

end Cert.Kernel3Ideal.Dn

end
-- ==== Proof.DnWord.lean ====
/- The words the experts' second product reads from its tables, and what the grid's points make of them. -/
module

public import proofs.«01_k».proof.Proof.DnBody
public import proofs.«01_k».proof.Proof.SwWord

@[expose] public section

set_option maxRecDepth 16384

noncomputable section

namespace Cert.Kernel3Ideal.Dn

open Idealize.ShloMosaic Idealize.ShloMosaic.TcCoe Idealize.ShloMosaic.Tactic
open Gen
open Cert.Kernel2Ideal.Sw (qOf qOf_lt back_word min_word)

variable {F : FTy → Type} [FloatOps F] (m : (ℓ : Loc nD τ sig) → Buf (Elt F) ℓ)

/-- Tile `k`'s expert, the number of tiles in use, tile `k`'s count of rows. -/
def teAt (k : Fin 72) : BitVec 32 := (tbl m 0 : IVec S72 32) (ix1 k)
def usAt : BitVec 32 := (tbl m 2 : IVec S1 32) (ix1 0)
def vaAt (k : Fin 72) : BitVec 32 := (tbl m 3 : IVec S72 32) (ix1 k)

/-- What the plan says of the tables. -/
structure Plan : Prop where
  te_lt : ∀ k, (teAt m k).toNat < 8
  us_pos : 1 ≤ (usAt m).toNat
  us_le : (usAt m).toNat ≤ 72
  va_le : ∀ k, (vaAt m k).toNat ≤ 512
  live : ∀ k : Fin 72, vaAt m k ≠ 0#32 → k.val < (usAt m).toNat

/-! ## Coordinates -/

theorem toNat_coord (i : grid0.Coords) : (BitVec.ofNat 32 (i 1).val).toNat = (i 1).val :=
  (BitVec.toNat_ofNat _ _).trans (Nat.mod_eq_of_lt (lt_trans (i 1).isLt (by decide)))

theorem toNat_coord0 (i : grid0.Coords) : (BitVec.ofNat 32 (i 0).val).toNat = (i 0).val :=
  (BitVec.toNat_ofNat _ _).trans (Nat.mod_eq_of_lt (lt_trans (i 0).isLt (by decide)))

/-- The tile of a point, and the tile before it (the first tile's is itself). -/
abbrev tile (i : grid0.Coords) : Fin 72 := i 1
abbrev tileBack (i : grid0.Coords) : Fin 72 := ⟨(i 1).val - 1, lt_of_le_of_lt (Nat.sub_le _ _) (i 1).isLt⟩

theorem off1_eq (i : grid0.Coords) : k0_off1 i 0 = (i 1).val := toNat_coord i
theorem off5_eq (i : grid0.Coords) : k0_off5 i 0 = (i 1).val := toNat_coord i

theorem off2_eq (i : grid0.Coords) : k0_off2 i 0 = (i 1).val - 1 := back_word (i 1)

theorem teNow_eq (c : Dev nD) (i : grid0.Coords) : teNow c i (tbl m 0) = teAt m (tile i) := by
  exact congrArg (tbl m 0 : IVec S72 32) (funext fun a : Fin 1 => by
    obtain rfl : a = 0 := Subsingleton.elim a 0
    exact Fin.ext ((Nat.add_zero _).trans (off1_eq i)))

theorem tePrev_eq (c : Dev nD) (i : grid0.Coords) : tePrev c i (tbl m 0) = teAt m (tileBack i) := by
  exact congrArg (tbl m 0 : IVec S72 32) (funext fun a : Fin 1 => by
    obtain rfl : a = 0 := Subsingleton.elim a 0
    exact Fin.ext ((Nat.add_zero _).trans (off2_eq i)))

theorem vaNow_eq (c : Dev nD) (i : grid0.Coords) : vaNow c i (tbl m 3) = vaAt m (tile i) := by
  exact congrArg (tbl m 3 : IVec S72 32) (funext fun a : Fin 1 => by
    obtain rfl : a = 0 := Subsingleton.elim a 0
    exact Fin.ext ((Nat.add_zero _).trans (off5_eq i)))

/-! ## Conditions -/

theorem quarter_words : ∀ n : Fin 513, (k0_cond2 (BitVec.ofNat 32 n.val) = 1#1 ↔ (n.val + 127) / 128 = 0) ∧ (k0_cond3 (BitVec.ofNat 32 n.val) = 1#1 ↔ (n.val + 127) / 128 = 1)
    ∧ (k0_cond4 (BitVec.ofNat 32 n.val) = 1#1 ↔ (n.val + 127) / 128 = 2) ∧ (k0_cond5 (BitVec.ofNat 32 n.val) = 1#1 ↔ (n.val + 127) / 128 = 3)
    ∧ (k0_cond6 (BitVec.ofNat 32 n.val) = 1#1 ↔ (n.val + 127) / 128 = 4) := by
  decide +kernel

theorem quarter_of {w : BitVec 32} (h : w.toNat ≤ 512) : Quarter w (qOf w) := by
  have := quarter_words ⟨w.toNat, Nat.lt_succ_of_le h⟩
  simp only [BitVec.ofNat_toNat, BitVec.setWidth_eq] at this
  exact ⟨this.1, this.2.1, this.2.2.1, this.2.2.2.1, this.2.2.2.2⟩

/-- No change of expert: not the first tile, and the tile's expert is that of the tile before. -/
theorem of_not_chg {i : grid0.Coords} {a b : BitVec 32} (h : ¬Chg i a b) : (i 1).val ≠ 0 ∧ a = b := by
  have key : ∀ p q : BitVec 1, ¬(Scalar.cmpi .ne (Scalar.extui (Scalar.ori p q) : BitVec 32) 0#32 = 1#1) → p = 0#1 ∧ q = 0#1 := by decide
  have hk := key _ _ h
  refine ⟨fun h0 => ?_, ?_⟩
  · have := hk.1
    rw [h0] at this
    exact absurd this (by decide)
  · by_contra hab
    have : Scalar.cmpi .ne a b = 1#1 := by
      show BitVec.ofBool (a != b) = 1#1
      rw [bne_iff_ne.mpr hab]; rfl
    exact absurd (this.symm.trans hk.2) (by decide)

theorem chg_first {i : grid0.Coords} (a b : BitVec 32) (h : (i 1).val = 0) : Chg i a b := by
  by_contra hc
  exact (of_not_chg hc).1 h

/-! ## Points -/

theorem coord1 (t : Fin grid0.N) : (grid0.coords t 1).val = t.val % 72 := by
  have := Pipeline.Grid.coords_val t 1 (S := 1) (B := 72) (by decide) rfl
  simpa using this

theorem coord0 (t : Fin grid0.N) : (grid0.coords t 0).val = t.val / 72 := by
  have h := Pipeline.Grid.coords_val t 0 (S := 72) (B := 4) (by decide) rfl
  have ht : t.val < 288 := t.isLt
  rw [h]; omega

theorem transform1_eq (i : grid0.Coords) : cc0_transform_1 k0_off1_inb numel1_S1 (tbl m) i = ![(teAt m (tile i)).toNat, 0, (i 0).val] := by
  have h1 : (tbl m).at 0 (Rect.unit (s := S72) (k0_off1 i) S1.size (k0_off1_inb i)) numel1_S1 = teAt m (tile i) := teNow_eq m 0 i
  have h0 : (Scalar.addi 0#32 (BitVec.ofNat 32 (i 0).val) : BitVec 32).toNat = (i 0).val := by
    rw [show (Scalar.addi 0#32 (BitVec.ofNat 32 (i 0).val) : BitVec 32) = BitVec.ofNat 32 (i 0).val from BitVec.zero_add _]
    exact toNat_coord0 i
  funext a
  match a with
  | ⟨0, _⟩ => exact congrArg BitVec.toNat h1
  | ⟨1, _⟩ => rfl
  | ⟨2, _⟩ => exact h0

/-- The row block fetched for a tile: its own, or the last in use. -/
def rowTile (i : grid0.Coords) : ℕ := min (i 1).val ((usAt m).toNat - 1)

theorem transform0_eq (hP : Plan m) (i : grid0.Coords) : cc0_transform_0 inb_S1_S1_0 numel1_S1 (tbl m) i = ![rowTile m i, 0] := by
  have h1 : (tbl m).at 2 (Rect.unit (s := S1) ![0] S1.size inb_S1_S1_0) numel1_S1 = usAt m := by
    exact congrArg (tbl m 2 : IVec S1 32) (funext fun a : Fin 1 => by
      obtain rfl : a = 0 := Subsingleton.elim a 0
      rfl)
  funext a
  match a with
  | ⟨0, _⟩ =>
    have := min_word (i 1) ⟨(usAt m).toNat, Nat.lt_succ_of_le hP.us_le⟩ hP.us_pos
    simp only [BitVec.ofNat_toNat, BitVec.setWidth_eq] at this
    exact (congrArg (fun u => (Scalar.minsi (BitVec.ofNat 32 (i 1).val) (Scalar.subi u 1#32) : BitVec 32).toNat) h1).trans this
  | ⟨1, _⟩ => rfl

theorem transform2_eq (i : grid0.Coords) : cc0_transform_2 i = ![(i 1).val, (i 0).val] := by
  funext a
  match a with
  | ⟨0, _⟩ => exact toNat_coord i
  | ⟨1, _⟩ => exact toNat_coord0 i

/-! ## The side condition -/

theorem rowTile_lt (i : grid0.Coords) : rowTile m i < 72 := lt_of_le_of_lt (Nat.min_le_left _ _) (i 1).isLt

theorem inside1 (hP : Plan m) (i : grid0.Coords) (a : Fin 3) :
    (cc0_transform_1 k0_off1_inb numel1_S1 (tbl m) i a + 1) * S1x7168x512.size a ≤ S8x7168x2048.size a := by
  rw [transform1_eq]
  have h0 := hP.te_lt (tile i)
  have h2 : (i 0).val < 4 := (i 0).isLt
  match a with
  | ⟨0, _⟩ => show ((teAt m (tile i)).toNat + 1) * 1 ≤ 8; omega
  | ⟨1, _⟩ => show (0 + 1) * 7168 ≤ 7168; omega
  | ⟨2, _⟩ => show ((i 0).val + 1) * 512 ≤ 2048; omega

theorem inside0 (hP : Plan m) (i : grid0.Coords) (a : Fin 2) :
    (cc0_transform_0 inb_S1_S1_0 numel1_S1 (tbl m) i a + 1) * S512x7168.size a ≤ S36864x7168.size a := by
  rw [transform0_eq m hP]
  have h0 := rowTile_lt m i
  match a with
  | ⟨0, _⟩ => show (rowTile m i + 1) * 512 ≤ 36864; omega
  | ⟨1, _⟩ => show (0 + 1) * 7168 ≤ 7168; omega

/-- Under the plan every window's block lies inside its array. -/
theorem ok_of_plan (hP : Plan m) : Ok m :=
  ⟨fun i => ⟨inside0 m hP i, .inr (Affine.block_words_dvd (of_decide_eq_true rfl) (by decide))⟩,
    fun i => ⟨inside1 m hP i, .inl rfl⟩⟩

end Cert.Kernel3Ideal.Dn

end
-- ==== Proof.DnRun.lean ====
/- The whole run of the experts' second product: the weight copy is followed from point to point, at each of the grid's
   points the output block is what one run of the body leaves, and the argument arrays end as launched. -/
module

public import proofs.«01_k».proof.Proof.DnWord

@[expose] public section

set_option maxRecDepth 16384

noncomputable section

namespace Cert.Kernel3Ideal.Dn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen
open Cert.Kernel2Ideal.Sw (qOf qOf_lt)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the windows read at a point, with their own types; the weight block rounded. -/
abbrev xBlk (hO : Ok m) (c : Dev nD) (t : Fin (cfgM m hO).N) : Vec F S512x7168 .bf16 := iblk m hO c 0 t
abbrev wBlk (hO : Ok m) (c : Dev nD) (t : Fin (cfgM m hO).N) : Vec F S7168x512 .bf16 := castW (iblk m hO c 1 t)

/-- The output block after the body at a point. -/
abbrev outBlk (hO : Ok m) (c : Dev nD) (t : Fin (cfgM m hO).N) : Vec F S512x512 .f32 :=
  outV (qOf (vaAt m (tile (grid0.coords t)))) (xBlk m hO c t) (wBlk m hO c t)

/-- The point before a point that is not the first. -/
abbrev prev (hO : Ok m) (n : ℕ) (h : n < (cfgM m hO).N + 1) (h0 : n ≠ 0) : Fin (cfgM m hO).N := ⟨n - 1, by omega⟩

/-- What is held between points: at the start the scratch buffer at anything, later the weight copy of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(owns (c : Thread nD τ) scr0 fullShare (wBlk m hO c (prev m hO n hn h))
    ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlk m hO c t
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outBlk m hO c t := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2 (after_1 m hO c) t d

/-! ## The weight blocks of two points with the same expert and column -/

/-- A weight block's place in its array, from the block's index. -/
def wIdx (i : Fin 3 → ℕ) (h : ∀ a, (i a + 1) * S1x7168x512.size a ≤ S8x7168x2048.size a) (y : S1x7168x512.Idx) : S8x7168x2048.Idx :=
  fun (a : Fin 3) => (⟨i a * S1x7168x512.size a + 1 * (y a).val, by
    have h1 := h a; have h2 : (y a).val < S1x7168x512.size a := (y a).isLt
    rw [Nat.add_mul, one_mul] at h1; omega⟩ : Fin (S8x7168x2048.size a))

theorem iblk1_at (hO : Ok m) (c : Dev nD) (t : Fin (cfgM m hO).N) (y : S1x7168x512.Idx) :
    (iblk m hO c 1 t : Vec F S1x7168x512 .f32) y
      = (V m c main_arg5 : Vec F S8x7168x2048 .f32) (wIdx (cc0_transform_1 k0_off1_inb numel1_S1 (tbl m) (grid0.coords t)) (hO.2 (grid0.coords t)).fst y) := rfl

theorem wIdx_congr {i j : Fin 3 → ℕ} (h : i = j) (hi : ∀ a, (i a + 1) * S1x7168x512.size a ≤ S8x7168x2048.size a) (hj) (y : S1x7168x512.Idx) :
    wIdx i hi y = wIdx j hj y := by subst h; rfl

theorem iblk_same (hO : Ok m) (c : Dev nD) (t u : Fin (cfgM m hO).N)
    (h : cc0_transform_1 k0_off1_inb numel1_S1 (tbl m) (grid0.coords t) = cc0_transform_1 k0_off1_inb numel1_S1 (tbl m) (grid0.coords u)) :
    wBlk m hO c t = wBlk m hO c u :=
  congrArg castW (funext fun y => (iblk1_at m hO c t y).trans ((congrArg (V m c main_arg5 : Vec F S8x7168x2048 .f32) (wIdx_congr h _ _ y)).trans (iblk1_at m hO c u y).symm))

/-- Where the expert does not change, the block is the one of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    wBlk m hO c t = wBlk m hO c (prev m hO t.val (lt_trans t.isLt (Nat.lt_succ_self _)) h0) := by
  obtain ⟨h1, he⟩ := of_not_chg hC
  rw [teNow_eq, tePrev_eq] at he
  apply iblk_same
  rw [transform1_eq, transform1_eq]
  have c1 := coord1 t
  have c1' := coord1 (prev m hO t.val (lt_trans t.isLt (Nat.lt_succ_self _)) h0)
  have c0 := coord0 t
  have c0' := coord0 (prev m hO t.val (lt_trans t.isLt (Nat.lt_succ_self _)) h0)
  rw [c1] at h1
  have e0 : (grid0.coords t 0).val = (grid0.coords (prev m hO t.val (lt_trans t.isLt (Nat.lt_succ_self _)) h0) 0).val := by
    rw [c0, c0']; show t.val / 72 = (t.val - 1) / 72; omega
  have e1 : tileBack (grid0.coords t) = tile (grid0.coords (prev m hO t.val (lt_trans t.isLt (Nat.lt_succ_self _)) h0)) := by
    apply Fin.ext
    show (grid0.coords t 1).val - 1 = (grid0.coords (prev m hO t.val (lt_trans t.isLt (Nat.lt_succ_self _)) h0) 1).val
    rw [c1, c1']; show t.val % 72 - 1 = (t.val - 1) % 72; omega
  rw [he, e0, e1]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

theorem quarter_now (hV : ∀ k, (vaAt m k).toNat ≤ 512) (c : Dev nD) (i : grid0.Coords) :
    Quarter (vaNow c i (tbl m 3)) (qOf (vaAt m (tile i))) :=
  (congrArg (fun w => Quarter w (qOf (vaAt m (tile i)))) (vaNow_eq m c i)).mpr (quarter_of (hV _))

/-- One run of the body between two points, the scratch buffer entered at `s`. -/
theorem point_run (hO : Ok m) (hV : ∀ k, (vaAt m k).toNat ≤ 512) (c : Dev nD) (t : Fin (cfgM m hO).N) (s : Vec F S7168x512 .bf16)
    (hs : ¬Chg (grid0.coords t) (teNow c (grid0.coords t) (tbl m 0)) (tePrev c (grid0.coords t) (tbl m 0)) → wBlk m hO c t = s) :
    Held c (ms0 m hO t) (ms1 m hO t) (xBlk m hO c t) (iblk m hO c 1 t) (tbl m 0) (tbl m 3) (iprop(∃ d, owns (c : Thread nD τ) (ms2 m hO t) fullShare d)) s
      ⊢ wp frame (wpE (defs₀ (F := F)) Variants.none c none) Set.univ (bodyAt (adm m hO) t)
          (fun _ => Held c (ms0 m hO t) (ms1 m hO t) (xBlk m hO c t) (iblk m hO c 1 t) (tbl m 0) (tbl m 3) (owns (c : Thread nD τ) (ms2 m hO t) fullShare (outBlk m hO c t)) (wBlk m hO c t)) :=
  body_run c (grid0.coords t) (ms0 m hO t) _ (ms1 m hO t) _ (ms2 m hO t) _ (xBlk m hO c t) (iblk m hO c 1 t) (tbl m 0) (tbl m 3) s (wBlk m hO c t) (qOf (vaAt m (tile (grid0.coords t))))
    (qOf_lt (hV _)) (quarter_now m hV c _) (fun _ => rfl) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(owns (c : Thread nD τ) scr0 fullShare (wBlk m hO c (prev m hO n hn h))
      ∗ (∃ r, prngReg c r)) ∗ Pipeline.ΦT pre0 (tbl m) c) := dif_neg h

theorem inv_succ (hO : Ok m) (c : Dev nD) (t : Fin (cfgM m hO).N) :
    inv m hO c t.succ = iprop(iprop(owns (c : Thread nD τ) scr0 fullShare (wBlk m hO c t)
      ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

theorem inv_cast (hO : Ok m) (c : Dev nD) (t : Fin (cfgM m hO).N) (h0 : t.val ≠ 0) :
    inv m hO c t.castSucc = iprop(iprop(owns (c : Thread nD τ) scr0 fullShare (wBlk m hO c (prev m hO t.val (lt_trans t.isLt (Nat.lt_succ_self _)) h0))
      ∗ (∃ r, prngReg c r)) ∗ Pipeline.ΦT pre0 (tbl m) c) :=
  (inv_val m hO c t.castSucc t.val (lt_trans t.isLt (Nat.lt_succ_self _)) (Fin.val_castSucc t)).trans (invN_pos m hO c t.val _ h0)

theorem inv_first (hO : Ok m) (c : Dev nD) (t : Fin (cfgM m hO).N) (h0 : t.val = 0) :
    inv m hO c t.castSucc = iprop(Pipeline.ΦA spec0 c ∗ Pipeline.ΦT pre0 (tbl m) c) :=
  (inv_val m hO c t.castSucc t.val (lt_trans t.isLt (Nat.lt_succ_self _)) (Fin.val_castSucc t)).trans (invN_zero m hO c t.val _ h0)

theorem sound_body (hO : Ok m) (hV : ∀ k, (vaAt m k).toNat ≤ 512) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1]
  rw [show (dats m hO 0 c).owesAt () t.succ = (dats m hO 0 c).owesAt () t.castSucc from rfl, after_0, after_1, after_2,
    show (dats m hO 0 c).Φ t.succ = inv m hO c t.succ from rfl, show (dats m hO 0 c).Φ t.castSucc = inv m hO c t.castSucc from rfl, inv_succ, tables_eq]
  by_cases h0 : t.val = 0
  · rw [inv_first m hO c t h0, own_eq, tables_eq]
    iintro ⟨⟨⟨⟨%s0, HS0⟩, Hg⟩, ⟨HT0, HT1, HT2, HT3⟩⟩, Ho, ⟨%d0, H0⟩, ⟨%d1, H1⟩, ⟨%d2, H2⟩⟩
    iapply (wp_wand_r Idealize.ShloMosaic.frame (wpE (defs₀ (F := F)) Variants.none c none) Set.univ)
    isplitl [H0 H1 H2 HS0 HT0 HT3]
    · iapply (point_run m hO hV c t s0 (fun hC => absurd (chg_first _ _ (by rw [coord1, h0])) hC))
      isplitl [H0]; · iexact H0
      isplitl [H1]; · iexact H1
      isplitl [H2]; · iexists _; iexact H2
      isplitl [HS0]; · iexact HS0
      isplitl [HT0]; · iexact HT0
      iexact HT3
    iintro %_ ⟨H0, H1, H2, HS0, HT0, HT3⟩
    isplitl [HS0 Hg HT0 HT1 HT2 HT3]
    · isplitl [HS0 Hg]
      · isplitl [HS0]; · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    iexact H2
  · rw [inv_cast m hO c t h0, tables_eq]
    iintro ⟨⟨⟨HS0, Hg⟩, ⟨HT0, HT1, HT2, HT3⟩⟩, Ho, ⟨%d0, H0⟩, ⟨%d1, H1⟩, ⟨%d2, H2⟩⟩
    iapply (wp_wand_r Idealize.ShloMosaic.frame (wpE (defs₀ (F := F)) Variants.none c none) Set.univ)
    isplitl [H0 H1 H2 HS0 HT0 HT3]
    · iapply (point_run m hO hV c t _ (kept m hO c t h0))
      isplitl [H0]; · iexact H0
      isplitl [H1]; · iexact H1
      isplitl [H2]; · iexists _; iexact H2
      isplitl [HS0]; · iexact HS0
      isplitl [HT0]; · iexact HT0
      iexact HT3
    iintro %_ ⟨H0, H1, H2, HS0, HT0, HT3⟩
    isplitl [HS0 Hg HT0 HT1 HT2 HT3]
    · isplitl [HS0 Hg]
      · isplitl [HS0]; · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    iexact H2

/-- The output block is written back at every point. -/
theorem flush_2 (a : (pcfg0 (F := F)).Adm) (t : Fin (cfg0 a).N) : ((cfg0 a).win 2).flush t = true :=
  ((fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _) :
    ∀ t : Fin grid0.N, Pipeline.Window.flushOf grid0 true cc0_transform_2 t = true)) t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (hV : ∀ k, (vaAt m k).toNat ≤ 512) (c : Dev nD) :
    BodyObligation (dats (F := F) m hO 0 c) (defs₀ (F := F)) Variants.none () Set.univ := fun t => by
  rw [bigSep_W0, bigSep_W0, row_eq m hO]
  refine triple_restated (sound_body m hO hV c t) rfl .rfl fun _ => ?_
  unfold bodyPost
  refine sep_mono .rfl (sep_mono .rfl (sep_mono .rfl (sep_mono .rfl ?_)))
  exact written (F := F) ((cfgM m hO).idle 2 ((cfgM m hO).grid.coords t)) (((cfgM m hO).win 2).flush t) _ _ (flush_2 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨HS0, Hg⟩, -⟩
  isplitl [HS0]; · iexists _; iexact HS0
  iexact Hg

set_option backward.isDefEq.respectTransparency.types false in
/-- The launch: every run ends, the arrays as the proof data give them, every counter at zero. -/
theorem run_main (hO : Ok m) (hV : ∀ k, (vaAt m k).toNat ≤ 512) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hV c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero, whatever the tables under the plan. -/
theorem frame (hP : Plan m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨unchanged_of m (ok_of_plan m hP) (dats m (ok_of_plan m hP)) (A_eq m (ok_of_plan m hP)) r h.1, h.2⟩)
    (run_main m ρ (ok_of_plan m hP) hP.va_le)

end Cert.Kernel3Ideal.Dn

end
-- ==== Proof.DnPlan.lean ====
/- From the precondition on the tables to what the run of the experts' second product needs of their words. The
   conditions are those on the routed pair's tables, and are taken over from there. -/
module

public import proofs.«01_k».proof.Proof.DnRun
public import proofs.«01_k».proof.Proof.SwPlan
public import proofs.«01_k».proof.Proof.Gen.Pre_plan3

@[expose] public section

set_option maxRecDepth 16384

noncomputable section

namespace Cert.Kernel3Ideal.Dn

open Idealize.ShloMosaic Idealize.ShloMosaic.TcCoe Idealize.ShloMosaic.Tactic
open Gen
open Cert.Kernel2Ideal.Sw (te_of us_of va_of live_of)

variable {F : FTy → Type} [FloatOps F] (m : (ℓ : Loc nD τ sig) → Buf (Elt F) ℓ)

/-- Rows and weights to put in the places the conditions do not read. -/
abbrev anyRows : FVec F Pre_plan2.S36864x2048 .f32 := fun _ => Scalar.ofBits .f32 0x00000000#32
abbrev anyWeights : FVec F Pre_plan2.S8x2048x7168 .f32 := fun _ => Scalar.ofBits .f32 0x00000000#32

/-- The four tables, as launched. -/
abbrev exp : IVec S72 32 := m (((0 : Dev nD).tc : Thread nD τ).loc main_arg1)
abbrev row : IVec S72 32 := m (((0 : Dev nD).tc : Thread nD τ).loc main_arg2)
abbrev use : IVec S1 32 := m (((0 : Dev nD).tc : Thread nD τ).loc main_arg3)
abbrev cnt : IVec S72 32 := m (((0 : Dev nD).tc : Thread nD τ).loc main_arg4)

/-- The precondition at the kernel's arguments. -/
abbrev planAt [Cert.Pre_plan3.Facts] (c : Dev nD) :=
  Pre_plan3.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The precondition, in the kernel's memory. -/
theorem plan_of [Cert.Pre_plan2.Facts] [Cert.Pre_plan3.Facts]
    (h : ∀ c : Dev nD, (planAt m c).1 = (fun _ => 1#1) ∧ (planAt m c).2.1 = (fun _ => 1#1) ∧ (planAt m c).2.2.1 = (fun _ => 1#1) ∧ (planAt m c).2.2.2 = (fun _ => 1#1)) :
    Plan m := by
  obtain ⟨h1, h2, h3, h4⟩ := h 0
  have hu := us_of (F := F) anyRows (exp m) (row m) (cnt m) (use m) anyWeights anyWeights h2
  exact ⟨te_of (F := F) anyRows (exp m) (row m) (cnt m) (use m) anyWeights anyWeights h1, hu.1, hu.2, va_of (F := F) anyRows (exp m) (row m) (cnt m) (use m) anyWeights anyWeights h3,
    live_of (F := F) anyRows (exp m) (row m) (cnt m) (use m) anyWeights anyWeights h4 hu.2⟩

end Cert.Kernel3Ideal.Dn
-- ==== Proof.DnRef.lean ====
/- The experts' second product as the reference computes it: its stages, and each at an index. The stages on the tables
   are the routed pair's. -/
module

public import proofs.«01_k».proof.Proof.Gen.Reference3Ideal.Run
public import proofs.«01_k».proof.Proof.SwRef

@[expose] public section

set_option maxRecDepth 16384

noncomputable section

namespace Cert.Reference3Ideal.Stage

open Cert.Reference3Ideal Cert.Reference3Ideal.Gen Cert.Reference3Ideal.Value
open Idealize.ShloMosaic Idealize.ShloMosaic.TcCoe Idealize.ShloMosaic.Pointwise
open Cert.Reference2Ideal.Stage (column column_at live live_iff)

section
variable (xs : FVec Ideal S36864x7168 .bf16) (w : FVec Ideal S8x7168x2048 .f32) (te : IVec S72 32)

/-- One expert's matrix. -/
def slab (off : Fin 3 → ℕ) (h : S8x7168x2048.Slices off S1x7168x2048) : FVec Ideal S7168x2048 .f32 :=
  shapeCast _ (extractStridedSlice S1x7168x2048 off w h) shapeCasts_S1x7168x2048_S7168x2048

/-- Every row by one expert's matrix. -/
def prod (off : Fin 3 → ℕ) (h : S8x7168x2048.Slices off S1x7168x2048) : FVec Ideal S36864x2048 .f32 :=
  Host.dotGeneral dot_S36864x7168_S7168x2048_S36864x2048_1_0_0_1_n_n none (extf .f32 xs bitsLt_bf16_f32 : FVec Ideal S36864x7168 .f32) (slab w off h)

/-- One expert's rows put in place. -/
def pick (e : BitVec 32) (a b : FVec Ideal S36864x2048 .f32) : FVec Ideal S36864x2048 .f32 :=
  select (broadcastInDim S36864x2048 ![0, 1] bcast_S36864x1_S36864x2048_0_1 (cmpi .eq (column te) (broadcastInDim S36864x1 ![] bcast_S_S36864x1 (constantI S_ 32 e)))) a b

/-- The zeros the rows start from. -/
def zeros : FVec Ideal S36864x2048 .f32 := broadcastInDim S36864x2048 ![] bcast_S_S36864x2048 (constant S_ .f32 0x00000000#32)

/-- Every row by its expert's matrix. -/
def rows : FVec Ideal S36864x2048 .f32 :=
  pick te 7#32 (prod xs w ![7, 0, 0] slices_S8x7168x2048_S1x7168x2048_7_0_0)
    (pick te 6#32 (prod xs w ![6, 0, 0] slices_S8x7168x2048_S1x7168x2048_6_0_0)
    (pick te 5#32 (prod xs w ![5, 0, 0] slices_S8x7168x2048_S1x7168x2048_5_0_0)
    (pick te 4#32 (prod xs w ![4, 0, 0] slices_S8x7168x2048_S1x7168x2048_4_0_0)
    (pick te 3#32 (prod xs w ![3, 0, 0] slices_S8x7168x2048_S1x7168x2048_3_0_0)
    (pick te 2#32 (prod xs w ![2, 0, 0] slices_S8x7168x2048_S1x7168x2048_2_0_0)
    (pick te 1#32 (prod xs w ![1, 0, 0] slices_S8x7168x2048_S1x7168x2048_1_0_0)
    (pick te 0#32 (prod xs w ![0, 0, 0] slices_S8x7168x2048_S1x7168x2048_0_0_0) zeros)))))))

/-- The reference's result, from its arguments. -/
def outcome (va : IVec S72 32) : FVec Ideal S36864x2048 .f32 :=
  select (broadcastInDim S36864x2048 ![0, 1] bcast_S36864x1_S36864x2048_0_1 (live va)) (rows xs w te)
    (broadcastInDim S36864x2048 ![] bcast_S_S36864x2048 (id (constant S_ .f32 0x00000000#32)))

variable (r : Fin 36864) (c : Fin 2048)

/-- One expert's product at a row and a column. -/
def cell (e : Fin 8) : EReal := ∑ k, xs (ix2 r k) * w (ix3 e k c)

theorem slab_at (e : Fin 8) (off : Fin 3 → ℕ) (h : S8x7168x2048.Slices off S1x7168x2048) (hoff : off = ![e.val, 0, 0]) (k : Fin 7168) :
    slab w off h (ix2 k c) = w (ix3 e k c) := by
  subst hoff
  pointwise [slab]

theorem prod_at (e : Fin 8) (off : Fin 3 → ℕ) (h : S8x7168x2048.Slices off S1x7168x2048) (hoff : off = ![e.val, 0, 0]) :
    prod xs w off h (ix2 r c) = cell xs w r c e := by
  have hp : prod xs w off h (ix2 r c) = ∑ k, xs (ix2 r k) * slab w off h (ix2 k c) := by pointwise [prod]
  rw [hp]
  simp only [slab_at w c e off h hoff]
  rfl

theorem pick_at (e : BitVec 32) (a b : FVec Ideal S36864x2048 .f32) :
    pick te e a b (ix2 r c) = if te (ix1 ⟨r / 512, by omega⟩) = e then a (ix2 r c) else b (ix2 r c) := by
  pointwise [pick]
  rw [column_at]
  by_cases h : te (ix1 ⟨r / 512, by omega⟩) = e
  · rw [if_pos h, WordCmp.cmpi_eq_eq]; exact if_pos ((WordCmp.ofBool_decide_eq_one_iff _).mpr h)
  · rw [if_neg h, WordCmp.cmpi_eq_eq]; exact if_neg (fun h' => h ((WordCmp.ofBool_decide_eq_one_iff _).mp h'))

theorem rows_at (e : Fin 8) (he : te (ix1 ⟨r / 512, by omega⟩) = BitVec.ofNat 32 e.val) : rows xs w te (ix2 r c) = cell xs w r c e := by
  unfold rows
  simp only [pick_at, he]
  fin_cases e <;> exact prod_at xs w r c _ _ _ rfl

/-- A row of a live quarter is its row by its expert's matrix; the other rows are zero. -/
theorem outcome_at (va : IVec S72 32) (hte : (te (ix1 ⟨r / 512, by omega⟩)).toNat < 8) (hva : (va (ix1 ⟨r / 512, by omega⟩)).toNat ≤ 512) :
    outcome xs w te va (ix2 r c)
      = if r % 512 / 128 * 128 < (va (ix1 ⟨r / 512, by omega⟩)).toNat then cell xs w r c ⟨_, hte⟩ else 0 := by
  pointwise [outcome]
  rw [rows_at xs w te r c ⟨_, hte⟩ (by simp)]
  by_cases h : r % 512 / 128 * 128 < (va (ix1 ⟨r / 512, by omega⟩)).toNat
  · rw [if_pos h]; exact if_pos ((live_iff va r _ hva).mpr h)
  · rw [if_neg h]; refine (if_neg (fun h' => h ((live_iff va r _ hva).mp h'))).trans ?_
    show Ideal.ofBits .f32 0x00000000#32 = 0
    simp

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v71) = outcome (m ((c.tc : Thread nD τ).loc main_arg0)) (m ((c.tc : Thread nD τ).loc main_arg5)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans rfl, (h c).2⟩) (Value.run (F := Ideal) m ρ)

end Cert.Reference3Ideal.Stage
-- ==== Proof.DnOut.lean ====
/- The experts' second product at the ideal instance: each element of the output is what the reference says. -/
module

public import proofs.«01_k».proof.Proof.DnPlan
public import proofs.«01_k».proof.Proof.DnRef
public import proofs.«01_k».proof.Proof.SwOut

@[expose] public section

set_option maxRecDepth 16384

noncomputable section

namespace Cert.Kernel3Ideal.Dn

open Idealize.ShloMosaic Idealize.ShloMosaic.TcCoe Idealize.ShloMosaic.Tactic Idealize.ShloMosaic.Pointwise
open Gen
open Cert.Reference3Ideal.Stage (cell outcome)
open Cert.Kernel2Ideal.Sw (qOf qOf_lt quarter_rule)

/-! ## The body's values at an element -/

/-- A row of rows by a column of the weight block. -/
def mix {R : ℕ} (x : FVec Ideal (⟨2, ![R, 7168]⟩ : Shape) .bf16) (w : FVec Ideal S7168x512 .bf16) (p : Fin R) (s : Fin 512) : EReal :=
  ∑ k : Fin 7168, x (ix2 p k) * w (ix2 k s)

section
variable (w : FVec Ideal S7168x512 .bf16) (s : Fin 512)

theorem pay8_at (x : FVec Ideal S128x7168 .bf16) (p : Fin 128) : k0_pay8 (F := Ideal) x w (ix2 p s) = mix x w p s := by
  pointwise [k0_pay8, mix]

theorem pay1_at (x : FVec Ideal S256x7168 .bf16) (p : Fin 256) : k0_pay1 (F := Ideal) x w (ix2 p s) = mix x w p s := by
  pointwise [k0_pay1, mix]

theorem pay3_at (x : FVec Ideal S384x7168 .bf16) (p : Fin 384) : k0_pay3 (F := Ideal) x w (ix2 p s) = mix x w p s := by
  pointwise [k0_pay3, mix]

theorem pay5_at (x : FVec Ideal S512x7168 .bf16) (p : Fin 512) : k0_pay5 (F := Ideal) x w (ix2 p s) = mix x w p s := by
  pointwise [k0_pay5, mix]

theorem zero_bits : (Scalar.ofBits .f32 0x00000000#32 : Ideal .f32) = (0 : EReal) := by
  show Ideal.ofBits .f32 0x00000000#32 = 0
  simp

theorem rowsOut_at (R : ℕ) (hR : R ≤ 512) (x : FVec Ideal S512x7168 .bf16) (p' : FVec Ideal (⟨2, ![R, 512]⟩ : Shape) .f32)
    (h : ∀ p : Fin R, p' (ix2 p s) = mix (top (F := Ideal) R hR x) w p s) (p : Fin 512) :
    rowsOut (F := Ideal) R p' (ix2 p s) = if p.val < R then mix x w p s else 0 := by
  unfold rowsOut
  by_cases hp : p.val < R
  · rw [if_pos hp]
    exact (dif_pos hp).trans (h ⟨p.val, hp⟩)
  · rw [if_neg hp]
    exact (dif_neg hp).trans zero_bits

/-- What the body leaves at an element: the product on the first quarters, zero below them. -/
theorem outV_at (q : ℕ) (hq : q < 5) (x : FVec Ideal S512x7168 .bf16) (p : Fin 512) :
    outV (F := Ideal) q x w (ix2 p s) = if p.val < 128 * q then mix x w p s else 0 := by
  have hp := p.isLt
  rcases (by omega : q = 0 ∨ q = 1 ∨ q = 2 ∨ q = 3 ∨ q = 4) with rfl | rfl | rfl | rfl | rfl
  · rw [if_neg (by omega)]; exact zero_bits
  · exact rowsOut_at w s 128 (by decide) x _ (pay8_at w s _) p
  · exact rowsOut_at w s 256 (by decide) x _ (pay1_at w s _) p
  · exact rowsOut_at w s 384 (by decide) x _ (pay3_at w s _) p
  · rw [if_pos (by omega)]; exact pay5_at w s x p

end

/-! ## The blocks a point reads -/

variable (m : (ℓ : Loc nD τ sig) → Buf (Elt Ideal) ℓ) (ρ : Dev nD → PrngReg)

/-- The rows, as launched. -/
abbrev rowsIn (c : Dev nD) : FVec Ideal S36864x7168 .bf16 := m ((c.tc : Thread nD τ).loc main_arg0)
abbrev weightIn (c : Dev nD) : FVec Ideal S8x7168x2048 .f32 := m ((c.tc : Thread nD τ).loc main_arg5)

/-- Where an element of a row block stands in the rows. -/
def xIdx (i : Fin 2 → ℕ) (h : ∀ a, (i a + 1) * S512x7168.size a ≤ S36864x7168.size a) (y : S512x7168.Idx) : S36864x7168.Idx :=
  fun (a : Fin 2) => (⟨i a * S512x7168.size a + 1 * (y a).val, by
    have h1 := h a; have h2 : (y a).val < S512x7168.size a := (y a).isLt
    rw [Nat.add_mul, one_mul] at h1; omega⟩ : Fin (S36864x7168.size a))

theorem xBlk_idx (hO : Ok m) (c : Dev nD) (t : Fin (cfgM m hO).N) (y : S512x7168.Idx) :
    (xBlk m hO c t : FVec Ideal S512x7168 .bf16) y
      = rowsIn m c (xIdx (cc0_transform_0 inb_S1_S1_0 numel1_S1 (tbl m) (grid0.coords t)) (hO.1 (grid0.coords t)).fst y) := rfl

theorem xIdx_congr {i j : Fin 2 → ℕ} (h : i = j) (hi : ∀ a, (i a + 1) * S512x7168.size a ≤ S36864x7168.size a) (hj) (y : S512x7168.Idx) :
    xIdx i hi y = xIdx j hj y := by subst h; rfl

theorem xBlk_at (hP : Plan m) (c : Dev nD) (t : Fin (cfgM m (ok_of_plan m hP)).N) (p : Fin 512) (k : Fin 7168)
    (r : Fin 36864) (hr : r.val = rowTile m (grid0.coords t) * 512 + p) :
    (xBlk m (ok_of_plan m hP) c t : FVec Ideal S512x7168 .bf16) (ix2 p k) = rowsIn m c (ix2 r k) := by
  refine (xBlk_idx m _ c t _).trans (congrArg (rowsIn m c) ?_)
  have hj := (ok_of_plan m hP).1 (grid0.coords t)
  have e := transform0_eq m hP (grid0.coords t)
  refine (xIdx_congr e hj.fst (e ▸ hj.fst) _).trans (funext fun a : Fin 2 => Fin.ext ?_)
  match a with
  | ⟨0, _⟩ => show rowTile m (grid0.coords t) * 512 + 1 * p.val = r.val; omega
  | ⟨1, _⟩ => show 0 * 7168 + 1 * k.val = k.val; omega

theorem wIdx_at (hP : Plan m) (t : Fin (cfgM m (ok_of_plan m hP)).N) (hj) (k : Fin 7168) (s : Fin 512) (e : Fin 8) (q : Fin 2048)
    (he : e.val = (teAt m (tile (grid0.coords t))).toNat) (hq : q.val = (grid0.coords t 0).val * 512 + s) :
    wIdx (cc0_transform_1 k0_off1_inb numel1_S1 (tbl m) (grid0.coords t)) hj (ix3 0 k s) = ix3 e k q := by
  have et := transform1_eq m (grid0.coords t)
  refine (wIdx_congr et hj (et ▸ hj) _).trans (funext fun a : Fin 3 => Fin.ext ?_)
  match a with
  | ⟨0, _⟩ => show (teAt m (tile (grid0.coords t))).toNat * 1 + 1 * 0 = e.val; omega
  | ⟨1, _⟩ => show 0 * 7168 + 1 * k.val = k.val; omega
  | ⟨2, _⟩ => show (grid0.coords t 0).val * 512 + 1 * s.val = q.val; omega

theorem wBlk_at (hP : Plan m) (c : Dev nD) (t : Fin (cfgM m (ok_of_plan m hP)).N) (k : Fin 7168) (s : Fin 512) (e : Fin 8) (q : Fin 2048)
    (he : e.val = (teAt m (tile (grid0.coords t))).toNat) (hq : q.val = (grid0.coords t 0).val * 512 + s) :
    (wBlk m (ok_of_plan m hP) c t : FVec Ideal S7168x512 .bf16) (ix2 k s) = weightIn m c (ix3 e k q) :=
  (castW_at _ k s).trans ((iblk1_at m _ c t _).trans (congrArg (weightIn m c) (wIdx_at m hP t _ k s e q he hq)))

/-! ## An element of the output block -/

theorem outBlk_at (hP : Plan m) (c : Dev nD) (t : Fin (cfgM m (ok_of_plan m hP)).N) (p : Fin 512) (s : Fin 512) (r : Fin 36864) (q : Fin 2048)
    (hr : r.val = (grid0.coords t 1).val * 512 + p) (hq : q.val = (grid0.coords t 0).val * 512 + s) :
    (outBlk m (ok_of_plan m hP) c t : FVec Ideal S512x512 .f32) (ix2 p s)
      = if p.val / 128 * 128 < (vaAt m (tile (grid0.coords t))).toNat
        then cell (rowsIn m c) (weightIn m c) r q ⟨(teAt m (tile (grid0.coords t))).toNat, hP.te_lt _⟩ else 0 := by
  refine (outV_at _ s _ (qOf_lt (hP.va_le _)) _ p).trans ?_
  refine if_ctx_congr (quarter_rule _ _) (fun h => ?_) fun _ => rfl
  have hne : vaAt m (tile (grid0.coords t)) ≠ 0#32 := fun e => by rw [e] at h; exact absurd h (Nat.not_lt_zero _)
  have hl := hP.live _ hne
  have hrow : rowTile m (grid0.coords t) = (grid0.coords t 1).val := by unfold rowTile; have : (tile (grid0.coords t)).val = (grid0.coords t 1).val := rfl; omega
  have ex := fun k => xBlk_at m hP c t p k r (by rw [hrow]; exact hr)
  have e0 := fun k => wBlk_at m hP c t k s ⟨_, hP.te_lt _⟩ q rfl hq
  unfold mix cell
  simp only [ex, e0]

/-! ## The whole array -/

abbrev expertIn (c : Dev nD) : IVec S72 32 := m ((c.tc : Thread nD τ).loc main_arg1)
abbrev countIn (c : Dev nD) : IVec S72 32 := m ((c.tc : Thread nD τ).loc main_arg4)

theorem teAt_eq (c : Dev nD) (k : Fin 72) : teAt m k = expertIn m c (ix1 k) := by
  obtain rfl : c = 0 := Subsingleton.elim _ _
  rfl

theorem vaAt_eq (c : Dev nD) (k : Fin 72) : vaAt m k = countIn m c (ix1 k) := by
  obtain rfl : c = 0 := Subsingleton.elim _ _
  rfl

/-- What the reference leaves, from the kernel's arguments. -/
abbrev result (c : Dev nD) : FVec Ideal S36864x2048 .f32 := outcome (rowsIn m c) (weightIn m c) (expertIn m c) (countIn m c)

theorem result_at (hP : Plan m) (c : Dev nD) (k : Fin 72) (r : Fin 36864) (q : Fin 2048) (hk : k.val = r.val / 512) :
    result m c (ix2 r q) = if r.val % 512 / 128 * 128 < (vaAt m k).toNat then cell (rowsIn m c) (weightIn m c) r q ⟨(teAt m k).toNat, hP.te_lt k⟩ else 0 := by
  have hb : r.val / 512 < 72 := Nat.div_lt_of_lt_mul r.isLt
  obtain rfl : k = ⟨r.val / 512, hb⟩ := Fin.ext hk
  have ht := hP.te_lt ⟨r.val / 512, hb⟩
  have hv := hP.va_le ⟨r.val / 512, hb⟩
  rw [teAt_eq m c] at ht
  rw [vaAt_eq m c] at hv
  refine (Cert.Reference3Ideal.Stage.outcome_at _ _ _ r q _ ht hv).trans ?_
  simp only [teAt_eq m c, vaAt_eq m c]

/-- The block of a point agrees with the reference. -/
theorem block_result (hP : Plan m) (c : Dev nD) (t : Fin (cfgM m (ok_of_plan m hP)).N) (p : Fin 512) (s : Fin 512) (r : Fin 36864) (q : Fin 2048)
    (hr : r.val = (grid0.coords t 1).val * 512 + p) (hq : q.val = (grid0.coords t 0).val * 512 + s) :
    (outBlk m (ok_of_plan m hP) c t : FVec Ideal S512x512 .f32) (ix2 p s) = result m c (ix2 r q) := by
  have hp := p.isLt
  refine (outBlk_at m hP c t p s r q hr hq).trans ((result_at m hP c (tile (grid0.coords t)) r q (by show (grid0.coords t 1).val = r.val / 512; omega)).trans ?_).symm
  rw [show r.val % 512 = p.val by omega]

/-- Where an element of an output block stands in the output. -/
def oIdx (i : Fin 2 → ℕ) (h : ∀ a, (i a + 1) * S512x512.size a ≤ S36864x2048.size a) (y : S512x512.Idx) : S36864x2048.Idx :=
  fun (a : Fin 2) => (⟨i a * S512x512.size a + 1 * (y a).val, by
    have h1 := h a; have h2 : (y a).val < S512x512.size a := (y a).isLt
    rw [Nat.add_mul, one_mul] at h1; omega⟩ : Fin (S36864x2048.size a))

theorem oIdx_congr {i j : Fin 2 → ℕ} (h : i = j) (hi : ∀ a, (i a + 1) * S512x512.size a ≤ S36864x2048.size a) (hj) (y : S512x512.Idx) :
    oIdx i hi y = oIdx j hj y := by subst h; rfl

theorem inside2 (i : grid0.Coords) (a : Fin 2) : (cc0_transform_2 i a + 1) * S512x512.size a ≤ S36864x2048.size a := by
  rw [transform2_eq]
  have h0 : (i 0).val < 4 := (i 0).isLt
  have h1 : (i 1).val < 72 := (i 1).isLt
  match a with
  | ⟨0, _⟩ => show ((i 1).val + 1) * 512 ≤ 36864; omega
  | ⟨1, _⟩ => show ((i 0).val + 1) * 512 ≤ 2048; omega

theorem blk_emb (hO : Ok m) (t : Fin (cfgM m hO).N) (y : S512x512.Idx) :
    (((cfgM m hO).win 2).blk t).view.emb y = oIdx (cc0_transform_2 (grid0.coords t)) (inside2 _) y := rfl

theorem oIdx_at (i : grid0.Coords) (p : Fin 512) (s : Fin 512) (r : Fin 36864) (q : Fin 2048)
    (hr : r.val = (i 1).val * 512 + p) (hq : q.val = (i 0).val * 512 + s) : oIdx (cc0_transform_2 i) (inside2 i) (ix2 p s) = ix2 r q := by
  have e := transform2_eq i
  refine (oIdx_congr e (inside2 i) (e ▸ inside2 i) _).trans (funext fun a : Fin 2 => Fin.ext ?_)
  match a with
  | ⟨0, _⟩ => show (i 1).val * 512 + 1 * p.val = r.val; omega
  | ⟨1, _⟩ => show (i 0).val * 512 + 1 * s.val = q.val; omega

/-- After the run the output array is the reference's result. -/
theorem final (hP : Plan m) (c : Dev nD) :
    (dats m (ok_of_plan m hP) 0 c).arrAt 2 (cfgM m (ok_of_plan m hP)).N = result m c := by
  refine (dats m (ok_of_plan m hP) 0 c).arrAt_eq_of_emb 2 _ (fun t _ (y : S512x512.Idx) => ?_) (fun (i : S36864x2048.Idx) => ?_)
  · obtain ⟨p, s, rfl⟩ : ∃ (p : Fin 512) (s : Fin 512), y = ix2 p s := ⟨y 0, y 1, by funext k; fin_cases k <;> rfl⟩
    have h0 : (grid0.coords t 0).val < 4 := (grid0.coords t 0).isLt
    have h1 : (grid0.coords t 1).val < 72 := (grid0.coords t 1).isLt
    have hp := p.isLt
    have hs := s.isLt
    refine Eq.trans ?_ (congrArg (result m c) ((blk_emb m _ t _).trans
      (oIdx_at (grid0.coords t) p s ⟨(grid0.coords t 1).val * 512 + p, by omega⟩ ⟨(grid0.coords t 0).val * 512 + s, by omega⟩ rfl rfl)).symm)
    refine Eq.trans ?_ (block_result m hP c t p s _ _ rfl rfl)
    exact congrFun (after_2 m _ c t) (ix2 p s)
  · obtain ⟨r, q, rfl⟩ : ∃ (r : Fin 36864) (q : Fin 2048), i = ix2 r q := ⟨i 0, i 1, by funext k; fin_cases k <;> rfl⟩
    have hN : (cfgM m (ok_of_plan m hP)).N = 288 := rfl
    have hr := r.isLt
    have hq := q.isLt
    let t : Fin grid0.N := ⟨q.val / 512 * 72 + r.val / 512, by rw [show grid0.N = 288 from rfl]; omega⟩
    refine ⟨t, flush_2 _ t, ?_⟩
    have hc1 := coord1 t
    have hc0 := coord0 t
    have e := oIdx_at (grid0.coords t) ⟨r.val % 512, by omega⟩ ⟨q.val % 512, by omega⟩ r q
      (by rw [hc1]; show r.val = (q.val / 512 * 72 + r.val / 512) % 72 * 512 + r.val % 512; omega)
      (by rw [hc0]; show q.val = (q.val / 512 * 72 + r.val / 512) / 72 * 512 + q.val % 512; omega)
    exact e ▸ (((cfgM m (ok_of_plan m hP)).win 2).blk t).view.emb_mem_set (ix2 ⟨r.val % 512, by omega⟩ ⟨q.val % 512, by omega⟩ : S512x512.Idx)

/-- The kernel's run leaves the reference's result, and its arguments as launched. -/
theorem value (hP : Plan m) : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.out_eq c (2 : Fin 3)).trans (final m hP c),
      unchanged_of m (ok_of_plan m hP) (dats m (ok_of_plan m hP)) (A_eq m (ok_of_plan m hP)) r h.1 c⟩)
    (run_main m ρ (ok_of_plan m hP) hP.va_le)

end Cert.Kernel3Ideal.Dn
-- ==== Proof.DnFrame.lean ====
/- The claims on the experts' second product: the frames of its two readings and of its reference, and that the kernel at
   the ideal instance leaves what the reference leaves. -/
module

public import proofs.«01_k».proof.Proof.DnOut
public import proofs.«01_k».proof.Proof.Gen.Kernel3
public import proofs.«01_k».proof.Proof.Gen.Reference3Ideal.Run
public import proofs.«01_k».proof.Defs

@[expose] public section

noncomputable section

namespace Cert.Down

open Idealize.ShloMosaic Idealize.ShloMosaic.TcCoe Idealize.ShloMosaic.Tactic

theorem frame_pi : quiescent_Kernel3Ideal (hKernel3Ideal := Kernel3Ideal.Gen.facts) (hPre_plan3 := Pre_plan3.Gen.facts) :=
  fun m g h => Kernel3Ideal.Dn.frame m g (Kernel3Ideal.Dn.plan_of m h)

/-- The two readings have one body table. -/
theorem defs0_same : @Kernel3.defs₀ Bits _ Kernel3.Gen.facts = @Kernel3Ideal.defs₀ Bits _ Kernel3Ideal.Gen.facts := by
  refine congrArg Defs.onTc ?_
  funext l x
  fin_cases l
  rfl

theorem defs_same : @Kernel3.defs Bits _ Kernel3.Gen.facts = @Kernel3Ideal.defs Bits _ Kernel3Ideal.Gen.facts :=
  congrArg (Pipeline.defs (@Kernel3Ideal.pcfgs Bits _ Kernel3Ideal.Gen.facts)) defs0_same

theorem frame_p : quiescent_Kernel3 (hKernel3 := Kernel3.Gen.facts) (hPre_plan3 := Pre_plan3.Gen.facts) := fun m g h =>
  (congrArg (fun d => θ_run d (onTc (τ := Kernel3Ideal.τ) (Kernel3Ideal.main (F := Bits))) ⟨m, fun _ => 0, g⟩ _) defs_same).mpr
    (Kernel3Ideal.Dn.frame (F := Bits) m g (Kernel3Ideal.Dn.plan_of (F := Bits) m h))

theorem frame_ri : quiescent_Reference3Ideal (hReference3Ideal := Reference3Ideal.Gen.facts) (hPre_plan3 := Pre_plan3.Gen.facts) := fun m g _ =>
  (θ_run Reference3Ideal.defs (onTc (τ := Reference3Ideal.τ) Reference3Ideal.main) ⟨m, fun _ => 0, g⟩).mono
    (fun r h => ⟨fun c => (h c).2, Idealize.ShloMosaic.sem_eq_zero_of_no_sems (by decide) r.2⟩) (Reference3Ideal.Value.run (F := Idealize.ShloMosaic.Ideal) m g)

theorem algebraic : algebraic_Kernel3Ideal_Reference3Ideal (hKernel3Ideal := Kernel3Ideal.Gen.facts) (hReference3Ideal := Reference3Ideal.Gen.facts) (hPre_plan3 := Pre_plan3.Gen.facts) := by
  intro m g m' g' h hagree
  refine ⟨Kernel3Ideal.Dn.result m, Kernel3Ideal.Dn.value m g (Kernel3Ideal.Dn.plan_of m h), ?_⟩
  refine (θ_run Reference3Ideal.defs _ _).mono (fun _ hr c => ⟨(hr c).1.trans ?_, (hr c).2⟩) (Reference3Ideal.Stage.run m' g')
  obtain ⟨a0, a1, -, -, a4, a5⟩ := hagree c
  rw [a0, a1, a4, a5]

end Cert.Down
-- ==== Proof.FfKit.lean ====
/- The launch of the dense gated product: what the region finds in the buffers, the four constant tables, the windows' blocks, and the names of the memrefs
   the body is called with. -/
module

public import proofs.«01_k».proof.Proof.Gen.Kernel4Ideal.Launch
public import proofs.«01_k».proof.Proof.Gen.Kernel4Ideal.Skeleton
public import proofs.«01_k».proof.Proof.Gen.Kernel4Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4Ideal.Ff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory with the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The argument arrays are found as launched. -/
theorem V_arg (c : Dev nD) (b : Ref sig .tc) (hb : b = main_arg0 ∨ b = main_arg1 ∨ b = main_arg2) : V m c b = m ((c : Thread nD τ).loc b) := by
  rcases hb with rfl | rfl | rfl <;> (entry_read; rfl)

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S16 .i32 := Memref.whole main_v1
abbrev mT1 : Memref sig .tc .smem S16 .i32 := Memref.whole main_c
abbrev mT2 : Memref sig .tc .smem S1 .i32 := Memref.whole main_v2
abbrev mT3 : Memref sig .tc .smem S16 .i32 := Memref.whole main_v3

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1024x2048 .bf16 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x2048x512 .f32 := spec0_2.stage ((cfgM m hO).slots t 2)
abbrev ms3 (hO : Ok m) (t : Fin (cfgM m hO).N) : Memref sig .tc .vmem S1024x512 .bf16 := spec0_3.stage ((cfgM m hO).slots t 3)
abbrev scr0 : Memref sig .tc .vmem S2048x512 .bf16 := Memref.whole cc0_scratch0
abbrev scr1 : Memref sig .tc .vmem S2048x512 .bf16 := Memref.whole cc0_scratch1

/-- The body at point `t`, on what the pipeline calls it with. -/
abbrev bodyAt (a : (pcfg0 (F := F)).Adm) (t : Fin (cfg0 a).N) : Prog (TpuEff nD τ sig (Elt F) Λ₀ .tc) PUnit :=
  cc0_matmul_swiglu (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    scr0 (Memref.isWhole_whole _) scr1 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the two scratch buffers at some contents. -/
theorem own_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t)
    ∧ ((∀ t, dat.after 2 t = iblk m hO c 2 t) → ∀ t d, dat.before 2 t d = iblk m hO c 2 t) := by
  refine ⟨fun ha t d => ?_, fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (by decide : main_arg0 ∈ Pipeline.restRefs sig spec0)).trans (V_arg m c _ (.inl rfl)),
    ((h c).1 1).trans (((dats 0 c).arrAt_in 1 rfl _).trans ((hA c 1).trans (V_arg m c _ (.inr (.inl rfl))))),
    ((h c).1 2).trans (((dats 0 c).arrAt_in 2 rfl _).trans ((hA c 2).trans (V_arg m c _ (.inr (.inr rfl)))))⟩

end Cert.Kernel4Ideal.Ff

end
-- ==== Proof.FfCast.lean ====
/- The weight copies the body of the dense gated product keeps: what its loop leaves in a scratch buffer is the whole weight block rounded. -/
module

public import proofs.«01_k».proof.Proof.FfKit
public import Idealize.ShloMosaic.Lib.WritesUnit
public import Idealize.ShloMosaic.Lib.VecWindow
public import Idealize.ShloMosaic.Lib.Pointwise

@[expose] public section

set_option maxRecDepth 16384

noncomputable section

namespace Cert.Kernel4Ideal.Ff

open Idealize.ShloMosaic Idealize.ShloMosaic.TcCoe Idealize.ShloMosaic.Tactic
open Idealize.SL Idealize.SL.Sem
open Gen

variable {F : FTy → Type} [FloatOps F]

/-- A weight block rounded to bf16, without its unit axis. -/
def castW (x : Vec F S1x2048x512 .f32) : FVec F S2048x512 .bf16 :=
  truncf .bf16 ((fun y => x (ix3 0 (y 0) (y 1))) : FVec F S2048x512 .f32) bitsLt_bf16_f32

theorem castW_at (x : Vec F S1x2048x512 .f32) (r : Fin 2048) (s : Fin 512) :
    castW x (ix2 r s) = FloatOps.truncf .bf16 bitsLt_bf16_f32 (x (ix3 0 r s)) := rfl

theorem pay6_at (v : Vec F S1x512x512 .f32) (a : Fin 512) (b : Fin 512) :
    k0_pay6 (F := F) v (ix2 a b) = FloatOps.truncf .bf16 bitsLt_bf16_f32 (v (ix3 0 a b)) := by
  pointwise [k0_pay6]

theorem pay7_at (v : Vec F S1x512x512 .f32) (a : Fin 512) (b : Fin 512) :
    k0_pay7 (F := F) v (ix2 a b) = FloatOps.truncf .bf16 bitsLt_bf16_f32 (v (ix3 0 a b)) := by
  pointwise [k0_pay7]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 4 := by decide +kernel

variable (𝒱 : Variants) (c : Dev nD) (bd : Option 𝒱.V) (i : grid0.Coords) (arg2 : Memref sig .tc .smem S16 .i32) (harg2 : arg2.IsWhole) (arg3 : Memref sig .tc .smem S16 .i32) (harg3 : arg3.IsWhole) (arg4 : Memref sig .tc .smem S1 .i32) (harg4 : arg4.IsWhole) (arg5 : Memref sig .tc .smem S16 .i32) (harg5 : arg5.IsWhole) (arg6 : Memref sig .tc .vmem S1024x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S2048x512 .bf16) (harg11 : arg11.IsWhole)
  (X7 : BufTy.Contents (Elt F) arg7.view.ty) (X8 : BufTy.Contents (Elt F) arg8.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 X7 X8 k
      = ([⟨Rect.unit (s := S2048x512) (k0_off4 k) S512x512.size (k0_off4_inb k), k0_pay6 (arg7.view.readAt (Elt F) (Rect.unit (s := S1x2048x512) (k0_off3 k) S1x512x512.size (k0_off3_inb k)).toLoadRect X7)⟩],
         [⟨Rect.unit (s := S2048x512) (k0_off4 k) S512x512.size (k0_off4_inb k), k0_pay7 (arg8.view.readAt (Elt F) (Rect.unit (s := S1x2048x512) (k0_off3 k) S1x512x512.size (k0_off3_inb k)).toLoadRect X8)⟩]) := by
  unfold tripL_k0_t1 trip_k0_t1
  rfl

/-- A rounded row block is the rounded weight at the rows it is stored to. -/
theorem piece_eq (k : Fin k0_t1_loop.trips) (arg : Memref sig .tc .vmem S1x2048x512 .f32) (X : BufTy.Contents (Elt F) arg.view.ty)
    (p : FVec F S512x512 .bf16)
    (hp : ∀ a b, p (ix2 a b) = FloatOps.truncf .bf16 bitsLt_bf16_f32 (arg.view.readAt (Elt F) (Rect.unit (s := S1x2048x512) (k0_off3 k) S1x512x512.size (k0_off3_inb k)).toLoadRect X (ix3 0 a b)))
    (x : S512x512.Idx) :
    p x = castW (arg.view.read (Elt F) X) ((Rect.unit (s := S2048x512) (k0_off4 k) S512x512.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`, in both scratch buffers: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 X7 X8 k).1, ∀ x, p.2 x = castW (arg7.view.read (Elt F) X7) (p.1.emb x))
    ∧ (∀ p ∈ (pb_k0_t1 (F := F) 𝒱 c bd i arg2 harg2 arg3 harg3 arg4 harg4 arg5 harg5 arg6 harg6 arg7 harg7 arg8 harg8 arg9 harg9 arg10 harg10 arg11 harg11 X7 X8 k).2, ∀ x, p.2 x = castW (arg8.view.read (Elt F) X8) (p.1.emb x))
    ∧ (∀ y : S2048x512.Idx, (y 0).val < 512 * k → (∃ p ∈ (pb_k0_t1 (F := F) 𝒱 c bd i arg2 harg2 arg3 harg3 arg4 harg4 arg5 harg5 arg6 harg6 arg7 harg7 arg8 harg8 arg9 harg9 arg10 harg10 arg11 harg11 X7 X8 k).1, y ∈ p.1.set)
      ∧ (∃ p ∈ (pb_k0_t1 (F := F) 𝒱 c bd i arg2 harg2 arg3 harg3 arg4 harg4 arg5 harg5 arg6 harg6 arg7 harg7 arg8 harg8 arg9 harg9 arg10 harg10 arg11 harg11 X7 X8 k).2, y ∈ p.1.set)) := by
  intro k
  induction k with
  | zero =>
      intro _
      refine ⟨fun p hp => absurd hp List.not_mem_nil, fun p hp => absurd hp List.not_mem_nil, fun y hy => absurd hy (by omega)⟩
  | succ k ih =>
      intro hk
      obtain ⟨i1, i2, i3⟩ := ih (by omega)
      have hs := pb_k0_t1_succ (F := F) 𝒱 c bd i arg2 harg2 arg3 harg3 arg4 harg4 arg5 harg5 arg6 harg6 arg7 harg7 arg8 harg8 arg9 harg9 arg10 harg10 arg11 harg11 X7 X8 ⟨k, by omega⟩
      rw [trip_pieces] at hs
      dsimp only at hs
      rw [hs]
      have hmem : ∀ y : S2048x512.Idx, 512 * k ≤ (y 0).val → (y 0).val < 512 * (k + 1) →
          y ∈ (Rect.unit (s := S2048x512) (k0_off4 ⟨k, by omega⟩) S512x512.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 512; have : (y 1).val < 512 := (y 1).isLt; omega⟩
      refine ⟨fun p hp => ?_, fun p hp => ?_, fun y hy => ?_⟩
      · rcases List.mem_append.mp hp with h | h
        · rw [List.mem_singleton] at h; subst h
          exact piece_eq (F := F) _ arg7 X7 _ (fun a b => pay6_at _ a b)
        · exact i1 p h
      · rcases List.mem_append.mp hp with h | h
        · rw [List.mem_singleton] at h; subst h
          exact piece_eq (F := F) _ arg8 X8 _ (fun a b => pay7_at _ a b)
        · exact i2 p h
      · by_cases hlt : (y 0).val < 512 * k
        · obtain ⟨⟨p, hp, hy1⟩, ⟨q, hq, hy2⟩⟩ := i3 y hlt
          exact ⟨⟨p, List.mem_append.mpr (.inr hp), hy1⟩, ⟨q, List.mem_append.mpr (.inr hq), hy2⟩⟩
        · have h := hmem y (by omega) hy
          exact ⟨⟨_, List.mem_append.mpr (.inl (List.mem_singleton.mpr rfl)), h⟩, ⟨_, List.mem_append.mpr (.inl (List.mem_singleton.mpr rfl)), h⟩⟩

/-- After the loop the two scratch buffers hold the two weight blocks rounded. -/
theorem loop_read (f10 : BufTy.Contents (Elt F) arg10.view.ty) (f11 : BufTy.Contents (Elt F) arg11.view.ty) :
    arg10.view.read (Elt F) (arg10.view.writes (Elt F) f10 (pb_k0_t1 (F := F) 𝒱 c bd i arg2 harg2 arg3 harg3 arg4 harg4 arg5 harg5 arg6 harg6 arg7 harg7 arg8 harg8 arg9 harg9 arg10 harg10 arg11 harg11 X7 X8 k0_t1_loop.trips).1) = castW (arg7.view.read (Elt F) X7)
    ∧ arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 X7 X8 k0_t1_loop.trips).2) = castW (arg8.view.read (Elt F) X8) := by
  obtain ⟨h1, h2, h3⟩ := pieces_upto (F := F) 𝒱 c bd i arg2 harg2 arg3 harg3 arg4 harg4 arg5 harg5 arg6 harg6 arg7 harg7 arg8 harg8 arg9 harg9 arg10 harg10 arg11 harg11 X7 X8 k0_t1_loop.trips le_rfl
  have hr : ∀ y : S2048x512.Idx, (y 0).val < 512 * k0_t1_loop.trips := fun y => by
    rw [trips_eq]; exact (y 0).isLt
  exact ⟨funext fun y => View.read_writes_apply_of_pieces _ _ _ _ h1 y (h3 y (hr y)).1,
    funext fun y => View.read_writes_apply_of_pieces _ _ _ _ h2 y (h3 y (hr y)).2⟩

end Cert.Kernel4Ideal.Ff

end
-- ==== Proof.FfBody.lean ====
/- One run of the dense gated product's body where the tile is full: at a column's first tile the two weight blocks are
   rounded into the scratch buffers, and the output block holds the gated product of all the tile's rows. -/
module

public import proofs.«01_k».proof.Proof.FfCast

@[expose] public section

set_option maxRecDepth 16384

noncomputable section

namespace Cert.Kernel4Ideal.Ff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ (UR sig nD τ) ℕ

/-- The tile's own expert, the expert of the tile before it, and the tile's count of rows, as the body reads them. -/
abbrev teNow (c : Dev nD) (i : grid0.Coords) (f : Buf (Elt F) (mT0.view.loc (c : Thread nD τ))) : BitVec 32 :=
  View.readAt (Elt F) mT0.view (Rect.unit (s := S16) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S16) (k0_off2 i) S1.size (k0_off2_inb i)).toLoadRect f (Shape.Idx.first (show 0 < S1.numel from by decide))
abbrev vaNow (c : Dev nD) (i : grid0.Coords) (f : Buf (Elt F) (mT3.view.loc (c : Thread nD τ))) : BitVec 32 :=
  View.readAt (Elt F) mT3.view (Rect.unit (s := S16) (k0_off5 i) S1.size (k0_off5_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

/-- Of the body's five conditionals on the count of rows only the last, of a full tile, is taken. -/
structure Full (w : BitVec 32) : Prop where
  c2 : ¬k0_cond2 w = 1#1
  c3 : ¬k0_cond3 w = 1#1
  c4 : ¬k0_cond4 w = 1#1
  c5 : ¬k0_cond5 w = 1#1
  c6 : k0_cond6 w = 1#1

section Fin

variable {v9 : View sig .tc .vmem S1024x512 .bf16} (f : v9.ty.Contents (Elt F)) {M : Memref sig .tc .vmem S1024x2048 .bf16} (fx : BufTy.Contents (Elt F) M.view.ty)
  {u0 u1 : Memref sig .tc .vmem S2048x512 .bf16} {g0 : BufTy.Contents (Elt F) u0.view.ty} {g1 : BufTy.Contents (Elt F) u1.view.ty}
  {x : Vec F S1024x2048 .bf16} {w0 w1 : Vec F S2048x512 .bf16}

/-- A weight copy as the body loads it. -/
abbrev ldW (u : Memref sig .tc .vmem S2048x512 .bf16) (g : BufTy.Contents (Elt F) u.view.ty) : Vec F S2048x512 .bf16 :=
  u.view.readAt (Elt F) (Rect.unit (s := S2048x512) ![0, 0] S2048x512.size inb_S2048x512_S2048x512_0_0).toLoadRect g

theorem ldW_eq {u : Memref sig .tc .vmem S2048x512 .bf16} {g : BufTy.Contents (Elt F) u.view.ty} {w : Vec F S2048x512 .bf16}
    (h : u.view.read (Elt F) g = w) : ldW u g = w := (View.readAt_full u.view g _).trans h

/-- A store of the whole output block, read back. -/
theorem read_one (p : Vec F S1024x512 .bf16) :
    v9.read (Elt F) (v9.writes (Elt F) f [⟨Rect.unit (s := S1024x512) ![0, 0] S1024x512.size inb_S1024x512_S1024x512_0_0, p⟩]) = p :=
  funext fun y => View.read_writes_cons_rows_of_mem v9 f inb_S1024x512_S1024x512_0_0 p [] y y rfl (Nat.zero_add _).symm rfl

theorem fin (hx : M.view.read (Elt F) fx = x) (h0 : u0.view.read (Elt F) g0 = w0) (h1 : u1.view.read (Elt F) g1 = w1) :
    v9.read (Elt F) (v9.writes (Elt F) f [⟨Rect.unit (s := S1024x512) ![0, 0] S1024x512.size inb_S1024x512_S1024x512_0_0, k0_pay5 (M.view.readAt (Elt F) (Rect.unit (s := S1024x2048) ![0, 0] S1024x2048.size inb_S1024x2048_S1024x2048_0_0).toLoadRect fx) (ldW u0 g0) (ldW u1 g1)⟩])
      = k0_pay5 x w0 w1 := by
  rw [ldW_eq h0, ldW_eq h1, View.readAt_full, hx]
  exact read_one f _

end Fin

variable (c : Dev nD) (i : grid0.Coords) (arg6 : Memref sig .tc .vmem S1024x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1024x512 .bf16) (harg9 : arg9.IsWhole)
    (x0 : Vec F S1024x2048 .bf16) (x1 : Vec F S1x2048x512 .f32) (x2 : Vec F S1x2048x512 .f32)
    (xt0 : Buf (Elt F) (mT0.view.loc (c : Thread nD τ))) (xt3 : Buf (Elt F) (mT3.view.loc (c : Thread nD τ)))

/-- What the body holds while it runs: the three input blocks, the output block, the scratch buffers, the two tables. -/
abbrev Held (out : sProp 𝕄) (s0 s1 : Vec F S2048x512 .bf16) : sProp 𝕄 :=
  iprop(owns (c : Thread nD τ) arg6 fullShare x0 ∗ owns (c : Thread nD τ) arg7 fullShare x1 ∗ owns (c : Thread nD τ) arg8 fullShare x2 ∗ out ∗ owns (c : Thread nD τ) scr0 fullShare s0 ∗ owns (c : Thread nD τ) scr1 fullShare s1 ∗ tabPt c mT0 xt0 ∗ tabPt c mT3 xt3)

set_option maxHeartbeats 4000000 in
theorem body_run (s0 s1 w0 w1 : Vec F S2048x512 .bf16) (hQ : Full (vaNow c i xt3))
    (hw : Chg i (teNow c i xt0) (tePrev c i xt0) → w0 = castW x1 ∧ w1 = castW x2)
    (hs : ¬Chg i (teNow c i xt0) (tePrev c i xt0) → w0 = s0 ∧ w1 = s1) (E : Set ℕ) :
    Held c arg6 arg7 arg8 x0 x1 x2 xt0 xt3 (iprop(∃ d, owns (c : Thread nD τ) arg9 fullShare d)) s0 s1
      ⊢ wp frame (wpE (defs₀ (F := F)) Variants.none c none) E (cc0_matmul_swiglu i mT0 (Memref.isWhole_whole _) mT1 (Memref.isWhole_whole _) mT2 (Memref.isWhole_whole _) mT3 (Memref.isWhole_whole _) arg6 harg6 arg7 harg7 arg8 harg8 arg9 harg9 scr0 (Memref.isWhole_whole _) scr1 (Memref.isWhole_whole _))
          (fun _ => Held c arg6 arg7 arg8 x0 x1 x2 xt0 xt3 (owns (c : Thread nD τ) arg9 fullShare (k0_pay5 x0 w0 w1)) w0 w1) := by
  simp only [cc0_matmul_swiglu_eq_skeleton]; unfold cc0_matmul_swiglu_skel
  simp only [k0_part1_eq_skeleton]
  unfold Held owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT3⟩
  obtain ⟨c2, c3, c4, c5, c6⟩ := hQ
  by_cases hC : Chg i (teNow c i xt0) (tePrev c i xt0)
  · have hL := loop_read (F := F) Variants.none c none i mT0 (Memref.isWhole_whole _) mT1 (Memref.isWhole_whole _) mT2 (Memref.isWhole_whole _) mT3 (Memref.isWhole_whole _) arg6 harg6 arg7 harg7 arg8 harg8 arg9 harg9 scr0 (Memref.isWhole_whole _) scr1 (Memref.isWhole_whole _) f1 f2 fs0 fs1
    have e0 := hL.1.trans ((congrArg castW hf1).trans (hw hC).1.symm)
    have e1 := hL.2.trans ((congrArg castW hf2).trans (hw hC).2.symm)
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]
    rotate_left
    · isplitl [HS0]; · iexists _; isplitr; swap; iexact HS0; ipureintro; exact e0
      isplitl [HS1]; · iexists _; isplitr; swap; iexact HS1; ipureintro; exact e1
      isplitl [HT0]; · iexact HT0
      iexact HT3
    iexists _; isplitr; swap; iexact H3; ipureintro
    exact fin _ _ hf0 e0 e1
  · have e0 := hfs0.trans (hs hC).1.symm
    have e1 := hfs1.trans (hs hC).2.symm
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]
    rotate_left
    · isplitl [HS0]; · iexists _; isplitr; swap; iexact HS0; ipureintro; exact e0
      isplitl [HS1]; · iexists _; isplitr; swap; iexact HS1; ipureintro; exact e1
      isplitl [HT0]; · iexact HT0
      iexact HT3
    iexists _; isplitr; swap; iexact H3; ipureintro
    exact fin _ _ hf0 e0 e1

end Cert.Kernel4Ideal.Ff

end
-- ==== Proof.FfWord.lean ====
/- The words the dense gated product reads from its tables, all constants, and what the grid's points make of them. -/
module

public import proofs.«01_k».proof.Proof.FfBody

@[expose] public section

set_option maxRecDepth 16384

noncomputable section

namespace Cert.Kernel4Ideal.Ff

open Idealize.ShloMosaic Idealize.ShloMosaic.TcCoe Idealize.ShloMosaic.Tactic
open Gen

variable {F : FTy → Type} [FloatOps F] (m : (ℓ : Loc nD τ sig) → Buf (Elt F) ℓ)

/-- The tables hold one word each: every tile takes the one matrix, 16 tiles are in use, each of 1024 rows. -/
theorem tbl_0 : (tbl m 0 : IVec S16 32) = fun _ => 0#32 := by
  unfold tbl
  show V m 0 main_v1 = _
  entry_read
  rfl

theorem tbl_2 : (tbl m 2 : IVec S1 32) = fun _ => 16#32 := by
  unfold tbl
  show V m 0 main_v2 = _
  entry_read
  rfl

theorem tbl_3 : (tbl m 3 : IVec S16 32) = fun _ => 1024#32 := by
  unfold tbl
  show V m 0 main_v3 = _
  entry_read
  rfl

/-! ## Coordinates -/

theorem toNat_coord (i : grid0.Coords) : (BitVec.ofNat 32 (i 1).val).toNat = (i 1).val :=
  (BitVec.toNat_ofNat _ _).trans (Nat.mod_eq_of_lt (lt_trans (i 1).isLt (by decide)))

theorem toNat_coord0 (i : grid0.Coords) : (BitVec.ofNat 32 (i 0).val).toNat = (i 0).val :=
  (BitVec.toNat_ofNat _ _).trans (Nat.mod_eq_of_lt (lt_trans (i 0).isLt (by decide)))

theorem vaNow_eq (c : Dev nD) (i : grid0.Coords) : vaNow c i (tbl m 3) = 1024#32 := congrFun (tbl_3 m) _

/-! ## Conditions -/

theorem full_word : Full 1024#32 := ⟨by decide +kernel, by decide +kernel, by decide +kernel, by decide +kernel, by decide +kernel⟩

theorem full_now (c : Dev nD) (i : grid0.Coords) : Full (vaNow c i (tbl m 3)) := (congrArg Full (vaNow_eq m c i)).mpr full_word

/-- No fresh weights: not the first tile, and the tile's expert is that of the tile before. -/
theorem of_not_chg {i : grid0.Coords} {a b : BitVec 32} (h : ¬Chg i a b) : (i 1).val ≠ 0 ∧ a = b := by
  have key : ∀ p q : BitVec 1, ¬(Scalar.cmpi .ne (Scalar.extui (Scalar.ori p q) : BitVec 32) 0#32 = 1#1) → p = 0#1 ∧ q = 0#1 := by decide
  have hk := key _ _ h
  refine ⟨fun h0 => ?_, ?_⟩
  · have := hk.1
    rw [h0] at this
    exact absurd this (by decide)
  · by_contra hab
    have : Scalar.cmpi .ne a b = 1#1 := by
      show BitVec.ofBool (a != b) = 1#1
      rw [bne_iff_ne.mpr hab]; rfl
    exact absurd (this.symm.trans hk.2) (by decide)

theorem chg_first {i : grid0.Coords} (a b : BitVec 32) (h : (i 1).val = 0) : Chg i a b := by
  by_contra hc
  exact (of_not_chg hc).1 h

/-! ## Points -/

theorem coord1 (t : Fin grid0.N) : (grid0.coords t 1).val = t.val % 16 := by
  have := Pipeline.Grid.coords_val t 1 (S := 1) (B := 16) (by decide) rfl
  simpa using this

theorem coord0 (t : Fin grid0.N) : (grid0.coords t 0).val = t.val / 16 := by
  have h := Pipeline.Grid.coords_val t 0 (S := 16) (B := 11) (by decide) rfl
  have ht : t.val < 176 := t.isLt
  rw [h]; omega

theorem transform1_eq (i : grid0.Coords) : cc0_transform_1 k0_off1_inb numel1_S1 (tbl m) i = ![0, 0, (i 0).val] := by
  have h0 : (Scalar.addi 0#32 (BitVec.ofNat 32 (i 0).val) : BitVec 32).toNat = (i 0).val := by
    rw [show (Scalar.addi 0#32 (BitVec.ofNat 32 (i 0).val) : BitVec 32) = BitVec.ofNat 32 (i 0).val from BitVec.zero_add _]
    exact toNat_coord0 i
  funext a
  match a with
  | ⟨0, _⟩ => rfl
  | ⟨1, _⟩ => rfl
  | ⟨2, _⟩ => exact h0

theorem min_word : ∀ n : Fin 16, (Scalar.minsi (BitVec.ofNat 32 n.val) (Scalar.subi 16#32 1#32) : BitVec 32).toNat = n.val := by
  decide +kernel

theorem transform0_eq (i : grid0.Coords) : cc0_transform_0 inb_S1_S1_0 numel1_S1 (tbl m) i = ![(i 1).val, 0] := by
  have h1 : (tbl m).at 2 (Rect.unit (s := S1) ![0] S1.size inb_S1_S1_0) numel1_S1 = 16#32 := congrFun (tbl_2 m) _
  funext a
  match a with
  | ⟨0, _⟩ => exact (congrArg (fun u => (Scalar.minsi (BitVec.ofNat 32 (i 1).val) (Scalar.subi u 1#32) : BitVec 32).toNat) h1).trans (min_word (i 1))
  | ⟨1, _⟩ => rfl

theorem transform3_eq (i : grid0.Coords) : cc0_transform_3 i = ![(i 1).val, (i 0).val] := by
  funext a
  match a with
  | ⟨0, _⟩ => exact toNat_coord i
  | ⟨1, _⟩ => exact toNat_coord0 i

/-! ## The side condition -/

theorem inside1 (i : grid0.Coords) (a : Fin 3) :
    (cc0_transform_1 k0_off1_inb numel1_S1 (tbl m) i a + 1) * S1x2048x512.size a ≤ S1x2048x5632.size a := by
  rw [transform1_eq]
  have h2 : (i 0).val < 11 := (i 0).isLt
  match a with
  | ⟨0, _⟩ => show (0 + 1) * 1 ≤ 1; omega
  | ⟨1, _⟩ => show (0 + 1) * 2048 ≤ 2048; omega
  | ⟨2, _⟩ => show ((i 0).val + 1) * 512 ≤ 5632; omega

theorem inside0 (i : grid0.Coords) (a : Fin 2) :
    (cc0_transform_0 inb_S1_S1_0 numel1_S1 (tbl m) i a + 1) * S1024x2048.size a ≤ S16384x2048.size a := by
  rw [transform0_eq]
  have h1 : (i 1).val < 16 := (i 1).isLt
  match a with
  | ⟨0, _⟩ => show ((i 1).val + 1) * 1024 ≤ 16384; omega
  | ⟨1, _⟩ => show (0 + 1) * 2048 ≤ 2048; omega

/-- Every window's block lies inside its array. -/
theorem ok : Ok m :=
  ⟨fun i => ⟨inside0 m i, .inr (Affine.block_words_dvd (of_decide_eq_true rfl) (by decide))⟩,
    fun i => ⟨inside1 m i, .inl rfl⟩, fun i => ⟨inside1 m i, .inl rfl⟩⟩

end Cert.Kernel4Ideal.Ff

end
-- ==== Proof.FfRun.lean ====
/- The whole run of the dense gated product: the two weight copies are followed from point to point, at each of the
   grid's points the output block is what one run of the body leaves, and the argument arrays end as launched. -/
module

public import proofs.«01_k».proof.Proof.FfWord

@[expose] public section

set_option maxRecDepth 16384

noncomputable section

namespace Cert.Kernel4Ideal.Ff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the windows read at a point, with their own types; the weight blocks rounded. -/
abbrev xBlk (hO : Ok m) (c : Dev nD) (t : Fin (cfgM m hO).N) : Vec F S1024x2048 .bf16 := iblk m hO c 0 t
abbrev w0Blk (hO : Ok m) (c : Dev nD) (t : Fin (cfgM m hO).N) : Vec F S2048x512 .bf16 := castW (iblk m hO c 1 t)
abbrev w1Blk (hO : Ok m) (c : Dev nD) (t : Fin (cfgM m hO).N) : Vec F S2048x512 .bf16 := castW (iblk m hO c 2 t)

/-- The output block after the body at a point. -/
abbrev outBlk (hO : Ok m) (c : Dev nD) (t : Fin (cfgM m hO).N) : Vec F S1024x512 .bf16 :=
  k0_pay5 (xBlk m hO c t) (w0Blk m hO c t) (w1Blk m hO c t)

/-- The point before a point that is not the first. -/
abbrev prev (hO : Ok m) (n : ℕ) (h : n < (cfgM m hO).N + 1) (h0 : n ≠ 0) : Fin (cfgM m hO).N := ⟨n - 1, by omega⟩

/-- What is held between points: at the start the scratch buffers at anything, later the weight copies of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(iprop(owns (c : Thread nD τ) scr0 fullShare (w0Blk m hO c (prev m hO n hn h)) ∗ owns (c : Thread nD τ) scr1 fullShare (w1Blk m hO c (prev m hO n hn h)))
    ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlk m hO c t
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outBlk m hO c t := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2.1 (after_1 m hO c) t d
theorem before_2 (hO : Ok m) (c : Dev nD) (t : Fin (cfgM m hO).N) (d) : (dats m hO 0 c).before 2 t d = iblk m hO c 2 t :=
  (before_of m hO (dats m hO 0 c) (A_eq m hO c)).2.2 (after_2 m hO c) t d

/-! ## The weight blocks of two points with the same column -/

/-- A weight block's place in its array, from the block's index. -/
def wIdx (i : Fin 3 → ℕ) (h : ∀ a, (i a + 1) * S1x2048x512.size a ≤ S1x2048x5632.size a) (y : S1x2048x512.Idx) : S1x2048x5632.Idx :=
  fun (a : Fin 3) => (⟨i a * S1x2048x512.size a + 1 * (y a).val, by
    have h1 := h a; have h2 : (y a).val < S1x2048x512.size a := (y a).isLt
    rw [Nat.add_mul, one_mul] at h1; omega⟩ : Fin (S1x2048x5632.size a))

theorem iblk1_at (hO : Ok m) (c : Dev nD) (t : Fin (cfgM m hO).N) (y : S1x2048x512.Idx) :
    (iblk m hO c 1 t : Vec F S1x2048x512 .f32) y
      = (V m c main_arg1 : Vec F S1x2048x5632 .f32) (wIdx (cc0_transform_1 k0_off1_inb numel1_S1 (tbl m) (grid0.coords t)) (hO.2.1 (grid0.coords t)).fst y) := rfl

theorem iblk2_at (hO : Ok m) (c : Dev nD) (t : Fin (cfgM m hO).N) (y : S1x2048x512.Idx) :
    (iblk m hO c 2 t : Vec F S1x2048x512 .f32) y
      = (V m c main_arg2 : Vec F S1x2048x5632 .f32) (wIdx (cc0_transform_1 k0_off1_inb numel1_S1 (tbl m) (grid0.coords t)) (hO.2.1 (grid0.coords t)).fst y) := rfl

theorem wIdx_congr {i j : Fin 3 → ℕ} (h : i = j) (hi : ∀ a, (i a + 1) * S1x2048x512.size a ≤ S1x2048x5632.size a) (hj) (y : S1x2048x512.Idx) :
    wIdx i hi y = wIdx j hj y := by subst h; rfl

theorem iblk_same (hO : Ok m) (c : Dev nD) (t u : Fin (cfgM m hO).N)
    (h : cc0_transform_1 k0_off1_inb numel1_S1 (tbl m) (grid0.coords t) = cc0_transform_1 k0_off1_inb numel1_S1 (tbl m) (grid0.coords u)) :
    w0Blk m hO c t = w0Blk m hO c u ∧ w1Blk m hO c t = w1Blk m hO c u :=
  ⟨congrArg castW (funext fun y => (iblk1_at m hO c t y).trans ((congrArg (V m c main_arg1 : Vec F S1x2048x5632 .f32) (wIdx_congr h _ _ y)).trans (iblk1_at m hO c u y).symm)),
    congrArg castW (funext fun y => (iblk2_at m hO c t y).trans ((congrArg (V m c main_arg2 : Vec F S1x2048x5632 .f32) (wIdx_congr h _ _ y)).trans (iblk2_at m hO c u y).symm))⟩

/-- Where the column does not change, the blocks are the ones of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    w0Blk m hO c t = w0Blk m hO c (prev m hO t.val (lt_trans t.isLt (Nat.lt_succ_self _)) h0)
      ∧ w1Blk m hO c t = w1Blk m hO c (prev m hO t.val (lt_trans t.isLt (Nat.lt_succ_self _)) h0) := by
  obtain ⟨h1, -⟩ := of_not_chg hC
  apply iblk_same
  rw [transform1_eq, transform1_eq]
  have c1 := coord1 t
  have c0 := coord0 t
  have c0' := coord0 (prev m hO t.val (lt_trans t.isLt (Nat.lt_succ_self _)) h0)
  rw [c1] at h1
  have e0 : (grid0.coords t 0).val = (grid0.coords (prev m hO t.val (lt_trans t.isLt (Nat.lt_succ_self _)) h0) 0).val := by
    rw [c0, c0']; show t.val / 16 = (t.val - 1) / 16; omega
  rw [e0]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

/-- One run of the body between two points, the scratch buffers entered at `s0`, `s1`. -/
theorem point_run (hO : Ok m) (c : Dev nD) (t : Fin (cfgM m hO).N) (s0 s1 : Vec F S2048x512 .bf16)
    (hs : ¬Chg (grid0.coords t) (teNow c (grid0.coords t) (tbl m 0)) (tePrev c (grid0.coords t) (tbl m 0)) → w0Blk m hO c t = s0 ∧ w1Blk m hO c t = s1) :
    Held c (ms0 m hO t) (ms1 m hO t) (ms2 m hO t) (xBlk m hO c t) (iblk m hO c 1 t) (iblk m hO c 2 t) (tbl m 0) (tbl m 3) (iprop(∃ d, owns (c : Thread nD τ) (ms3 m hO t) fullShare d)) s0 s1
      ⊢ wp frame (wpE (defs₀ (F := F)) Variants.none c none) Set.univ (bodyAt (adm m hO) t)
          (fun _ => Held c (ms0 m hO t) (ms1 m hO t) (ms2 m hO t) (xBlk m hO c t) (iblk m hO c 1 t) (iblk m hO c 2 t) (tbl m 0) (tbl m 3) (owns (c : Thread nD τ) (ms3 m hO t) fullShare (outBlk m hO c t)) (w0Blk m hO c t) (w1Blk m hO c t)) :=
  body_run c (grid0.coords t) (ms0 m hO t) _ (ms1 m hO t) _ (ms2 m hO t) _ (ms3 m hO t) _ (xBlk m hO c t) (iblk m hO c 1 t) (iblk m hO c 2 t) (tbl m 0) (tbl m 3) s0 s1 (w0Blk m hO c t) (w1Blk m hO c t)
    (full_now m c _) (fun _ => ⟨rfl, rfl⟩) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(iprop(owns (c : Thread nD τ) scr0 fullShare (w0Blk m hO c (prev m hO n hn h)) ∗ owns (c : Thread nD τ) scr1 fullShare (w1Blk m hO c (prev m hO n hn h)))
      ∗ (∃ r, prngReg c r)) ∗ Pipeline.ΦT pre0 (tbl m) c) := dif_neg h

theorem inv_succ (hO : Ok m) (c : Dev nD) (t : Fin (cfgM m hO).N) :
    inv m hO c t.succ = iprop(iprop(iprop(owns (c : Thread nD τ) scr0 fullShare (w0Blk m hO c t) ∗ owns (c : Thread nD τ) scr1 fullShare (w1Blk m hO c t))
      ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

theorem inv_cast (hO : Ok m) (c : Dev nD) (t : Fin (cfgM m hO).N) (h0 : t.val ≠ 0) :
    inv m hO c t.castSucc = iprop(iprop(iprop(owns (c : Thread nD τ) scr0 fullShare (w0Blk m hO c (prev m hO t.val (lt_trans t.isLt (Nat.lt_succ_self _)) h0)) ∗ owns (c : Thread nD τ) scr1 fullShare (w1Blk m hO c (prev m hO t.val (lt_trans t.isLt (Nat.lt_succ_self _)) h0)))
      ∗ (∃ r, prngReg c r)) ∗ Pipeline.ΦT pre0 (tbl m) c) :=
  (inv_val m hO c t.castSucc t.val (lt_trans t.isLt (Nat.lt_succ_self _)) (Fin.val_castSucc t)).trans (invN_pos m hO c t.val _ h0)

theorem inv_first (hO : Ok m) (c : Dev nD) (t : Fin (cfgM m hO).N) (h0 : t.val = 0) :
    inv m hO c t.castSucc = iprop(Pipeline.ΦA spec0 c ∗ Pipeline.ΦT pre0 (tbl m) c) :=
  (inv_val m hO c t.castSucc t.val (lt_trans t.isLt (Nat.lt_succ_self _)) (Fin.val_castSucc t)).trans (invN_zero m hO c t.val _ h0)

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1, before_2]
  rw [show (dats m hO 0 c).owesAt () t.succ = (dats m hO 0 c).owesAt () t.castSucc from rfl, after_0, after_1, after_2, after_3,
    show (dats m hO 0 c).Φ t.succ = inv m hO c t.succ from rfl, show (dats m hO 0 c).Φ t.castSucc = inv m hO c t.castSucc from rfl, inv_succ, tables_eq]
  by_cases h0 : t.val = 0
  · rw [inv_first m hO c t h0, own_eq, tables_eq]
    iintro ⟨⟨⟨⟨⟨%s0, HS0⟩, ⟨%s1, HS1⟩⟩, Hg⟩, ⟨HT0, HT1, HT2, HT3⟩⟩, Ho, ⟨%d0, H0⟩, ⟨%d1, H1⟩, ⟨%d2, H2⟩, ⟨%d3, H3⟩⟩
    iapply (wp_wand_r Idealize.ShloMosaic.frame (wpE (defs₀ (F := F)) Variants.none c none) Set.univ)
    isplitl [H0 H1 H2 H3 HS0 HS1 HT0 HT3]
    · iapply (point_run m hO c t s0 s1 (fun hC => absurd (chg_first _ _ (by rw [coord1, h0])) hC))
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iexact HT3
    iintro %_ ⟨H0, H1, H2, H3, HS0, HS1, HT0, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3
  · rw [inv_cast m hO c t h0, tables_eq]
    iintro ⟨⟨⟨⟨HS0, HS1⟩, Hg⟩, ⟨HT0, HT1, HT2, HT3⟩⟩, Ho, ⟨%d0, H0⟩, ⟨%d1, H1⟩, ⟨%d2, H2⟩, ⟨%d3, H3⟩⟩
    iapply (wp_wand_r Idealize.ShloMosaic.frame (wpE (defs₀ (F := F)) Variants.none c none) Set.univ)
    isplitl [H0 H1 H2 H3 HS0 HS1 HT0 HT3]
    · iapply (point_run m hO c t _ _ (kept m hO c t h0))
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      iexact HT3
    iintro %_ ⟨H0, H1, H2, H3, HS0, HS1, HT0, HT3⟩
    isplitl [HS0 HS1 Hg HT0 HT1 HT2 HT3]
    · isplitl [HS0 HS1 Hg]
      · isplitl [HS0 HS1]
        · isplitl [HS0]; · iexact HS0
          iexact HS1
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    iexact H3

/-- The output block is written back at every point. -/
theorem flush_3 (a : (pcfg0 (F := F)).Adm) (t : Fin (cfg0 a).N) : ((cfg0 a).win 3).flush t = true :=
  ((fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) :
    ∀ t : Fin grid0.N, Pipeline.Window.flushOf grid0 true cc0_transform_3 t = true)) t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (c : Dev nD) :
    BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  refine sep_mono .rfl (sep_mono .rfl (sep_mono .rfl (sep_mono .rfl (sep_mono .rfl ?_))))
  exact written (F := F) ((cfgM m hO).idle 3 ((cfgM m hO).grid.coords t)) (((cfgM m hO).win 3).flush t) _ _ (flush_3 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨⟨HS0, HS1⟩, Hg⟩, -⟩
  isplitl [HS0 HS1]
  · isplitl [HS0]; · iexists _; iexact HS0
    iexists _; iexact HS1
  iexact Hg

set_option backward.isDefEq.respectTransparency.types false in
/-- The launch: every run ends, the arrays as the proof data give them, every counter at zero. -/
theorem run_main (hO : Ok m) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨unchanged_of m (ok m) (dats m (ok m)) (A_eq m (ok m)) r h.1, h.2⟩)
    (run_main m ρ (ok m))

end Cert.Kernel4Ideal.Ff

end
-- ==== Proof.FfRef.lean ====
/- The dense gated product as the reference computes it, and its value at an index. -/
module

public import proofs.«01_k».proof.Proof.Gen.Reference4Ideal.Run
public import proofs.«01_k».proof.Proof.SwRef

@[expose] public section

set_option maxRecDepth 16384

noncomputable section

namespace Cert.Reference4Ideal.Stage

open Cert.Reference4Ideal Cert.Reference4Ideal.Gen Cert.Reference4Ideal.Value
open Idealize.ShloMosaic Idealize.ShloMosaic.TcCoe Idealize.ShloMosaic.Pointwise
open Cert.Reference2Ideal.Stage (gate)

section
variable (xs : FVec Ideal S16384x2048 .f32) (w w1 w3 : FVec Ideal S1x2048x5632 .f32) (r : Fin 16384) (c : Fin 5632)

/-- The one matrix. -/
def slab : FVec Ideal S2048x5632 .f32 := shapeCast _ w shapeCasts_S1x2048x5632_S2048x5632

/-- Every row by it. -/
def prod : FVec Ideal S16384x5632 .f32 := Host.dotGeneral dot_S16384x2048_S2048x5632_S16384x5632_1_0_0_1_n_n none xs (slab w)

/-- The gated product of two. -/
def gated (a b : FVec Ideal S16384x5632 .f32) : FVec Ideal S16384x5632 .f32 :=
  mulf (mulf a (Host.divf (broadcastInDim S16384x5632 ![] bcast_S_S16384x5632 (constant S_ .f32 0x3F800000#32))
    (addf (broadcastInDim S16384x5632 ![] bcast_S_S16384x5632 (constant S_ .f32 0x3F800000#32)) (Host.exp (Host.negf a))))) b

theorem slab_at (k : Fin 2048) : slab w (ix2 k c) = w (ix3 0 k c) := by
  pointwise [slab]

theorem prod_at : prod xs w (ix2 r c) = ∑ k, xs (ix2 r k) * w (ix3 0 k c) := by
  pointwise [prod]
  simp only [slab_at]

theorem gated_at (a b : FVec Ideal S16384x5632 .f32) : gated a b (ix2 r c) = gate (a (ix2 r c)) * b (ix2 r c) := by
  pointwise [gated, gate]

/-- The gated product at a row and a column. -/
def cell : EReal := gate (∑ k, xs (ix2 r k) * w1 (ix3 0 k c)) * ∑ k, xs (ix2 r k) * w3 (ix3 0 k c)

/-- The reference's result, from its arguments. -/
def outcome : FVec Ideal S16384x5632 .bf16 := truncf .bf16 (gated (prod xs w1) (prod xs w3)) bitsLt_bf16_f32

theorem outcome_at : outcome xs w1 w3 (ix2 r c) = cell xs w1 w3 r c := by
  pointwise [outcome]
  rw [gated_at, prod_at, prod_at]
  rfl

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = outcome (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2⟩) (Value.run (F := Ideal) m ρ)

end Cert.Reference4Ideal.Stage

end
-- ==== Proof.FfOut.lean ====
/- The dense gated product at the ideal instance: each element of the output is what the reference says. -/
module

public import proofs.«01_k».proof.Proof.FfRun
public import proofs.«01_k».proof.Proof.FfRef

@[expose] public section

set_option maxRecDepth 16384

noncomputable section

namespace Cert.Kernel4Ideal.Ff

open Idealize.ShloMosaic Idealize.ShloMosaic.TcCoe Idealize.ShloMosaic.Tactic Idealize.ShloMosaic.Pointwise
open Gen
open Cert.Reference2Ideal.Stage (gate)
open Cert.Reference4Ideal.Stage (cell outcome)

/-! ## The body's values at an element -/

/-- The gated product of a row of rows and a column of the two weight blocks. -/
def mix {R : ℕ} (x : FVec Ideal (⟨2, ![R, 2048]⟩ : Shape) .bf16) (w0 w1 : FVec Ideal S2048x512 .bf16) (p : Fin R) (s : Fin 512) : EReal :=
  gate (∑ k : Fin 2048, x (ix2 p k) * w0 (ix2 k s)) * ∑ k : Fin 2048, x (ix2 p k) * w1 (ix2 k s)

section
variable (w0 w1 : FVec Ideal S2048x512 .bf16) (s : Fin 512)

theorem pay5_at (x : FVec Ideal S1024x2048 .bf16) (p : Fin 1024) : k0_pay5 (F := Ideal) x w0 w1 (ix2 p s) = mix x w0 w1 p s := by
  pointwise [k0_pay5, mix, gate]
  rfl

end

/-! ## The blocks a point reads -/

variable (m : (ℓ : Loc nD τ sig) → Buf (Elt Ideal) ℓ) (ρ : Dev nD → PrngReg)

/-- The rows, as launched. -/
abbrev rowsIn (c : Dev nD) : FVec Ideal S16384x2048 .f32 := m ((c.tc : Thread nD τ).loc main_arg0)
abbrev gateIn (c : Dev nD) : FVec Ideal S1x2048x5632 .f32 := m ((c.tc : Thread nD τ).loc main_arg1)
abbrev lineIn (c : Dev nD) : FVec Ideal S1x2048x5632 .f32 := m ((c.tc : Thread nD τ).loc main_arg2)

/-- The converted rows are the rows. -/
theorem V_rows (c : Dev nD) : (V m c main_v0 : FVec Ideal S16384x2048 .bf16) = fun i => rowsIn m c i := by
  entry_read
  rfl

/-- Where an element of a row block stands in the rows. -/
def xIdx (i : Fin 2 → ℕ) (h : ∀ a, (i a + 1) * S1024x2048.size a ≤ S16384x2048.size a) (y : S1024x2048.Idx) : S16384x2048.Idx :=
  fun (a : Fin 2) => (⟨i a * S1024x2048.size a + 1 * (y a).val, by
    have h1 := h a; have h2 : (y a).val < S1024x2048.size a := (y a).isLt
    rw [Nat.add_mul, one_mul] at h1; omega⟩ : Fin (S16384x2048.size a))

theorem xBlk_idx (hO : Ok m) (c : Dev nD) (t : Fin (cfgM m hO).N) (y : S1024x2048.Idx) :
    (xBlk m hO c t : FVec Ideal S1024x2048 .bf16) y
      = (V m c main_v0 : FVec Ideal S16384x2048 .bf16) (xIdx (cc0_transform_0 inb_S1_S1_0 numel1_S1 (tbl m) (grid0.coords t)) (hO.1 (grid0.coords t)).fst y) := rfl

theorem xIdx_congr {i j : Fin 2 → ℕ} (h : i = j) (hi : ∀ a, (i a + 1) * S1024x2048.size a ≤ S16384x2048.size a) (hj) (y : S1024x2048.Idx) :
    xIdx i hi y = xIdx j hj y := by subst h; rfl

theorem xBlk_at (c : Dev nD) (t : Fin (cfgM m (ok m)).N) (p : Fin 1024) (k : Fin 2048)
    (r : Fin 16384) (hr : r.val = (grid0.coords t 1).val * 1024 + p) :
    (xBlk m (ok m) c t : FVec Ideal S1024x2048 .bf16) (ix2 p k) = rowsIn m c (ix2 r k) := by
  refine (xBlk_idx m _ c t _).trans ((congrFun (V_rows m c) _).trans (congrArg (rowsIn m c) ?_))
  have hj := (ok m).1 (grid0.coords t)
  have e := transform0_eq m (grid0.coords t)
  refine (xIdx_congr e hj.fst (e ▸ hj.fst) _).trans (funext fun a : Fin 2 => Fin.ext ?_)
  match a with
  | ⟨0, _⟩ => show (grid0.coords t 1).val * 1024 + 1 * p.val = r.val; omega
  | ⟨1, _⟩ => show 0 * 2048 + 1 * k.val = k.val; omega

theorem wIdx_at (t : Fin (cfgM m (ok m)).N) (hj) (k : Fin 2048) (s : Fin 512) (q : Fin 5632)
    (hq : q.val = (grid0.coords t 0).val * 512 + s) :
    wIdx (cc0_transform_1 k0_off1_inb numel1_S1 (tbl m) (grid0.coords t)) hj (ix3 0 k s) = ix3 0 k q := by
  have et := transform1_eq m (grid0.coords t)
  refine (wIdx_congr et hj (et ▸ hj) _).trans (funext fun a : Fin 3 => Fin.ext ?_)
  match a with
  | ⟨0, _⟩ => rfl
  | ⟨1, _⟩ => show 0 * 2048 + 1 * k.val = k.val; omega
  | ⟨2, _⟩ => show (grid0.coords t 0).val * 512 + 1 * s.val = q.val; omega

theorem w0Blk_at (c : Dev nD) (t : Fin (cfgM m (ok m)).N) (k : Fin 2048) (s : Fin 512) (q : Fin 5632)
    (hq : q.val = (grid0.coords t 0).val * 512 + s) :
    (w0Blk m (ok m) c t : FVec Ideal S2048x512 .bf16) (ix2 k s) = gateIn m c (ix3 0 k q) :=
  (castW_at _ k s).trans ((iblk1_at m _ c t _).trans ((congrFun (V_arg m c main_arg1 (.inr (.inl rfl))) _).trans
    (congrArg (gateIn m c) (wIdx_at m t _ k s q hq))))

theorem w1Blk_at (c : Dev nD) (t : Fin (cfgM m (ok m)).N) (k : Fin 2048) (s : Fin 512) (q : Fin 5632)
    (hq : q.val = (grid0.coords t 0).val * 512 + s) :
    (w1Blk m (ok m) c t : FVec Ideal S2048x512 .bf16) (ix2 k s) = lineIn m c (ix3 0 k q) :=
  (castW_at _ k s).trans ((iblk2_at m _ c t _).trans ((congrFun (V_arg m c main_arg2 (.inr (.inr rfl))) _).trans
    (congrArg (lineIn m c) (wIdx_at m t _ k s q hq))))

/-! ## The whole array -/

/-- What the reference leaves, from the kernel's arguments. -/
abbrev result (c : Dev nD) : FVec Ideal S16384x5632 .bf16 := outcome (rowsIn m c) (gateIn m c) (lineIn m c)

/-- The block of a point agrees with the reference. -/
theorem block_result (c : Dev nD) (t : Fin (cfgM m (ok m)).N) (p : Fin 1024) (s : Fin 512) (r : Fin 16384) (q : Fin 5632)
    (hr : r.val = (grid0.coords t 1).val * 1024 + p) (hq : q.val = (grid0.coords t 0).val * 512 + s) :
    (outBlk m (ok m) c t : FVec Ideal S1024x512 .bf16) (ix2 p s) = result m c (ix2 r q) := by
  refine (pay5_at _ _ s _ p).trans (Eq.trans ?_ (Cert.Reference4Ideal.Stage.outcome_at _ _ _ r q).symm)
  have ex := fun k => xBlk_at m c t p k r hr
  have e0 := fun k => w0Blk_at m c t k s q hq
  have e1 := fun k => w1Blk_at m c t k s q hq
  unfold mix cell
  simp only [ex, e0, e1]

/-- Where an element of an output block stands in the output. -/
def oIdx (i : Fin 2 → ℕ) (h : ∀ a, (i a + 1) * S1024x512.size a ≤ S16384x5632.size a) (y : S1024x512.Idx) : S16384x5632.Idx :=
  fun (a : Fin 2) => (⟨i a * S1024x512.size a + 1 * (y a).val, by
    have h1 := h a; have h2 : (y a).val < S1024x512.size a := (y a).isLt
    rw [Nat.add_mul, one_mul] at h1; omega⟩ : Fin (S16384x5632.size a))

theorem oIdx_congr {i j : Fin 2 → ℕ} (h : i = j) (hi : ∀ a, (i a + 1) * S1024x512.size a ≤ S16384x5632.size a) (hj) (y : S1024x512.Idx) :
    oIdx i hi y = oIdx j hj y := by subst h; rfl

theorem inside3 (i : grid0.Coords) (a : Fin 2) : (cc0_transform_3 i a + 1) * S1024x512.size a ≤ S16384x5632.size a := by
  rw [transform3_eq]
  have h0 : (i 0).val < 11 := (i 0).isLt
  have h1 : (i 1).val < 16 := (i 1).isLt
  match a with
  | ⟨0, _⟩ => show ((i 1).val + 1) * 1024 ≤ 16384; omega
  | ⟨1, _⟩ => show ((i 0).val + 1) * 512 ≤ 5632; omega

theorem blk_emb (hO : Ok m) (t : Fin (cfgM m hO).N) (y : S1024x512.Idx) :
    (((cfgM m hO).win 3).blk t).view.emb y = oIdx (cc0_transform_3 (grid0.coords t)) (inside3 _) y := rfl

theorem oIdx_at (i : grid0.Coords) (p : Fin 1024) (s : Fin 512) (r : Fin 16384) (q : Fin 5632)
    (hr : r.val = (i 1).val * 1024 + p) (hq : q.val = (i 0).val * 512 + s) : oIdx (cc0_transform_3 i) (inside3 i) (ix2 p s) = ix2 r q := by
  have e := transform3_eq i
  refine (oIdx_congr e (inside3 i) (e ▸ inside3 i) _).trans (funext fun a : Fin 2 => Fin.ext ?_)
  match a with
  | ⟨0, _⟩ => show (i 1).val * 1024 + 1 * p.val = r.val; omega
  | ⟨1, _⟩ => show (i 0).val * 512 + 1 * s.val = q.val; omega

/-- After the run the output array is the reference's result. -/
theorem final (c : Dev nD) :
    (dats m (ok m) 0 c).arrAt 3 (cfgM m (ok m)).N = result m c := by
  refine (dats m (ok m) 0 c).arrAt_eq_of_emb 3 _ (fun t _ (y : S1024x512.Idx) => ?_) (fun (i : S16384x5632.Idx) => ?_)
  · obtain ⟨p, s, rfl⟩ : ∃ (p : Fin 1024) (s : Fin 512), y = ix2 p s := ⟨y 0, y 1, by funext k; fin_cases k <;> rfl⟩
    have h0 : (grid0.coords t 0).val < 11 := (grid0.coords t 0).isLt
    have h1 : (grid0.coords t 1).val < 16 := (grid0.coords t 1).isLt
    have hp := p.isLt
    have hs := s.isLt
    refine Eq.trans ?_ (congrArg (result m c) ((blk_emb m _ t _).trans
      (oIdx_at (grid0.coords t) p s ⟨(grid0.coords t 1).val * 1024 + p, by omega⟩ ⟨(grid0.coords t 0).val * 512 + s, by omega⟩ rfl rfl)).symm)
    refine Eq.trans ?_ (block_result m c t p s _ _ rfl rfl)
    exact congrFun (after_3 m _ c t) (ix2 p s)
  · obtain ⟨r, q, rfl⟩ : ∃ (r : Fin 16384) (q : Fin 5632), i = ix2 r q := ⟨i 0, i 1, by funext k; fin_cases k <;> rfl⟩
    have hN : (cfgM m (ok m)).N = 176 := rfl
    have hr := r.isLt
    have hq := q.isLt
    let t : Fin grid0.N := ⟨q.val / 512 * 16 + r.val / 1024, by rw [show grid0.N = 176 from rfl]; omega⟩
    refine ⟨t, flush_3 _ t, ?_⟩
    have hc1 := coord1 t
    have hc0 := coord0 t
    have e := oIdx_at (grid0.coords t) ⟨r.val % 1024, by omega⟩ ⟨q.val % 512, by omega⟩ r q
      (by rw [hc1]; show r.val = (q.val / 512 * 16 + r.val / 1024) % 16 * 1024 + r.val % 1024; omega)
      (by rw [hc0]; show q.val = (q.val / 512 * 16 + r.val / 1024) / 16 * 512 + q.val % 512; omega)
    exact e ▸ (((cfgM m (ok m)).win 3).blk t).view.emb_mem_set (ix2 ⟨r.val % 1024, by omega⟩ ⟨q.val % 512, by omega⟩ : S1024x512.Idx)

/-- The kernel's run leaves the reference's result, and its arguments as launched. -/
theorem value : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.out_eq c (3 : Fin 4)).trans (final m c),
      unchanged_of m (ok m) (dats m (ok m)) (A_eq m (ok m)) r h.1 c⟩)
    (run_main m ρ (ok m))

end Cert.Kernel4Ideal.Ff
-- ==== Proof.FfFrame.lean ====
/- The claims on the dense gated product: the frames of its two readings and of its reference, and that the kernel at
   the ideal instance leaves what the reference leaves. -/
module

public import proofs.«01_k».proof.Proof.FfOut
public import proofs.«01_k».proof.Proof.Gen.Kernel4
public import proofs.«01_k».proof.Proof.Gen.Reference4Ideal.Run
public import proofs.«01_k».proof.Defs

@[expose] public section

noncomputable section

namespace Cert.Dense

open Idealize.ShloMosaic Idealize.ShloMosaic.TcCoe Idealize.ShloMosaic.Tactic

theorem frame_pi : quiescent_Kernel4Ideal (hKernel4Ideal := Kernel4Ideal.Gen.facts) :=
  fun m g _ => Kernel4Ideal.Ff.frame m g

/-- The two readings have one body table. -/
theorem defs0_same : @Kernel4.defs₀ Bits _ Kernel4.Gen.facts = @Kernel4Ideal.defs₀ Bits _ Kernel4Ideal.Gen.facts := by
  refine congrArg Defs.onTc ?_
  funext l x
  fin_cases l
  rfl

theorem defs_same : @Kernel4.defs Bits _ Kernel4.Gen.facts = @Kernel4Ideal.defs Bits _ Kernel4Ideal.Gen.facts :=
  congrArg (Pipeline.defs (@Kernel4Ideal.pcfgs Bits _ Kernel4Ideal.Gen.facts)) defs0_same

theorem main_same : @Kernel4.main Bits _ Kernel4.Gen.facts = @Kernel4Ideal.main Bits _ Kernel4Ideal.Gen.facts := by
  unfold Kernel4.main Kernel4Ideal.main
  rfl

theorem frame_p : quiescent_Kernel4 (hKernel4 := Kernel4.Gen.facts) := fun m g _ =>
  (congr (congrArg (fun d p => θ_run d (onTc (τ := Kernel4Ideal.τ) p) ⟨m, fun _ => 0, g⟩ _) defs_same) main_same).mpr
    (Kernel4Ideal.Ff.frame (F := Bits) m g)

theorem frame_ri : quiescent_Reference4Ideal (hReference4Ideal := Reference4Ideal.Gen.facts) := fun m g _ =>
  (θ_run Reference4Ideal.defs (onTc (τ := Reference4Ideal.τ) Reference4Ideal.main) ⟨m, fun _ => 0, g⟩).mono
    (fun r h => ⟨fun c => (h c).2, Idealize.ShloMosaic.sem_eq_zero_of_no_sems (by decide) r.2⟩) (Reference4Ideal.Value.run (F := Idealize.ShloMosaic.Ideal) m g)

theorem algebraic : algebraic_Kernel4Ideal_Reference4Ideal (hKernel4Ideal := Kernel4Ideal.Gen.facts) (hReference4Ideal := Reference4Ideal.Gen.facts) := by
  intro m g m' g' _ hagree
  refine ⟨Kernel4Ideal.Ff.result m, Kernel4Ideal.Ff.value m g, ?_⟩
  refine (θ_run Reference4Ideal.defs _ _).mono (fun _ hr c => ⟨(hr c).1.trans ?_, (hr c).2⟩) (Reference4Ideal.Stage.run m' g')
  obtain ⟨a0, a1, a2⟩ := hagree c
  rw [a0, a1, a2]

end Cert.Dense
-- ==== Proof.GrKit.lean ====
/- The launch of the dense feed-forward's second product with its gated residual: what the region finds in the buffers,
   the four constant tables, the windows' blocks, and the names of the memrefs the body is called with. -/
module

public import proofs.«01_k».proof.Proof.Gen.Kernel5Ideal.Launch
public import proofs.«01_k».proof.Proof.Gen.Kernel5Ideal.Skeleton
public import proofs.«01_k».proof.Proof.Gen.Kernel5Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Gr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory with the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The argument arrays are found as launched. -/
theorem V_arg (c : Dev nD) (b : Ref sig .tc) (hb : b = main_arg0 ∨ b = main_arg1 ∨ b = main_arg2 ∨ b = main_arg3) : V m c b = m ((c : Thread nD τ).loc b) := by
  rcases hb with rfl | rfl | rfl | rfl <;> (entry_read; rfl)

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S32 .i32 := Memref.whole main_v1
abbrev mT1 : Memref sig .tc .smem S32 .i32 := Memref.whole main_c
abbrev mT2 : Memref sig .tc .smem S1 .i32 := Memref.whole main_v2
abbrev mT3 : Memref sig .tc .smem S32 .i32 := Memref.whole main_v3

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S512x5632 .bf16 := spec0_0.stage ((cfgM m hO).slots t 0)
abbrev ms1 (hO : Ok m) (t : Fin (cfgM m hO).N) : Memref sig .tc .vmem S1x5632x512 .f32 := spec0_1.stage ((cfgM m hO).slots t 1)
abbrev ms2 (hO : Ok m) (t : Fin (cfgM m hO).N) : Memref sig .tc .vmem S512x512 .f32 := spec0_2.stage ((cfgM m hO).slots t 2)
abbrev ms3 (hO : Ok m) (t : Fin (cfgM m hO).N) : Memref sig .tc .vmem S1x1x1x512 .f32 := spec0_3.stage ((cfgM m hO).slots t 3)
abbrev ms4 (hO : Ok m) (t : Fin (cfgM m hO).N) : Memref sig .tc .vmem S512x512 .f32 := spec0_4.stage ((cfgM m hO).slots t 4)
abbrev scr0 : Memref sig .tc .vmem S5632x512 .bf16 := Memref.whole cc0_scratch0

/-- The body at point `t`, on what the pipeline calls it with. -/
abbrev bodyAt (a : (pcfg0 (F := F)).Adm) (t : Fin (cfg0 a).N) : Prog (TpuEff nD τ sig (Elt F) Λ₀ .tc) PUnit :=
  cc0_matmul_gated_residual (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) scr0 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the scratch buffer at some contents. -/
theorem own_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t)
    ∧ ((∀ t, dat.after 2 t = iblk m hO c 2 t) → ∀ t d, dat.before 2 t d = iblk m hO c 2 t)
    ∧ ((∀ t, dat.after 3 t = iblk m hO c 3 t) → ∀ t d, dat.before 3 t d = iblk m hO c 3 t) := by
  refine ⟨fun ha t d => ?_, fun ha t d => ?_, fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 3 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_arg m c _ (.inl rfl)))),
    ((h c).1 1).trans (((dats 0 c).arrAt_in 1 rfl _).trans ((hA c 1).trans (V_arg m c _ (.inr (.inl rfl))))),
    ((h c).1 2).trans (((dats 0 c).arrAt_in 2 rfl _).trans ((hA c 2).trans (V_arg m c _ (.inr (.inr (.inl rfl)))))),
    ((h c).2 main_arg3 (by decide : main_arg3 ∈ Pipeline.restRefs sig spec0)).trans (V_arg m c _ (.inr (.inr (.inr rfl))))⟩

end Cert.Kernel5Ideal.Gr

end
-- ==== Proof.GrCast.lean ====
/- The weight copy the body of the dense second product keeps: what its loop leaves in the scratch buffer is the whole
   weight block rounded. -/
module

public import proofs.«01_k».proof.Proof.GrKit
public import Idealize.ShloMosaic.Lib.WritesUnit
public import Idealize.ShloMosaic.Lib.VecWindow
public import Idealize.ShloMosaic.Lib.Pointwise

@[expose] public section

set_option maxRecDepth 16384

noncomputable section

namespace Cert.Kernel5Ideal.Gr

open Idealize.ShloMosaic Idealize.ShloMosaic.TcCoe Idealize.ShloMosaic.Tactic
open Idealize.SL Idealize.SL.Sem
open Gen

variable {F : FTy → Type} [FloatOps F]

/-- A weight block rounded to bf16, without its unit axis. -/
def castW (x : Vec F S1x5632x512 .f32) : FVec F S5632x512 .bf16 :=
  truncf .bf16 ((fun y => x (ix3 0 (y 0) (y 1))) : FVec F S5632x512 .f32) bitsLt_bf16_f32

theorem castW_at (x : Vec F S1x5632x512 .f32) (r : Fin 5632) (s : Fin 512) :
    castW x (ix2 r s) = FloatOps.truncf .bf16 bitsLt_bf16_f32 (x (ix3 0 r s)) := rfl

theorem pay1_at (v : Vec F S1x512x512 .f32) (a : Fin 512) (b : Fin 512) :
    k0_pay1 (F := F) v (ix2 a b) = FloatOps.truncf .bf16 bitsLt_bf16_f32 (v (ix3 0 a b)) := by
  pointwise [k0_pay1]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 11 := by decide +kernel

variable (𝒱 : Variants) (c : Dev nD) (bd : Option 𝒱.V) (i : grid0.Coords) (arg2 : Memref sig .tc .smem S32 .i32) (harg2 : arg2.IsWhole) (arg3 : Memref sig .tc .smem S32 .i32) (harg3 : arg3.IsWhole) (arg4 : Memref sig .tc .smem S1 .i32) (harg4 : arg4.IsWhole) (arg5 : Memref sig .tc .smem S32 .i32) (harg5 : arg5.IsWhole) (arg6 : Memref sig .tc .vmem S512x5632 .bf16) (harg6 : arg6.IsWhole) (arg7 : Memref sig .tc .vmem S1x5632x512 .f32) (harg7 : arg7.IsWhole) (arg8 : Memref sig .tc .vmem S512x512 .f32) (harg8 : arg8.IsWhole) (arg9 : Memref sig .tc .vmem S1x1x1x512 .f32) (harg9 : arg9.IsWhole) (arg10 : Memref sig .tc .vmem S512x512 .f32) (harg10 : arg10.IsWhole) (arg11 : Memref sig .tc .vmem S5632x512 .bf16) (harg11 : arg11.IsWhole)
  (X7 : BufTy.Contents (Elt F) arg7.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 X7 k
      = [⟨Rect.unit (s := S5632x512) (k0_off4 k) S512x512.size (k0_off4_inb k), k0_pay1 (arg7.view.readAt (Elt F) (Rect.unit (s := S1x5632x512) (k0_off3 k) S1x512x512.size (k0_off3_inb k)).toLoadRect X7)⟩] := by
  unfold tripL_k0_t1 trip_k0_t1
  rfl

/-- A rounded row block is the rounded weight at the rows it is stored to. -/
theorem piece_eq (k : Fin k0_t1_loop.trips) (arg : Memref sig .tc .vmem S1x5632x512 .f32) (X : BufTy.Contents (Elt F) arg.view.ty)
    (p : FVec F S512x512 .bf16)
    (hp : ∀ a b, p (ix2 a b) = FloatOps.truncf .bf16 bitsLt_bf16_f32 (arg.view.readAt (Elt F) (Rect.unit (s := S1x5632x512) (k0_off3 k) S1x512x512.size (k0_off3_inb k)).toLoadRect X (ix3 0 a b)))
    (x : S512x512.Idx) :
    p x = castW (arg.view.read (Elt F) X) ((Rect.unit (s := S5632x512) (k0_off4 k) S512x512.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 X7 k), ∀ x, p.2 x = castW (arg7.view.read (Elt F) X7) (p.1.emb x))
    ∧ ∀ y : S5632x512.Idx, (y 0).val < 512 * k → ∃ p ∈ (pb_k0_t1 (F := F) 𝒱 c bd i arg2 harg2 arg3 harg3 arg4 harg4 arg5 harg5 arg6 harg6 arg7 harg7 arg8 harg8 arg9 harg9 arg10 harg10 arg11 harg11 X7 k), y ∈ p.1.set := by
  intro k
  induction k with
  | zero =>
      intro _
      refine ⟨fun p hp => absurd hp List.not_mem_nil, fun y hy => absurd hy (by omega)⟩
  | succ k ih =>
      intro hk
      obtain ⟨i1, i3⟩ := ih (by omega)
      have hs := pb_k0_t1_succ (F := F) 𝒱 c bd i arg2 harg2 arg3 harg3 arg4 harg4 arg5 harg5 arg6 harg6 arg7 harg7 arg8 harg8 arg9 harg9 arg10 harg10 arg11 harg11 X7 ⟨k, by omega⟩
      rw [trip_pieces] at hs
      dsimp only at hs
      rw [hs]
      have hmem : ∀ y : S5632x512.Idx, 512 * k ≤ (y 0).val → (y 0).val < 512 * (k + 1) →
          y ∈ (Rect.unit (s := S5632x512) (k0_off4 ⟨k, by omega⟩) S512x512.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 512; have : (y 1).val < 512 := (y 1).isLt; omega⟩
      refine ⟨fun p hp => ?_, fun y hy => ?_⟩
      · rcases List.mem_append.mp hp with h | h
        · rw [List.mem_singleton] at h; subst h
          exact piece_eq (F := F) _ arg7 X7 _ (fun a b => pay1_at _ a b)
        · exact i1 p h
      · by_cases hlt : (y 0).val < 512 * k
        · obtain ⟨p, hp, hy1⟩ := i3 y hlt
          exact ⟨p, List.mem_append.mpr (.inr hp), hy1⟩
        · exact ⟨_, List.mem_append.mpr (.inl (List.mem_singleton.mpr rfl)), hmem y (by omega) hy⟩

/-- After the loop the scratch buffer holds the weight block rounded. -/
theorem loop_read (f11 : BufTy.Contents (Elt F) arg11.view.ty) :
    arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 X7 k0_t1_loop.trips)) = castW (arg7.view.read (Elt F) X7) := by
  obtain ⟨h1, h3⟩ := pieces_upto (F := F) 𝒱 c bd i arg2 harg2 arg3 harg3 arg4 harg4 arg5 harg5 arg6 harg6 arg7 harg7 arg8 harg8 arg9 harg9 arg10 harg10 arg11 harg11 X7 k0_t1_loop.trips le_rfl
  have hr : ∀ y : S5632x512.Idx, (y 0).val < 512 * k0_t1_loop.trips := fun y => by
    rw [trips_eq]; exact (y 0).isLt
  exact funext fun y => View.read_writes_apply_of_pieces _ _ _ _ h1 y (h3 y (hr y))

end Cert.Kernel5Ideal.Gr

end
-- ==== Proof.GrBody.lean ====
/- One run of the dense second product's body: at a column's first tile the weight block is rounded into the scratch
   buffer, and the output block holds the residual rows plus the gate times the product. -/
module

public import proofs.«01_k».proof.Proof.GrCast

@[expose] public section

set_option maxRecDepth 16384

noncomputable section

namespace Cert.Kernel5Ideal.Gr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ (UR sig nD τ) ℕ

/-- The tile's own entry of the first table and the entry of the tile before it, as the body reads them. -/
abbrev teNow (c : Dev nD) (i : grid0.Coords) (f : Buf (Elt F) (mT0.view.loc (c : Thread nD τ))) : BitVec 32 :=
  View.readAt (Elt F) mT0.view (Rect.unit (s := S32) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S32) (k0_off2 i) S1.size (k0_off2_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

section Fin

variable {v9 : View sig .tc .vmem S512x512 .f32} (f : v9.ty.Contents (Elt F))

/-- A weight copy as the body loads it. -/
abbrev ldW (u : Memref sig .tc .vmem S5632x512 .bf16) (g : BufTy.Contents (Elt F) u.view.ty) : Vec F S5632x512 .bf16 :=
  u.view.readAt (Elt F) (Rect.unit (s := S5632x512) ![0, 0] S5632x512.size inb_S5632x512_S5632x512_0_0).toLoadRect g

theorem ldW_eq {u : Memref sig .tc .vmem S5632x512 .bf16} {g : BufTy.Contents (Elt F) u.view.ty} {w : Vec F S5632x512 .bf16}
    (h : u.view.read (Elt F) g = w) : ldW u g = w := (View.readAt_full u.view g _).trans h

/-- A store of the whole output block, read back. -/
theorem read_one (p : Vec F S512x512 .f32) :
    v9.read (Elt F) (v9.writes (Elt F) f [⟨Rect.unit (s := S512x512) ![0, 0] S512x512.size inb_S512x512_S512x512_0_0, p⟩]) = p :=
  funext fun y => View.read_writes_cons_rows_of_mem v9 f inb_S512x512_S512x512_0_0 p [] y y rfl (Nat.zero_add _).symm rfl

theorem fin {M : Memref sig .tc .vmem S512x5632 .bf16} {fx : BufTy.Contents (Elt F) M.view.ty} {u : Memref sig .tc .vmem S5632x512 .bf16} {g : BufTy.Contents (Elt F) u.view.ty}
    {Mr : Memref sig .tc .vmem S512x512 .f32} {fr : BufTy.Contents (Elt F) Mr.view.ty} {Mg : Memref sig .tc .vmem S1x1x1x512 .f32} {fg : BufTy.Contents (Elt F) Mg.view.ty}
    {x : Vec F S512x5632 .bf16} {w : Vec F S5632x512 .bf16} {xr : Vec F S512x512 .f32} {xg : Vec F S1x1x1x512 .f32}
    (hx : M.view.read (Elt F) fx = x) (h0 : u.view.read (Elt F) g = w) (hr : Mr.view.read (Elt F) fr = xr) (hg : Mg.view.read (Elt F) fg = xg) :
    v9.read (Elt F) (v9.writes (Elt F) f [⟨Rect.unit (s := S512x512) ![0, 0] S512x512.size inb_S512x512_S512x512_0_0,
        k0_pay2 (M.view.readAt (Elt F) (Rect.unit (s := S512x5632) ![0, 0] S512x5632.size inb_S512x5632_S512x5632_0_0).toLoadRect fx) (ldW u g)
          (Mr.view.readAt (Elt F) (Rect.unit (s := S512x512) ![0, 0] S512x512.size inb_S512x512_S512x512_0_0).toLoadRect fr)
          (Mg.view.readAt (Elt F) (Rect.unit (s := S1x1x1x512) ![0, 0, 0, 0] S1x1x1x512.size inb_S1x1x1x512_S1x1x1x512_0_0_0_0).toLoadRect fg)⟩])
      = k0_pay2 x w xr xg := by
  rw [ldW_eq h0, View.readAt_full, hx, View.readAt_full, hr, View.readAt_full, hg]
  exact read_one f _

end Fin

variable (c : Dev nD) (i : grid0.Coords) (arg6 : Memref sig .tc .vmem S512x5632 .bf16) (harg6 : arg6.IsWhole) (arg7 : Memref sig .tc .vmem S1x5632x512 .f32) (harg7 : arg7.IsWhole)
    (arg8 : Memref sig .tc .vmem S512x512 .f32) (harg8 : arg8.IsWhole) (arg9 : Memref sig .tc .vmem S1x1x1x512 .f32) (harg9 : arg9.IsWhole) (arg10 : Memref sig .tc .vmem S512x512 .f32) (harg10 : arg10.IsWhole)
    (x0 : Vec F S512x5632 .bf16) (x1 : Vec F S1x5632x512 .f32) (x2 : Vec F S512x512 .f32) (x3 : Vec F S1x1x1x512 .f32) (xt0 : Buf (Elt F) (mT0.view.loc (c : Thread nD τ)))

/-- What the body holds while it runs: the four input blocks, the output block, the scratch buffer, the first table. -/
abbrev Held (out : sProp 𝕄) (s : Vec F S5632x512 .bf16) : sProp 𝕄 :=
  iprop(owns (c : Thread nD τ) arg6 fullShare x0 ∗ owns (c : Thread nD τ) arg7 fullShare x1 ∗ owns (c : Thread nD τ) arg8 fullShare x2 ∗ owns (c : Thread nD τ) arg9 fullShare x3 ∗ out ∗ owns (c : Thread nD τ) scr0 fullShare s ∗ tabPt c mT0 xt0)

set_option maxHeartbeats 4000000 in
theorem body_run (s w : Vec F S5632x512 .bf16)
    (hw : Chg i (teNow c i xt0) (tePrev c i xt0) → w = castW x1) (hs : ¬Chg i (teNow c i xt0) (tePrev c i xt0) → w = s) (E : Set ℕ) :
    Held c arg6 arg7 arg8 arg9 x0 x1 x2 x3 xt0 (iprop(∃ d, owns (c : Thread nD τ) arg10 fullShare d)) s
      ⊢ wp frame (wpE (defs₀ (F := F)) Variants.none c none) E (cc0_matmul_gated_residual i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _))
          (fun _ => Held c arg6 arg7 arg8 arg9 x0 x1 x2 x3 xt0 (owns (c : Thread nD τ) arg10 fullShare (k0_pay2 x0 w x2 x3)) w) := by
  simp only [cc0_matmul_gated_residual_eq_skeleton]; unfold cc0_matmul_gated_residual_skel
  unfold Held owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, HT0⟩
  by_cases hC : Chg i (teNow c i xt0) (tePrev c i xt0)
  · have hL := loop_read (F := F) Variants.none c none i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) f1 fs
    have e0 := hL.trans ((congrArg castW hf1).trans (hw hC).symm)
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]
    rotate_left
    · isplitl [HS]; · iexists _; isplitr; swap; iexact HS; ipureintro; exact e0
      iexact HT0
    iexists _; isplitr; swap; iexact H4; ipureintro
    exact fin _ hf0 e0 hf2 hf3
  · have e0 := hfs.trans (hs hC).symm
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]
    rotate_left
    · isplitl [HS]; · iexists _; isplitr; swap; iexact HS; ipureintro; exact e0
      iexact HT0
    iexists _; isplitr; swap; iexact H4; ipureintro
    exact fin _ hf0 e0 hf2 hf3

end Cert.Kernel5Ideal.Gr

end
-- ==== Proof.GrWord.lean ====
/- The words the dense second product reads from its tables, all constants, and what the grid's points make of them. -/
module

public import proofs.«01_k».proof.Proof.GrBody

@[expose] public section

set_option maxRecDepth 16384

noncomputable section

namespace Cert.Kernel5Ideal.Gr

open Idealize.ShloMosaic Idealize.ShloMosaic.TcCoe Idealize.ShloMosaic.Tactic
open Gen

variable {F : FTy → Type} [FloatOps F] (m : (ℓ : Loc nD τ sig) → Buf (Elt F) ℓ)

/-- The sequence of a tile's rows: two prompts of eight tiles, then four samples of four. -/
def seqOf (k : ℕ) : ℕ := if k < 16 then k / 8 else 2 + (k - 16) / 4

theorem seqOf_lt {k : ℕ} (h : k < 32) : seqOf k < 8 := by
  unfold seqOf; split <;> omega

/-- The tables are constants: every tile takes the one matrix, the second table holds the tiles' sequences, 32 tiles are in use. -/
theorem tbl_0 : (tbl m 0 : IVec S32 32) = fun _ => 0#32 := by
  unfold tbl
  show V m 0 main_v1 = _
  entry_read
  rfl

theorem tbl_1 : (tbl m 1 : IVec S32 32) = fun i => lit0 (S32.rowMajor i) := by
  unfold tbl
  show V m 0 main_c = _
  entry_read
  rfl

theorem tbl_2 : (tbl m 2 : IVec S1 32) = fun _ => 32#32 := by
  unfold tbl
  show V m 0 main_v2 = _
  entry_read
  rfl

theorem lit_seq : ∀ k : Fin 32, (lit0 (S32.rowMajor (ix1 k))).toNat = seqOf k.val := by
  decide +kernel

/-! ## Coordinates -/

theorem toNat_coord (i : grid0.Coords) : (BitVec.ofNat 32 (i 1).val).toNat = (i 1).val :=
  (BitVec.toNat_ofNat _ _).trans (Nat.mod_eq_of_lt (lt_trans (i 1).isLt (by decide)))

theorem toNat_coord0 (i : grid0.Coords) : (BitVec.ofNat 32 (i 0).val).toNat = (i 0).val :=
  (BitVec.toNat_ofNat _ _).trans (Nat.mod_eq_of_lt (lt_trans (i 0).isLt (by decide)))

theorem off1_eq (i : grid0.Coords) : k0_off1 i 0 = (i 1).val := toNat_coord i

/-! ## Conditions -/

/-- No fresh weights: not the first tile, and the tile's expert is that of the tile before. -/
theorem of_not_chg {i : grid0.Coords} {a b : BitVec 32} (h : ¬Chg i a b) : (i 1).val ≠ 0 ∧ a = b := by
  have key : ∀ p q : BitVec 1, ¬(Scalar.cmpi .ne (Scalar.extui (Scalar.ori p q) : BitVec 32) 0#32 = 1#1) → p = 0#1 ∧ q = 0#1 := by decide
  have hk := key _ _ h
  refine ⟨fun h0 => ?_, ?_⟩
  · have := hk.1
    rw [h0] at this
    exact absurd this (by decide)
  · by_contra hab
    have : Scalar.cmpi .ne a b = 1#1 := by
      show BitVec.ofBool (a != b) = 1#1
      rw [bne_iff_ne.mpr hab]; rfl
    exact absurd (this.symm.trans hk.2) (by decide)

theorem chg_first {i : grid0.Coords} (a b : BitVec 32) (h : (i 1).val = 0) : Chg i a b := by
  by_contra hc
  exact (of_not_chg hc).1 h

/-! ## Points -/

theorem coord1 (t : Fin grid0.N) : (grid0.coords t 1).val = t.val % 32 := by
  have := Pipeline.Grid.coords_val t 1 (S := 1) (B := 32) (by decide) rfl
  simpa using this

theorem coord0 (t : Fin grid0.N) : (grid0.coords t 0).val = t.val / 32 := by
  have h := Pipeline.Grid.coords_val t 0 (S := 32) (B := 4) (by decide) rfl
  have ht : t.val < 128 := t.isLt
  rw [h]; omega

theorem transform1_eq (i : grid0.Coords) : cc0_transform_1 k0_off1_inb numel1_S1 (tbl m) i = ![0, 0, (i 0).val] := by
  have h0 : (Scalar.addi 0#32 (BitVec.ofNat 32 (i 0).val) : BitVec 32).toNat = (i 0).val := by
    rw [show (Scalar.addi 0#32 (BitVec.ofNat 32 (i 0).val) : BitVec 32) = BitVec.ofNat 32 (i 0).val from BitVec.zero_add _]
    exact toNat_coord0 i
  funext a
  match a with
  | ⟨0, _⟩ => rfl
  | ⟨1, _⟩ => rfl
  | ⟨2, _⟩ => exact h0

theorem min_word : ∀ n : Fin 32, (Scalar.minsi (BitVec.ofNat 32 n.val) (Scalar.subi 32#32 1#32) : BitVec 32).toNat = n.val := by
  decide +kernel

theorem transform0_eq (i : grid0.Coords) : cc0_transform_0 inb_S1_S1_0 numel1_S1 (tbl m) i = ![(i 1).val, 0] := by
  have h1 : (tbl m).at 2 (Rect.unit (s := S1) ![0] S1.size inb_S1_S1_0) numel1_S1 = 32#32 := congrFun (tbl_2 m) _
  funext a
  match a with
  | ⟨0, _⟩ => exact (congrArg (fun u => (Scalar.minsi (BitVec.ofNat 32 (i 1).val) (Scalar.subi u 1#32) : BitVec 32).toNat) h1).trans (min_word (i 1))
  | ⟨1, _⟩ => rfl

theorem transform2_eq (i : grid0.Coords) : cc0_transform_2 i = ![(i 1).val, (i 0).val] := by
  funext a
  match a with
  | ⟨0, _⟩ => exact toNat_coord i
  | ⟨1, _⟩ => exact toNat_coord0 i

theorem transform3_eq (i : grid0.Coords) : cc0_transform_3 k0_off1_inb numel1_S1 (tbl m) i = ![seqOf (i 1).val, 5, 0, (i 0).val] := by
  have h1 : (tbl m).at 1 (Rect.unit (s := S32) (k0_off1 i) S1.size (k0_off1_inb i)) numel1_S1 = (tbl m 1 : IVec S32 32) (ix1 (i 1)) :=
    congrArg (tbl m 1 : IVec S32 32) (funext fun a : Fin 1 => by
      obtain rfl : a = 0 := Subsingleton.elim a 0
      exact Fin.ext ((Nat.add_zero _).trans (off1_eq i)))
  funext a
  match a with
  | ⟨0, _⟩ => exact (congrArg BitVec.toNat (h1.trans (congrFun (tbl_1 m) _))).trans (lit_seq (i 1))
  | ⟨1, _⟩ => rfl
  | ⟨2, _⟩ => rfl
  | ⟨3, _⟩ => exact toNat_coord0 i

theorem transform4_eq (i : grid0.Coords) : cc0_transform_4 i = ![(i 1).val, (i 0).val] := by
  funext a
  match a with
  | ⟨0, _⟩ => exact toNat_coord i
  | ⟨1, _⟩ => exact toNat_coord0 i

/-! ## The side condition -/

theorem inside1 (i : grid0.Coords) (a : Fin 3) :
    (cc0_transform_1 k0_off1_inb numel1_S1 (tbl m) i a + 1) * S1x5632x512.size a ≤ S1x5632x2048.size a := by
  rw [transform1_eq]
  have h2 : (i 0).val < 4 := (i 0).isLt
  match a with
  | ⟨0, _⟩ => show (0 + 1) * 1 ≤ 1; omega
  | ⟨1, _⟩ => show (0 + 1) * 5632 ≤ 5632; omega
  | ⟨2, _⟩ => show ((i 0).val + 1) * 512 ≤ 2048; omega

theorem inside0 (i : grid0.Coords) (a : Fin 2) :
    (cc0_transform_0 inb_S1_S1_0 numel1_S1 (tbl m) i a + 1) * S512x5632.size a ≤ S16384x5632.size a := by
  rw [transform0_eq]
  have h1 : (i 1).val < 32 := (i 1).isLt
  match a with
  | ⟨0, _⟩ => show ((i 1).val + 1) * 512 ≤ 16384; omega
  | ⟨1, _⟩ => show (0 + 1) * 5632 ≤ 5632; omega

theorem inside3 (i : grid0.Coords) (a : Fin 4) :
    (cc0_transform_3 k0_off1_inb numel1_S1 (tbl m) i a + 1) * S1x1x1x512.size a ≤ S8x6x1x2048.size a := by
  rw [transform3_eq]
  have h0 : (i 0).val < 4 := (i 0).isLt
  have h1 : seqOf (i 1).val < 8 := seqOf_lt (i 1).isLt
  match a with
  | ⟨0, _⟩ => show (seqOf (i 1).val + 1) * 1 ≤ 8; omega
  | ⟨1, _⟩ => show (5 + 1) * 1 ≤ 6; omega
  | ⟨2, _⟩ => show (0 + 1) * 1 ≤ 1; omega
  | ⟨3, _⟩ => show ((i 0).val + 1) * 512 ≤ 2048; omega

/-- Every window's block lies inside its array. -/
theorem ok : Ok m :=
  ⟨fun i => ⟨inside0 m i, .inr (Affine.block_words_dvd (of_decide_eq_true rfl) (by decide))⟩,
    fun i => ⟨inside1 m i, .inl rfl⟩, fun i => ⟨inside3 m i, .inl rfl⟩⟩

end Cert.Kernel5Ideal.Gr

end
-- ==== Proof.GrRun.lean ====
/- The whole run of the dense second product: the weight copy is followed from point to point, at each of the grid's
   points the output block is what one run of the body leaves, and the argument arrays end as launched. -/
module

public import proofs.«01_k».proof.Proof.GrWord

@[expose] public section

set_option maxRecDepth 16384

noncomputable section

namespace Cert.Kernel5Ideal.Gr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the windows read at a point, with their own types; the weight block rounded; the residual rows; the gate. -/
abbrev xBlk (hO : Ok m) (c : Dev nD) (t : Fin (cfgM m hO).N) : Vec F S512x5632 .bf16 := iblk m hO c 0 t
abbrev wBlk (hO : Ok m) (c : Dev nD) (t : Fin (cfgM m hO).N) : Vec F S5632x512 .bf16 := castW (iblk m hO c 1 t)
abbrev rBlk (hO : Ok m) (c : Dev nD) (t : Fin (cfgM m hO).N) : Vec F S512x512 .f32 := iblk m hO c 2 t
abbrev gBlk (hO : Ok m) (c : Dev nD) (t : Fin (cfgM m hO).N) : Vec F S1x1x1x512 .f32 := iblk m hO c 3 t

/-- The output block after the body at a point. -/
abbrev outBlk (hO : Ok m) (c : Dev nD) (t : Fin (cfgM m hO).N) : Vec F S512x512 .f32 :=
  k0_pay2 (xBlk m hO c t) (wBlk m hO c t) (rBlk m hO c t) (gBlk m hO c t)

/-- The point before a point that is not the first. -/
abbrev prev (hO : Ok m) (n : ℕ) (h : n < (cfgM m hO).N + 1) (h0 : n ≠ 0) : Fin (cfgM m hO).N := ⟨n - 1, by omega⟩

/-- What is held between points: at the start the scratch buffer at anything, later the weight copy of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(owns (c : Thread nD τ) scr0 fullShare (wBlk m hO c (prev m hO n hn h))
    ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outBlk m hO c t := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2.1 (after_1 m hO c) t d
theorem before_2 (hO : Ok m) (c : Dev nD) (t : Fin (cfgM m hO).N) (d) : (dats m hO 0 c).before 2 t d = iblk m hO c 2 t :=
  (before_of m hO (dats m hO 0 c) (A_eq m hO c)).2.2.1 (after_2 m hO c) t d
theorem before_3 (hO : Ok m) (c : Dev nD) (t : Fin (cfgM m hO).N) (d) : (dats m hO 0 c).before 3 t d = iblk m hO c 3 t :=
  (before_of m hO (dats m hO 0 c) (A_eq m hO c)).2.2.2 (after_3 m hO c) t d

/-! ## The weight blocks of two points with the same column -/

/-- A weight block's place in its array, from the block's index. -/
def wIdx (i : Fin 3 → ℕ) (h : ∀ a, (i a + 1) * S1x5632x512.size a ≤ S1x5632x2048.size a) (y : S1x5632x512.Idx) : S1x5632x2048.Idx :=
  fun (a : Fin 3) => (⟨i a * S1x5632x512.size a + 1 * (y a).val, by
    have h1 := h a; have h2 : (y a).val < S1x5632x512.size a := (y a).isLt
    rw [Nat.add_mul, one_mul] at h1; omega⟩ : Fin (S1x5632x2048.size a))

theorem iblk1_at (hO : Ok m) (c : Dev nD) (t : Fin (cfgM m hO).N) (y : S1x5632x512.Idx) :
    (iblk m hO c 1 t : Vec F S1x5632x512 .f32) y
      = (V m c main_arg1 : Vec F S1x5632x2048 .f32) (wIdx (cc0_transform_1 k0_off1_inb numel1_S1 (tbl m) (grid0.coords t)) (hO.2.1 (grid0.coords t)).fst y) := rfl

theorem wIdx_congr {i j : Fin 3 → ℕ} (h : i = j) (hi : ∀ a, (i a + 1) * S1x5632x512.size a ≤ S1x5632x2048.size a) (hj) (y : S1x5632x512.Idx) :
    wIdx i hi y = wIdx j hj y := by subst h; rfl

theorem iblk_same (hO : Ok m) (c : Dev nD) (t u : Fin (cfgM m hO).N)
    (h : cc0_transform_1 k0_off1_inb numel1_S1 (tbl m) (grid0.coords t) = cc0_transform_1 k0_off1_inb numel1_S1 (tbl m) (grid0.coords u)) :
    wBlk m hO c t = wBlk m hO c u :=
  congrArg castW (funext fun y => (iblk1_at m hO c t y).trans ((congrArg (V m c main_arg1 : Vec F S1x5632x2048 .f32) (wIdx_congr h _ _ y)).trans (iblk1_at m hO c u y).symm))

/-- Where the column does not change, the block is the one of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    wBlk m hO c t = wBlk m hO c (prev m hO t.val (lt_trans t.isLt (Nat.lt_succ_self _)) h0) := by
  obtain ⟨h1, -⟩ := of_not_chg hC
  apply iblk_same
  rw [transform1_eq, transform1_eq]
  have c1 := coord1 t
  have c0 := coord0 t
  have c0' := coord0 (prev m hO t.val (lt_trans t.isLt (Nat.lt_succ_self _)) h0)
  rw [c1] at h1
  have e0 : (grid0.coords t 0).val = (grid0.coords (prev m hO t.val (lt_trans t.isLt (Nat.lt_succ_self _)) h0) 0).val := by
    rw [c0, c0']; show t.val / 32 = (t.val - 1) / 32; omega
  rw [e0]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- One run of the body between two points, the scratch buffer entered at `s`. -/
theorem point_run (hO : Ok m) (c : Dev nD) (t : Fin (cfgM m hO).N) (s : Vec F S5632x512 .bf16)
    (hs : ¬Chg (grid0.coords t) (teNow c (grid0.coords t) (tbl m 0)) (tePrev c (grid0.coords t) (tbl m 0)) → wBlk m hO c t = s) :
    Held c (ms0 m hO t) (ms1 m hO t) (ms2 m hO t) (ms3 m hO t) (xBlk m hO c t) (iblk m hO c 1 t) (rBlk m hO c t) (gBlk m hO c t) (tbl m 0) (iprop(∃ d, owns (c : Thread nD τ) (ms4 m hO t) fullShare d)) s
      ⊢ wp frame (wpE (defs₀ (F := F)) Variants.none c none) Set.univ (bodyAt (adm m hO) t)
          (fun _ => Held c (ms0 m hO t) (ms1 m hO t) (ms2 m hO t) (ms3 m hO t) (xBlk m hO c t) (iblk m hO c 1 t) (rBlk m hO c t) (gBlk m hO c t) (tbl m 0) (owns (c : Thread nD τ) (ms4 m hO t) fullShare (outBlk m hO c t)) (wBlk m hO c t)) :=
  body_run c (grid0.coords t) (ms0 m hO t) _ (ms1 m hO t) _ (ms2 m hO t) _ (ms3 m hO t) _ (ms4 m hO t) _ (xBlk m hO c t) (iblk m hO c 1 t) (rBlk m hO c t) (gBlk m hO c t) (tbl m 0) s (wBlk m hO c t)
    (fun _ => rfl) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(owns (c : Thread nD τ) scr0 fullShare (wBlk m hO c (prev m hO n hn h))
      ∗ (∃ r, prngReg c r)) ∗ Pipeline.ΦT pre0 (tbl m) c) := dif_neg h

theorem inv_succ (hO : Ok m) (c : Dev nD) (t : Fin (cfgM m hO).N) :
    inv m hO c t.succ = iprop(iprop(owns (c : Thread nD τ) scr0 fullShare (wBlk m hO c t)
      ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

theorem inv_cast (hO : Ok m) (c : Dev nD) (t : Fin (cfgM m hO).N) (h0 : t.val ≠ 0) :
    inv m hO c t.castSucc = iprop(iprop(owns (c : Thread nD τ) scr0 fullShare (wBlk m hO c (prev m hO t.val (lt_trans t.isLt (Nat.lt_succ_self _)) h0))
      ∗ (∃ r, prngReg c r)) ∗ Pipeline.ΦT pre0 (tbl m) c) :=
  (inv_val m hO c t.castSucc t.val (lt_trans t.isLt (Nat.lt_succ_self _)) (Fin.val_castSucc t)).trans (invN_pos m hO c t.val _ h0)

theorem inv_first (hO : Ok m) (c : Dev nD) (t : Fin (cfgM m hO).N) (h0 : t.val = 0) :
    inv m hO c t.castSucc = iprop(Pipeline.ΦA spec0 c ∗ Pipeline.ΦT pre0 (tbl m) c) :=
  (inv_val m hO c t.castSucc t.val (lt_trans t.isLt (Nat.lt_succ_self _)) (Fin.val_castSucc t)).trans (invN_zero m hO c t.val _ h0)

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1, before_2, before_3]
  rw [show (dats m hO 0 c).owesAt () t.succ = (dats m hO 0 c).owesAt () t.castSucc from rfl, after_0, after_1, after_2, after_3, after_4,
    show (dats m hO 0 c).Φ t.succ = inv m hO c t.succ from rfl, show (dats m hO 0 c).Φ t.castSucc = inv m hO c t.castSucc from rfl, inv_succ, tables_eq]
  by_cases h0 : t.val = 0
  · rw [inv_first m hO c t h0, own_eq, tables_eq]
    iintro ⟨⟨⟨⟨%s0, HS0⟩, Hg⟩, ⟨HT0, HT1, HT2, HT3⟩⟩, Ho, ⟨%d0, H0⟩, ⟨%d1, H1⟩, ⟨%d2, H2⟩, ⟨%d3, H3⟩, ⟨%d4, H4⟩⟩
    iapply (wp_wand_r Idealize.ShloMosaic.frame (wpE (defs₀ (F := F)) Variants.none c none) Set.univ)
    isplitl [H0 H1 H2 H3 H4 HS0 HT0]
    · iapply (point_run m hO c t s0 (fun hC => absurd (chg_first _ _ (by rw [coord1, h0])) hC))
      isplitl [H0]; · iexact H0
      isplitl [H1]; · iexact H1
      isplitl [H2]; · iexact H2
      isplitl [H3]; · iexact H3
      isplitl [H4]; · iexists _; iexact H4
      isplitl [HS0]; · iexact HS0
      iexact HT0
    iintro %_ ⟨H0, H1, H2, H3, H4, HS0, HT0⟩
    isplitl [HS0 Hg HT0 HT1 HT2 HT3]
    · isplitl [HS0 Hg]
      · isplitl [HS0]; · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    iexact H4
  · rw [inv_cast m hO c t h0, tables_eq]
    iintro ⟨⟨⟨HS0, Hg⟩, ⟨HT0, HT1, HT2, HT3⟩⟩, Ho, ⟨%d0, H0⟩, ⟨%d1, H1⟩, ⟨%d2, H2⟩, ⟨%d3, H3⟩, ⟨%d4, H4⟩⟩
    iapply (wp_wand_r Idealize.ShloMosaic.frame (wpE (defs₀ (F := F)) Variants.none c none) Set.univ)
    isplitl [H0 H1 H2 H3 H4 HS0 HT0]
    · iapply (point_run m hO c t _ (kept m hO c t h0))
      isplitl [H0]; · iexact H0
      isplitl [H1]; · iexact H1
      isplitl [H2]; · iexact H2
      isplitl [H3]; · iexact H3
      isplitl [H4]; · iexists _; iexact H4
      isplitl [HS0]; · iexact HS0
      iexact HT0
    iintro %_ ⟨H0, H1, H2, H3, H4, HS0, HT0⟩
    isplitl [HS0 Hg HT0 HT1 HT2 HT3]
    · isplitl [HS0 Hg]
      · isplitl [HS0]; · iexact HS0
        iexact Hg
      isplitl [HT0]; · iexact HT0
      isplitl [HT1]; · iexact HT1
      isplitl [HT2]; · iexact HT2
      iexact HT3
    isplitl [Ho]; · iexact Ho
    isplitl [H0]; · iexact H0
    isplitl [H1]; · iexact H1
    isplitl [H2]; · iexact H2
    isplitl [H3]; · iexact H3
    iexact H4

/-- The output block is written back at every point. -/
theorem flush_4 (a : (pcfg0 (F := F)).Adm) (t : Fin (cfg0 a).N) : ((cfg0 a).win 4).flush t = true :=
  ((fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) :
    ∀ t : Fin grid0.N, Pipeline.Window.flushOf grid0 true cc0_transform_4 t = true)) t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (c : Dev nD) :
    BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  refine sep_mono .rfl (sep_mono .rfl (sep_mono .rfl (sep_mono .rfl (sep_mono .rfl (sep_mono .rfl ?_)))))
  exact written (F := F) ((cfgM m hO).idle 4 ((cfgM m hO).grid.coords t)) (((cfgM m hO).win 4).flush t) (iprop(∃ d, owns (c : Thread nD τ) (ms4 m hO t) fullShare ((dats m hO 0 c).before 4 t d))) _ (flush_4 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨HS0, Hg⟩, -⟩
  isplitl [HS0]; · iexists _; iexact HS0
  iexact Hg

set_option backward.isDefEq.respectTransparency.types false in
/-- The launch: every run ends, the arrays as the proof data give them, every counter at zero. -/
theorem run_main (hO : Ok m) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨unchanged_of m (ok m) (dats m (ok m)) (A_eq m (ok m)) r h.1, h.2⟩)
    (run_main m ρ (ok m))

end Cert.Kernel5Ideal.Gr

end
-- ==== Proof.GrRef.lean ====
/- The dense second product with its gated residual as the reference computes it, and its value at an index. -/
module

public import proofs.«01_k».proof.Proof.Gen.Reference5Ideal.Run
public import Idealize.ShloMosaic.Lib.Pipeline.ValueKit

@[expose] public section

set_option maxRecDepth 16384

noncomputable section

namespace Cert.Reference5Ideal.Stage

open Cert.Reference5Ideal Cert.Reference5Ideal.Gen Cert.Reference5Ideal.Value
open Idealize.ShloMosaic Idealize.ShloMosaic.TcCoe Idealize.ShloMosaic.Pointwise

section
variable (act : FVec Ideal S16384x5632 .bf16) (w : FVec Ideal S1x5632x2048 .f32) (x f : FVec Ideal S16384x2048 .f32) (mod : FVec Ideal S8x12288 .f32) (g : FVec Ideal S8x2048 .f32)

/-- The matrix. -/
def slab : FVec Ideal S5632x2048 .f32 := shapeCast _ w shapeCasts_S1x5632x2048_S5632x2048

/-- Every row by it. -/
def prod : FVec Ideal S16384x2048 .f32 :=
  Host.dotGeneral dot_S16384x5632_S5632x2048_S16384x2048_1_0_0_1_n_n none (extf .f32 act bitsLt_bf16_f32) (slab w)

/-- The gates: the last of the modulation's six parts, one row for each sequence. -/
def gates : FVec Ideal S8x2048 .f32 := extractStridedSlice S8x2048 ![0, 10240] mod slices_S8x12288_S8x2048_0_10240

/-- The prompts' rows, each with its sequence's gate times its product added. -/
def prompts : FVec Ideal S8192x2048 .f32 :=
  shapeCast _ (addf (shapeCast _ (extractStridedSlice S8192x2048 ![0, 0] x slices_S16384x2048_S8192x2048_0_0) shapeCasts_S8192x2048_S2x4096x2048)
    (mulf (broadcastInDim S2x4096x2048 ![0, 1, 2] bcast_S2x1x2048_S2x4096x2048_0_1_2 (broadcastInDim S2x1x2048 ![0, 2] bcast_S2x2048_S2x1x2048_0_2 (extractStridedSlice S2x2048 ![0, 0] g slices_S8x2048_S2x2048_0_0)))
      (shapeCast _ (extractStridedSlice S8192x2048 ![0, 0] f slices_S16384x2048_S8192x2048_0_0) shapeCasts_S8192x2048_S2x4096x2048))) shapeCasts_S2x4096x2048_S8192x2048

/-- The samples' rows likewise. -/
def samples : FVec Ideal S8192x2048 .f32 :=
  shapeCast _ (addf (shapeCast _ (extractStridedSlice S8192x2048 ![8192, 0] x slices_S16384x2048_S8192x2048_8192_0) shapeCasts_S8192x2048_S4x2048x2048)
    (mulf (broadcastInDim S4x2048x2048 ![0, 1, 2] bcast_S4x1x2048_S4x2048x2048_0_1_2 (broadcastInDim S4x1x2048 ![0, 2] bcast_S4x2048_S4x1x2048_0_2 (extractStridedSlice S4x2048 ![2, 0] g slices_S8x2048_S4x2048_2_0)))
      (shapeCast _ (extractStridedSlice S8192x2048 ![8192, 0] f slices_S16384x2048_S8192x2048_8192_0) shapeCasts_S8192x2048_S4x2048x2048))) shapeCasts_S4x2048x2048_S8192x2048

theorem slab_at (k : Fin 5632) (c : Fin 2048) : slab w (ix2 k c) = w (ix3 0 k c) := by
  pointwise [slab]

theorem prod_at (r : Fin 16384) (c : Fin 2048) : prod act w (ix2 r c) = ∑ k, act (ix2 r k) * w (ix3 0 k c) := by
  pointwise [prod]
  simp only [slab_at]

theorem gates_at (s : Fin 8) (c : Fin 2048) : gates mod (ix2 s c) = mod (ix2 s ⟨10240 + c, by omega⟩) := by
  pointwise [gates]

theorem prompts_at (r : Fin 8192) (c : Fin 2048) :
    prompts x f g (ix2 r c) = x (ix2 ⟨r, by omega⟩ c) + g (ix2 ⟨r / 4096, by omega⟩ c) * f (ix2 ⟨r, by omega⟩ c) := by
  pointwise [prompts]

theorem samples_at (r : Fin 8192) (c : Fin 2048) :
    samples x f g (ix2 r c) = x (ix2 ⟨8192 + r, by omega⟩ c) + g (ix2 ⟨2 + r / 2048, by omega⟩ c) * f (ix2 ⟨8192 + r, by omega⟩ c) := by
  pointwise [samples]

/-- The sequence a row belongs to: two prompts of 4096 rows, then four samples of 2048. -/
def seq (r : ℕ) : ℕ := if r < 8192 then r / 4096 else 2 + (r - 8192) / 2048

theorem seq_lt (r : Fin 16384) : seq r < 8 := by
  have := r.isLt
  unfold seq; split <;> omega

/-- The two groups' rows put together. -/
def joined : FVec Ideal S16384x2048 .f32 :=
  concatenate S16384x2048 0 [⟨S8192x2048, prompts x f g⟩, ⟨S8192x2048, samples x f g⟩] concatenates_S8192x2048_S8192x2048_S16384x2048_d0

theorem joined_at (r : Fin 16384) (c : Fin 2048) :
    joined x f g (ix2 r c) = x (ix2 r c) + g (ix2 ⟨seq r, seq_lt r⟩ c) * f (ix2 r c) := by
  have hr := r.isLt
  unfold joined
  by_cases h : r.val < 8192
  · refine (concatenate_pair_apply_left (s₁ := S8192x2048) (s₂ := S8192x2048) (t := S16384x2048) 0 _ _ _ (ix2 r c) rfl (ix2 ⟨r.val, h⟩ c) fun b => by fin_cases b <;> rfl).trans ?_
    rw [prompts_at]
    have e : seq r = r.val / 4096 := if_pos h
    simp only [e]
  · refine (concatenate_pair_apply_right (s₁ := S8192x2048) (s₂ := S8192x2048) (t := S16384x2048) 0 _ _ _ (ix2 r c) rfl rfl (ix2 ⟨r.val - 8192, by omega⟩ c) (fun (b : Fin 2) hb => ?_) (by show r.val - 8192 + 8192 = r.val; omega)).trans ?_
    · match b with
      | ⟨0, _⟩ => exact absurd rfl hb
      | ⟨1, _⟩ => rfl
    rw [samples_at]
    have e : seq r = 2 + (r.val - 8192) / 2048 := if_neg h
    have e' : 8192 + (r.val - 8192) = r.val := by omega
    simp only [e, e']

/-- The result at a row and a column. -/
def cell (r : Fin 16384) (c : Fin 2048) : EReal :=
  x (ix2 r c) + mod (ix2 ⟨seq r, seq_lt r⟩ ⟨10240 + c, by omega⟩) * ∑ k, act (ix2 r k) * w (ix3 0 k c)

/-- The reference's result, from its arguments. -/
def outcome : FVec Ideal S16384x2048 .f32 := joined x (prod act w) (gates mod)

theorem outcome_at (r : Fin 16384) (c : Fin 2048) : outcome act w x mod (ix2 r c) = cell act w x mod r c := by
  refine (joined_at _ _ _ r c).trans ?_
  rw [gates_at, prod_at]
  rfl

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = outcome (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans rfl, (h c).2⟩) (Value.run (F := Ideal) m ρ)

end Cert.Reference5Ideal.Stage

end
-- ==== Proof.GrOut.lean ====
/- The dense second product with its gated residual at the ideal instance: each element of the output is what the reference says. -/
module

public import proofs.«01_k».proof.Proof.GrRun
public import proofs.«01_k».proof.Proof.GrRef

@[expose] public section

set_option maxRecDepth 16384

noncomputable section

namespace Cert.Kernel5Ideal.Gr

open Idealize.ShloMosaic Idealize.ShloMosaic.TcCoe Idealize.ShloMosaic.Tactic Idealize.ShloMosaic.Pointwise
open Gen
open Cert.Reference5Ideal.Stage (cell outcome seq seq_lt)

/-! ## The body's values at an element -/

/-- A residual element plus its column's gate times a row of rows by a column of the weight block. -/
theorem pay2_at (x : FVec Ideal S512x5632 .bf16) (w : FVec Ideal S5632x512 .bf16) (r : FVec Ideal S512x512 .f32) (g : FVec Ideal S1x1x1x512 .f32) (p : Fin 512) (s : Fin 512) :
    k0_pay2 (F := Ideal) x w r g (ix2 p s) = r (ix2 p s) + g (ix4 0 0 0 s) * ∑ k : Fin 5632, x (ix2 p k) * w (ix2 k s) := by
  pointwise [k0_pay2]

/-! ## The blocks a point reads -/

variable (m : (ℓ : Loc nD τ sig) → Buf (Elt Ideal) ℓ) (ρ : Dev nD → PrngReg)

/-- The rows, as launched. -/
abbrev rowsIn (c : Dev nD) : FVec Ideal S16384x5632 .bf16 := m ((c.tc : Thread nD τ).loc main_arg0)
abbrev weightIn (c : Dev nD) : FVec Ideal S1x5632x2048 .f32 := m ((c.tc : Thread nD τ).loc main_arg1)
abbrev residualIn (c : Dev nD) : FVec Ideal S16384x2048 .f32 := m ((c.tc : Thread nD τ).loc main_arg2)
abbrev modIn (c : Dev nD) : FVec Ideal S8x12288 .f32 := m ((c.tc : Thread nD τ).loc main_arg3)

/-- Where an element of a row block stands in the rows. -/
def xIdx (i : Fin 2 → ℕ) (h : ∀ a, (i a + 1) * S512x5632.size a ≤ S16384x5632.size a) (y : S512x5632.Idx) : S16384x5632.Idx :=
  fun (a : Fin 2) => (⟨i a * S512x5632.size a + 1 * (y a).val, by
    have h1 := h a; have h2 : (y a).val < S512x5632.size a := (y a).isLt
    rw [Nat.add_mul, one_mul] at h1; omega⟩ : Fin (S16384x5632.size a))

theorem xBlk_idx (hO : Ok m) (c : Dev nD) (t : Fin (cfgM m hO).N) (y : S512x5632.Idx) :
    (xBlk m hO c t : FVec Ideal S512x5632 .bf16) y
      = rowsIn m c (xIdx (cc0_transform_0 inb_S1_S1_0 numel1_S1 (tbl m) (grid0.coords t)) (hO.1 (grid0.coords t)).fst y) := rfl

theorem xIdx_congr {i j : Fin 2 → ℕ} (h : i = j) (hi : ∀ a, (i a + 1) * S512x5632.size a ≤ S16384x5632.size a) (hj) (y : S512x5632.Idx) :
    xIdx i hi y = xIdx j hj y := by subst h; rfl

theorem xBlk_at (c : Dev nD) (t : Fin (cfgM m (ok m)).N) (p : Fin 512) (k : Fin 5632)
    (r : Fin 16384) (hr : r.val = (grid0.coords t 1).val * 512 + p) :
    (xBlk m (ok m) c t : FVec Ideal S512x5632 .bf16) (ix2 p k) = rowsIn m c (ix2 r k) := by
  refine (xBlk_idx m _ c t _).trans (congrArg (rowsIn m c) ?_)
  have hj := (ok m).1 (grid0.coords t)
  have e := transform0_eq m (grid0.coords t)
  refine (xIdx_congr e hj.fst (e ▸ hj.fst) _).trans (funext fun a : Fin 2 => Fin.ext ?_)
  match a with
  | ⟨0, _⟩ => show (grid0.coords t 1).val * 512 + 1 * p.val = r.val; omega
  | ⟨1, _⟩ => show 0 * 5632 + 1 * k.val = k.val; omega

theorem wIdx_at (t : Fin (cfgM m (ok m)).N) (hj) (k : Fin 5632) (s : Fin 512) (q : Fin 2048)
    (hq : q.val = (grid0.coords t 0).val * 512 + s) :
    wIdx (cc0_transform_1 k0_off1_inb numel1_S1 (tbl m) (grid0.coords t)) hj (ix3 0 k s) = ix3 0 k q := by
  have et := transform1_eq m (grid0.coords t)
  refine (wIdx_congr et hj (et ▸ hj) _).trans (funext fun a : Fin 3 => Fin.ext ?_)
  match a with
  | ⟨0, _⟩ => rfl
  | ⟨1, _⟩ => show 0 * 5632 + 1 * k.val = k.val; omega
  | ⟨2, _⟩ => show (grid0.coords t 0).val * 512 + 1 * s.val = q.val; omega

theorem wBlk_at (c : Dev nD) (t : Fin (cfgM m (ok m)).N) (k : Fin 5632) (s : Fin 512) (q : Fin 2048)
    (hq : q.val = (grid0.coords t 0).val * 512 + s) :
    (wBlk m (ok m) c t : FVec Ideal S5632x512 .bf16) (ix2 k s) = weightIn m c (ix3 0 k q) :=
  (castW_at _ k s).trans ((iblk1_at m _ c t _).trans ((congrArg (V m c main_arg1 : Vec Ideal S1x5632x2048 .f32) (wIdx_at m t _ k s q hq)).trans
    (congrFun (V_arg m c main_arg1 (.inr (.inl rfl))) _)))

/-- Where an element of an output block or a residual block stands in its array. -/
def oIdx (i : Fin 2 → ℕ) (h : ∀ a, (i a + 1) * S512x512.size a ≤ S16384x2048.size a) (y : S512x512.Idx) : S16384x2048.Idx :=
  fun (a : Fin 2) => (⟨i a * S512x512.size a + 1 * (y a).val, by
    have h1 := h a; have h2 : (y a).val < S512x512.size a := (y a).isLt
    rw [Nat.add_mul, one_mul] at h1; omega⟩ : Fin (S16384x2048.size a))

theorem oIdx_congr {i j : Fin 2 → ℕ} (h : i = j) (hi : ∀ a, (i a + 1) * S512x512.size a ≤ S16384x2048.size a) (hj) (y : S512x512.Idx) :
    oIdx i hi y = oIdx j hj y := by subst h; rfl

theorem oIdx_at (f : Fin 2 → ℕ) {i : grid0.Coords} (e : f = ![(i 1).val, (i 0).val]) (h) (p : Fin 512) (s : Fin 512) (r : Fin 16384) (q : Fin 2048)
    (hr : r.val = (i 1).val * 512 + p) (hq : q.val = (i 0).val * 512 + s) : oIdx f h (ix2 p s) = ix2 r q := by
  refine (oIdx_congr e h (e ▸ h) _).trans (funext fun a : Fin 2 => Fin.ext ?_)
  match a with
  | ⟨0, _⟩ => show (i 1).val * 512 + 1 * p.val = r.val; omega
  | ⟨1, _⟩ => show (i 0).val * 512 + 1 * s.val = q.val; omega

theorem inside2 (i : grid0.Coords) (a : Fin 2) : (cc0_transform_2 i a + 1) * S512x512.size a ≤ S16384x2048.size a := by
  rw [transform2_eq]
  have h0 : (i 0).val < 4 := (i 0).isLt
  have h1 : (i 1).val < 32 := (i 1).isLt
  match a with
  | ⟨0, _⟩ => show ((i 1).val + 1) * 512 ≤ 16384; omega
  | ⟨1, _⟩ => show ((i 0).val + 1) * 512 ≤ 2048; omega

theorem rBlk_idx (c : Dev nD) (t : Fin (cfgM m (ok m)).N) (y : S512x512.Idx) :
    (rBlk m (ok m) c t : FVec Ideal S512x512 .f32) y = (V m c main_arg2 : Vec Ideal S16384x2048 .f32) (oIdx (cc0_transform_2 (grid0.coords t)) (inside2 _) y) := rfl

theorem rBlk_at (c : Dev nD) (t : Fin (cfgM m (ok m)).N) (p s : Fin 512) (r : Fin 16384) (q : Fin 2048)
    (hr : r.val = (grid0.coords t 1).val * 512 + p) (hq : q.val = (grid0.coords t 0).val * 512 + s) :
    (rBlk m (ok m) c t : FVec Ideal S512x512 .f32) (ix2 p s) = residualIn m c (ix2 r q) :=
  (rBlk_idx m c t _).trans ((congrArg (V m c main_arg2 : Vec Ideal S16384x2048 .f32) (oIdx_at _ (transform2_eq (grid0.coords t)) _ p s r q hr hq)).trans
    (congrFun (V_arg m c main_arg2 (.inr (.inr (.inl rfl)))) _))

/-- Where an element of a gate block stands among the modulation's parts. -/
def gIdx (i : Fin 4 → ℕ) (h : ∀ a, (i a + 1) * S1x1x1x512.size a ≤ S8x6x1x2048.size a) (y : S1x1x1x512.Idx) : S8x6x1x2048.Idx :=
  fun (a : Fin 4) => (⟨i a * S1x1x1x512.size a + 1 * (y a).val, by
    have h1 := h a; have h2 : (y a).val < S1x1x1x512.size a := (y a).isLt
    rw [Nat.add_mul, one_mul] at h1; omega⟩ : Fin (S8x6x1x2048.size a))

theorem gIdx_congr {i j : Fin 4 → ℕ} (h : i = j) (hi : ∀ a, (i a + 1) * S1x1x1x512.size a ≤ S8x6x1x2048.size a) (hj) (y : S1x1x1x512.Idx) :
    gIdx i hi y = gIdx j hj y := by subst h; rfl

theorem gBlk_idx (c : Dev nD) (t : Fin (cfgM m (ok m)).N) (y : S1x1x1x512.Idx) :
    (gBlk m (ok m) c t : FVec Ideal S1x1x1x512 .f32) y
      = (V m c main_v0 : Vec Ideal S8x6x1x2048 .f32) (gIdx (cc0_transform_3 k0_off1_inb numel1_S1 (tbl m) (grid0.coords t)) (inside3 m _) y) := rfl

/-- The modulation's parts, as the host lays them out. -/
def parts (x : FVec Ideal S8x12288 .f32) : FVec Ideal S8x6x1x2048 .f32 := shapeCast _ x shapeCasts_S8x12288_S8x6x1x2048

theorem parts_at (x : FVec Ideal S8x12288 .f32) (a : Fin 8) (q : Fin 2048) : parts x (ix4 a 5 0 q) = x (ix2 a ⟨10240 + q, by omega⟩) := by
  pointwise [parts]

theorem V_parts (c : Dev nD) : (V m c main_v0 : Vec Ideal S8x6x1x2048 .f32) = parts (modIn m c) := by
  entry_read
  rfl

theorem gIdx_at (i : grid0.Coords) (hj) (s : Fin 512) (a : Fin 8) (q : Fin 2048)
    (ha : a.val = seqOf (i 1).val) (hq : q.val = (i 0).val * 512 + s) :
    gIdx (cc0_transform_3 k0_off1_inb numel1_S1 (tbl m) i) hj (ix4 0 0 0 s) = ix4 a 5 0 q := by
  have et := transform3_eq m i
  refine (gIdx_congr et hj (et ▸ hj) _).trans (funext fun b : Fin 4 => Fin.ext ?_)
  match b with
  | ⟨0, _⟩ => show seqOf (i 1).val * 1 + 1 * 0 = a.val; omega
  | ⟨1, _⟩ => rfl
  | ⟨2, _⟩ => rfl
  | ⟨3, _⟩ => show (i 0).val * 512 + 1 * s.val = q.val; omega

theorem gBlk_at (c : Dev nD) (t : Fin (cfgM m (ok m)).N) (s : Fin 512) (a : Fin 8) (q : Fin 2048)
    (ha : a.val = seqOf (grid0.coords t 1).val) (hq : q.val = (grid0.coords t 0).val * 512 + s) :
    (gBlk m (ok m) c t : FVec Ideal S1x1x1x512 .f32) (ix4 0 0 0 s) = modIn m c (ix2 a ⟨10240 + q, by omega⟩) :=
  (gBlk_idx m c t _).trans ((congrArg (V m c main_v0 : Vec Ideal S8x6x1x2048 .f32) (gIdx_at m _ _ s a q ha hq)).trans
    ((congrFun (V_parts m c) _).trans (parts_at _ a q)))

/-- A row's sequence is its tile's. -/
theorem seq_tile (k p : ℕ) (hp : p < 512) : seq (k * 512 + p) = seqOf k := by
  unfold seq seqOf
  by_cases h : k < 16
  · rw [if_pos h, if_pos (by omega)]; omega
  · rw [if_neg h, if_neg (by omega)]; omega

/-! ## The whole array -/

/-- What the reference leaves, from the kernel's arguments. -/
abbrev result (c : Dev nD) : FVec Ideal S16384x2048 .f32 := outcome (rowsIn m c) (weightIn m c) (residualIn m c) (modIn m c)

/-- The block of a point agrees with the reference. -/
theorem block_result (c : Dev nD) (t : Fin (cfgM m (ok m)).N) (p : Fin 512) (s : Fin 512) (r : Fin 16384) (q : Fin 2048)
    (hr : r.val = (grid0.coords t 1).val * 512 + p) (hq : q.val = (grid0.coords t 0).val * 512 + s) :
    (outBlk m (ok m) c t : FVec Ideal S512x512 .f32) (ix2 p s) = result m c (ix2 r q) := by
  refine (pay2_at _ _ _ _ p s).trans (Eq.trans ?_ (Cert.Reference5Ideal.Stage.outcome_at _ _ _ _ r q).symm)
  have ex := fun k => xBlk_at m c t p k r hr
  have e0 := fun k => wBlk_at m c t k s q hq
  have er := rBlk_at m c t p s r q hr hq
  have eg := gBlk_at m c t s ⟨seq r, seq_lt r⟩ q (by show seq r.val = _; rw [hr]; exact seq_tile _ _ p.isLt) hq
  unfold cell
  simp only [ex, e0, er, eg]

theorem blk_emb (hO : Ok m) (t : Fin (cfgM m hO).N) (y : S512x512.Idx) :
    (((cfgM m hO).win 4).blk t).view.emb y = oIdx (cc0_transform_4 (grid0.coords t)) (inside2 _) y := rfl

/-- After the run the output array is the reference's result. -/
theorem final (c : Dev nD) :
    (dats m (ok m) 0 c).arrAt 4 (cfgM m (ok m)).N = result m c := by
  refine (dats m (ok m) 0 c).arrAt_eq_of_emb 4 _ (fun t _ (y : S512x512.Idx) => ?_) (fun (i : S16384x2048.Idx) => ?_)
  · obtain ⟨p, s, rfl⟩ : ∃ (p : Fin 512) (s : Fin 512), y = ix2 p s := ⟨y 0, y 1, by funext k; fin_cases k <;> rfl⟩
    have h0 : (grid0.coords t 0).val < 4 := (grid0.coords t 0).isLt
    have h1 : (grid0.coords t 1).val < 32 := (grid0.coords t 1).isLt
    have hp := p.isLt
    have hs := s.isLt
    refine Eq.trans ?_ (congrArg (result m c) ((blk_emb m _ t _).trans
      (oIdx_at _ (transform4_eq (grid0.coords t)) (inside2 _) p s ⟨(grid0.coords t 1).val * 512 + p, by omega⟩ ⟨(grid0.coords t 0).val * 512 + s, by omega⟩ rfl rfl)).symm)
    refine Eq.trans ?_ (block_result m c t p s _ _ rfl rfl)
    exact congrFun (after_4 m _ c t) (ix2 p s)
  · obtain ⟨r, q, rfl⟩ : ∃ (r : Fin 16384) (q : Fin 2048), i = ix2 r q := ⟨i 0, i 1, by funext k; fin_cases k <;> rfl⟩
    have hN : (cfgM m (ok m)).N = 128 := rfl
    have hr := r.isLt
    have hq := q.isLt
    let t : Fin grid0.N := ⟨q.val / 512 * 32 + r.val / 512, by rw [show grid0.N = 128 from rfl]; omega⟩
    refine ⟨t, flush_4 _ t, ?_⟩
    have hc1 := coord1 t
    have hc0 := coord0 t
    have e := oIdx_at _ (transform4_eq (grid0.coords t)) (inside2 _) ⟨r.val % 512, by omega⟩ ⟨q.val % 512, by omega⟩ r q
      (by rw [hc1]; show r.val = (q.val / 512 * 32 + r.val / 512) % 32 * 512 + r.val % 512; omega)
      (by rw [hc0]; show q.val = (q.val / 512 * 32 + r.val / 512) / 32 * 512 + q.val % 512; omega)
    exact e ▸ (((cfgM m (ok m)).win 4).blk t).view.emb_mem_set (ix2 ⟨r.val % 512, by omega⟩ ⟨q.val % 512, by omega⟩ : S512x512.Idx)

/-- The kernel's run leaves the reference's result, and its arguments as launched. -/
theorem value : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.out_eq c (4 : Fin 5)).trans (final m c),
      unchanged_of m (ok m) (dats m (ok m)) (A_eq m (ok m)) r h.1 c⟩)
    (run_main m ρ (ok m))

end Cert.Kernel5Ideal.Gr
-- ==== Proof.GrFrame.lean ====
/- The claims on the dense second product with its gated residual: the frames of its two readings and of its reference, and that the kernel at
   the ideal instance leaves what the reference leaves. -/
module

public import proofs.«01_k».proof.Proof.GrOut
public import proofs.«01_k».proof.Proof.Gen.Kernel5
public import proofs.«01_k».proof.Proof.Gen.Reference5Ideal.Run
public import proofs.«01_k».proof.Defs

@[expose] public section

noncomputable section

namespace Cert.Residual

open Idealize.ShloMosaic Idealize.ShloMosaic.TcCoe Idealize.ShloMosaic.Tactic

theorem frame_pi : quiescent_Kernel5Ideal (hKernel5Ideal := Kernel5Ideal.Gen.facts) :=
  fun m g _ => Kernel5Ideal.Gr.frame m g

/-- The two readings have one body table. -/
theorem defs0_same : @Kernel5.defs₀ Bits _ Kernel5.Gen.facts = @Kernel5Ideal.defs₀ Bits _ Kernel5Ideal.Gen.facts := by
  refine congrArg Defs.onTc ?_
  funext l x
  fin_cases l
  rfl

theorem defs_same : @Kernel5.defs Bits _ Kernel5.Gen.facts = @Kernel5Ideal.defs Bits _ Kernel5Ideal.Gen.facts :=
  congrArg (Pipeline.defs (@Kernel5Ideal.pcfgs Bits _ Kernel5Ideal.Gen.facts)) defs0_same

theorem main_same : @Kernel5.main Bits _ Kernel5.Gen.facts = @Kernel5Ideal.main Bits _ Kernel5Ideal.Gen.facts := by
  unfold Kernel5.main Kernel5Ideal.main
  rfl

theorem frame_p : quiescent_Kernel5 (hKernel5 := Kernel5.Gen.facts) := fun m g _ =>
  (congr (congrArg (fun d p => θ_run d (onTc (τ := Kernel5Ideal.τ) p) ⟨m, fun _ => 0, g⟩ _) defs_same) main_same).mpr
    (Kernel5Ideal.Gr.frame (F := Bits) m g)

theorem frame_ri : quiescent_Reference5Ideal (hReference5Ideal := Reference5Ideal.Gen.facts) := fun m g _ =>
  (θ_run Reference5Ideal.defs (onTc (τ := Reference5Ideal.τ) Reference5Ideal.main) ⟨m, fun _ => 0, g⟩).mono
    (fun r h => ⟨fun c => (h c).2, Idealize.ShloMosaic.sem_eq_zero_of_no_sems (by decide) r.2⟩) (Reference5Ideal.Value.run (F := Idealize.ShloMosaic.Ideal) m g)

theorem algebraic : algebraic_Kernel5Ideal_Reference5Ideal (hKernel5Ideal := Kernel5Ideal.Gen.facts) (hReference5Ideal := Reference5Ideal.Gen.facts) := by
  intro m g m' g' _ hagree
  refine ⟨Kernel5Ideal.Gr.result m, Kernel5Ideal.Gr.value m g, ?_⟩
  refine (θ_run Reference5Ideal.defs _ _).mono (fun _ hr c => ⟨(hr c).1.trans ?_, (hr c).2⟩) (Reference5Ideal.Stage.run m' g')
  obtain ⟨a0, a1, a2, a3⟩ := hagree c
  rw [a0, a1, a2, a3]

end Cert.Residual
-- ==== Proof.QkKit.lean ====
/- The launch of the product that makes queries, keys and values: what the region finds in the buffers, the four constant tables, the windows' blocks, and the names of the memrefs
   the body is called with. -/
module

public import proofs.«01_k».proof.Proof.Gen.Kernel6Ideal.Launch
public import proofs.«01_k».proof.Proof.Gen.Kernel6Ideal.Skeleton
public import proofs.«01_k».proof.Proof.Gen.Kernel6Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel6Ideal.Qk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory with the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The argument arrays are found as launched. -/
theorem V_arg (c : Dev nD) (b : Ref sig .tc) (hb : b = main_arg0 ∨ b = main_arg1) : V m c b = m ((c : Thread nD τ).loc b) := by
  rcases hb with rfl | rfl <;> (entry_read; rfl)

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S16 .i32 := Memref.whole main_v1
abbrev mT1 : Memref sig .tc .smem S16 .i32 := Memref.whole main_c
abbrev mT2 : Memref sig .tc .smem S1 .i32 := Memref.whole main_v2
abbrev mT3 : Memref sig .tc .smem S16 .i32 := Memref.whole main_v3

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1024x2048 .bf16 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S1x1024x512 .bf16 := spec0_2.stage ((cfgM m hO).slots t 2)
abbrev ms3 (hO : Ok m) (t : Fin (cfgM m hO).N) : Memref sig .tc .vmem S4x256x512 .bf16 := spec0_3.stage ((cfgM m hO).slots t 3)
abbrev ms4 (hO : Ok m) (t : Fin (cfgM m hO).N) : Memref sig .tc .vmem S16x64x512 .bf16 := spec0_4.stage ((cfgM m hO).slots t 4)
abbrev scr0 : Memref sig .tc .vmem S2048x512 .bf16 := Memref.whole cc0_scratch0
abbrev scr1 : Memref sig .tc .vmem S4x1024x128 .f32 := Memref.whole cc0_scratch1
abbrev scr2 : Memref sig .tc .vmem S4x1024x128 .f32 := Memref.whole cc0_scratch2

/-- The body at point `t`, on what the pipeline calls it with. -/
abbrev bodyAt (a : (pcfg0 (F := F)).Adm) (t : Fin (cfg0 a).N) : Prog (TpuEff nD τ sig (Elt F) Λ₀ .tc) PUnit :=
  cc0_matmul_qkv (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4))
    scr0 (Memref.isWhole_whole _) scr1 (Memref.isWhole_whole _) scr2 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the three scratch buffers at some contents. -/
theorem own_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t) := by
  refine ⟨fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (by decide : main_arg0 ∈ Pipeline.restRefs sig spec0)).trans (V_arg m c _ (.inl rfl)),
    ((h c).1 1).trans (((dats 0 c).arrAt_in 1 rfl _).trans ((hA c 1).trans (V_arg m c _ (.inr rfl))))⟩

end Cert.Kernel6Ideal.Qk

end
-- ==== Proof.QkCast.lean ====
/- The weight copy the body of the product that makes queries, keys and values keeps: what its loop leaves in the scratch buffer is the whole
   weight block rounded. -/
module

public import proofs.«01_k».proof.Proof.QkKit
public import Idealize.ShloMosaic.Lib.WritesUnit
public import Idealize.ShloMosaic.Lib.VecWindow
public import Idealize.ShloMosaic.Lib.Pointwise

@[expose] public section

set_option maxRecDepth 16384

noncomputable section

namespace Cert.Kernel6Ideal.Qk

open Idealize.ShloMosaic Idealize.ShloMosaic.TcCoe Idealize.ShloMosaic.Tactic
open Idealize.SL Idealize.SL.Sem
open Gen

variable {F : FTy → Type} [FloatOps F] [Named F]

/-- A weight block rounded to bf16, without its unit axis. -/
def castW (x : Vec F S1x2048x512 .f32) : FVec F S2048x512 .bf16 :=
  truncf .bf16 ((fun y => x (ix3 0 (y 0) (y 1))) : FVec F S2048x512 .f32) bitsLt_bf16_f32

theorem castW_at (x : Vec F S1x2048x512 .f32) (r : Fin 2048) (s : Fin 512) :
    castW x (ix2 r s) = FloatOps.truncf .bf16 bitsLt_bf16_f32 (x (ix3 0 r s)) := rfl

theorem pay3_at (v : Vec F S1x512x512 .f32) (a : Fin 512) (b : Fin 512) :
    k0_pay3 (F := F) v (ix2 a b) = FloatOps.truncf .bf16 bitsLt_bf16_f32 (v (ix3 0 a b)) := by
  pointwise [k0_pay3]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 4 := by decide +kernel

variable (𝒱 : Variants) (c : Dev nD) (bd : Option 𝒱.V) (i : grid0.Coords) (arg2 : Memref sig .tc .smem S16 .i32) (harg2 : arg2.IsWhole) (arg3 : Memref sig .tc .smem S16 .i32) (harg3 : arg3.IsWhole) (arg4 : Memref sig .tc .smem S1 .i32) (harg4 : arg4.IsWhole) (arg5 : Memref sig .tc .smem S16 .i32) (harg5 : arg5.IsWhole) (arg6 : Memref sig .tc .vmem S1024x2048 .bf16) (harg6 : arg6.IsWhole) (arg7 : Memref sig .tc .vmem S1x2048x512 .f32) (harg7 : arg7.IsWhole) (arg8 : Memref sig .tc .vmem S1x1024x512 .bf16) (harg8 : arg8.IsWhole) (arg9 : Memref sig .tc .vmem S4x256x512 .bf16) (harg9 : arg9.IsWhole) (arg10 : Memref sig .tc .vmem S16x64x512 .bf16) (harg10 : arg10.IsWhole) (arg11 : Memref sig .tc .vmem S2048x512 .bf16) (harg11 : arg11.IsWhole) (arg12 : Memref sig .tc .vmem S4x1024x128 .f32) (harg12 : arg12.IsWhole) (arg13 : Memref sig .tc .vmem S4x1024x128 .f32) (harg13 : arg13.IsWhole)
  (X7 : BufTy.Contents (Elt F) arg7.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 X7 k
      = [⟨Rect.unit (s := S2048x512) (k0_off4 k) S512x512.size (k0_off4_inb k), k0_pay3 (arg7.view.readAt (Elt F) (Rect.unit (s := S1x2048x512) (k0_off3 k) S1x512x512.size (k0_off3_inb k)).toLoadRect X7)⟩] := by
  unfold tripL_k0_t1 trip_k0_t1
  rfl

/-- A rounded row block is the rounded weight at the rows it is stored to. -/
theorem piece_eq (k : Fin k0_t1_loop.trips) (arg : Memref sig .tc .vmem S1x2048x512 .f32) (X : BufTy.Contents (Elt F) arg.view.ty)
    (p : FVec F S512x512 .bf16)
    (hp : ∀ a b, p (ix2 a b) = FloatOps.truncf .bf16 bitsLt_bf16_f32 (arg.view.readAt (Elt F) (Rect.unit (s := S1x2048x512) (k0_off3 k) S1x512x512.size (k0_off3_inb k)).toLoadRect X (ix3 0 a b)))
    (x : S512x512.Idx) :
    p x = castW (arg.view.read (Elt F) X) ((Rect.unit (s := S2048x512) (k0_off4 k) S512x512.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 X7 k), ∀ x, p.2 x = castW (arg7.view.read (Elt F) X7) (p.1.emb x))
    ∧ ∀ y : S2048x512.Idx, (y 0).val < 512 * k → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 X7 k), y ∈ p.1.set := by
  intro k
  induction k with
  | zero =>
      intro _
      refine ⟨fun p hp => absurd hp List.not_mem_nil, fun y hy => absurd hy (by omega)⟩
  | succ k ih =>
      intro hk
      obtain ⟨i1, i3⟩ := ih (by omega)
      have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 X7 ⟨k, by omega⟩
      rw [trip_pieces] at hs
      dsimp only at hs
      rw [hs]
      have hmem : ∀ y : S2048x512.Idx, 512 * k ≤ (y 0).val → (y 0).val < 512 * (k + 1) →
          y ∈ (Rect.unit (s := S2048x512) (k0_off4 ⟨k, by omega⟩) S512x512.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 512; have : (y 1).val < 512 := (y 1).isLt; omega⟩
      refine ⟨fun p hp => ?_, fun y hy => ?_⟩
      · rcases List.mem_append.mp hp with h | h
        · rw [List.mem_singleton] at h; subst h
          exact piece_eq (F := F) _ arg7 X7 _ (fun a b => pay3_at _ a b)
        · exact i1 p h
      · by_cases hlt : (y 0).val < 512 * k
        · obtain ⟨p, hp, hy1⟩ := i3 y hlt
          exact ⟨p, List.mem_append.mpr (.inr hp), hy1⟩
        · exact ⟨_, List.mem_append.mpr (.inl (List.mem_singleton.mpr rfl)), hmem y (by omega) hy⟩

/-- After the loop the scratch buffer holds the weight block rounded. -/
theorem loop_read (f11 : BufTy.Contents (Elt F) arg11.view.ty) :
    arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg13 harg13 X7 k0_t1_loop.trips)) = castW (arg7.view.read (Elt F) X7) := by
  obtain ⟨h1, h3⟩ := pieces_upto (F := F) 𝒱 c bd i arg2 harg2 arg3 harg3 arg4 harg4 arg5 harg5 arg6 harg6 arg7 harg7 arg8 harg8 arg9 harg9 arg10 harg10 arg11 harg11 arg12 harg12 arg13 harg13 X7 k0_t1_loop.trips le_rfl
  have hr : ∀ y : S2048x512.Idx, (y 0).val < 512 * k0_t1_loop.trips := fun y => by
    rw [trips_eq]; exact (y 0).isLt
  exact funext fun y => View.read_writes_apply_of_pieces _ _ _ _ h1 y (h3 y (hr y))

end Cert.Kernel6Ideal.Qk

end
-- ==== Proof.QkPieces.lean ====
/- What the body that makes queries, keys and values stores, store by store: each piece is a block of one array made from the
   scaled product. -/
module

public import proofs.«01_k».proof.Proof.QkCast
public import Idealize.ShloMosaic.Lib.Pipeline.ReadBack

@[expose] public section

set_option maxRecDepth 16384

noncomputable section

namespace Cert.Kernel6Ideal.Qk

open Idealize.ShloMosaic Idealize.ShloMosaic.TcCoe Idealize.ShloMosaic.Tactic
open Idealize.SL Idealize.SL.Sem
open Gen

variable {F : FTy → Type} [FloatOps F] [Named F]

/-! ## The arrays -/

/-- The product's columns in four slabs of 128. -/
def accS (acc : FVec F S1024x512 .f32) : Vec F S4x1024x128 .f32 := fun y =>
  acc (ix2 (y 1) ⟨128 * (y 0).val + (y 2).val, by
    have h0 : (y 0).val < 4 := (y 0).isLt
    have h2 : (y 2).val < 128 := (y 2).isLt
    omega⟩)

/-- The slabs with the rows by fours: row `256 r + p` is the product's row `4 p + r`. -/
def stS (acc : FVec F S1024x512 .f32) : Vec F S4x1024x128 .f32 := fun y =>
  acc (ix2 ⟨4 * ((y 1).val % 256) + (y 1).val / 256, by
    have h1 : (y 1).val < 1024 := (y 1).isLt
    omega⟩ ⟨128 * (y 0).val + (y 2).val, by
    have h0 : (y 0).val < 4 := (y 0).isLt
    have h2 : (y 2).val < 128 := (y 2).isLt
    omega⟩)

/-- The output with the rows in order. -/
def out1 (acc : FVec F S1024x512 .f32) : Vec F S1x1024x512 .bf16 := fun y =>
  FloatOps.truncf .bf16 bitsLt_bf16_f32 (acc (ix2 (y 1) (y 2)))

/-- The output by fours: at `[r, p]` the product's row `4 p + r`. -/
def out4 (acc : FVec F S1024x512 .f32) : Vec F S4x256x512 .bf16 := fun y =>
  FloatOps.truncf .bf16 bitsLt_bf16_f32 (acc (ix2 ⟨4 * (y 1).val + (y 0).val, by
    have h0 : (y 0).val < 4 := (y 0).isLt
    have h1 : (y 1).val < 256 := (y 1).isLt
    omega⟩ (y 2)))

/-- The output by sixteens: at `[r, p]` the product's row `16 p + r`. -/
def out16 (acc : FVec F S1024x512 .f32) : Vec F S16x64x512 .bf16 := fun y =>
  FloatOps.truncf .bf16 bitsLt_bf16_f32 (acc (ix2 ⟨16 * (y 1).val + (y 0).val, by
    have h0 : (y 0).val < 16 := (y 0).isLt
    have h1 : (y 1).val < 64 := (y 1).isLt
    omega⟩ (y 2)))

/-! ## Unit axes -/

theorem up1024 (v : FVec F S1024x128 .f32) (h : Shape.ShapeCasts S1024x128 S1x1024x128) (a : Fin 1024) (b : Fin 128) :
    shapeCast S1x1024x128 v h (ix3 0 a b) = v (ix2 a b) := by pointwise []

theorem up256 {φ : FTy} (v : FVec F S256x128 φ) (h : Shape.ShapeCasts S256x128 S1x256x128) (a : Fin 256) (b : Fin 128) :
    shapeCast S1x256x128 v h (ix3 0 a b) = v (ix2 a b) := by pointwise []

theorem down256 {φ : FTy} (v : FVec F S1x256x128 φ) (h : Shape.ShapeCasts S1x256x128 S256x128) (a : Fin 256) (b : Fin 128) :
    shapeCast S256x128 v h (ix2 a b) = v (ix3 0 a b) := by pointwise []

theorem up64 {φ : FTy} (v : FVec F S64x128 φ) (h : Shape.ShapeCasts S64x128 S1x64x128) (a : Fin 64) (b : Fin 128) :
    shapeCast S1x64x128 v h (ix3 0 a b) = v (ix2 a b) := by pointwise []

theorem down64 {φ : FTy} (v : FVec F S1x64x128 φ) (h : Shape.ShapeCasts S1x64x128 S64x128) (a : Fin 64) (b : Fin 128) :
    shapeCast S64x128 v h (ix2 a b) = v (ix3 0 a b) := by pointwise []

/-! ## Lists of pieces -/

section Lists

variable {sig : RefSig} {κ : Kind} {sp : Space} {s : Shape} {e : EltTy}

theorem pieces_cons {G : s.Idx → Elt F e} {r : Rect s} {w : r.shape.Idx → Elt F e} {L : List (View.Piece (Elt F) s e)}
    (h : ∀ x, w x = G (r.emb x)) (t : View.PiecesOf G L) : View.PiecesOf G (⟨r, w⟩ :: L) := ⟨h, t⟩

/-- Blocks of one array that tile it read back as that array. -/
theorem read_tiled (v : View sig κ sp s e) (f : v.ty.Contents (Elt F)) (G : s.Idx → Elt F e) (L : List (View.Piece (Elt F) s e)) (size : Fin s.rank → ℕ)
    (h : View.PiecesOf G L) (hc : View.Piece.tiledL L size = true) : v.read (Elt F) (v.writes (Elt F) f L) = G :=
  funext fun y => View.read_writes_apply_of_pieces _ _ _ _ h.mem y (View.cover_of_tiledL L size hc y)

/-- A buffer written with blocks of one array that tile it, loaded from. -/
structure Holds (G : s.Idx → Elt F e) (L : List (View.Piece (Elt F) s e)) : Prop where
  blocks : View.PiecesOf G L
  cover : ∀ y : s.Idx, ∃ p ∈ L, y ∈ p.1.set

theorem Holds.load {G : s.Idx → Elt F e} {L : List (View.Piece (Elt F) s e)} (h : Holds G L) (v : View sig κ sp s e) (B : LoadRect s) (x : B.shape.Idx) :
    v.readCov L B x = G (B.idx x) :=
  View.read_writes_apply_of_pieces _ _ _ _ h.blocks.mem _ (h.cover _)

end Lists

/-! ## The pieces -/

theorem idx3 {a b : ℕ} (x : Shape.Idx ⟨3, ![1, a, b]⟩) : x = ix3 0 (x 1) (x 2) := by
  funext k
  match k with
  | ⟨0, _⟩ => exact Fin.ext (by have : (x 0).val < 1 := (x 0).isLt; show (x 0).val = 0; omega)
  | ⟨1, _⟩ => rfl
  | ⟨2, _⟩ => rfl

variable (acc : FVec F S1024x512 .f32)

/-- A slab of the product, as stored. -/
theorem pc_acc (k n : ℕ) (hs) (hc) (inb) (hk : k = 128 * n) (x : S1x1024x128.Idx) :
    shapeCast S1x1024x128 (extractStridedSlice S1024x128 ![0, k] acc hs) hc x
      = accS acc ((Rect.unit (s := S4x1024x128) ![n, 0, 0] S1x1024x128.size inb).emb x) := by
  refine (congrArg _ (idx3 x)).trans ((up1024 _ _ _ _).trans ?_)
  unfold accS
  refine congrArg acc (funext fun a => Fin.ext ?_)
  have h0 : (x 0).val < 1 := (x 0).isLt
  match a with
  | ⟨0, _⟩ => show 0 + (x 1).val = 0 + 1 * (x 1).val; omega
  | ⟨1, _⟩ => show k + (x 2).val = 128 * (n + 1 * (x 0).val) + (0 + 1 * (x 2).val); omega

section Later

variable {v : View sig .tc .vmem S4x1024x128 .f32} {L : List (View.Piece (Elt F) S4x1024x128 .f32)}

/-- Every fourth row of a slab, as stored into the second scratch buffer. -/
theorem pc_stage (hL : Holds (accS acc) L) (n b s : ℕ) (inb) (h1) (h2) (inb') (hb : b < 4 ∧ s = 256 * b) (x : S1x256x128.Idx) :
    shapeCast S1x256x128 (shapeCast S256x128 (v.readCov L (⟨![n, b, 0], S1x256x128.size, ![1, 4, 1], inb⟩ : LoadRect S4x1024x128) : FVec F S1x256x128 .f32) h1) h2 x
      = stS acc ((Rect.unit (s := S4x1024x128) ![n, s, 0] S1x256x128.size inb').emb x) := by
  refine (congrArg _ (idx3 x)).trans ((up256 _ _ _ _).trans ((down256 _ _ _ _).trans ((hL.load v _ _).trans ?_)))
  unfold accS stS
  refine congrArg acc (funext fun a => Fin.ext ?_)
  have h0 : (x 0).val < 1 := (x 0).isLt
  have h1 : (x 1).val < 256 := (x 1).isLt
  match a with
  | ⟨0, _⟩ => show b + 4 * (x 1).val = 4 * ((s + 1 * (x 1).val) % 256) + (s + 1 * (x 1).val) / 256; omega
  | ⟨1, _⟩ => show 128 * (n + 1 * 0) + (0 + 1 * (x 2).val) = 128 * (n + 1 * (x 0).val) + (0 + 1 * (x 2).val); omega

/-- Every fourth row of a slab, as stored into the output by fours. -/
theorem pc_out4 (hL : Holds (accS acc) L) (n b k : ℕ) (inb) (h1) (h2) (h3) (inb') (hk : k = 128 * n) (x : S1x256x128.Idx) :
    shapeCast S1x256x128 (truncf .bf16 (shapeCast S256x128 (v.readCov L (⟨![n, b, 0], S1x256x128.size, ![1, 4, 1], inb⟩ : LoadRect S4x1024x128) : FVec F S1x256x128 .f32) h1) h3) h2 x
      = out4 acc ((Rect.unit (s := S4x256x512) ![b, 0, k] S1x256x128.size inb').emb x) := by
  refine (congrArg _ (idx3 x)).trans ((up256 _ _ _ _).trans ((congrArg (FloatOps.truncf .bf16 bitsLt_bf16_f32) ((down256 _ _ _ _).trans (hL.load v _ _))).trans ?_))
  unfold accS out4
  refine congrArg (fun z => FloatOps.truncf .bf16 bitsLt_bf16_f32 (acc z)) (funext fun a => Fin.ext ?_)
  have h0 : (x 0).val < 1 := (x 0).isLt
  match a with
  | ⟨0, _⟩ => show b + 4 * (x 1).val = 4 * (0 + 1 * (x 1).val) + (b + 1 * (x 0).val); omega
  | ⟨1, _⟩ => show 128 * (n + 1 * 0) + (0 + 1 * (x 2).val) = k + 1 * (x 2).val; omega

/-- Every fourth row of a quarter slab of the second scratch buffer, as stored into the output by sixteens. -/
theorem pc_out16 (hL : Holds (stS acc) L) (n o r k : ℕ) (inb) (h1) (h2) (h3) (inb') (hk : k = 128 * n ∧ o % 256 < 4 ∧ r = 4 * (o % 256) + o / 256) (x : S1x64x128.Idx) :
    shapeCast S1x64x128 (truncf .bf16 (shapeCast S64x128 (v.readCov L (⟨![n, o, 0], S1x64x128.size, ![1, 4, 1], inb⟩ : LoadRect S4x1024x128) : FVec F S1x64x128 .f32) h1) h3) h2 x
      = out16 acc ((Rect.unit (s := S16x64x512) ![r, 0, k] S1x64x128.size inb').emb x) := by
  refine (congrArg _ (idx3 x)).trans ((up64 _ _ _ _).trans ((congrArg (FloatOps.truncf .bf16 bitsLt_bf16_f32) ((down64 _ _ _ _).trans (hL.load v _ _))).trans ?_))
  unfold stS out16
  refine congrArg (fun z => FloatOps.truncf .bf16 bitsLt_bf16_f32 (acc z)) (funext fun a => Fin.ext ?_)
  have h0 : (x 0).val < 1 := (x 0).isLt
  have h1 : (x 1).val < 64 := (x 1).isLt
  match a with
  | ⟨0, _⟩ => show 4 * ((o + 4 * (x 1).val) % 256) + (o + 4 * (x 1).val) / 256 = 16 * (0 + 1 * (x 1).val) + (r + 1 * (x 0).val); omega
  | ⟨1, _⟩ => show 128 * (n + 1 * 0) + (0 + 1 * (x 2).val) = k + 1 * (x 2).val; omega

end Later

/-- The whole product, as stored into the output with the rows in order. -/
theorem pc_out1 (inb) (x : S1x1024x512.Idx) :
    k0_pay10 acc x = out1 acc ((Rect.unit (s := S1x1024x512) ![0, 0, 0] S1x1024x512.size inb).emb x) := by
  have e : ∀ (a : Fin 1024) (b : Fin 512), k0_pay10 acc (ix3 0 a b) = FloatOps.truncf .bf16 bitsLt_bf16_f32 (acc (ix2 a b)) := fun a b => by
    pointwise [k0_pay10]
  refine (congrArg _ (idx3 x)).trans ((e _ _).trans ?_)
  unfold out1
  refine congrArg (fun z => FloatOps.truncf .bf16 bitsLt_bf16_f32 (acc z)) (funext fun a => Fin.ext ?_)
  match a with
  | ⟨0, _⟩ => show (x 1).val = 0 + 1 * (x 1).val; omega
  | ⟨1, _⟩ => show (x 2).val = 0 + 1 * (x 2).val; omega

end Cert.Kernel6Ideal.Qk

end
-- ==== Proof.QkBody.lean ====
/- One run of the body that makes queries, keys and values: at a column's first tile the weight block is rounded into the scratch
   buffer; the product of the tile's rows with it, scaled, goes out three times, its rows in order, by fours and by sixteens. -/
module

public import proofs.«01_k».proof.Proof.QkPieces

@[expose] public section

set_option maxRecDepth 16384

noncomputable section

namespace Cert.Kernel6Ideal.Qk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ (UR sig nD τ) ℕ

abbrev teNow (c : Dev nD) (i : grid0.Coords) (f : Buf (Elt F) (mT0.view.loc (c : Thread nD τ))) : BitVec 32 :=
  View.readAt (Elt F) mT0.view (Rect.unit (s := S16) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S16) (k0_off2 i) S1.size (k0_off2_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

/-- A weight copy as the body loads it. -/
abbrev ldW (g : BufTy.Contents (Elt F) scr0.view.ty) : Vec F S2048x512 .bf16 :=
  scr0.view.readAt (Elt F) (Rect.unit (s := S2048x512) ![0, 0] S2048x512.size inb_S2048x512_S2048x512_0_0).toLoadRect g

/-- The tile's rows as the body loads them. -/
abbrev ldX (M : Memref sig .tc .vmem S1024x2048 .bf16) (g : BufTy.Contents (Elt F) M.view.ty) : Vec F S1024x2048 .bf16 :=
  M.view.readAt (Elt F) (Rect.unit (s := S1024x2048) ![0, 0] S1024x2048.size inb_S1024x2048_S1024x2048_0_0).toLoadRect g

theorem acc_eq (i : grid0.Coords) {M : Memref sig .tc .vmem S1024x2048 .bf16} {g : BufTy.Contents (Elt F) M.view.ty} {x : Vec F S1024x2048 .bf16}
    {u : BufTy.Contents (Elt F) scr0.view.ty} {w : Vec F S2048x512 .bf16} (hx : M.view.read (Elt F) g = x) (hw : scr0.view.read (Elt F) u = w) :
    k0_pay4 i (ldX M g) (ldW u) = k0_pay4 i x w :=
  congrArg₂ (k0_pay4 i) ((View.readAt_full M.view g _).trans hx) ((View.readAt_full scr0.view u _).trans hw)

/-- The four slabs of the product are blocks of it. -/
theorem holds_acc (acc : FVec F S1024x512 .f32) (b3 b2 b1 b0) :
    View.PiecesOf (accS acc) [⟨Rect.unit (s := S4x1024x128) ![3, 0, 0] S1x1024x128.size b3, shapeCast S1x1024x128 (extractStridedSlice S1024x128 ![0, 384] acc slices_S1024x512_o0_384_S1024x128) shapeCasts_S1024x128_S1x1024x128⟩,
      ⟨Rect.unit (s := S4x1024x128) ![2, 0, 0] S1x1024x128.size b2, shapeCast S1x1024x128 (extractStridedSlice S1024x128 ![0, 256] acc slices_S1024x512_o0_256_S1024x128) shapeCasts_S1024x128_S1x1024x128⟩,
      ⟨Rect.unit (s := S4x1024x128) ![1, 0, 0] S1x1024x128.size b1, shapeCast S1x1024x128 (extractStridedSlice S1024x128 ![0, 128] acc slices_S1024x512_o0_128_S1024x128) shapeCasts_S1024x128_S1x1024x128⟩,
      ⟨Rect.unit (s := S4x1024x128) ![0, 0, 0] S1x1024x128.size b0, shapeCast S1x1024x128 (extractStridedSlice S1024x128 ![0, 0] acc slices_S1024x512_o0_0_S1024x128) shapeCasts_S1024x128_S1x1024x128⟩] :=
  ⟨pc_acc acc 384 3 slices_S1024x512_o0_384_S1024x128 shapeCasts_S1024x128_S1x1024x128 b3 rfl, pc_acc acc 256 2 slices_S1024x512_o0_256_S1024x128 shapeCasts_S1024x128_S1x1024x128 b2 rfl,
    pc_acc acc 128 1 slices_S1024x512_o0_128_S1024x128 shapeCasts_S1024x128_S1x1024x128 b1 rfl, pc_acc acc 0 0 slices_S1024x512_o0_0_S1024x128 shapeCasts_S1024x128_S1x1024x128 b0 rfl, trivial⟩

variable (c : Dev nD) (i : grid0.Coords) (arg6 : Memref sig .tc .vmem S1024x2048 .bf16) (harg6 : arg6.IsWhole) (arg7 : Memref sig .tc .vmem S1x2048x512 .f32) (harg7 : arg7.IsWhole) (arg8 : Memref sig .tc .vmem S1x1024x512 .bf16) (harg8 : arg8.IsWhole) (arg9 : Memref sig .tc .vmem S4x256x512 .bf16) (harg9 : arg9.IsWhole) (arg10 : Memref sig .tc .vmem S16x64x512 .bf16) (harg10 : arg10.IsWhole)
    (x0 : Vec F S1024x2048 .bf16) (x1 : Vec F S1x2048x512 .f32)
    (xt0 : Buf (Elt F) (mT0.view.loc (c : Thread nD τ)))

/-- What the body holds while it runs: the two input blocks, the three output blocks, the scratch buffers, the first table. -/
abbrev Held (o1 o4 o16 : sProp 𝕄) (s0 : Vec F S2048x512 .bf16) : sProp 𝕄 :=
  iprop(owns (c : Thread nD τ) arg6 fullShare x0 ∗ owns (c : Thread nD τ) arg7 fullShare x1 ∗ o1 ∗ o4 ∗ o16 ∗ owns (c : Thread nD τ) scr0 fullShare s0
    ∗ (∃ d, owns (c : Thread nD τ) scr1 fullShare d) ∗ (∃ d, owns (c : Thread nD τ) scr2 fullShare d) ∗ tabPt c mT0 xt0)

/-- The three output blocks at anything, and at the scaled product of the rows with a weight copy. -/
abbrev Before (s0 : Vec F S2048x512 .bf16) : sProp 𝕄 :=
  Held c arg6 arg7 x0 x1 xt0 (iprop(∃ d, owns (c : Thread nD τ) arg8 fullShare d)) (iprop(∃ d, owns (c : Thread nD τ) arg9 fullShare d)) (iprop(∃ d, owns (c : Thread nD τ) arg10 fullShare d)) s0
abbrev After (w : Vec F S2048x512 .bf16) : sProp 𝕄 :=
  Held c arg6 arg7 x0 x1 xt0 (owns (c : Thread nD τ) arg8 fullShare (out1 (k0_pay4 i x0 w))) (owns (c : Thread nD τ) arg9 fullShare (out4 (k0_pay4 i x0 w)))
    (owns (c : Thread nD τ) arg10 fullShare (out16 (k0_pay4 i x0 w))) w

set_option maxHeartbeats 4000000 in
/-- A tile that keeps the weight copy of the tile before. -/
theorem body_keep (s0 : Vec F S2048x512 .bf16) (hC : ¬Chg i (teNow c i xt0) (tePrev c i xt0)) (E : Set ℕ) :
    Before c arg6 arg7 arg8 arg9 arg10 x0 x1 xt0 s0
      ⊢ wp frame (wpE (defs₀ (F := F)) Variants.none c none) E (cc0_matmul_qkv i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) scr1 (Memref.isWhole_whole _) scr2 (Memref.isWhole_whole _))
          (fun _ => After c i arg6 arg7 arg8 arg9 arg10 x0 x1 xt0 s0) := by
  simp only [cc0_matmul_qkv_eq_skeleton]; unfold cc0_matmul_qkv_skel
  unfold Before After Held owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%e1, %fs1, -, HS1⟩, ⟨%e2, %fs2, -, HS2⟩, HT0⟩
  have e0 := hfs0
  sl_exec_parts
  sl_step
  rw [← acc_eq i hf0 e0]
  have hA : Holds (accS (k0_pay4 i (ldX arg6 f0) (ldW fs0))) (body_keep.sl.HS1_4 c i arg6 f0 fs0) :=
    ⟨holds_acc _ _ _ _ _,
      View.cover_of_tiledL _ S1x1024x128.size (by rfl)⟩
  have hB : Holds (stS (k0_pay4 i (ldX arg6 f0) (ldW fs0))) (body_keep.sl.HS2_16 c i arg6 f0 fs0) :=
    ⟨by repeat (first | exact trivial | refine pieces_cons (pc_stage _ hA _ _ _ _ _ _ _ (by decide)) ?_),
      View.cover_of_tiledL _ S1x256x128.size (by rfl)⟩
  isplitl [H0]; · iexists _; isplitr; swap; iexact H0; ipureintro; exact hf0
  isplitl [H1]; · iexists _; isplitr; swap; iexact H1; ipureintro; exact hf1
  isplitl [H2]
  · iexists _; isplitr; swap; iexact H2; ipureintro
    refine read_tiled _ _ _ _ S1x1024x512.size ?_ (by rfl)
    repeat (first | exact trivial | refine pieces_cons (pc_out1 _ _) ?_)
  isplitl [H3]
  · iexists _; isplitr; swap; iexact H3; ipureintro
    refine read_tiled _ _ _ _ S1x256x128.size ?_ (by rfl)
    repeat (first | exact trivial | refine pieces_cons (pc_out4 _ hA _ _ _ _ _ _ _ _ (by decide)) ?_)
  isplitl [H4]
  · iexists _; isplitr; swap; iexact H4; ipureintro
    refine read_tiled _ _ _ _ S1x64x128.size ?_ (by rfl)
    repeat (first | exact trivial | refine pieces_cons (pc_out16 _ hB _ _ _ _ _ _ _ _ _ (by decide)) ?_)
  isplitl [HS0]; · iexists _; isplitr; swap; iexact HS0; ipureintro; exact e0
  isplitl [HS1]; · iexists _; iexists _; isplitr; swap; iexact HS1; ipureintro; rfl
  isplitl [HS2]; · iexists _; iexists _; isplitr; swap; iexact HS2; ipureintro; rfl
  iexact HT0

/-- The weight copy's buffer after the loop that makes it. -/
abbrev copied (f1 : BufTy.Contents (Elt F) arg7.view.ty) (fs0 : BufTy.Contents (Elt F) scr0.view.ty) : BufTy.Contents (Elt F) scr0.view.ty :=
  scr0.view.writes (Elt F) fs0 (pb_k0_t1 (F := F) Variants.none c none i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) scr1 (Memref.isWhole_whole _) scr2 (Memref.isWhole_whole _) f1 k0_t1_loop.trips)

set_option maxHeartbeats 4000000 in
/-- A tile that makes its weight copy afresh. -/
theorem body_fresh (s0 : Vec F S2048x512 .bf16) (hC : Chg i (teNow c i xt0) (tePrev c i xt0)) (E : Set ℕ) :
    Before c arg6 arg7 arg8 arg9 arg10 x0 x1 xt0 s0
      ⊢ wp frame (wpE (defs₀ (F := F)) Variants.none c none) E (cc0_matmul_qkv i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) scr1 (Memref.isWhole_whole _) scr2 (Memref.isWhole_whole _))
          (fun _ => After c i arg6 arg7 arg8 arg9 arg10 x0 x1 xt0 (castW x1)) := by
  simp only [cc0_matmul_qkv_eq_skeleton]; unfold cc0_matmul_qkv_skel
  unfold Before After Held owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%e1, %fs1, -, HS1⟩, ⟨%e2, %fs2, -, HS2⟩, HT0⟩
  have e0 := (loop_read (F := F) Variants.none c none i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) scr1 (Memref.isWhole_whole _) scr2 (Memref.isWhole_whole _) f1 fs0).trans (congrArg castW hf1)
  sl_exec_parts
  sl_step
  rw [← acc_eq i hf0 e0]
  have hA : Holds (accS (k0_pay4 i (ldX arg6 f0) (ldW (copied c i arg6 harg6 arg7 harg7 arg8 harg8 arg9 harg9 arg10 harg10 f1 fs0)))) (body_fresh.sl.HS1_4 c i arg6 harg6 arg7 harg7 arg8 harg8 arg9 harg9 arg10 harg10 f0 f1 fs0) :=
    ⟨holds_acc _ _ _ _ _,
      View.cover_of_tiledL _ S1x1024x128.size (by rfl)⟩
  have hB : Holds (stS (k0_pay4 i (ldX arg6 f0) (ldW (copied c i arg6 harg6 arg7 harg7 arg8 harg8 arg9 harg9 arg10 harg10 f1 fs0)))) (body_fresh.sl.HS2_16 c i arg6 harg6 arg7 harg7 arg8 harg8 arg9 harg9 arg10 harg10 f0 f1 fs0) :=
    ⟨by repeat (first | exact trivial | refine pieces_cons (pc_stage _ hA _ _ _ _ _ _ _ (by decide)) ?_),
      View.cover_of_tiledL _ S1x256x128.size (by rfl)⟩
  isplitl [H0]; · iexists _; isplitr; swap; iexact H0; ipureintro; exact hf0
  isplitl [H1]; · iexists _; isplitr; swap; iexact H1; ipureintro; exact hf1
  isplitl [H2]
  · iexists _; isplitr; swap; iexact H2; ipureintro
    refine read_tiled _ _ _ _ S1x1024x512.size ?_ (by rfl)
    repeat (first | exact trivial | refine pieces_cons (pc_out1 _ _) ?_)
  isplitl [H3]
  · iexists _; isplitr; swap; iexact H3; ipureintro
    refine read_tiled _ _ _ _ S1x256x128.size ?_ (by rfl)
    repeat (first | exact trivial | refine pieces_cons (pc_out4 _ hA _ _ _ _ _ _ _ _ (by decide)) ?_)
  isplitl [H4]
  · iexists _; isplitr; swap; iexact H4; ipureintro
    refine read_tiled _ _ _ _ S1x64x128.size ?_ (by rfl)
    repeat (first | exact trivial | refine pieces_cons (pc_out16 _ hB _ _ _ _ _ _ _ _ _ (by decide)) ?_)
  isplitl [HS0]; · iexists _; isplitr; swap; iexact HS0; ipureintro; exact e0
  isplitl [HS1]; · iexists _; iexists _; isplitr; swap; iexact HS1; ipureintro; rfl
  isplitl [HS2]; · iexists _; iexists _; isplitr; swap; iexact HS2; ipureintro; rfl
  iexact HT0

/-- A tile, whichever of the two. -/
theorem body_run (s0 w : Vec F S2048x512 .bf16) (hw : Chg i (teNow c i xt0) (tePrev c i xt0) → w = castW x1) (hs : ¬Chg i (teNow c i xt0) (tePrev c i xt0) → w = s0) (E : Set ℕ) :
    Before c arg6 arg7 arg8 arg9 arg10 x0 x1 xt0 s0
      ⊢ wp frame (wpE (defs₀ (F := F)) Variants.none c none) E (cc0_matmul_qkv i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) scr1 (Memref.isWhole_whole _) scr2 (Memref.isWhole_whole _))
          (fun _ => After c i arg6 arg7 arg8 arg9 arg10 x0 x1 xt0 w) := by
  by_cases hC : Chg i (teNow c i xt0) (tePrev c i xt0)
  · rw [hw hC]
    exact body_fresh c i arg6 harg6 arg7 harg7 arg8 harg8 arg9 harg9 arg10 harg10 x0 x1 xt0 s0 hC E
  · rw [hs hC]
    exact body_keep c i arg6 harg6 arg7 harg7 arg8 harg8 arg9 harg9 arg10 harg10 x0 x1 xt0 s0 hC E

end Cert.Kernel6Ideal.Qk

end
-- ==== Proof.QkWord.lean ====
/- The words the queries, keys and values program reads from its tables, all constants, and what the grid's points make of them. -/
module

public import proofs.«01_k».proof.Proof.QkBody

@[expose] public section

set_option maxRecDepth 16384

noncomputable section

namespace Cert.Kernel6Ideal.Qk

open Idealize.ShloMosaic Idealize.ShloMosaic.TcCoe Idealize.ShloMosaic.Tactic
open Gen

variable {F : FTy → Type} [FloatOps F] [Named F] (m : (ℓ : Loc nD τ sig) → Buf (Elt F) ℓ)

/-- Every tile takes the first matrix, and 16 tiles are in use. -/
theorem tbl_0 : (tbl m 0 : IVec S16 32) = fun _ => 0#32 := by
  unfold tbl
  show V m 0 main_v1 = _
  entry_read
  rfl

theorem tbl_2 : (tbl m 2 : IVec S1 32) = fun _ => 16#32 := by
  unfold tbl
  show V m 0 main_v2 = _
  entry_read
  rfl

/-! ## Coordinates -/

theorem word_row (i : grid0.Coords) : (BitVec.ofNat 32 (i 1).val).toNat = (i 1).val :=
  (BitVec.toNat_ofNat _ _).trans (Nat.mod_eq_of_lt (lt_trans (i 1).isLt (by decide)))

theorem word_col (i : grid0.Coords) : (BitVec.ofNat 32 (i 0).val).toNat = (i 0).val :=
  (BitVec.toNat_ofNat _ _).trans (Nat.mod_eq_of_lt (lt_trans (i 0).isLt (by decide)))

theorem row_at (t : Fin grid0.N) : (grid0.coords t 1).val = t.val % 16 := by
  have := Pipeline.Grid.coords_val t 1 (S := 1) (B := 16) (by decide) rfl
  simpa using this

theorem col_at (t : Fin grid0.N) : (grid0.coords t 0).val = t.val / 16 := by
  have h := Pipeline.Grid.coords_val t 0 (S := 16) (B := 9) (by decide) rfl
  have ht : t.val < 144 := t.isLt
  rw [h]; omega

/-! ## Fresh weights -/

/-- Weights are kept only past a column's first tile. -/
theorem not_first {i : grid0.Coords} {a b : BitVec 32} (h : ¬Chg i a b) : (i 1).val ≠ 0 := by
  have key : ∀ p q : BitVec 1, ¬(Scalar.cmpi .ne (Scalar.extui (Scalar.ori p q) : BitVec 32) 0#32 = 1#1) → p = 0#1 := by decide
  intro h0
  have := key _ _ h
  rw [h0] at this
  exact absurd this (by decide)

/-! ## Block indices -/

theorem transform1_eq (i : grid0.Coords) : cc0_transform_1 k0_off1_inb numel1_S1 (tbl m) i = ![0, 0, 1 + (i 0).val] := by
  have hw : ∀ n : Fin 9, (Scalar.addi 1#32 (BitVec.ofNat 32 n.val) : BitVec 32).toNat = 1 + n.val := by decide
  have h1 : (tbl m).at 0 (Rect.unit (s := S16) (k0_off1 i) S1.size (k0_off1_inb i)) numel1_S1 = 0#32 := congrFun (tbl_0 m) _
  funext a
  match a with
  | ⟨0, _⟩ => exact congrArg BitVec.toNat h1
  | ⟨1, _⟩ => rfl
  | ⟨2, _⟩ => exact hw (i 0)

theorem transform0_eq (i : grid0.Coords) : cc0_transform_0 inb_S1_S1_0 numel1_S1 (tbl m) i = ![(i 1).val, 0] := by
  have hw : ∀ n : Fin 16, (Scalar.minsi (BitVec.ofNat 32 n.val) (Scalar.subi 16#32 1#32) : BitVec 32).toNat = n.val := by decide +kernel
  have h1 : (tbl m).at 2 (Rect.unit (s := S1) ![0] S1.size inb_S1_S1_0) numel1_S1 = 16#32 := congrFun (tbl_2 m) _
  funext a
  match a with
  | ⟨0, _⟩ => exact (congrArg (fun u => (Scalar.minsi (BitVec.ofNat 32 (i 1).val) (Scalar.subi u 1#32) : BitVec 32).toNat) h1).trans (hw (i 1))
  | ⟨1, _⟩ => rfl

/-- The three outputs' blocks have one index. -/
theorem transform2_eq (i : grid0.Coords) : cc0_transform_2 i = ![0, (i 1).val, (i 0).val] := by
  funext a
  match a with
  | ⟨0, _⟩ => rfl
  | ⟨1, _⟩ => exact word_row i
  | ⟨2, _⟩ => exact word_col i

theorem transform3_eq (i : grid0.Coords) : cc0_transform_3 i = ![0, (i 1).val, (i 0).val] := transform2_eq i

theorem transform4_eq (i : grid0.Coords) : cc0_transform_4 i = ![0, (i 1).val, (i 0).val] := transform2_eq i

/-! ## The side condition -/

theorem inside1 (i : grid0.Coords) (a : Fin 3) :
    (cc0_transform_1 k0_off1_inb numel1_S1 (tbl m) i a + 1) * S1x2048x512.size a ≤ S2x2048x5120.size a := by
  rw [transform1_eq]
  have h2 : (i 0).val < 9 := (i 0).isLt
  match a with
  | ⟨0, _⟩ => show (0 + 1) * 1 ≤ 2; omega
  | ⟨1, _⟩ => show (0 + 1) * 2048 ≤ 2048; omega
  | ⟨2, _⟩ => show (1 + (i 0).val + 1) * 512 ≤ 5120; omega

theorem inside0 (i : grid0.Coords) (a : Fin 2) :
    (cc0_transform_0 inb_S1_S1_0 numel1_S1 (tbl m) i a + 1) * S1024x2048.size a ≤ S16384x2048.size a := by
  rw [transform0_eq]
  have h1 : (i 1).val < 16 := (i 1).isLt
  match a with
  | ⟨0, _⟩ => show ((i 1).val + 1) * 1024 ≤ 16384; omega
  | ⟨1, _⟩ => show (0 + 1) * 2048 ≤ 2048; omega

/-- Every window's block lies inside its array. -/
theorem ok : Ok m :=
  ⟨fun i => ⟨inside0 m i, .inr (Affine.block_words_dvd (of_decide_eq_true rfl) (by decide))⟩, fun i => ⟨inside1 m i, .inl rfl⟩⟩

end Cert.Kernel6Ideal.Qk

end
-- ==== Proof.QkRun.lean ====
/- The whole run of the queries, keys and values program: the rounded weight block is followed from point to point, at each of
   the grid's points the three output blocks are what one run of the body leaves, and the argument arrays end as launched. -/
module

public import proofs.«01_k».proof.Proof.QkWord

@[expose] public section

set_option maxRecDepth 16384

noncomputable section

namespace Cert.Kernel6Ideal.Qk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The rows and the rounded weight block of a point. -/
abbrev xBlk (hO : Ok m) (c : Dev nD) (t : Fin (cfgM m hO).N) : Vec F S1024x2048 .bf16 := iblk m hO c 0 t
abbrev wBlk (hO : Ok m) (c : Dev nD) (t : Fin (cfgM m hO).N) : Vec F S2048x512 .bf16 := castW (iblk m hO c 1 t)

/-- The scaled product of a point. -/
abbrev accBlk (hO : Ok m) (c : Dev nD) (t : Fin (cfgM m hO).N) : FVec F S1024x512 .f32 :=
  k0_pay4 (grid0.coords t) (xBlk m hO c t) (wBlk m hO c t)

/-- The point before a point that is not the first. -/
abbrev prev (hO : Ok m) (n : ℕ) (h : n < (cfgM m hO).N + 1) (h0 : n ≠ 0) : Fin (cfgM m hO).N := ⟨n - 1, by omega⟩

/-- The buffers the body uses, the weight copy at `w`, the two others at anything. -/
abbrev scratch (c : Dev nD) (w : Vec F S2048x512 .bf16) : sProp 𝕄 :=
  iprop(owns (c : Thread nD τ) scr0 fullShare w ∗ (∃ d, owns (c : Thread nD τ) scr1 fullShare d) ∗ (∃ d, owns (c : Thread nD τ) scr2 fullShare d))

/-- What is held between points: at the start the scratch buffers at anything, later the weight copy of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(scratch c (wBlk m hO c (prev m hO n hn h)) ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => out1 (accBlk m hO c t)
    | ⟨3, _⟩ => out4 (accBlk m hO c t)
    | ⟨4, _⟩ => out16 (accBlk m hO c t)
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = out1 (accBlk m hO c t) := by dsimp only [dats]; try rfl
theorem after_3 (hO : Ok m) (c : Dev nD) (t : Fin (cfgM m hO).N) : (dats m hO 0 c).after 3 t = out4 (accBlk m hO c t) := by dsimp only [dats]; try rfl
theorem after_4 (hO : Ok m) (c : Dev nD) (t : Fin (cfgM m hO).N) : (dats m hO 0 c).after 4 t = out16 (accBlk m hO c t) := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2 (after_1 m hO c) t d

/-! ## The weight blocks of two points with the same column -/

/-- A weight block's place in the matrices, from the block's index. -/
def wIdx (i : Fin 3 → ℕ) (h : ∀ a, (i a + 1) * S1x2048x512.size a ≤ S2x2048x5120.size a) (y : S1x2048x512.Idx) : S2x2048x5120.Idx :=
  fun (a : Fin 3) => (⟨i a * S1x2048x512.size a + 1 * (y a).val, by
    have h1 := h a; have h2 : (y a).val < S1x2048x512.size a := (y a).isLt
    rw [Nat.add_mul, one_mul] at h1; omega⟩ : Fin (S2x2048x5120.size a))

theorem wIdx_congr {i j : Fin 3 → ℕ} (h : i = j) (hi : ∀ a, (i a + 1) * S1x2048x512.size a ≤ S2x2048x5120.size a) (hj) (y : S1x2048x512.Idx) :
    wIdx i hi y = wIdx j hj y := by subst h; rfl

theorem iblk1_at (hO : Ok m) (c : Dev nD) (t : Fin (cfgM m hO).N) (y : S1x2048x512.Idx) :
    (iblk m hO c 1 t : Vec F S1x2048x512 .f32) y
      = (V m c main_arg1 : Vec F S2x2048x5120 .f32) (wIdx (cc0_transform_1 k0_off1_inb numel1_S1 (tbl m) (grid0.coords t)) (hO.2 (grid0.coords t)).fst y) := rfl

theorem wBlk_same (hO : Ok m) (c : Dev nD) (t u : Fin (cfgM m hO).N)
    (h : cc0_transform_1 k0_off1_inb numel1_S1 (tbl m) (grid0.coords t) = cc0_transform_1 k0_off1_inb numel1_S1 (tbl m) (grid0.coords u)) :
    wBlk m hO c t = wBlk m hO c u :=
  congrArg castW (funext fun y => (iblk1_at m hO c t y).trans ((congrArg (V m c main_arg1 : Vec F S2x2048x5120 .f32) (wIdx_congr h _ _ y)).trans (iblk1_at m hO c u y).symm))

/-- Past a column's first tile the block is the one of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    wBlk m hO c t = wBlk m hO c (prev m hO t.val (lt_trans t.isLt (Nat.lt_succ_self _)) h0) := by
  have h1 := not_first hC
  apply wBlk_same
  rw [transform1_eq, transform1_eq]
  have e := col_at t
  have e' := col_at (prev m hO t.val (lt_trans t.isLt (Nat.lt_succ_self _)) h0)
  rw [row_at t] at h1
  have : (grid0.coords t 0).val = (grid0.coords (prev m hO t.val (lt_trans t.isLt (Nat.lt_succ_self _)) h0) 0).val := by
    rw [e, e']; show t.val / 16 = (t.val - 1) / 16; omega
  rw [this]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- One run of the body between two points, the weight copy entered at `s0`. -/
theorem point_run (hO : Ok m) (c : Dev nD) (t : Fin (cfgM m hO).N) (s0 : Vec F S2048x512 .bf16)
    (hs : ¬Chg (grid0.coords t) (teNow c (grid0.coords t) (tbl m 0)) (tePrev c (grid0.coords t) (tbl m 0)) → wBlk m hO c t = s0) :
    Before c (ms0 m hO t) (ms1 m hO t) (ms2 m hO t) (ms3 m hO t) (ms4 m hO t) (xBlk m hO c t) (iblk m hO c 1 t) (tbl m 0) s0
      ⊢ wp frame (wpE (defs₀ (F := F)) Variants.none c none) Set.univ (bodyAt (adm m hO) t)
          (fun _ => After c (grid0.coords t) (ms0 m hO t) (ms1 m hO t) (ms2 m hO t) (ms3 m hO t) (ms4 m hO t) (xBlk m hO c t) (iblk m hO c 1 t) (tbl m 0) (wBlk m hO c t)) :=
  body_run c (grid0.coords t) (ms0 m hO t) _ (ms1 m hO t) _ (ms2 m hO t) _ (ms3 m hO t) _ (ms4 m hO t) _ (xBlk m hO c t) (iblk m hO c 1 t) (tbl m 0) s0 (wBlk m hO c t)
    (fun _ => rfl) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(scratch c (wBlk m hO c (prev m hO n hn h)) ∗ (∃ r, prngReg c r)) ∗ Pipeline.ΦT pre0 (tbl m) c) := dif_neg h

theorem inv_succ (hO : Ok m) (c : Dev nD) (t : Fin (cfgM m hO).N) :
    inv m hO c t.succ = iprop(iprop(scratch c (wBlk m hO c t) ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

/-- Whatever the point, the weight copy held before it will do. -/
theorem inv_entry (hO : Ok m) (c : Dev nD) (t : Fin (cfgM m hO).N) :
    inv m hO c t.castSucc ⊢ iprop(∃ s0, ⌜¬Chg (grid0.coords t) (teNow c (grid0.coords t) (tbl m 0)) (tePrev c (grid0.coords t) (tbl m 0)) → wBlk m hO c t = s0⌝
      ∗ iprop(scratch c s0 ∗ (∃ r, prngReg c r)) ∗ Pipeline.ΦT pre0 (tbl m) c) := by
  rw [inv_val m hO c t.castSucc t.val (lt_trans t.isLt (Nat.lt_succ_self _)) (Fin.val_castSucc t)]
  by_cases h0 : t.val = 0
  · rw [invN_zero m hO c t.val _ h0, own_eq]
    iintro ⟨⟨⟨⟨%s0, HS0⟩, HS1, HS2⟩, Hg⟩, HT⟩
    iexists s0
    isplitr
    · ipureintro; exact fun hC => absurd (by rw [row_at, h0]) (not_first hC)
    isplitr [HT]; swap; iexact HT
    isplitr [Hg]; swap; iexact Hg
    isplitl [HS0]; · iexact HS0
    isplitl [HS1]; · iexact HS1
    iexact HS2
  · rw [invN_pos m hO c t.val _ h0]
    iintro ⟨HS, HT⟩
    iexists _
    isplitr
    · ipureintro; exact kept m hO c t h0
    isplitl [HS]; · iexact HS
    iexact HT

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1]
  rw [show (dats m hO 0 c).owesAt () t.succ = (dats m hO 0 c).owesAt () t.castSucc from rfl, after_0, after_1, after_2, after_3, after_4,
    show (dats m hO 0 c).Φ t.succ = inv m hO c t.succ from rfl, show (dats m hO 0 c).Φ t.castSucc = inv m hO c t.castSucc from rfl, inv_succ]
  refine (sep_mono (inv_entry m hO c t) .rfl).trans ?_
  rw [tables_eq]
  iintro ⟨⟨%s0, %hs, ⟨⟨HS0, HS1, HS2⟩, Hg⟩, ⟨HT0, HT1, HT2, HT3⟩⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none c none) Set.univ)
  isplitl [H0 H1 H2 H3 H4 HS0 HS1 HS2 HT0]
  · iapply (point_run m hO c t s0 hs)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iexact HT0
  iintro %_ ⟨H0, H1, H2, H3, H4, HS0, HS1, HS2, HT0⟩
  isplitl [HS0 HS1 HS2 Hg HT0 HT1 HT2 HT3]
  · isplitl [HS0 HS1 HS2 Hg]
    · isplitr [Hg]; swap; iexact Hg
      isplitl [HS0]; · iexact HS0
      isplitl [HS1]; · iexact HS1
      iexact HS2
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

/-- The output blocks are written back at every point. -/
theorem flush_2 (a : (pcfg0 (F := F)).Adm) (t : Fin (cfg0 a).N) : ((cfg0 a).win 2).flush t = true :=
  ((fun t => (Pipeline.Window.flushOf_reads cc0_transform_2 reads0_2 hreads0_2 1 (by decide) (by decide) (Pipeline.Window.sep_of_coord cc0_transform_2 1 1 (fun _ => rfl) (by decide)) (P := 1) (m := 0) (by decide) rfl t).mpr (Nat.mod_one _) :
    ∀ t : Fin grid0.N, Pipeline.Window.flushOf grid0 true cc0_transform_2 t = true)) t
theorem flush_3 (a : (pcfg0 (F := F)).Adm) (t : Fin (cfg0 a).N) : ((cfg0 a).win 3).flush t = true := flush_2 a t
theorem flush_4 (a : (pcfg0 (F := F)).Adm) (t : Fin (cfg0 a).N) : ((cfg0 a).win 4).flush t = true := flush_2 a t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (c : Dev nD) :
    BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  refine sep_mono .rfl (sep_mono .rfl (sep_mono .rfl (sep_mono .rfl (sep_mono ?_ (sep_mono ?_ ?_)))))
  · exact written (F := F) ((cfgM m hO).idle 2 ((cfgM m hO).grid.coords t)) (((cfgM m hO).win 2).flush t) (iprop(∃ d, owns (c : Thread nD τ) (ms2 m hO t) fullShare ((dats m hO 0 c).before 2 t d))) _ (flush_2 (adm m hO) t)
  · exact written (F := F) ((cfgM m hO).idle 3 ((cfgM m hO).grid.coords t)) (((cfgM m hO).win 3).flush t) (iprop(∃ d, owns (c : Thread nD τ) (ms3 m hO t) fullShare ((dats m hO 0 c).before 3 t d))) _ (flush_3 (adm m hO) t)
  · exact written (F := F) ((cfgM m hO).idle 4 ((cfgM m hO).grid.coords t)) (((cfgM m hO).win 4).flush t) (iprop(∃ d, owns (c : Thread nD τ) (ms4 m hO t) fullShare ((dats m hO 0 c).before 4 t d))) _ (flush_4 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨⟨HS0, HS1, HS2⟩, Hg⟩, -⟩
  isplitr [Hg]; swap; iexact Hg
  isplitl [HS0]; · iexists _; iexact HS0
  isplitl [HS1]; · iexact HS1
  iexact HS2

set_option backward.isDefEq.respectTransparency.types false in
/-- The launch: every run ends, the arrays as the proof data give them, every counter at zero. -/
theorem run_main (hO : Ok m) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨unchanged_of m (ok m) (dats m (ok m)) (A_eq m (ok m)) r h.1, h.2⟩)
    (run_main m ρ (ok m))

end Cert.Kernel6Ideal.Qk

end
-- ==== Proof.QkRef.lean ====
/- The queries, keys and values as the reference computes them, and their values at an index. -/
module

public import proofs.«01_k».proof.Proof.Gen.Reference6Ideal.Run
public import proofs.«01_k».proof.Proof.RefAt

@[expose] public section

set_option maxRecDepth 16384

noncomputable section

namespace Cert.Reference6Ideal.Stage

open Cert.Reference6Ideal Cert.Reference6Ideal.Gen Cert.Reference6Ideal.Value
open Idealize.ShloMosaic Idealize.ShloMosaic.TcCoe Idealize.ShloMosaic.Pointwise
open Cert.Soft

section
variable (xs : FVec Ideal S16384x2048 .f32) (w : FVec Ideal S2x2048x5120 .f32) (r : Fin 16384)

/-- The first of the two matrices. -/
def slab : FVec Ideal S2048x5120 .f32 :=
  shapeCast _ (extractStridedSlice S1x2048x5120 ![0, 0, 0] w slices_S2x2048x5120_S1x2048x5120_0_0_0) shapeCasts_S1x2048x5120_S2048x5120

/-- Every row by it. -/
def prod : FVec Ideal S16384x5120 .f32 := Host.dotGeneral dot_S16384x2048_S2048x5120_S16384x5120_1_0_0_1_n_n none xs (slab w)

/-- The queries scaled, the keys and the values as they are, from all the columns. -/
def scaled (z : FVec Ideal S16384x5120 .f32) : FVec Ideal S16384x4608 .bf16 :=
  truncf .bf16 (concatenate S16384x4608 1
    [⟨S16384x1536, Host.divf (Host.divf (extractStridedSlice S16384x1536 ![0, 512] z slices_S16384x5120_S16384x1536_0_512)
        (broadcastInDim S16384x1536 ![] bcast_S_S16384x1536 (Host.sqrt (constant S_ .f32 0x43000000#32))))
        (broadcastInDim S16384x1536 ![] bcast_S_S16384x1536 (Host.log (constant S_ .f32 0x40000000#32)))⟩,
     ⟨S16384x3072, extractStridedSlice S16384x3072 ![0, 2048] z slices_S16384x5120_S16384x3072_0_2048⟩]
    concatenates_S16384x1536_S16384x3072_S16384x4608_d1) bitsLt_bf16_f32

/-- The three layouts: rows in order, by fours, by sixteens. -/
def rows1 (y : FVec Ideal S16384x4608 .bf16) : FVec Ideal S1x16384x4608 .bf16 :=
  transpose S1x16384x4608 [1, 0, 2] (shapeCast _ y shapeCasts_S16384x4608_S16384x1x4608) transposes_S16384x1x4608_S1x16384x4608_1_0_2
def rows4 (y : FVec Ideal S16384x4608 .bf16) : FVec Ideal S4x4096x4608 .bf16 :=
  transpose S4x4096x4608 [1, 0, 2] (shapeCast _ y shapeCasts_S16384x4608_S4096x4x4608) transposes_S4096x4x4608_S4x4096x4608_1_0_2
def rows16 (y : FVec Ideal S16384x4608 .bf16) : FVec Ideal S16x1024x4608 .bf16 :=
  transpose S16x1024x4608 [1, 0, 2] (shapeCast _ y shapeCasts_S16384x4608_S1024x16x4608) transposes_S1024x16x4608_S16x1024x4608_1_0_2

theorem slab_at (k : Fin 2048) (c : Fin 5120) : slab w (ix2 k c) = w (ix3 0 k c) := by
  pointwise [slab]

theorem prod_at (c : Fin 5120) : prod xs w (ix2 r c) = ∑ k, xs (ix2 r k) * w (ix3 0 k c) := by
  pointwise [prod]
  simp only [slab_at]

theorem root_word : Ideal.sqrt (Ideal.ofBits FTy.f32 1124073472#32) = ((Real.sqrt 128 : ℝ) : EReal) := by
  have : Ideal.ofBits FTy.f32 1124073472#32 = ((128 : ℝ) : EReal) := by
    simp [Ideal.ofBits, Ideal.ieee, zpow_neg]
    rw [← EReal.coe_mul]
    norm_num
  rw [this]
  show Ideal.sqrt ((128 : ℝ) : EReal) = _
  exact if_neg (by norm_num)

/-- Dividing by the root and by the logarithm is multiplying by the reciprocal of their product. -/
theorem quotients (x : EReal) : Ideal.div (Ideal.div x ((Real.sqrt 128 : ℝ) : EReal)) ((Real.log 2 : ℝ) : EReal)
    = x * ((((Real.sqrt 128) * (Real.log 2))⁻¹ : ℝ) : EReal) := by
  rw [div_coe _ _ (Real.log_pos (by norm_num)).ne', div_coe _ _ (Real.sqrt_pos.mpr (by norm_num)).ne', mul_assoc, ← EReal.coe_mul, mul_inv]

/-- What a column is multiplied by: the queries, the first 1536 columns, by that reciprocal. -/
def factor (c : ℕ) : EReal := if c < 1536 then ((((Real.sqrt 128) * (Real.log 2))⁻¹ : ℝ) : EReal) else 1

theorem scaled_at (z : FVec Ideal S16384x5120 .f32) (c : Fin 4608) :
    scaled z (ix2 r c) = z (ix2 r ⟨512 + c, by omega⟩) * factor c := by
  unfold factor
  pointwise [scaled]
  by_cases h : c.val < 1536
  · rw [dif_pos h, if_pos h, Cert.ReferenceIdeal.Stage.log2_word, root_word, quotients]
  · rw [dif_neg h, if_neg h, mul_one]
    congr 2
    refine Fin.ext ?_
    show 2048 + (c.val - 1536) = 512 + c.val
    omega

theorem rows1_at (y : FVec Ideal S16384x4608 .bf16) (r : Fin 16384) (c : Fin 4608) : rows1 y (ix3 0 r c) = y (ix2 r c) := by
  pointwise [rows1]

theorem rows4_at (y : FVec Ideal S16384x4608 .bf16) (a : Fin 4) (r : Fin 4096) (c : Fin 4608) (R : Fin 16384) (h : R.val = r.val * 4 + a.val) :
    rows4 y (ix3 a r c) = y (ix2 R c) := by
  have hR : R = ⟨r.val * 4 + a.val, by have := a.isLt; have := r.isLt; omega⟩ := Fin.ext h
  rw [hR]
  clear hR
  pointwise [rows4]

theorem rows16_at (y : FVec Ideal S16384x4608 .bf16) (a : Fin 16) (r : Fin 1024) (c : Fin 4608) (R : Fin 16384) (h : R.val = r.val * 16 + a.val) :
    rows16 y (ix3 a r c) = y (ix2 R c) := by
  have hR : R = ⟨r.val * 16 + a.val, by have := a.isLt; have := r.isLt; omega⟩ := Fin.ext h
  rw [hR]
  clear hR
  pointwise [rows16]

/-- Queries, keys and values at a row and a column. -/
def cell (c : Fin 4608) : EReal := (∑ k, xs (ix2 r k) * w (ix3 0 k ⟨512 + c, by omega⟩)) * factor c

/-- The reference's rows, from its arguments. -/
def outcome : FVec Ideal S16384x4608 .bf16 := scaled (prod xs w)

theorem outcome_at (c : Fin 4608) : outcome xs w (ix2 r c) = cell xs w r c := by
  unfold outcome cell
  rw [scaled_at, prod_at]

end

/-- What the reference's program leaves in its results. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = rows1 (outcome (m ((c.tc : Thread nD τ).loc main_arg0)) (m ((c.tc : Thread nD τ).loc main_arg1)))
      ∧ r.2.mem ((c.tc : Thread nD τ).loc main_v16) = rows4 (outcome (m ((c.tc : Thread nD τ).loc main_arg0)) (m ((c.tc : Thread nD τ).loc main_arg1)))
      ∧ r.2.mem ((c.tc : Thread nD τ).loc main_v18) = rows16 (outcome (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans rfl, (h c).2.1.trans rfl, (h c).2.2.1.trans rfl, (h c).2.2.2⟩) (Value.run (F := Ideal) m ρ)

end Cert.Reference6Ideal.Stage

end
-- ==== Proof.QkOut.lean ====
/- The queries, keys and values at the ideal instance: each element of the three outputs is what the reference says. -/
module

public import proofs.«01_k».proof.Proof.QkRun
public import proofs.«01_k».proof.Proof.QkRef

@[expose] public section

set_option maxRecDepth 16384

noncomputable section

namespace Cert.Kernel6Ideal.Qk

open Idealize.ShloMosaic Idealize.ShloMosaic.TcCoe Idealize.ShloMosaic.Tactic Idealize.ShloMosaic.Pointwise
open Gen
open Cert.Reference6Ideal.Stage (cell outcome outcome_at factor rows1 rows4 rows16 rows1_at rows4_at rows16_at)

/-! ## The scaled product at an element -/

theorem q_scale : Named.named (F := Ideal) Cert.Kernel6Ideal.κ "q_scale" (φ := .f32) 0x3E0293EE#32 = ((((Real.sqrt 128) * (Real.log 2))⁻¹ : ℝ) : EReal) :=
  IdealRules.named_const.ideal_named_scalar _ _ _ _ rfl

theorem one_word : (Scalar.ofBits .f32 0x3F800000#32 : Ideal .f32) = (1 : EReal) := by
  show Ideal.ofBits .f32 0x3F800000#32 = 1
  simp [Ideal.ofBits, Ideal.ieee, zpow_neg]
  rw [← EReal.coe_mul]
  norm_num

/-- The kernel's scale: the first three column tiles are the queries'. -/
theorem scale_at (i : grid0.Coords) (s : Fin 512) :
    (Scalar.select (Scalar.cmpi .slt (BitVec.ofNat 32 (i 0).val) 3#32) (Named.named (F := Ideal) Cert.Kernel6Ideal.κ "q_scale" (φ := .f32) 0x3E0293EE#32) (Scalar.ofBits .f32 0x3F800000#32 : Ideal .f32))
      = factor ((i 0).val * 512 + s.val) := by
  have hs := s.isLt
  have hw : ∀ n : Fin 9, Scalar.cmpi .slt (BitVec.ofNat 32 n.val) 3#32 = if n.val < 3 then 1#1 else 0#1 := by decide
  rw [q_scale, one_word, hw (i 0)]
  unfold factor
  by_cases h : (i 0).val < 3
  · rw [if_pos h, if_pos (by omega)]; rfl
  · rw [if_neg h, if_neg (by omega)]; rfl

theorem pay4_at (i : grid0.Coords) (x : FVec Ideal S1024x2048 .bf16) (w : FVec Ideal S2048x512 .bf16) (p : Fin 1024) (s : Fin 512) :
    k0_pay4 (F := Ideal) i x w (ix2 p s) = (∑ k : Fin 2048, x (ix2 p k) * w (ix2 k s)) * factor ((i 0).val * 512 + s.val) := by
  rw [← scale_at i s]
  pointwise [k0_pay4]

/-! ## The blocks a point reads -/

variable (m : (ℓ : Loc nD τ sig) → Buf (Elt Ideal) ℓ) (ρ : Dev nD → PrngReg)

/-- The rows and the matrices, as launched. -/
abbrev rowsIn (c : Dev nD) : FVec Ideal S16384x2048 .f32 := m ((c.tc : Thread nD τ).loc main_arg0)
abbrev matsIn (c : Dev nD) : FVec Ideal S2x2048x5120 .f32 := m ((c.tc : Thread nD τ).loc main_arg1)

/-- The converted rows are the rows. -/
theorem V_rows (c : Dev nD) : (V m c main_v0 : FVec Ideal S16384x2048 .bf16) = fun i => rowsIn m c i := by
  entry_read
  rfl

/-- Where an element of a row block stands in the rows. -/
def xIdx (i : Fin 2 → ℕ) (h : ∀ a, (i a + 1) * S1024x2048.size a ≤ S16384x2048.size a) (y : S1024x2048.Idx) : S16384x2048.Idx :=
  fun (a : Fin 2) => (⟨i a * S1024x2048.size a + 1 * (y a).val, by
    have h1 := h a; have h2 : (y a).val < S1024x2048.size a := (y a).isLt
    rw [Nat.add_mul, one_mul] at h1; omega⟩ : Fin (S16384x2048.size a))

theorem xBlk_idx (hO : Ok m) (c : Dev nD) (t : Fin (cfgM m hO).N) (y : S1024x2048.Idx) :
    (xBlk m hO c t : FVec Ideal S1024x2048 .bf16) y
      = (V m c main_v0 : FVec Ideal S16384x2048 .bf16) (xIdx (cc0_transform_0 inb_S1_S1_0 numel1_S1 (tbl m) (grid0.coords t)) (hO.1 (grid0.coords t)).fst y) := rfl

theorem xIdx_congr {i j : Fin 2 → ℕ} (h : i = j) (hi : ∀ a, (i a + 1) * S1024x2048.size a ≤ S16384x2048.size a) (hj) (y : S1024x2048.Idx) :
    xIdx i hi y = xIdx j hj y := by subst h; rfl

theorem xBlk_at (c : Dev nD) (t : Fin (cfgM m (ok m)).N) (p : Fin 1024) (k : Fin 2048)
    (r : Fin 16384) (hr : r.val = (grid0.coords t 1).val * 1024 + p) :
    (xBlk m (ok m) c t : FVec Ideal S1024x2048 .bf16) (ix2 p k) = rowsIn m c (ix2 r k) := by
  refine (xBlk_idx m _ c t _).trans ((congrFun (V_rows m c) _).trans (congrArg (rowsIn m c) ?_))
  have hj := (ok m).1 (grid0.coords t)
  have e := transform0_eq m (grid0.coords t)
  refine (xIdx_congr e hj.fst (e ▸ hj.fst) _).trans (funext fun a : Fin 2 => Fin.ext ?_)
  match a with
  | ⟨0, _⟩ => show (grid0.coords t 1).val * 1024 + 1 * p.val = r.val; omega
  | ⟨1, _⟩ => show 0 * 2048 + 1 * k.val = k.val; omega

theorem wBlk_at (c : Dev nD) (t : Fin (cfgM m (ok m)).N) (k : Fin 2048) (s : Fin 512) (q : Fin 5120)
    (hq : q.val = 512 + ((grid0.coords t 0).val * 512 + s)) :
    (wBlk m (ok m) c t : FVec Ideal S2048x512 .bf16) (ix2 k s) = matsIn m c (ix3 0 k q) := by
  refine (castW_at _ k s).trans ((iblk1_at m _ c t _).trans ((congrFun (V_arg m c main_arg1 (.inr rfl)) _).trans (congrArg (matsIn m c) ?_)))
  have hj := (ok m).2 (grid0.coords t)
  have e := transform1_eq m (grid0.coords t)
  refine (wIdx_congr e hj.fst (e ▸ hj.fst) _).trans (funext fun a : Fin 3 => Fin.ext ?_)
  match a with
  | ⟨0, _⟩ => rfl
  | ⟨1, _⟩ => show 0 * 2048 + 1 * k.val = k.val; omega
  | ⟨2, _⟩ => show (1 + (grid0.coords t 0).val) * 512 + 1 * s.val = q.val; omega

/-! ## The whole arrays -/

/-- The reference's rows, from the kernel's arguments. -/
abbrev result (c : Dev nD) : FVec Ideal Cert.Reference6Ideal.S16384x4608 .bf16 := outcome (rowsIn m c) (matsIn m c)

/-- The scaled product of a point agrees with the reference. -/
theorem block_result (c : Dev nD) (t : Fin (cfgM m (ok m)).N) (p : Fin 1024) (s : Fin 512) (r : Fin 16384) (q : Fin 4608)
    (hr : r.val = (grid0.coords t 1).val * 1024 + p) (hq : q.val = (grid0.coords t 0).val * 512 + s) :
    (accBlk m (ok m) c t : FVec Ideal S1024x512 .f32) (ix2 p s) = result m c (ix2 r q) := by
  refine (pay4_at _ _ _ p s).trans (Eq.trans ?_ (outcome_at _ _ r q).symm)
  have ex := fun k => xBlk_at m c t p k r hr
  have ew := fun k => wBlk_at m c t k s ⟨512 + q.val, by omega⟩ (by show 512 + q.val = _; omega)
  unfold cell
  simp only [ex, ew, hq]

/-- Where an element of an output block stands in its output of `D` times `M` rows. -/
def oIdx {D R M : ℕ} (i : Fin 3 → ℕ) (h : ∀ a, (i a + 1) * (![D, R, 512] : Fin 3 → ℕ) a ≤ (![D, M, 4608] : Fin 3 → ℕ) a)
    (y : (⟨3, ![D, R, 512]⟩ : Shape).Idx) : (⟨3, ![D, M, 4608]⟩ : Shape).Idx :=
  fun (a : Fin 3) => (⟨i a * (![D, R, 512] : Fin 3 → ℕ) a + 1 * (y a).val, by
    have h1 := h a; have h2 : (y a).val < (![D, R, 512] : Fin 3 → ℕ) a := (y a).isLt
    rw [Nat.add_mul, one_mul] at h1; omega⟩ : Fin ((![D, M, 4608] : Fin 3 → ℕ) a))

theorem inside {D R M : ℕ} (hM : M = 16 * R) (i : grid0.Coords) (a : Fin 3) :
    ((![0, (i 1).val, (i 0).val] : Fin 3 → ℕ) a + 1) * (![D, R, 512] : Fin 3 → ℕ) a ≤ (![D, M, 4608] : Fin 3 → ℕ) a := by
  have h0 : (i 0).val < 9 := (i 0).isLt
  have h1 : (i 1).val < 16 := (i 1).isLt
  match a with
  | ⟨0, _⟩ => show (0 + 1) * D ≤ D; omega
  | ⟨1, _⟩ => show ((i 1).val + 1) * R ≤ M; rw [hM]; exact Nat.mul_le_mul_right R h1
  | ⟨2, _⟩ => show ((i 0).val + 1) * 512 ≤ 4608; omega

theorem oIdx_at {D R M : ℕ} {i : grid0.Coords} {f : Fin 3 → ℕ} (e : f = ![0, (i 1).val, (i 0).val]) (h) (a : Fin D) (p : Fin R) (s : Fin 512) (r : Fin M) (q : Fin 4608)
    (hr : r.val = (i 1).val * R + p) (hq : q.val = (i 0).val * 512 + s) : oIdx (D := D) (R := R) (M := M) f h (ix3 a p s) = ix3 a r q := by
  subst e
  refine funext fun b : Fin 3 => Fin.ext ?_
  match b with
  | ⟨0, _⟩ => show 0 * D + 1 * a.val = a.val; omega
  | ⟨1, _⟩ => show (i 1).val * R + 1 * p.val = r.val; omega
  | ⟨2, _⟩ => show (i 0).val * 512 + 1 * s.val = q.val; omega

/-- A number in base sixteen. -/
theorem digits (a b : ℕ) (hb : b < 16) : (a * 16 + b) % 16 = b ∧ (a * 16 + b) / 16 = a := by omega

/-- Every index of an output is a block's. -/
theorem covered {D R M : ℕ} (hR : 0 < R) (hM : M = 16 * R) (y : (⟨3, ![D, M, 4608]⟩ : Shape).Idx) :
    ∃ (t : Fin grid0.N) (x : (⟨3, ![D, R, 512]⟩ : Shape).Idx), ∀ (f : Fin 3 → ℕ) (_ : f = ![0, (grid0.coords t 1).val, (grid0.coords t 0).val]) (h), oIdx f h x = y := by
  obtain ⟨a, r, q, rfl⟩ : ∃ (a : Fin D) (r : Fin M) (q : Fin 4608), y = ix3 a r q := ⟨y 0, y 1, y 2, by funext k; fin_cases k <;> rfl⟩
  have hr := r.isLt
  have hq := q.isLt
  have hd : r.val / R < 16 := (Nat.div_lt_iff_lt_mul hR).mpr (hM ▸ hr)
  let t : Fin grid0.N := ⟨q.val / 512 * 16 + r.val / R, by rw [show grid0.N = 144 from rfl]; omega⟩
  refine ⟨t, ix3 a ⟨r.val % R, Nat.mod_lt _ hR⟩ ⟨q.val % 512, by omega⟩, fun f e h => oIdx_at e h _ _ _ r q ?_ ?_⟩
  · rw [row_at t]
    show r.val = (q.val / 512 * 16 + r.val / R) % 16 * R + r.val % R
    rw [(digits _ _ hd).1]; exact (Nat.div_add_mod' _ _).symm
  · rw [col_at t]
    show q.val = (q.val / 512 * 16 + r.val / R) / 16 * 512 + q.val % 512
    rw [(digits _ _ hd).2]; omega

theorem emb_2 (hO : Ok m) (t : Fin (cfgM m hO).N) (y : S1x1024x512.Idx) :
    (((cfgM m hO).win 2).blk t).view.emb y = oIdx (D := 1) (R := 1024) (M := 16384) (cc0_transform_2 (grid0.coords t)) (transform2_eq _ ▸ inside rfl _) y := rfl
theorem emb_3 (hO : Ok m) (t : Fin (cfgM m hO).N) (y : S4x256x512.Idx) :
    (((cfgM m hO).win 3).blk t).view.emb y = oIdx (D := 4) (R := 256) (M := 4096) (cc0_transform_3 (grid0.coords t)) (transform3_eq _ ▸ inside rfl _) y := rfl
theorem emb_4 (hO : Ok m) (t : Fin (cfgM m hO).N) (y : S16x64x512.Idx) :
    (((cfgM m hO).win 4).blk t).view.emb y = oIdx (D := 16) (R := 64) (M := 1024) (cc0_transform_4 (grid0.coords t)) (transform4_eq _ ▸ inside rfl _) y := rfl

theorem split3 {A B C : ℕ} (y : (⟨3, ![A, B, C]⟩ : Shape).Idx) : ∃ (a : Fin A) (p : Fin B) (s : Fin C), y = ix3 a p s :=
  ⟨y 0, y 1, y 2, by funext k; fin_cases k <;> rfl⟩

/-- After the run the outputs are the reference's rows, in order, by fours and by sixteens. -/
theorem final_2 (c : Dev nD) : (dats m (ok m) 0 c).arrAt 2 (cfgM m (ok m)).N = rows1 (result m c) := by
  refine (dats m (ok m) 0 c).arrAt_eq_of_emb 2 _ (fun t _ (y : S1x1024x512.Idx) => ?_) (fun (i : S1x16384x4608.Idx) => ?_)
  · obtain ⟨a, p, s, rfl⟩ := split3 y
    have h0 : (grid0.coords t 0).val < 9 := (grid0.coords t 0).isLt
    have h1 : (grid0.coords t 1).val < 16 := (grid0.coords t 1).isLt
    have ha : a = 0 := Subsingleton.elim _ _
    refine Eq.trans ?_ (congrArg (rows1 (result m c)) ((emb_2 m _ t _).trans
      (oIdx_at (transform2_eq (grid0.coords t)) _ a p s ⟨(grid0.coords t 1).val * 1024 + p, by omega⟩ ⟨(grid0.coords t 0).val * 512 + s, by omega⟩ rfl rfl)).symm)
    subst ha
    refine Eq.trans ?_ ((block_result m c t p s _ _ rfl rfl).trans (rows1_at _ _ _).symm)
    exact congrFun (after_2 m _ c t) (ix3 0 p s)
  · obtain ⟨t, x, e⟩ := covered (R := 1024) (by decide) rfl i
    exact ⟨t, flush_2 _ t, ((emb_2 m (ok m) t x).trans (e _ (transform2_eq _) _)) ▸ (((cfgM m (ok m)).win 2).blk t).view.emb_mem_set x⟩

theorem final_3 (c : Dev nD) : (dats m (ok m) 0 c).arrAt 3 (cfgM m (ok m)).N = rows4 (result m c) := by
  refine (dats m (ok m) 0 c).arrAt_eq_of_emb 3 _ (fun t _ (y : S4x256x512.Idx) => ?_) (fun (i : S4x4096x4608.Idx) => ?_)
  · obtain ⟨a, p, s, rfl⟩ := split3 y
    have h0 : (grid0.coords t 0).val < 9 := (grid0.coords t 0).isLt
    have h1 : (grid0.coords t 1).val < 16 := (grid0.coords t 1).isLt
    refine Eq.trans ?_ (congrArg (rows4 (result m c)) ((emb_3 m _ t _).trans
      (oIdx_at (transform3_eq (grid0.coords t)) _ a p s ⟨(grid0.coords t 1).val * 256 + p, by omega⟩ ⟨(grid0.coords t 0).val * 512 + s, by omega⟩ rfl rfl)).symm)
    have hr := rows4_at (result m c) a ⟨(grid0.coords t 1).val * 256 + p.val, by omega⟩ ⟨(grid0.coords t 0).val * 512 + s.val, by omega⟩
      ⟨(grid0.coords t 1).val * 1024 + (4 * p.val + a.val), by omega⟩ (by show (grid0.coords t 1).val * 1024 + (4 * p.val + a.val) = ((grid0.coords t 1).val * 256 + p.val) * 4 + a.val; omega)
    have hb := block_result m c t ⟨4 * p.val + a.val, by omega⟩ s ⟨(grid0.coords t 1).val * 1024 + (4 * p.val + a.val), by omega⟩ ⟨(grid0.coords t 0).val * 512 + s.val, by omega⟩ rfl rfl
    refine Eq.trans ?_ (hb.trans hr.symm)
    exact congrFun (after_3 m _ c t) (ix3 a p s)
  · obtain ⟨t, x, e⟩ := covered (R := 256) (by decide) rfl i
    exact ⟨t, flush_3 _ t, ((emb_3 m (ok m) t x).trans (e _ (transform3_eq _) _)) ▸ (((cfgM m (ok m)).win 3).blk t).view.emb_mem_set x⟩

theorem final_4 (c : Dev nD) : (dats m (ok m) 0 c).arrAt 4 (cfgM m (ok m)).N = rows16 (result m c) := by
  refine (dats m (ok m) 0 c).arrAt_eq_of_emb 4 _ (fun t _ (y : S16x64x512.Idx) => ?_) (fun (i : S16x1024x4608.Idx) => ?_)
  · obtain ⟨a, p, s, rfl⟩ := split3 y
    have h0 : (grid0.coords t 0).val < 9 := (grid0.coords t 0).isLt
    have h1 : (grid0.coords t 1).val < 16 := (grid0.coords t 1).isLt
    refine Eq.trans ?_ (congrArg (rows16 (result m c)) ((emb_4 m _ t _).trans
      (oIdx_at (transform4_eq (grid0.coords t)) _ a p s ⟨(grid0.coords t 1).val * 64 + p, by omega⟩ ⟨(grid0.coords t 0).val * 512 + s, by omega⟩ rfl rfl)).symm)
    have hr := rows16_at (result m c) a ⟨(grid0.coords t 1).val * 64 + p.val, by omega⟩ ⟨(grid0.coords t 0).val * 512 + s.val, by omega⟩
      ⟨(grid0.coords t 1).val * 1024 + (16 * p.val + a.val), by omega⟩ (by show (grid0.coords t 1).val * 1024 + (16 * p.val + a.val) = ((grid0.coords t 1).val * 64 + p.val) * 16 + a.val; omega)
    have hb := block_result m c t ⟨16 * p.val + a.val, by omega⟩ s ⟨(grid0.coords t 1).val * 1024 + (16 * p.val + a.val), by omega⟩ ⟨(grid0.coords t 0).val * 512 + s.val, by omega⟩ rfl rfl
    refine Eq.trans ?_ (hb.trans hr.symm)
    exact congrFun (after_4 m _ c t) (ix3 a p s)
  · obtain ⟨t, x, e⟩ := covered (R := 64) (by decide) rfl i
    exact ⟨t, flush_4 _ t, ((emb_4 m (ok m) t x).trans (e _ (transform4_eq _) _)) ▸ (((cfgM m (ok m)).win 4).blk t).view.emb_mem_set x⟩

/-- The kernel's run leaves the reference's results, and its arguments as launched. -/
theorem value : θ_run defs (onTc (τ := τ) (main (F := Ideal))) ⟨m, fun _ => 0, ρ⟩ (fun r => ∀ c : Dev nD,
      r.2.mem ((c.tc : Thread nD τ).loc main_v4_0) = rows1 (result m c)
      ∧ r.2.mem ((c.tc : Thread nD τ).loc main_v4_1) = rows4 (result m c)
      ∧ r.2.mem ((c.tc : Thread nD τ).loc main_v4_2) = rows16 (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1.out_eq c (2 : Fin 5)).trans (final_2 m c), (h.1.out_eq c (3 : Fin 5)).trans (final_3 m c),
      (h.1.out_eq c (4 : Fin 5)).trans (final_4 m c), unchanged_of m (ok m) (dats m (ok m)) (A_eq m (ok m)) r h.1 c⟩)
    (run_main m ρ (ok m))

end Cert.Kernel6Ideal.Qk

end
-- ==== Proof.QkFrame.lean ====
/- The claims on the queries, keys and values: the frames of the program's two readings and of its reference, its named constant,
   and that the kernel at the ideal instance leaves what the reference leaves. -/
module

public import proofs.«01_k».proof.Proof.QkOut
public import proofs.«01_k».proof.Proof.Gen.Kernel6
public import proofs.«01_k».proof.Proof.Gen.Reference6Ideal.Run
public import proofs.«01_k».proof.Defs

@[expose] public section

noncomputable section

namespace Cert.Projection

open Idealize.ShloMosaic Idealize.ShloMosaic.TcCoe Idealize.ShloMosaic.Tactic

theorem frame_pi : quiescent_Kernel6Ideal (hKernel6Ideal := Kernel6Ideal.Gen.facts) :=
  fun m g _ => Kernel6Ideal.Qk.frame m g

/-- A name read at the words is the literal it stands for. -/
local instance : Named Bits := ⟨fun _ _ {φ} b => Scalar.ofBits φ b⟩

/-- The two readings have one body table. -/
theorem defs0_same : @Kernel6.defs₀ Bits _ Kernel6.Gen.facts = @Kernel6Ideal.defs₀ Bits _ _ Kernel6Ideal.Gen.facts := by
  refine congrArg Defs.onTc ?_
  funext l x
  fin_cases l
  rfl

theorem defs_same : @Kernel6.defs Bits _ Kernel6.Gen.facts = @Kernel6Ideal.defs Bits _ _ Kernel6Ideal.Gen.facts :=
  congrArg (Pipeline.defs (@Kernel6Ideal.pcfgs Bits _ _ Kernel6Ideal.Gen.facts)) defs0_same

theorem main_same : @Kernel6.main Bits _ Kernel6.Gen.facts = @Kernel6Ideal.main Bits _ _ Kernel6Ideal.Gen.facts := by
  unfold Kernel6.main Kernel6Ideal.main
  rfl

theorem frame_p : quiescent_Kernel6 (hKernel6 := Kernel6.Gen.facts) := fun m g _ =>
  (congr (congrArg (fun d p => θ_run d (onTc (τ := Kernel6Ideal.τ) p) ⟨m, fun _ => 0, g⟩ _) defs_same) main_same).mpr
    (Kernel6Ideal.Qk.frame (F := Bits) m g)

theorem frame_ri : quiescent_Reference6Ideal (hReference6Ideal := Reference6Ideal.Gen.facts) := fun m g _ =>
  (θ_run Reference6Ideal.defs (onTc (τ := Reference6Ideal.τ) Reference6Ideal.main) ⟨m, fun _ => 0, g⟩).mono
    (fun r h => ⟨fun c => (h c).2.2.2, Idealize.ShloMosaic.sem_eq_zero_of_no_sems (by decide) r.2⟩) (Reference6Ideal.Value.run (F := Idealize.ShloMosaic.Ideal) m g)

theorem preserves : preserves_Kernel6_Kernel6Ideal :=
  IdealRules.named_const.statement Cert.Kernel6Ideal.κ "q_scale" .f32 0x3E0293EE#32 ((((Real.sqrt 128) * (Real.log 2))⁻¹ : ℝ) : EReal) rfl

theorem algebraic : algebraic_Kernel6Ideal_Reference6Ideal (hKernel6Ideal := Kernel6Ideal.Gen.facts) (hReference6Ideal := Reference6Ideal.Gen.facts) := by
  intro m g m' g' _ hagree
  refine ⟨fun c => Reference6Ideal.Stage.rows1 (Kernel6Ideal.Qk.result m c), fun c => Reference6Ideal.Stage.rows4 (Kernel6Ideal.Qk.result m c),
    fun c => Reference6Ideal.Stage.rows16 (Kernel6Ideal.Qk.result m c), Kernel6Ideal.Qk.value m g, ?_⟩
  refine (θ_run Reference6Ideal.defs _ _).mono (fun _ hr c => ?_) (Reference6Ideal.Stage.run m' g')
  obtain ⟨a0, a1⟩ := hagree c
  have h := hr c
  rw [a0, a1] at h
  rw [a0, a1]
  exact h

end Cert.Projection

end
-- ==== Proof.WoKit.lean ====
/- The launch of the mixer's output projection with its gated residual: what the region finds in the buffers,
   the four constant tables, the windows' blocks, and the names of the memrefs the body is called with. -/
module

public import proofs.«01_k».proof.Proof.Gen.Kernel7Ideal.Launch
public import proofs.«01_k».proof.Proof.Gen.Kernel7Ideal.Skeleton
public import proofs.«01_k».proof.Proof.Gen.Kernel7Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel7Ideal.Wo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ)

/-! ## Up to the region -/

/-- What core `c`'s buffers hold when the region is entered: the launch memory with the host operations done. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The argument arrays are found as launched. -/
theorem V_arg (c : Dev nD) (b : Ref sig .tc) (hb : b = main_arg0 ∨ b = main_arg1 ∨ b = main_arg2 ∨ b = main_arg3) : V m c b = m ((c : Thread nD τ).loc b) := by
  rcases hb with rfl | rfl | rfl | rfl <;> (entry_read; rfl)

/-! ## The tables -/

/-- The four tables' contents at the region's entry. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every window's block lies inside its array at every point. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev mT0 : Memref sig .tc .smem S16 .i32 := Memref.whole main_v1
abbrev mT1 : Memref sig .tc .smem S16 .i32 := Memref.whole main_c
abbrev mT2 : Memref sig .tc .smem S1 .i32 := Memref.whole main_v2
abbrev mT3 : Memref sig .tc .smem S16 .i32 := Memref.whole main_v3

/-- A table held at half its share, at contents `f`. -/
abbrev tabPt (c : Dev nD) {S : Shape} {e : EltTy} (M : Memref sig .tc .smem S e) (f : Buf (Elt F) (M.view.loc (c : Thread nD τ))) : sProp 𝕄 :=
  M.view.loc (c : Thread nD τ) ↦{fullShare.right} f

/-- The tables' halves, table by table. -/
theorem tables_eq (c : Dev nD) : (Pipeline.ΦT pre0 (tbl m) c : sProp 𝕄)
    = iprop(tabPt c mT0 (tbl m 0) ∗ tabPt c mT1 (tbl m 1) ∗ tabPt c mT2 (tbl m 2) ∗ tabPt c mT3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## Blocks and memrefs -/

/-- Window `w`'s block at point `t`, as the region finds its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev ms0 (hO : Ok m) (t : Fin (cfgM m hO).N) : Memref sig .tc .vmem S1024x2048 .bf16 := spec0_0.stage ((cfgM m hO).slots t 0)
abbrev ms1 (hO : Ok m) (t : Fin (cfgM m hO).N) : Memref sig .tc .vmem S1x2048x1024 .f32 := spec0_1.stage ((cfgM m hO).slots t 1)
abbrev ms2 (hO : Ok m) (t : Fin (cfgM m hO).N) : Memref sig .tc .vmem S1024x1024 .f32 := spec0_2.stage ((cfgM m hO).slots t 2)
abbrev ms3 (hO : Ok m) (t : Fin (cfgM m hO).N) : Memref sig .tc .vmem S1x1x1x1024 .f32 := spec0_3.stage ((cfgM m hO).slots t 3)
abbrev ms4 (hO : Ok m) (t : Fin (cfgM m hO).N) : Memref sig .tc .vmem S1024x1024 .f32 := spec0_4.stage ((cfgM m hO).slots t 4)
abbrev scr0 : Memref sig .tc .vmem S2048x1024 .bf16 := Memref.whole cc0_scratch0

/-- The body at point `t`, on what the pipeline calls it with. -/
abbrev bodyAt (a : (pcfg0 (F := F)).Adm) (t : Fin (cfg0 a).N) : Prog (TpuEff nD τ sig (Elt F) Λ₀ .tc) PUnit :=
  cc0_matmul_gated_residual (grid0.coords t) mT0 (Memref.isWhole_whole _) mT1 (Memref.isWhole_whole _) mT2 (Memref.isWhole_whole _) mT3 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) scr0 (Memref.isWhole_whole _)

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The kernel's own buffers and the generator register: the scratch buffer at some contents. -/
theorem own_eq (c : Dev nD) :
    (Pipeline.ΦA spec0 c : sProp 𝕄)
      = iprop((∃ d, owns (c : Thread nD τ) scr0 fullShare d) ∗ (∃ r, prngReg c r)) := by
  unfold Pipeline.ΦA; rw [scopedRest0_eq]; simp only [owns_whole]; try rfl

/-- An input window's current buffer holds its block at every point, fetched there or not. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t)
    ∧ ((∀ t, dat.after 2 t = iblk m hO c 2 t) → ∀ t d, dat.before 2 t d = iblk m hO c 2 t)
    ∧ ((∀ t, dat.after 3 t = iblk m hO c 3 t) → ∀ t d, dat.before 3 t d = iblk m hO c 3 t) := by
  refine ⟨fun ha t d => ?_, fun ha t d => ?_, fun ha t d => ?_, fun ha t d => ?_⟩
  · exact (dat.before_in_eq_fetched 0 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [ha]; unfold Dat.blockOf iblk; rw [hA]; try rfl) t d).trans
      (by unfold Dat.fetched Dat.blockOf iblk; rw [hA]; try rfl)
  · exact (dat.before_in_eq_fetched 3 rfl (fun _ => rfl) (fun _ _ _ => rfl) (fun t => by rw [ha]; unfold Dat.blockOf iblk; rw [hA]; try rfl) t d).trans
      (by unfold Dat.fetched Dat.blockOf iblk; rw [hA]; try rfl)

/-- The argument arrays end as launched, off a run to the library's post. -/
theorem unchanged_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w)) (r : PUnit × MemSt nD τ sig (Elt F))
    (h : Pipeline.FramePost (Pipeline.pin pcfgs fun _ => adm m hO) dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats 0 c).arrAt_in 0 rfl _).trans ((hA c 0).trans (V_arg m c _ (.inl rfl)))),
    ((h c).1 1).trans (((dats 0 c).arrAt_in 1 rfl _).trans ((hA c 1).trans (V_arg m c _ (.inr (.inl rfl))))),
    ((h c).1 2).trans (((dats 0 c).arrAt_in 2 rfl _).trans ((hA c 2).trans (V_arg m c _ (.inr (.inr (.inl rfl)))))),
    ((h c).2 main_arg3 (by decide : main_arg3 ∈ Pipeline.restRefs sig spec0)).trans (V_arg m c _ (.inr (.inr (.inr rfl))))⟩

end Cert.Kernel7Ideal.Wo

end
-- ==== Proof.WoCast.lean ====
/- The weight copy the body of the output projection keeps: what its loop leaves in the scratch buffer is the whole
   weight block rounded. -/
module

public import proofs.«01_k».proof.Proof.WoKit
public import Idealize.ShloMosaic.Lib.WritesUnit
public import Idealize.ShloMosaic.Lib.VecWindow
public import Idealize.ShloMosaic.Lib.Pointwise

@[expose] public section

set_option maxRecDepth 16384

noncomputable section

namespace Cert.Kernel7Ideal.Wo

open Idealize.ShloMosaic Idealize.ShloMosaic.TcCoe Idealize.ShloMosaic.Tactic
open Idealize.SL Idealize.SL.Sem
open Gen

variable {F : FTy → Type} [FloatOps F]

/-- A weight block rounded to bf16, without its unit axis. -/
def castW (x : Vec F S1x2048x1024 .f32) : FVec F S2048x1024 .bf16 :=
  truncf .bf16 ((fun y => x (ix3 0 (y 0) (y 1))) : FVec F S2048x1024 .f32) bitsLt_bf16_f32

theorem castW_at (x : Vec F S1x2048x1024 .f32) (r : Fin 2048) (s : Fin 1024) :
    castW x (ix2 r s) = FloatOps.truncf .bf16 bitsLt_bf16_f32 (x (ix3 0 r s)) := rfl

theorem pay1_at (v : Vec F S1x512x1024 .f32) (a : Fin 512) (b : Fin 1024) :
    k0_pay1 (F := F) v (ix2 a b) = FloatOps.truncf .bf16 bitsLt_bf16_f32 (v (ix3 0 a b)) := by
  pointwise [k0_pay1]

theorem off3_eq : ∀ k : Fin k0_t1_loop.trips, k0_off3 k = ![0, 512 * k.val, 0] := by decide +kernel
theorem off4_eq : ∀ k : Fin k0_t1_loop.trips, k0_off4 k = ![512 * k.val, 0] := by decide +kernel
theorem trips_eq : k0_t1_loop.trips = 4 := by decide +kernel

variable (𝒱 : Variants) (c : Dev nD) (bd : Option 𝒱.V) (i : grid0.Coords) (arg2 : Memref sig .tc .smem S16 .i32) (harg2 : arg2.IsWhole) (arg3 : Memref sig .tc .smem S16 .i32) (harg3 : arg3.IsWhole) (arg4 : Memref sig .tc .smem S1 .i32) (harg4 : arg4.IsWhole) (arg5 : Memref sig .tc .smem S16 .i32) (harg5 : arg5.IsWhole) (arg6 : Memref sig .tc .vmem S1024x2048 .bf16) (harg6 : arg6.IsWhole) (arg7 : Memref sig .tc .vmem S1x2048x1024 .f32) (harg7 : arg7.IsWhole) (arg8 : Memref sig .tc .vmem S1024x1024 .f32) (harg8 : arg8.IsWhole) (arg9 : Memref sig .tc .vmem S1x1x1x1024 .f32) (harg9 : arg9.IsWhole) (arg10 : Memref sig .tc .vmem S1024x1024 .f32) (harg10 : arg10.IsWhole) (arg11 : Memref sig .tc .vmem S2048x1024 .bf16) (harg11 : arg11.IsWhole)
  (X7 : BufTy.Contents (Elt F) arg7.view.ty)

theorem trip_pieces (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 X7 k
      = [⟨Rect.unit (s := S2048x1024) (k0_off4 k) S512x1024.size (k0_off4_inb k), k0_pay1 (arg7.view.readAt (Elt F) (Rect.unit (s := S1x2048x1024) (k0_off3 k) S1x512x1024.size (k0_off3_inb k)).toLoadRect X7)⟩] := by
  unfold tripL_k0_t1 trip_k0_t1
  rfl

/-- A rounded row block is the rounded weight at the rows it is stored to. -/
theorem piece_eq (k : Fin k0_t1_loop.trips) (arg : Memref sig .tc .vmem S1x2048x1024 .f32) (X : BufTy.Contents (Elt F) arg.view.ty)
    (p : FVec F S512x1024 .bf16)
    (hp : ∀ a b, p (ix2 a b) = FloatOps.truncf .bf16 bitsLt_bf16_f32 (arg.view.readAt (Elt F) (Rect.unit (s := S1x2048x1024) (k0_off3 k) S1x512x1024.size (k0_off3_inb k)).toLoadRect X (ix3 0 a b)))
    (x : S512x1024.Idx) :
    p x = castW (arg.view.read (Elt F) X) ((Rect.unit (s := S2048x1024) (k0_off4 k) S512x1024.size (k0_off4_inb k)).emb x) := by
  have hx : x = ix2 (x 0) (x 1) := funext fun a => by fin_cases a <;> rfl
  refine (congrArg p hx).trans ((hp (x 0) (x 1)).trans ?_)
  unfold castW
  refine congrArg (fun z => FloatOps.truncf .bf16 bitsLt_bf16_f32 z) ?_
  refine congrArg (arg.view.read (Elt F) X) ?_
  have h3 := off3_eq k
  have h4 := off4_eq k
  funext a
  apply Fin.ext
  fin_cases a
  · show (k0_off3 k) 0 + 1 * 0 = 0
    rw [h3]; rfl
  · show (k0_off3 k) 1 + 1 * (x 0).val = (k0_off4 k) 0 + 1 * (x 0).val
    rw [h3, h4]; rfl
  · show (k0_off3 k) 2 + 1 * (x 1).val = (k0_off4 k) 1 + 1 * (x 1).val
    rw [h3, h4]; rfl

/-- Before trip `k`: every piece is the rounded weight, and the first `512 k` rows are covered. -/
theorem pieces_upto : ∀ k : ℕ, k ≤ k0_t1_loop.trips →
    (∀ p ∈ (pb_k0_t1 (F := F) 𝒱 c bd i arg2 harg2 arg3 harg3 arg4 harg4 arg5 harg5 arg6 harg6 arg7 harg7 arg8 harg8 arg9 harg9 arg10 harg10 arg11 harg11 X7 k), ∀ x, p.2 x = castW (arg7.view.read (Elt F) X7) (p.1.emb x))
    ∧ ∀ y : S2048x1024.Idx, (y 0).val < 512 * k → ∃ p ∈ (pb_k0_t1 (F := F) 𝒱 c bd i arg2 harg2 arg3 harg3 arg4 harg4 arg5 harg5 arg6 harg6 arg7 harg7 arg8 harg8 arg9 harg9 arg10 harg10 arg11 harg11 X7 k), y ∈ p.1.set := by
  intro k
  induction k with
  | zero =>
      intro _
      refine ⟨fun p hp => absurd hp List.not_mem_nil, fun y hy => absurd hy (by omega)⟩
  | succ k ih =>
      intro hk
      obtain ⟨i1, i3⟩ := ih (by omega)
      have hs := pb_k0_t1_succ (F := F) 𝒱 c bd i arg2 harg2 arg3 harg3 arg4 harg4 arg5 harg5 arg6 harg6 arg7 harg7 arg8 harg8 arg9 harg9 arg10 harg10 arg11 harg11 X7 ⟨k, by omega⟩
      rw [trip_pieces] at hs
      dsimp only at hs
      rw [hs]
      have hmem : ∀ y : S2048x1024.Idx, 512 * k ≤ (y 0).val → (y 0).val < 512 * (k + 1) →
          y ∈ (Rect.unit (s := S2048x1024) (k0_off4 ⟨k, by omega⟩) S512x1024.size (k0_off4_inb ⟨k, by omega⟩)).set := fun y h1 h2 => by
        rw [Rect.mem_set_unit]
        intro a
        rw [off4_eq]
        fin_cases a
        · exact ⟨h1, by show (y 0).val < 512 * k + 512; omega⟩
        · exact ⟨Nat.zero_le _, by show (y 1).val < 0 + 1024; have : (y 1).val < 1024 := (y 1).isLt; omega⟩
      refine ⟨fun p hp => ?_, fun y hy => ?_⟩
      · rcases List.mem_append.mp hp with h | h
        · rw [List.mem_singleton] at h; subst h
          exact piece_eq (F := F) _ arg7 X7 _ (fun a b => pay1_at _ a b)
        · exact i1 p h
      · by_cases hlt : (y 0).val < 512 * k
        · obtain ⟨p, hp, hy1⟩ := i3 y hlt
          exact ⟨p, List.mem_append.mpr (.inr hp), hy1⟩
        · exact ⟨_, List.mem_append.mpr (.inl (List.mem_singleton.mpr rfl)), hmem y (by omega) hy⟩

/-- After the loop the scratch buffer holds the weight block rounded. -/
theorem loop_read (f11 : BufTy.Contents (Elt F) arg11.view.ty) :
    arg11.view.read (Elt F) (arg11.view.writes (Elt F) f11 (pb_k0_t1 (F := F) 𝒱 c bd i arg2 harg2 arg3 harg3 arg4 harg4 arg5 harg5 arg6 harg6 arg7 harg7 arg8 harg8 arg9 harg9 arg10 harg10 arg11 harg11 X7 k0_t1_loop.trips)) = castW (arg7.view.read (Elt F) X7) := by
  obtain ⟨h1, h3⟩ := pieces_upto (F := F) 𝒱 c bd i arg2 harg2 arg3 harg3 arg4 harg4 arg5 harg5 arg6 harg6 arg7 harg7 arg8 harg8 arg9 harg9 arg10 harg10 arg11 harg11 X7 k0_t1_loop.trips le_rfl
  have hr : ∀ y : S2048x1024.Idx, (y 0).val < 512 * k0_t1_loop.trips := fun y => by
    rw [trips_eq]; exact (y 0).isLt
  exact funext fun y => View.read_writes_apply_of_pieces _ _ _ _ h1 y (h3 y (hr y))

end Cert.Kernel7Ideal.Wo

end
-- ==== Proof.WoBody.lean ====
/- One run of the output projection's body: at a column's first tile the weight block is rounded into the scratch
   buffer, and the output block holds the residual rows plus the gate times the product. -/
module

public import proofs.«01_k».proof.Proof.WoCast

@[expose] public section

set_option maxRecDepth 16384

noncomputable section

namespace Cert.Kernel7Ideal.Wo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

local notation "𝕄" => MT nD τ sig Unit (Elt F) ℕ (UR sig nD τ) ℕ

/-- The tile's own entry of the first table and the entry of the tile before it, as the body reads them. -/
abbrev teNow (c : Dev nD) (i : grid0.Coords) (f : Buf (Elt F) (mT0.view.loc (c : Thread nD τ))) : BitVec 32 :=
  View.readAt (Elt F) mT0.view (Rect.unit (s := S16) (k0_off1 i) S1.size (k0_off1_inb i)).toLoadRect f (Shape.Idx.first (show 0 < S1.numel from by decide))
abbrev tePrev (c : Dev nD) (i : grid0.Coords) (f : Buf (Elt F) (mT0.view.loc (c : Thread nD τ))) : BitVec 32 :=
  View.readAt (Elt F) mT0.view (Rect.unit (s := S16) (k0_off2 i) S1.size (k0_off2_inb i)).toLoadRect f (Shape.Idx.first (show 0 < S1.numel from by decide))

/-- The body refreshes its weight copies: at the first tile, and where the expert is another than the tile's before. -/
abbrev Chg (i : grid0.Coords) (a b : BitVec 32) : Prop :=
  Scalar.cmpi .ne (Scalar.extui (Scalar.ori (Scalar.cmpi .eq (BitVec.ofNat 32 (i 1).val) 0#32) (Scalar.cmpi .ne a b)) : BitVec 32) 0#32 = 1#1

section Fin

variable {v9 : View sig .tc .vmem S1024x1024 .f32} (f : v9.ty.Contents (Elt F))

/-- A weight copy as the body loads it. -/
abbrev ldW (u : Memref sig .tc .vmem S2048x1024 .bf16) (g : BufTy.Contents (Elt F) u.view.ty) : Vec F S2048x1024 .bf16 :=
  u.view.readAt (Elt F) (Rect.unit (s := S2048x1024) ![0, 0] S2048x1024.size inb_S2048x1024_S2048x1024_0_0).toLoadRect g

theorem ldW_eq {u : Memref sig .tc .vmem S2048x1024 .bf16} {g : BufTy.Contents (Elt F) u.view.ty} {w : Vec F S2048x1024 .bf16}
    (h : u.view.read (Elt F) g = w) : ldW u g = w := (View.readAt_full u.view g _).trans h

/-- A store of the whole output block, read back. -/
theorem read_one (p : Vec F S1024x1024 .f32) :
    v9.read (Elt F) (v9.writes (Elt F) f [⟨Rect.unit (s := S1024x1024) ![0, 0] S1024x1024.size inb_S1024x1024_S1024x1024_0_0, p⟩]) = p :=
  funext fun y => View.read_writes_cons_rows_of_mem v9 f inb_S1024x1024_S1024x1024_0_0 p [] y y rfl (Nat.zero_add _).symm rfl

theorem fin {M : Memref sig .tc .vmem S1024x2048 .bf16} {fx : BufTy.Contents (Elt F) M.view.ty} {u : Memref sig .tc .vmem S2048x1024 .bf16} {g : BufTy.Contents (Elt F) u.view.ty}
    {Mr : Memref sig .tc .vmem S1024x1024 .f32} {fr : BufTy.Contents (Elt F) Mr.view.ty} {Mg : Memref sig .tc .vmem S1x1x1x1024 .f32} {fg : BufTy.Contents (Elt F) Mg.view.ty}
    {x : Vec F S1024x2048 .bf16} {w : Vec F S2048x1024 .bf16} {xr : Vec F S1024x1024 .f32} {xg : Vec F S1x1x1x1024 .f32}
    (hx : M.view.read (Elt F) fx = x) (h0 : u.view.read (Elt F) g = w) (hr : Mr.view.read (Elt F) fr = xr) (hg : Mg.view.read (Elt F) fg = xg) :
    v9.read (Elt F) (v9.writes (Elt F) f [⟨Rect.unit (s := S1024x1024) ![0, 0] S1024x1024.size inb_S1024x1024_S1024x1024_0_0,
        k0_pay2 (M.view.readAt (Elt F) (Rect.unit (s := S1024x2048) ![0, 0] S1024x2048.size inb_S1024x2048_S1024x2048_0_0).toLoadRect fx) (ldW u g)
          (Mr.view.readAt (Elt F) (Rect.unit (s := S1024x1024) ![0, 0] S1024x1024.size inb_S1024x1024_S1024x1024_0_0).toLoadRect fr)
          (Mg.view.readAt (Elt F) (Rect.unit (s := S1x1x1x1024) ![0, 0, 0, 0] S1x1x1x1024.size inb_S1x1x1x1024_S1x1x1x1024_0_0_0_0).toLoadRect fg)⟩])
      = k0_pay2 x w xr xg := by
  rw [ldW_eq h0, View.readAt_full, hx, View.readAt_full, hr, View.readAt_full, hg]
  exact read_one f _

end Fin

variable (c : Dev nD) (i : grid0.Coords) (arg6 : Memref sig .tc .vmem S1024x2048 .bf16) (harg6 : arg6.IsWhole) (arg7 : Memref sig .tc .vmem S1x2048x1024 .f32) (harg7 : arg7.IsWhole)
    (arg8 : Memref sig .tc .vmem S1024x1024 .f32) (harg8 : arg8.IsWhole) (arg9 : Memref sig .tc .vmem S1x1x1x1024 .f32) (harg9 : arg9.IsWhole) (arg10 : Memref sig .tc .vmem S1024x1024 .f32) (harg10 : arg10.IsWhole)
    (x0 : Vec F S1024x2048 .bf16) (x1 : Vec F S1x2048x1024 .f32) (x2 : Vec F S1024x1024 .f32) (x3 : Vec F S1x1x1x1024 .f32) (xt0 : Buf (Elt F) (mT0.view.loc (c : Thread nD τ)))

/-- What the body holds while it runs: the four input blocks, the output block, the scratch buffer, the first table. -/
abbrev Held (out : sProp 𝕄) (s : Vec F S2048x1024 .bf16) : sProp 𝕄 :=
  iprop(owns (c : Thread nD τ) arg6 fullShare x0 ∗ owns (c : Thread nD τ) arg7 fullShare x1 ∗ owns (c : Thread nD τ) arg8 fullShare x2 ∗ owns (c : Thread nD τ) arg9 fullShare x3 ∗ out ∗ owns (c : Thread nD τ) scr0 fullShare s ∗ tabPt c mT0 xt0)

set_option maxHeartbeats 4000000 in
theorem body_run (s w : Vec F S2048x1024 .bf16)
    (hw : Chg i (teNow c i xt0) (tePrev c i xt0) → w = castW x1) (hs : ¬Chg i (teNow c i xt0) (tePrev c i xt0) → w = s) (E : Set ℕ) :
    Held c arg6 arg7 arg8 arg9 x0 x1 x2 x3 xt0 (iprop(∃ d, owns (c : Thread nD τ) arg10 fullShare d)) s
      ⊢ wp frame (wpE (defs₀ (F := F)) Variants.none c none) E (cc0_matmul_gated_residual i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _))
          (fun _ => Held c arg6 arg7 arg8 arg9 x0 x1 x2 x3 xt0 (owns (c : Thread nD τ) arg10 fullShare (k0_pay2 x0 w x2 x3)) w) := by
  simp only [cc0_matmul_gated_residual_eq_skeleton]; unfold cc0_matmul_gated_residual_skel
  unfold Held owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, HT0⟩
  by_cases hC : Chg i (teNow c i xt0) (tePrev c i xt0)
  · have hL := loop_read (F := F) Variants.none c none i mT0 (Memref.isWhole_whole _) mT1 (Memref.isWhole_whole _) mT2 (Memref.isWhole_whole _) mT3 (Memref.isWhole_whole _) arg6 harg6 arg7 harg7 arg8 harg8 arg9 harg9 arg10 harg10 scr0 (Memref.isWhole_whole _) f1 fs
    have e0 := hL.trans ((congrArg castW hf1).trans (hw hC).symm)
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]
    rotate_left
    · isplitl [HS]; · iexists _; isplitr; swap; iexact HS; ipureintro; exact e0
      iexact HT0
    iexists _; isplitr; swap; iexact H4; ipureintro
    exact fin _ hf0 e0 hf2 hf3
  · have e0 := hfs.trans (hs hC).symm
    sl_exec
    sl_step
    isplitl [H0]; · iexists _; isplitr; swap; iexact H0; ipureintro; exact hf0
    isplitl [H1]; · iexists _; isplitr; swap; iexact H1; ipureintro; exact hf1
    isplitl [H2]; · iexists _; isplitr; swap; iexact H2; ipureintro; exact hf2
    isplitl [H3]; · iexists _; isplitr; swap; iexact H3; ipureintro; exact hf3
    isplitl [H4]
    rotate_left
    · isplitl [HS]; · iexists _; isplitr; swap; iexact HS; ipureintro; exact e0
      iexact HT0
    iexists _; isplitr; swap; iexact H4; ipureintro
    exact fin _ hf0 e0 hf2 hf3

end Cert.Kernel7Ideal.Wo

end
-- ==== Proof.WoWord.lean ====
/- The words the output projection reads from its tables, all constants, and the blocks they choose at the grid's points. -/
module

public import proofs.«01_k».proof.Proof.WoBody

@[expose] public section

set_option maxRecDepth 16384

noncomputable section

namespace Cert.Kernel7Ideal.Wo

open Idealize.ShloMosaic Idealize.ShloMosaic.TcCoe Idealize.ShloMosaic.Tactic
open Gen

variable {F : FTy → Type} [FloatOps F] (m : (ℓ : Loc nD τ sig) → Buf (Elt F) ℓ)

/-! ## Tables -/

/-- The sequence of a tile's rows: two prompts of four tiles, then four samples of two. -/
def seqOf (k : ℕ) : ℕ := if k < 8 then k / 4 else 2 + (k - 8) / 2

theorem seqOf_lt {k : ℕ} (h : k < 16) : seqOf k < 8 := by
  unfold seqOf; split <;> omega

/-- The second table holds the tiles' sequences. -/
theorem tbl_1 : (tbl m 1 : IVec S16 32) = fun i => lit0 (S16.rowMajor i) := by
  unfold tbl
  show V m 0 main_c = _
  entry_read
  rfl

/-- The third says that all sixteen tiles are in use. -/
theorem tbl_2 : (tbl m 2 : IVec S1 32) = fun _ => 16#32 := by
  unfold tbl
  show V m 0 main_v2 = _
  entry_read
  rfl

theorem lit_seq : ∀ k : Fin 16, (lit0 (S16.rowMajor (ix1 k))).toNat = seqOf k.val := by
  decide +kernel

theorem min_word : ∀ n : Fin 16, (Scalar.minsi (BitVec.ofNat 32 n.val) (Scalar.subi 16#32 1#32) : BitVec 32).toNat = n.val := by
  decide +kernel

/-! ## Points -/

theorem word_at (i : grid0.Coords) (a : Fin 2) : (BitVec.ofNat 32 (i a).val).toNat = (i a).val := by
  have h : (i a).val < 16 := lt_of_lt_of_le (i a).isLt (by fin_cases a <;> decide)
  rw [BitVec.toNat_ofNat]; omega

theorem row_at (t : Fin grid0.N) : (grid0.coords t 1).val = t.val % 16 := by
  have := Pipeline.Grid.coords_val t 1 (S := 1) (B := 16) (by decide) rfl
  simpa using this

theorem col_at (t : Fin grid0.N) : (grid0.coords t 0).val = t.val / 16 := by
  have h := Pipeline.Grid.coords_val t 0 (S := 16) (B := 2) (by decide) rfl
  have ht : t.val < 32 := t.isLt
  rw [h]; omega

/-- The weight copy is kept only past a column's first tile. -/
theorem not_first {i : grid0.Coords} {a b : BitVec 32} (h : ¬Chg i a b) : (i 1).val ≠ 0 := fun h0 => by
  have key : ∀ q : BitVec 1, Scalar.cmpi .ne (Scalar.extui (Scalar.ori (Scalar.cmpi .eq (BitVec.ofNat 32 0) 0#32) q) : BitVec 32) 0#32 = 1#1 := by decide
  unfold Chg at h
  rw [h0] at h
  exact h (key _)

/-! ## The windows' blocks -/

theorem transform0_eq (i : grid0.Coords) : cc0_transform_0 inb_S1_S1_0 numel1_S1 (tbl m) i = ![(i 1).val, 0] := by
  have h : (tbl m).at 2 (Rect.unit (s := S1) ![0] S1.size inb_S1_S1_0) numel1_S1 = 16#32 := congrFun (tbl_2 m) _
  funext a
  match a with
  | ⟨0, _⟩ => exact (congrArg (fun u => (Scalar.minsi (BitVec.ofNat 32 (i 1).val) (Scalar.subi u 1#32) : BitVec 32).toNat) h).trans (min_word (i 1))
  | ⟨1, _⟩ => rfl

theorem transform1_eq (i : grid0.Coords) : cc0_transform_1 k0_off1_inb numel1_S1 (tbl m) i = ![0, 0, (i 0).val] := by
  funext a
  match a with
  | ⟨0, _⟩ => rfl
  | ⟨1, _⟩ => rfl
  | ⟨2, _⟩ => exact (congrArg BitVec.toNat (BitVec.zero_add (BitVec.ofNat 32 (i 0).val))).trans (word_at i 0)

theorem transform2_eq (i : grid0.Coords) : cc0_transform_2 i = ![(i 1).val, (i 0).val] := by
  funext a
  match a with
  | ⟨0, _⟩ => exact word_at i 1
  | ⟨1, _⟩ => exact word_at i 0

theorem transform3_eq (i : grid0.Coords) : cc0_transform_3 k0_off1_inb numel1_S1 (tbl m) i = ![seqOf (i 1).val, 2, 0, (i 0).val] := by
  have h : (tbl m).at 1 (Rect.unit (s := S16) (k0_off1 i) S1.size (k0_off1_inb i)) numel1_S1 = (tbl m 1 : IVec S16 32) (ix1 (i 1)) :=
    congrArg (tbl m 1 : IVec S16 32) (funext fun a : Fin 1 => by
      obtain rfl : a = 0 := Subsingleton.elim a 0
      exact Fin.ext ((Nat.add_zero _).trans (word_at i 1)))
  funext a
  match a with
  | ⟨0, _⟩ => exact (congrArg BitVec.toNat (h.trans (congrFun (tbl_1 m) _))).trans (lit_seq (i 1))
  | ⟨1, _⟩ => rfl
  | ⟨2, _⟩ => rfl
  | ⟨3, _⟩ => exact word_at i 0

theorem transform4_eq (i : grid0.Coords) : cc0_transform_4 i = ![(i 1).val, (i 0).val] := transform2_eq i

/-! ## The blocks lie inside their arrays -/

theorem inside0 (i : grid0.Coords) (a : Fin 2) : (cc0_transform_0 inb_S1_S1_0 numel1_S1 (tbl m) i a + 1) * S1024x2048.size a ≤ S16384x2048.size a := by
  rw [transform0_eq]
  have h1 : (i 1).val < 16 := (i 1).isLt
  match a with
  | ⟨0, _⟩ => show ((i 1).val + 1) * 1024 ≤ 16384; omega
  | ⟨1, _⟩ => exact le_rfl

theorem inside1 (i : grid0.Coords) (a : Fin 3) : (cc0_transform_1 k0_off1_inb numel1_S1 (tbl m) i a + 1) * S1x2048x1024.size a ≤ S2x2048x2048.size a := by
  rw [transform1_eq]
  have h0 : (i 0).val < 2 := (i 0).isLt
  match a with
  | ⟨0, _⟩ => show (0 + 1) * 1 ≤ 2; omega
  | ⟨1, _⟩ => exact le_rfl
  | ⟨2, _⟩ => show ((i 0).val + 1) * 1024 ≤ 2048; omega

theorem inside2 (i : grid0.Coords) (a : Fin 2) : (cc0_transform_2 i a + 1) * S1024x1024.size a ≤ S16384x2048.size a := by
  rw [transform2_eq]
  have h0 : (i 0).val < 2 := (i 0).isLt
  have h1 : (i 1).val < 16 := (i 1).isLt
  match a with
  | ⟨0, _⟩ => show ((i 1).val + 1) * 1024 ≤ 16384; omega
  | ⟨1, _⟩ => show ((i 0).val + 1) * 1024 ≤ 2048; omega

theorem inside3 (i : grid0.Coords) (a : Fin 4) : (cc0_transform_3 k0_off1_inb numel1_S1 (tbl m) i a + 1) * S1x1x1x1024.size a ≤ S8x6x1x2048.size a := by
  rw [transform3_eq]
  have h0 : (i 0).val < 2 := (i 0).isLt
  have h1 : seqOf (i 1).val < 8 := seqOf_lt (i 1).isLt
  match a with
  | ⟨0, _⟩ => show (seqOf (i 1).val + 1) * 1 ≤ 8; omega
  | ⟨1, _⟩ => show (2 + 1) * 1 ≤ 6; omega
  | ⟨2, _⟩ => exact le_rfl
  | ⟨3, _⟩ => show ((i 0).val + 1) * 1024 ≤ 2048; omega

/-- Every window's block lies inside its array. -/
theorem ok : Ok m :=
  ⟨fun i => ⟨inside0 m i, .inr (Affine.block_words_dvd (of_decide_eq_true rfl) (by decide))⟩,
    fun i => ⟨inside1 m i, .inl rfl⟩, fun i => ⟨inside3 m i, .inl rfl⟩⟩

/-! ## Where a block's elements stand -/

/-- The place in an array of sizes `t` of a block's element, from the block's number and sizes `s`. -/
def place {n : ℕ} {s t : Fin n → ℕ} (i : Fin n → ℕ) (h : ∀ a, (i a + 1) * s a ≤ t a) (y : (⟨n, s⟩ : Shape).Idx) : (⟨n, t⟩ : Shape).Idx :=
  fun a : Fin n => (⟨i a * s a + 1 * (y a).val, by
    have h1 := h a; have h2 : (y a).val < s a := (y a).isLt
    rw [Nat.add_mul, one_mul] at h1; omega⟩ : Fin (t a))

theorem place_congr {n : ℕ} {s t : Fin n → ℕ} {i j : Fin n → ℕ} (e : i = j) (hi : ∀ a, (i a + 1) * s a ≤ t a) (hj : ∀ a, (j a + 1) * s a ≤ t a)
    (y : (⟨n, s⟩ : Shape).Idx) : place (t := t) i hi y = place j hj y := by subst e; rfl

theorem place_at {n : ℕ} {s t : Fin n → ℕ} {i j : Fin n → ℕ} (e : i = j) (h : ∀ a, (i a + 1) * s a ≤ t a) (y : (⟨n, s⟩ : Shape).Idx) (z : (⟨n, t⟩ : Shape).Idx)
    (hz : ∀ a : Fin n, j a * s a + 1 * (y a).val = (z a).val) : place i h y = z := by
  subst e; exact funext fun a : Fin n => Fin.ext (hz a)

end Cert.Kernel7Ideal.Wo

end
-- ==== Proof.WoRun.lean ====
/- The whole run of the output projection: the weight copy is followed from point to point, at each of the grid's
   points the output block is what one run of the body leaves, and the argument arrays end as launched. -/
module

public import proofs.«01_k».proof.Proof.WoWord

@[expose] public section

set_option maxRecDepth 16384

noncomputable section

namespace Cert.Kernel7Ideal.Wo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the windows read at a point, with their own types; the weight block rounded; the residual rows; the gate. -/
abbrev xBlk (hO : Ok m) (c : Dev nD) (t : Fin (cfgM m hO).N) : Vec F S1024x2048 .bf16 := iblk m hO c 0 t
abbrev wBlk (hO : Ok m) (c : Dev nD) (t : Fin (cfgM m hO).N) : Vec F S2048x1024 .bf16 := castW (iblk m hO c 1 t)
abbrev rBlk (hO : Ok m) (c : Dev nD) (t : Fin (cfgM m hO).N) : Vec F S1024x1024 .f32 := iblk m hO c 2 t
abbrev gBlk (hO : Ok m) (c : Dev nD) (t : Fin (cfgM m hO).N) : Vec F S1x1x1x1024 .f32 := iblk m hO c 3 t

/-- The output block after the body at a point. -/
abbrev outBlk (hO : Ok m) (c : Dev nD) (t : Fin (cfgM m hO).N) : Vec F S1024x1024 .f32 :=
  k0_pay2 (xBlk m hO c t) (wBlk m hO c t) (rBlk m hO c t) (gBlk m hO c t)

/-- The point before a point that is not the first. -/
abbrev prev (hO : Ok m) (n : ℕ) (h : n < (cfgM m hO).N + 1) (h0 : n ≠ 0) : Fin (cfgM m hO).N := ⟨n - 1, by omega⟩

/-- What is held between points: at the start the scratch buffer at anything, later the weight copy of the point before. -/
def invN (hO : Ok m) (c : Dev nD) (n : ℕ) (hn : n < (cfgM m hO).N + 1) : sProp 𝕄 :=
  if h : n = 0 then iprop(Pipeline.ΦA spec0 c ∗ Pipeline.ΦT pre0 (tbl m) c)
  else iprop(iprop(owns (c : Thread nD τ) scr0 fullShare (wBlk m hO c (prev m hO n hn h))
    ∗ (∃ r, prngReg c r)) ∗ Pipeline.ΦT pre0 (tbl m) c)

def inv (hO : Ok m) (c : Dev nD) (t : Fin ((cfgM m hO).N + 1)) : sProp 𝕄 := invN m hO c t.val t.isLt

/-- The proof data of the one pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ := inv m hO c
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outBlk m hO c t := by dsimp only [dats]; try rfl

theorem before_0 (hO : Ok m) (c : Dev nD) (t : Fin (cfgM m hO).N) (d) : (dats m hO 0 c).before 0 t d = iblk m hO c 0 t :=
  (before_of m hO (dats m hO 0 c) (A_eq m hO c)).1 (after_0 m hO c) t d
theorem before_1 (hO : Ok m) (c : Dev nD) (t : Fin (cfgM m hO).N) (d) : (dats m hO 0 c).before 1 t d = iblk m hO c 1 t :=
  (before_of m hO (dats m hO 0 c) (A_eq m hO c)).2.1 (after_1 m hO c) t d
theorem before_2 (hO : Ok m) (c : Dev nD) (t : Fin (cfgM m hO).N) (d) : (dats m hO 0 c).before 2 t d = iblk m hO c 2 t :=
  (before_of m hO (dats m hO 0 c) (A_eq m hO c)).2.2.1 (after_2 m hO c) t d
theorem before_3 (hO : Ok m) (c : Dev nD) (t : Fin (cfgM m hO).N) (d) : (dats m hO 0 c).before 3 t d = iblk m hO c 3 t :=
  (before_of m hO (dats m hO 0 c) (A_eq m hO c)).2.2.2 (after_3 m hO c) t d

/-! ## The weight block from point to point -/

theorem iblk1_at (hO : Ok m) (c : Dev nD) (t : Fin (cfgM m hO).N) (y : S1x2048x1024.Idx) :
    (iblk m hO c 1 t : Vec F S1x2048x1024 .f32) y
      = (V m c main_arg1 : Vec F S2x2048x2048 .f32) (place (cc0_transform_1 k0_off1_inb numel1_S1 (tbl m) (grid0.coords t)) (hO.2.1 (grid0.coords t)).fst y) := rfl

/-- Past a column's first tile the block is the one of the point before. -/
theorem kept (hO : Ok m) (c : Dev nD) (t : Fin (cfgM m hO).N) (h0 : t.val ≠ 0)
    (hC : ¬Chg (grid0.coords t) (teNow c (grid0.coords t) (tbl m 0)) (tePrev c (grid0.coords t) (tbl m 0))) :
    wBlk m hO c t = wBlk m hO c (prev m hO t.val (lt_trans t.isLt (Nat.lt_succ_self _)) h0) := by
  have h1 := not_first hC
  rw [row_at t] at h1
  have hcol : (grid0.coords t 0).val = (grid0.coords (prev m hO t.val (lt_trans t.isLt (Nat.lt_succ_self _)) h0) 0).val := by
    rw [col_at t, col_at (prev m hO t.val (lt_trans t.isLt (Nat.lt_succ_self _)) h0)]; show t.val / 16 = (t.val - 1) / 16; omega
  have e := (transform1_eq m (grid0.coords t)).trans ((congrArg (fun j => ![0, 0, j]) hcol).trans
    (transform1_eq m (grid0.coords (prev m hO t.val (lt_trans t.isLt (Nat.lt_succ_self _)) h0))).symm)
  exact congrArg castW (funext fun y => (iblk1_at m hO c t y).trans
    ((congrArg (V m c main_arg1 : Vec F S2x2048x2048 .f32) (place_congr e _ _ y)).trans (iblk1_at m hO c _ y).symm))

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

/-- One run of the body between two points, the scratch buffer entered at `s`. -/
theorem point_run (hO : Ok m) (c : Dev nD) (t : Fin (cfgM m hO).N) (s : Vec F S2048x1024 .bf16)
    (hs : ¬Chg (grid0.coords t) (teNow c (grid0.coords t) (tbl m 0)) (tePrev c (grid0.coords t) (tbl m 0)) → wBlk m hO c t = s) :
    Held c (ms0 m hO t) (ms1 m hO t) (ms2 m hO t) (ms3 m hO t) (xBlk m hO c t) (iblk m hO c 1 t) (rBlk m hO c t) (gBlk m hO c t) (tbl m 0) (iprop(∃ d, owns (c : Thread nD τ) (ms4 m hO t) fullShare d)) s
      ⊢ wp frame (wpE (defs₀ (F := F)) Variants.none c none) Set.univ (bodyAt (adm m hO) t)
          (fun _ => Held c (ms0 m hO t) (ms1 m hO t) (ms2 m hO t) (ms3 m hO t) (xBlk m hO c t) (iblk m hO c 1 t) (rBlk m hO c t) (gBlk m hO c t) (tbl m 0) (owns (c : Thread nD τ) (ms4 m hO t) fullShare (outBlk m hO c t)) (wBlk m hO c t)) :=
  body_run c (grid0.coords t) (ms0 m hO t) _ (ms1 m hO t) _ (ms2 m hO t) _ (ms3 m hO t) _ (ms4 m hO t) _ (xBlk m hO c t) (iblk m hO c 1 t) (rBlk m hO c t) (gBlk m hO c t) (tbl m 0) s (wBlk m hO c t)
    (fun _ => rfl) hs Set.univ

theorem inv_val (hO : Ok m) (c : Dev nD) (t : Fin ((cfgM m hO).N + 1)) (n : ℕ) (hn : n < (cfgM m hO).N + 1) (h : t.val = n) :
    inv m hO c t = invN m hO c n hn := by subst h; rfl

theorem invN_zero (hO : Ok m) (c : Dev nD) (n : ℕ) (hn : n < (cfgM m hO).N + 1) (h : n = 0) :
    invN m hO c n hn = iprop(Pipeline.ΦA spec0 c ∗ Pipeline.ΦT pre0 (tbl m) c) := dif_pos h

theorem invN_pos (hO : Ok m) (c : Dev nD) (n : ℕ) (hn : n < (cfgM m hO).N + 1) (h : n ≠ 0) :
    invN m hO c n hn = iprop(iprop(owns (c : Thread nD τ) scr0 fullShare (wBlk m hO c (prev m hO n hn h))
      ∗ (∃ r, prngReg c r)) ∗ Pipeline.ΦT pre0 (tbl m) c) := dif_neg h

theorem inv_succ (hO : Ok m) (c : Dev nD) (t : Fin (cfgM m hO).N) :
    inv m hO c t.succ = iprop(iprop(owns (c : Thread nD τ) scr0 fullShare (wBlk m hO c t)
      ∗ (∃ r, prngReg c r)) ∗ Pipeline.ΦT pre0 (tbl m) c) :=
  (inv_val m hO c t.succ (t.val + 1) (Nat.succ_lt_succ t.isLt) (Fin.val_succ t)).trans (invN_pos m hO c (t.val + 1) _ (Nat.succ_ne_zero _))

/-- Whatever the point, the weight copy held before it will do. -/
theorem inv_entry (hO : Ok m) (c : Dev nD) (t : Fin (cfgM m hO).N) :
    inv m hO c t.castSucc ⊢ iprop(∃ s0, ⌜¬Chg (grid0.coords t) (teNow c (grid0.coords t) (tbl m 0)) (tePrev c (grid0.coords t) (tbl m 0)) → wBlk m hO c t = s0⌝
      ∗ iprop(owns (c : Thread nD τ) scr0 fullShare s0 ∗ (∃ r, prngReg c r)) ∗ Pipeline.ΦT pre0 (tbl m) c) := by
  rw [inv_val m hO c t.castSucc t.val (lt_trans t.isLt (Nat.lt_succ_self _)) (Fin.val_castSucc t)]
  by_cases h0 : t.val = 0
  · rw [invN_zero m hO c t.val _ h0, own_eq]
    iintro ⟨⟨⟨%s0, HS⟩, Hg⟩, HT⟩
    iexists s0
    isplitr
    · ipureintro; exact fun hC => absurd (by rw [row_at, h0]) (not_first hC)
    isplitr [HT]; swap; iexact HT
    isplitl [HS]; · iexact HS
    iexact Hg
  · rw [invN_pos m hO c t.val _ h0]
    iintro ⟨HS, HT⟩
    iexists _
    isplitr
    · ipureintro; exact kept m hO c t h0
    isplitl [HS]; · iexact HS
    iexact HT

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before_0, before_1, before_2, before_3]
  rw [show (dats m hO 0 c).owesAt () t.succ = (dats m hO 0 c).owesAt () t.castSucc from rfl, after_0, after_1, after_2, after_3, after_4,
    show (dats m hO 0 c).Φ t.succ = inv m hO c t.succ from rfl, show (dats m hO 0 c).Φ t.castSucc = inv m hO c t.castSucc from rfl, inv_succ]
  refine (sep_mono (inv_entry m hO c t) .rfl).trans ?_
  rw [tables_eq]
  iintro ⟨⟨%s0, %hs, ⟨HS0, Hg⟩, ⟨HT0, HT1, HT2, HT3⟩⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none c none) Set.univ)
  isplitl [H0 H1 H2 H3 H4 HS0 HT0]
  · iapply (point_run m hO c t s0 hs)
    isplitl [H0]; · iexact H0
    isplitl [H1]; · iexact H1
    isplitl [H2]; · iexact H2
    isplitl [H3]; · iexact H3
    isplitl [H4]; · iexists _; iexact H4
    isplitl [HS0]; · iexact HS0
    iexact HT0
  iintro %_ ⟨H0, H1, H2, H3, H4, HS0, HT0⟩
  isplitl [HS0 Hg HT0 HT1 HT2 HT3]
  · isplitl [HS0 Hg]
    · isplitl [HS0]; · iexact HS0
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

/-- The output block is written back at every point. -/
theorem flush_4 (a : (pcfg0 (F := F)).Adm) (t : Fin (cfg0 a).N) : ((cfg0 a).win 4).flush t = true :=
  ((fun t => (Pipeline.Window.flushOf_reads cc0_transform_4 reads0_4 hreads0_4 1 (by decide) (by decide) (Pipeline.Window.sep_of_coord cc0_transform_4 1 0 (fun _ => rfl) (by decide)) (P := 1) (m := 0) (by decide) rfl t).mpr (Nat.mod_one _) :
    ∀ t : Fin grid0.N, Pipeline.Window.flushOf grid0 true cc0_transform_4 t = true)) t

/-- A window written back at a point is returned at what the body leaves, stored there or not. -/
theorem written (b f : Bool) (P Q : sProp 𝕄) :
    f = true → Q ⊢ (match b with | true => (match f with | false => P | true => Q) | false => Q) := by
  intro hf; subst hf; cases b <;> exact .rfl

theorem body_obligation (hO : Ok m) (c : Dev nD) :
    BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  refine sep_mono .rfl (sep_mono .rfl (sep_mono .rfl (sep_mono .rfl (sep_mono .rfl (sep_mono .rfl ?_)))))
  exact written (F := F) ((cfgM m hO).idle 4 ((cfgM m hO).grid.coords t)) (((cfgM m hO).win 4).flush t) (iprop(∃ d, owns (c : Thread nD τ) (ms4 m hO t) fullShare ((dats m hO 0 c).before 4 t d))) _ (flush_4 (adm m hO) t)

theorem enter (hO : Ok m) (c : Dev nD) : iprop(Pipeline.ΦA spec0 c ∗ Pipeline.ΦT pre0 (tbl m) c) ⊢ (dats m hO 0 c).Φ 0 := by
  rw [show (dats m hO 0 c).Φ 0 = inv m hO c 0 from rfl, inv_val m hO c 0 0 (Nat.succ_pos _) rfl, invN_zero m hO c 0 _ rfl]

theorem points_ne : grid0.N ≠ 0 := by decide

theorem leave (hO : Ok m) (c : Dev nD) : (dats m hO 0 c).Φ (Fin.last (cfgM m hO).N) ⊢ (Pipeline.ΦA spec0 c : sProp 𝕄) := by
  rw [show (dats m hO 0 c).Φ (Fin.last (cfgM m hO).N) = inv m hO c (Fin.last (cfgM m hO).N) from rfl,
    inv_val m hO c (Fin.last (cfgM m hO).N) (cfgM m hO).N (Nat.lt_succ_self _) (Fin.val_last _), invN_pos m hO c (cfgM m hO).N _ points_ne, own_eq]
  iintro ⟨⟨HS0, Hg⟩, -⟩
  isplitl [HS0]; · iexists _; iexact HS0
  iexact Hg

set_option backward.isDefEq.respectTransparency.types false in
/-- The launch: every run ends, the arrays as the proof data give them, every counter at zero. -/
theorem run_main (hO : Ok m) :
    θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨unchanged_of m (ok m) (dats m (ok m)) (A_eq m (ok m)) r h.1, h.2⟩)
    (run_main m ρ (ok m))

end Cert.Kernel7Ideal.Wo

end
-- ==== Proof.WoRef.lean ====
/- The output projection's reference: its result at a row and a column, from its arguments. The prompts' rows and the samples'
   are put together as in the dense second product's reference, whose lemmas serve here. -/
module

public import proofs.«01_k».proof.Proof.GrRef
public import proofs.«01_k».proof.Proof.Gen.Reference7Ideal.Run

@[expose] public section

set_option maxRecDepth 16384

noncomputable section

namespace Cert.Reference7Ideal.Stage

open Cert.Reference7Ideal Cert.Reference7Ideal.Gen Cert.Reference7Ideal.Value
open Idealize.ShloMosaic Idealize.ShloMosaic.TcCoe Idealize.ShloMosaic.Pointwise
open Cert.Reference5Ideal.Stage (joined joined_at seq seq_lt)

section
variable (y : FVec Ideal S16384x2048 .bf16) (w : FVec Ideal S2x2048x2048 .f32) (x : FVec Ideal S16384x2048 .f32) (mod : FVec Ideal S8x12288 .f32)

/-- The first of the two matrices. -/
def slab : FVec Ideal S2048x2048 .f32 :=
  shapeCast _ (extractStridedSlice S1x2048x2048 ![0, 0, 0] w slices_S2x2048x2048_S1x2048x2048_0_0_0) shapeCasts_S1x2048x2048_S2048x2048

/-- Every row by it. -/
def prod : FVec Ideal S16384x2048 .f32 :=
  Host.dotGeneral dot_S16384x2048_S2048x2048_S16384x2048_1_0_0_1_n_n none (extf .f32 y bitsLt_bf16_f32) (slab w)

/-- The gates: the third of the modulation's six parts, one row for each sequence. -/
def gates : FVec Ideal S8x2048 .f32 := extractStridedSlice S8x2048 ![0, 4096] mod slices_S8x12288_S8x2048_0_4096

theorem slab_at (k : Fin 2048) (c : Fin 2048) : slab w (ix2 k c) = w (ix3 0 k c) := by
  pointwise [slab]

theorem prod_at (r : Fin 16384) (c : Fin 2048) : prod y w (ix2 r c) = ∑ k, y (ix2 r k) * w (ix3 0 k c) := by
  pointwise [prod]
  simp only [slab_at]

theorem gates_at (s : Fin 8) (c : Fin 2048) : gates mod (ix2 s c) = mod (ix2 s ⟨4096 + c, by omega⟩) := by
  pointwise [gates]

/-- The result at a row and a column. -/
def cell (r : Fin 16384) (c : Fin 2048) : EReal :=
  x (ix2 r c) + mod (ix2 ⟨seq r, seq_lt r⟩ ⟨4096 + c, by omega⟩) * ∑ k, y (ix2 r k) * w (ix3 0 k c)

/-- The reference's result, from its arguments. -/
def outcome : FVec Ideal S16384x2048 .f32 := joined x (prod y w) (gates mod)

theorem outcome_at (r : Fin 16384) (c : Fin 2048) : outcome y w x mod (ix2 r c) = cell y w x mod r c := by
  refine (joined_at _ _ _ r c).trans ?_
  rw [gates_at, prod_at]
  rfl

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v30) = outcome (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans rfl, (h c).2⟩) (Value.run (F := Ideal) m ρ)

end Cert.Reference7Ideal.Stage

end
-- ==== Proof.WoOut.lean ====
/- The output projection with its gated residual at the ideal instance: each element of the output is what the reference says. -/
module

public import proofs.«01_k».proof.Proof.WoRun
public import proofs.«01_k».proof.Proof.WoRef

@[expose] public section

set_option maxRecDepth 16384

noncomputable section

namespace Cert.Kernel7Ideal.Wo

open Idealize.ShloMosaic Idealize.ShloMosaic.TcCoe Idealize.ShloMosaic.Tactic Idealize.ShloMosaic.Pointwise
open Gen
open Cert.Reference7Ideal.Stage (cell outcome outcome_at)
open Cert.Reference5Ideal.Stage (seq seq_lt)

/-- A residual element plus its column's gate times a row of rows by a column of the weight block. -/
theorem pay2_at (x : FVec Ideal S1024x2048 .bf16) (w : FVec Ideal S2048x1024 .bf16) (r : FVec Ideal S1024x1024 .f32) (g : FVec Ideal S1x1x1x1024 .f32) (p : Fin 1024) (s : Fin 1024) :
    k0_pay2 (F := Ideal) x w r g (ix2 p s) = r (ix2 p s) + g (ix4 0 0 0 s) * ∑ k : Fin 2048, x (ix2 p k) * w (ix2 k s) := by
  pointwise [k0_pay2]

/-! ## The blocks a point reads -/

variable (m : (ℓ : Loc nD τ sig) → Buf (Elt Ideal) ℓ) (ρ : Dev nD → PrngReg)

/-- The arguments, as launched. -/
abbrev rowsIn (c : Dev nD) : FVec Ideal S16384x2048 .bf16 := m ((c.tc : Thread nD τ).loc main_arg0)
abbrev matsIn (c : Dev nD) : FVec Ideal S2x2048x2048 .f32 := m ((c.tc : Thread nD τ).loc main_arg1)
abbrev residualIn (c : Dev nD) : FVec Ideal S16384x2048 .f32 := m ((c.tc : Thread nD τ).loc main_arg2)
abbrev modIn (c : Dev nD) : FVec Ideal S8x12288 .f32 := m ((c.tc : Thread nD τ).loc main_arg3)

/-- The modulation's parts, as the host lays them out. -/
def parts (x : FVec Ideal S8x12288 .f32) : FVec Ideal S8x6x1x2048 .f32 := shapeCast _ x shapeCasts_S8x12288_S8x6x1x2048

theorem parts_at (x : FVec Ideal S8x12288 .f32) (a : Fin 8) (q : Fin 2048) : parts x (ix4 a 2 0 q) = x (ix2 a ⟨4096 + q, by omega⟩) := by
  pointwise [parts]

theorem V_parts (c : Dev nD) : (V m c main_v0 : Vec Ideal S8x6x1x2048 .f32) = parts (modIn m c) := by
  entry_read
  rfl

section Blocks

variable (c : Dev nD) (t : Fin (cfgM m (ok m)).N)

theorem xBlk_idx (y : S1024x2048.Idx) : (xBlk m (ok m) c t : FVec Ideal S1024x2048 .bf16) y
    = rowsIn m c (place (cc0_transform_0 inb_S1_S1_0 numel1_S1 (tbl m) (grid0.coords t)) (inside0 m _) y) := rfl

theorem rBlk_idx (y : S1024x1024.Idx) : (rBlk m (ok m) c t : FVec Ideal S1024x1024 .f32) y
    = (V m c main_arg2 : Vec Ideal S16384x2048 .f32) (place (cc0_transform_2 (grid0.coords t)) (inside2 _) y) := rfl

theorem gBlk_idx (y : S1x1x1x1024.Idx) : (gBlk m (ok m) c t : FVec Ideal S1x1x1x1024 .f32) y
    = (V m c main_v0 : Vec Ideal S8x6x1x2048 .f32) (place (cc0_transform_3 k0_off1_inb numel1_S1 (tbl m) (grid0.coords t)) (inside3 m _) y) := rfl

theorem out_idx (y : S1024x1024.Idx) : (((cfgM m (ok m)).win 4).blk t).view.emb y = place (cc0_transform_4 (grid0.coords t)) (inside2 _) y := rfl

theorem xBlk_at (p : Fin 1024) (k : Fin 2048) (r : Fin 16384) (hr : r.val = (grid0.coords t 1).val * 1024 + p) :
    (xBlk m (ok m) c t : FVec Ideal S1024x2048 .bf16) (ix2 p k) = rowsIn m c (ix2 r k) :=
  (xBlk_idx m c t _).trans (congrArg (rowsIn m c) (place_at (transform0_eq m _) _ _ _ fun a => by
    match a with
    | ⟨0, _⟩ => show (grid0.coords t 1).val * 1024 + 1 * p.val = r.val; omega
    | ⟨1, _⟩ => show 0 * 2048 + 1 * k.val = k.val; omega))

theorem wBlk_at (k : Fin 2048) (s : Fin 1024) (q : Fin 2048) (hq : q.val = (grid0.coords t 0).val * 1024 + s) :
    (wBlk m (ok m) c t : FVec Ideal S2048x1024 .bf16) (ix2 k s) = matsIn m c (ix3 0 k q) :=
  (castW_at _ k s).trans ((iblk1_at m _ c t _).trans ((congrFun (V_arg m c main_arg1 (.inr (.inl rfl))) _).trans
    (congrArg (matsIn m c) (place_at (transform1_eq m _) _ _ _ fun a => by
      match a with
      | ⟨0, _⟩ => rfl
      | ⟨1, _⟩ => show 0 * 2048 + 1 * k.val = k.val; omega
      | ⟨2, _⟩ => show (grid0.coords t 0).val * 1024 + 1 * s.val = q.val; omega))))

/-- The residual's blocks and the output's lie alike. -/
theorem tile_at {f : Fin 2 → ℕ} (e : f = ![(grid0.coords t 1).val, (grid0.coords t 0).val]) (h : ∀ a, (f a + 1) * S1024x1024.size a ≤ S16384x2048.size a)
    (p s : Fin 1024) (r : Fin 16384) (q : Fin 2048) (hr : r.val = (grid0.coords t 1).val * 1024 + p) (hq : q.val = (grid0.coords t 0).val * 1024 + s) :
    (place f h (ix2 p s : S1024x1024.Idx) : S16384x2048.Idx) = ix2 r q :=
  place_at e _ _ _ fun a => by
    match a with
    | ⟨0, _⟩ => show (grid0.coords t 1).val * 1024 + 1 * p.val = r.val; omega
    | ⟨1, _⟩ => show (grid0.coords t 0).val * 1024 + 1 * s.val = q.val; omega

theorem rBlk_at (p s : Fin 1024) (r : Fin 16384) (q : Fin 2048) (hr : r.val = (grid0.coords t 1).val * 1024 + p) (hq : q.val = (grid0.coords t 0).val * 1024 + s) :
    (rBlk m (ok m) c t : FVec Ideal S1024x1024 .f32) (ix2 p s) = residualIn m c (ix2 r q) :=
  (rBlk_idx m c t _).trans ((congrFun (V_arg m c main_arg2 (.inr (.inr (.inl rfl)))) _).trans
    (congrArg (residualIn m c) (tile_at m t (transform2_eq _) _ p s r q hr hq)))

theorem gBlk_at (s : Fin 1024) (b : Fin 8) (q : Fin 2048) (hb : b.val = seqOf (grid0.coords t 1).val) (hq : q.val = (grid0.coords t 0).val * 1024 + s) :
    (gBlk m (ok m) c t : FVec Ideal S1x1x1x1024 .f32) (ix4 0 0 0 s) = modIn m c (ix2 b ⟨4096 + q, by omega⟩) :=
  (gBlk_idx m c t _).trans ((congrFun (V_parts m c) _).trans ((congrArg (parts (modIn m c)) (place_at (transform3_eq m _) _ _ (ix4 b 2 0 q) fun a => by
    match a with
    | ⟨0, _⟩ => show seqOf (grid0.coords t 1).val * 1 + 1 * 0 = b.val; omega
    | ⟨1, _⟩ => rfl
    | ⟨2, _⟩ => rfl
    | ⟨3, _⟩ => show (grid0.coords t 0).val * 1024 + 1 * s.val = q.val; omega)).trans (parts_at _ b q)))

end Blocks

/-- A row's sequence is its tile's. -/
theorem seq_tile (k p : ℕ) (hp : p < 1024) : seq (k * 1024 + p) = seqOf k := by
  unfold seq seqOf
  by_cases h : k < 8
  · rw [if_pos h, if_pos (by omega)]; omega
  · rw [if_neg h, if_neg (by omega)]; omega

/-! ## The whole array -/

/-- What the reference leaves, from the kernel's arguments. -/
abbrev result (c : Dev nD) : FVec Ideal S16384x2048 .f32 := outcome (rowsIn m c) (matsIn m c) (residualIn m c) (modIn m c)

/-- The block of a point agrees with the reference. -/
theorem block_result (c : Dev nD) (t : Fin (cfgM m (ok m)).N) (p s : Fin 1024) (r : Fin 16384) (q : Fin 2048)
    (hr : r.val = (grid0.coords t 1).val * 1024 + p) (hq : q.val = (grid0.coords t 0).val * 1024 + s) :
    (outBlk m (ok m) c t : FVec Ideal S1024x1024 .f32) (ix2 p s) = result m c (ix2 r q) := by
  refine (pay2_at _ _ _ _ p s).trans (Eq.trans ?_ (outcome_at _ _ _ _ r q).symm)
  have ex := fun k => xBlk_at m c t p k r hr
  have ew := fun k => wBlk_at m c t k s q hq
  have er := rBlk_at m c t p s r q hr hq
  have eg := gBlk_at m c t s ⟨seq r, seq_lt r⟩ q (by show seq r.val = _; rw [hr]; exact seq_tile _ _ p.isLt) hq
  unfold cell
  simp only [ex, ew, er, eg]

theorem split2 {A B : ℕ} (y : (⟨2, ![A, B]⟩ : Shape).Idx) : ∃ (a : Fin A) (b : Fin B), y = ix2 a b :=
  ⟨y 0, y 1, by funext k; fin_cases k <;> rfl⟩

/-- After the run the output array is the reference's result. -/
theorem final (c : Dev nD) : (dats m (ok m) 0 c).arrAt 4 (cfgM m (ok m)).N = result m c := by
  refine (dats m (ok m) 0 c).arrAt_eq_of_emb 4 _ (fun t _ (y : S1024x1024.Idx) => ?_) (fun (i : S16384x2048.Idx) => ?_)
  · obtain ⟨p, s, rfl⟩ := split2 y
    have h0 : (grid0.coords t 0).val < 2 := (grid0.coords t 0).isLt
    have h1 : (grid0.coords t 1).val < 16 := (grid0.coords t 1).isLt
    have hp := p.isLt
    have hs := s.isLt
    refine Eq.trans ?_ (congrArg (result m c) ((out_idx m t _).trans
      (tile_at m t (transform4_eq _) _ p s ⟨(grid0.coords t 1).val * 1024 + p, by omega⟩ ⟨(grid0.coords t 0).val * 1024 + s, by omega⟩ rfl rfl)).symm)
    refine Eq.trans ?_ (block_result m c t p s _ _ rfl rfl)
    exact congrFun (after_4 m _ c t) (ix2 p s)
  · obtain ⟨r, q, rfl⟩ := split2 i
    have hr := r.isLt
    have hq := q.isLt
    let t : Fin grid0.N := ⟨q.val / 1024 * 16 + r.val / 1024, by rw [show grid0.N = 32 from rfl]; omega⟩
    let y : S1024x1024.Idx := ix2 ⟨r.val % 1024, by omega⟩ ⟨q.val % 1024, by omega⟩
    have e : (((cfgM m (ok m)).win 4).blk t).view.emb y = (ix2 r q : S16384x2048.Idx) := (out_idx m t y).trans (tile_at m t (transform4_eq _) _ _ _ r q
      (by rw [row_at t]; show r.val = (q.val / 1024 * 16 + r.val / 1024) % 16 * 1024 + r.val % 1024; omega)
      (by rw [col_at t]; show q.val = (q.val / 1024 * 16 + r.val / 1024) / 16 * 1024 + q.val % 1024; omega))
    exact ⟨t, flush_4 _ t, e ▸ (((cfgM m (ok m)).win 4).blk t).view.emb_mem_set y⟩

/-- The kernel's run leaves the reference's result, and its arguments as launched. -/
theorem value : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1.out_eq c (4 : Fin 5)).trans (final m c),
      unchanged_of m (ok m) (dats m (ok m)) (A_eq m (ok m)) r h.1 c⟩)
    (run_main m ρ (ok m))

end Cert.Kernel7Ideal.Wo

end
-- ==== Proof.WoFrame.lean ====
/- The claims on the output projection with its gated residual: the frames of its two readings and of its reference, and that the kernel at
   the ideal instance leaves what the reference leaves. -/
module

public import proofs.«01_k».proof.Proof.WoOut
public import proofs.«01_k».proof.Proof.Gen.Kernel7
public import proofs.«01_k».proof.Proof.Gen.Reference7Ideal.Run
public import proofs.«01_k».proof.Defs

@[expose] public section

noncomputable section

namespace Cert.Mixed

open Idealize.ShloMosaic Idealize.ShloMosaic.TcCoe Idealize.ShloMosaic.Tactic

theorem frame_pi : quiescent_Kernel7Ideal (hKernel7Ideal := Kernel7Ideal.Gen.facts) :=
  fun m g _ => Kernel7Ideal.Wo.frame m g

/-- The two readings have one body table. -/
theorem defs0_same : @Kernel7.defs₀ Bits _ Kernel7.Gen.facts = @Kernel7Ideal.defs₀ Bits _ Kernel7Ideal.Gen.facts := by
  refine congrArg Defs.onTc ?_
  funext l x
  fin_cases l
  rfl

theorem defs_same : @Kernel7.defs Bits _ Kernel7.Gen.facts = @Kernel7Ideal.defs Bits _ Kernel7Ideal.Gen.facts :=
  congrArg (Pipeline.defs (@Kernel7Ideal.pcfgs Bits _ Kernel7Ideal.Gen.facts)) defs0_same

theorem main_same : @Kernel7.main Bits _ Kernel7.Gen.facts = @Kernel7Ideal.main Bits _ Kernel7Ideal.Gen.facts := by
  unfold Kernel7.main Kernel7Ideal.main
  rfl

theorem frame_p : quiescent_Kernel7 (hKernel7 := Kernel7.Gen.facts) := fun m g _ =>
  (congr (congrArg (fun d p => θ_run d (onTc (τ := Kernel7Ideal.τ) p) ⟨m, fun _ => 0, g⟩ _) defs_same) main_same).mpr
    (Kernel7Ideal.Wo.frame (F := Bits) m g)

theorem frame_ri : quiescent_Reference7Ideal (hReference7Ideal := Reference7Ideal.Gen.facts) := fun m g _ =>
  (θ_run Reference7Ideal.defs (onTc (τ := Reference7Ideal.τ) Reference7Ideal.main) ⟨m, fun _ => 0, g⟩).mono
    (fun r h => ⟨fun c => (h c).2, Idealize.ShloMosaic.sem_eq_zero_of_no_sems (by decide) r.2⟩) (Reference7Ideal.Value.run (F := Idealize.ShloMosaic.Ideal) m g)

theorem algebraic : algebraic_Kernel7Ideal_Reference7Ideal (hKernel7Ideal := Kernel7Ideal.Gen.facts) (hReference7Ideal := Reference7Ideal.Gen.facts) := by
  intro m g m' g' _ hagree
  refine ⟨Kernel7Ideal.Wo.result m, Kernel7Ideal.Wo.value m g, ?_⟩
  refine (θ_run Reference7Ideal.defs _ _).mono (fun _ hr c => ⟨(hr c).1.trans ?_, (hr c).2⟩) (Reference7Ideal.Stage.run m' g')
  obtain ⟨a0, a1, a2, a3⟩ := hagree c
  rw [a0, a1, a2, a3]

end Cert.Mixed
-- ==== Proof.NmWord.lean ====
/- The sequences' table of the norm and modulation, a constant, and the blocks it chooses at the grid's points. -/
module

public import proofs.«01_k».proof.Proof.WoWord
public import proofs.«01_k».proof.Proof.Gen.Kernel8Ideal.Frame

@[expose] public section

set_option maxRecDepth 16384

noncomputable section

namespace Cert.Kernel8Ideal.Nm

open Idealize.ShloMosaic Idealize.ShloMosaic.TcCoe Idealize.ShloMosaic.Tactic
open Gen
open Cert.Kernel7Ideal.Wo (place place_at)

variable {F : FTy → Type} [FloatOps F] (m : (ℓ : Loc nD τ sig) → Buf (Elt F) ℓ)

/-- The sequence of a tile's rows: two prompts of eight tiles, then four samples of four. -/
def seqOf (k : ℕ) : ℕ := if k < 16 then k / 8 else 2 + (k - 16) / 4

theorem seqOf_lt {k : ℕ} (h : k < 32) : seqOf k < 8 := by
  unfold seqOf; split <;> omega

/-- The table holds the tiles' sequences. -/
theorem tbl_0 : (tbl m 0 : IVec S32 32) = fun i => lit0 (S32.rowMajor i) := by
  unfold tbl
  show V m 0 main_c = _
  entry_read
  rfl

theorem lit_seq : ∀ k : Fin 32, (lit0 (S32.rowMajor (ix1 k))).toNat = seqOf k.val := by
  decide +kernel

theorem word_at (i : grid0.Coords) : (BitVec.ofNat 32 (i 0).val).toNat = (i 0).val := by
  have h : (i 0).val < 32 := (i 0).isLt
  rw [BitVec.toNat_ofNat]; omega

theorem row_at (t : Fin grid0.N) : (grid0.coords t 0).val = t.val := by
  have h := Pipeline.Grid.coords_val t 0 (S := 1) (B := 32) (by decide) rfl
  have ht : t.val < 32 := t.isLt
  rw [h]; omega

/-! ## The windows' blocks -/

theorem transform0_eq (i : grid0.Coords) : cc0_transform_0 i = ![(i 0).val, 0] := by
  funext a
  match a with
  | ⟨0, _⟩ => exact word_at i
  | ⟨1, _⟩ => rfl

theorem transform4_eq (i : grid0.Coords) : cc0_transform_4 i = ![(i 0).val, 0] := transform0_eq i

theorem tbl_at (i : grid0.Coords) :
    ((tbl m).at 0 (Rect.unit (s := S32) (k0_off1 i) S1.size (k0_off1_inb i)) numel1_S1 : BitVec 32).toNat = seqOf (i 0).val := by
  have h : (tbl m).at 0 (Rect.unit (s := S32) (k0_off1 i) S1.size (k0_off1_inb i)) numel1_S1 = (tbl m 0 : IVec S32 32) (ix1 (i 0)) :=
    congrArg (tbl m 0 : IVec S32 32) (funext fun a : Fin 1 => by
      obtain rfl : a = 0 := Subsingleton.elim a 0
      exact Fin.ext ((Nat.add_zero _).trans (word_at i)))
  exact (congrArg BitVec.toNat (h.trans (congrFun (tbl_0 m) _))).trans (lit_seq (i 0))

theorem transform2_eq (i : grid0.Coords) : cc0_transform_2 k0_off1_inb numel1_S1 (tbl m) i = ![seqOf (i 0).val, 4, 0, 0] := by
  funext a
  match a with
  | ⟨0, _⟩ => exact tbl_at m i
  | ⟨1, _⟩ => rfl
  | ⟨2, _⟩ => rfl
  | ⟨3, _⟩ => rfl

theorem transform3_eq (i : grid0.Coords) : cc0_transform_3 k0_off1_inb numel1_S1 (tbl m) i = ![seqOf (i 0).val, 3, 0, 0] := by
  funext a
  match a with
  | ⟨0, _⟩ => exact tbl_at m i
  | ⟨1, _⟩ => rfl
  | ⟨2, _⟩ => rfl
  | ⟨3, _⟩ => rfl

/-! ## The blocks lie inside their arrays -/

/-- A sequence's row of one of the six parts. -/
theorem part_inside {f : Fin 4 → ℕ} {k q : ℕ} (hk : k < 32) (hq : q < 6) (e : f = ![seqOf k, q, 0, 0]) (a : Fin 4) :
    (f a + 1) * S1x1x1x2048.size a ≤ S8x6x1x2048.size a := by
  subst e
  have h1 := seqOf_lt hk
  match a with
  | ⟨0, _⟩ => show (seqOf k + 1) * 1 ≤ 8; omega
  | ⟨1, _⟩ => show (q + 1) * 1 ≤ 6; omega
  | ⟨2, _⟩ => exact le_rfl
  | ⟨3, _⟩ => exact le_rfl

theorem inside2 (i : grid0.Coords) (a : Fin 4) : (cc0_transform_2 k0_off1_inb numel1_S1 (tbl m) i a + 1) * S1x1x1x2048.size a ≤ S8x6x1x2048.size a :=
  part_inside (i 0).isLt (by decide) (transform2_eq m i) a

theorem inside3 (i : grid0.Coords) (a : Fin 4) : (cc0_transform_3 k0_off1_inb numel1_S1 (tbl m) i a + 1) * S1x1x1x2048.size a ≤ S8x6x1x2048.size a :=
  part_inside (i 0).isLt (by decide) (transform3_eq m i) a

/-- Every window's block lies inside its array. -/
theorem ok : Ok m := ⟨fun i => ⟨inside2 m i, .inl rfl⟩, fun i => ⟨inside3 m i, .inl rfl⟩⟩

end Cert.Kernel8Ideal.Nm

end
-- ==== Proof.NmRef.lean ====
/- The normalized and modulated rows as the reference computes them, and their value at an index. -/
module

public import proofs.«01_k».proof.Proof.GrRef
public import proofs.«01_k».proof.Proof.Gen.Reference8Ideal.Run

@[expose] public section

set_option maxRecDepth 16384

noncomputable section

namespace Cert.Reference8Ideal.Stage

open Cert.Reference8Ideal Cert.Reference8Ideal.Gen Cert.Reference8Ideal.Value
open Idealize.ShloMosaic Idealize.ShloMosaic.TcCoe Idealize.ShloMosaic.Pointwise
open Cert.Reference5Ideal.Stage (seq seq_lt)

section
variable (x : FVec Ideal S16384x2048 .f32) (g : FVec Ideal S2x2048 .f32) (mod : FVec Ideal S8x12288 .f32) (sh sc : FVec Ideal S8x2048 .f32)

/-- The shifts and the scales: the fourth and the fifth of the modulation's six parts, one row for each sequence. -/
def shifts : FVec Ideal S8x2048 .f32 := extractStridedSlice S8x2048 ![0, 6144] mod slices_S8x12288_S8x2048_0_6144
def scales : FVec Ideal S8x2048 .f32 := extractStridedSlice S8x2048 ![0, 8192] mod slices_S8x12288_S8x2048_0_8192

/-- The norm's weights, of the first layer. -/
def gains : FVec Ideal S2048 .f32 := shapeCast _ (extractStridedSlice S1x2048 ![0, 0] g slices_S2x2048_S1x2048_0_0) shapeCasts_S1x2048_S2048

/-- The prompts' rows and the samples' rows. -/
def rowsP : FVec Ideal S2x4096x2048 .f32 := shapeCast _ (extractStridedSlice S8192x2048 ![0, 0] x slices_S16384x2048_S8192x2048_0_0) shapeCasts_S8192x2048_S2x4096x2048
def rowsS : FVec Ideal S4x2048x2048 .f32 := shapeCast _ (extractStridedSlice S8192x2048 ![8192, 0] x slices_S16384x2048_S8192x2048_8192_0) shapeCasts_S8192x2048_S4x2048x2048

/-- The sums of their squares. -/
def squaresP : FVec Ideal S2x4096 .f32 := Host.reduceAdd (mulf (rowsP x) (rowsP x)) (constant S_ .f32 0x00000000#32) reducesTo_S2x4096x2048_S2x4096_d2 h_S_
def squaresS : FVec Ideal S4x2048 .f32 := Host.reduceAdd (mulf (rowsS x) (rowsS x)) (constant S_ .f32 0x00000000#32) reducesTo_S4x2048x2048_S4x2048_d2 h_S_

/-- The prompts' rows over their root mean squares, modulated. -/
def prompts : FVec Ideal S8192x2048 .f32 :=
  shapeCast _ (addf (mulf (mulf (mulf (rowsP x) (broadcastInDim S2x4096x2048 ![0, 1, 2] bcast_S2x4096x1_S2x4096x2048_0_1_2
        (Host.rsqrt (addf (Host.divf (broadcastInDim S2x4096x1 ![0, 1] bcast_S2x4096_S2x4096x1_0_1 (squaresP x)) (broadcastInDim S2x4096x1 ![] bcast_S_S2x4096x1 (constant S_ .f32 0x45000000#32))) (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 (gains g))))
    (broadcastInDim S2x4096x2048 ![0, 1, 2] bcast_S2x1x2048_S2x4096x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 0] sc slices_S8x2048_S2x2048_0_0)))))
    (broadcastInDim S2x4096x2048 ![0, 1, 2] bcast_S2x1x2048_S2x4096x2048_0_1_2 (broadcastInDim S2x1x2048 ![0, 2] bcast_S2x2048_S2x1x2048_0_2 (extractStridedSlice S2x2048 ![0, 0] sh slices_S8x2048_S2x2048_0_0)))) shapeCasts_S2x4096x2048_S8192x2048

/-- The samples' rows likewise. -/
def samples : FVec Ideal S8192x2048 .f32 :=
  shapeCast _ (addf (mulf (mulf (mulf (rowsS x) (broadcastInDim S4x2048x2048 ![0, 1, 2] bcast_S4x2048x1_S4x2048x2048_0_1_2
        (Host.rsqrt (addf (Host.divf (broadcastInDim S4x2048x1 ![0, 1] bcast_S4x2048_S4x2048x1_0_1 (squaresS x)) (broadcastInDim S4x2048x1 ![] bcast_S_S4x2048x1 (constant S_ .f32 0x45000000#32))) (broadcastInDim S4x2048x1 ![] bcast_S_S4x2048x1 (constant S_ .f32 0x358637BD#32))))))
      (broadcastInDim S4x2048x2048 ![0, 1, 2] bcast_S1x1x2048_S4x2048x2048_0_1_2 (broadcastInDim S1x1x2048 ![2] bcast_S2048_S1x1x2048_2 (gains g))))
    (broadcastInDim S4x2048x2048 ![0, 1, 2] bcast_S4x1x2048_S4x2048x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![2, 0] sc slices_S8x2048_S4x2048_2_0)))))
    (broadcastInDim S4x2048x2048 ![0, 1, 2] bcast_S4x1x2048_S4x2048x2048_0_1_2 (broadcastInDim S4x1x2048 ![0, 2] bcast_S4x2048_S4x1x2048_0_2 (extractStridedSlice S4x2048 ![2, 0] sh slices_S8x2048_S4x2048_2_0)))) shapeCasts_S4x2048x2048_S8192x2048

theorem shifts_at (s : Fin 8) (c : Fin 2048) : shifts mod (ix2 s c) = mod (ix2 s ⟨6144 + c, by omega⟩) := by
  pointwise [shifts]

theorem scales_at (s : Fin 8) (c : Fin 2048) : scales mod (ix2 s c) = mod (ix2 s ⟨8192 + c, by omega⟩) := by
  pointwise [scales]

theorem gains_at (c : Fin 2048) : gains g (ix1 c) = g (ix2 0 c) := by
  pointwise [gains]

theorem rowsP_at (a : Fin 2) (p : Fin 4096) (c : Fin 2048) : rowsP x (ix3 a p c) = x (ix2 ⟨a * 4096 + p, by omega⟩ c) := by
  pointwise [rowsP]

theorem rowsS_at (a : Fin 4) (p : Fin 2048) (c : Fin 2048) : rowsS x (ix3 a p c) = x (ix2 ⟨8192 + (a * 2048 + p), by omega⟩ c) := by
  pointwise [rowsS]

theorem squaresP_at (a : Fin 2) (p : Fin 4096) : squaresP x (ix2 a p) = ∑ k, rowsP x (ix3 a p k) * rowsP x (ix3 a p k) := by
  pointwise [squaresP]

theorem squaresS_at (a : Fin 4) (p : Fin 2048) : squaresS x (ix2 a p) = ∑ k, rowsS x (ix3 a p k) * rowsS x (ix3 a p k) := by
  pointwise [squaresS]

/-- An element over its row's root mean square, by its gain, modulated. -/
def norm (u s g c h : EReal) : EReal :=
  u * Ideal.rsqrt (Ideal.div s (Ideal.ofBits FTy.f32 0x45000000#32) + Ideal.ofBits FTy.f32 0x358637BD#32) * g * (1 + c) + h

/-- An element of a row, modulated by a sequence's shifts and scales. -/
def modulated (r : Fin 16384) (s : Fin 8) (c : Fin 2048) : EReal :=
  norm (x (ix2 r c)) (∑ k, x (ix2 r k) * x (ix2 r k)) (g (ix2 0 c)) (sc (ix2 s c)) (sh (ix2 s c))

theorem prompts_at (r : Fin 8192) (c : Fin 2048) :
    prompts x g sh sc (ix2 r c) = modulated x g sh sc ⟨r, by omega⟩ ⟨r / 4096, by omega⟩ c := by
  have e : ∀ h, (⟨r.val / 4096 * 4096 + r.val % 4096, h⟩ : Fin 16384) = ⟨r.val, by omega⟩ := fun h => Fin.ext (by show r.val / 4096 * 4096 + r.val % 4096 = r.val; omega)
  pointwise [prompts]
  simp only [squaresP_at, rowsP_at, gains_at, e]
  rfl

theorem samples_at (r : Fin 8192) (c : Fin 2048) :
    samples x g sh sc (ix2 r c) = modulated x g sh sc ⟨8192 + r, by omega⟩ ⟨2 + r / 2048, by omega⟩ c := by
  have e : ∀ h, (⟨8192 + (r.val / 2048 * 2048 + r.val % 2048), h⟩ : Fin 16384) = ⟨8192 + r.val, by omega⟩ := fun h => Fin.ext (by show 8192 + (r.val / 2048 * 2048 + r.val % 2048) = 8192 + r.val; omega)
  pointwise [samples]
  simp only [squaresS_at, rowsS_at, gains_at, e]
  rfl

/-- The two groups' rows put together. -/
def joined : FVec Ideal S16384x2048 .f32 :=
  concatenate S16384x2048 0 [⟨S8192x2048, prompts x g (shifts mod) (scales mod)⟩, ⟨S8192x2048, samples x g (shifts mod) (scales mod)⟩] concatenates_S8192x2048_S8192x2048_S16384x2048_d0

/-- They are rounded. -/
def outcome : FVec Ideal S16384x2048 .bf16 := truncf .bf16 (joined x g mod) bitsLt_bf16_f32

/-- The result at a row and a column. -/
def cell (r : Fin 16384) (c : Fin 2048) : EReal :=
  norm (x (ix2 r c)) (∑ k, x (ix2 r k) * x (ix2 r k)) (g (ix2 0 c)) (mod (ix2 ⟨seq r, seq_lt r⟩ ⟨8192 + c, by omega⟩)) (mod (ix2 ⟨seq r, seq_lt r⟩ ⟨6144 + c, by omega⟩))

theorem modulated_cell (r : Fin 16384) (s : Fin 8) (hs : s.val = seq r) (c : Fin 2048) :
    modulated x g (shifts mod) (scales mod) r s c = cell x g mod r c := by
  obtain rfl : s = ⟨seq r, seq_lt r⟩ := Fin.ext hs
  unfold modulated cell
  rw [shifts_at, scales_at]

theorem outcome_at (r : Fin 16384) (c : Fin 2048) : outcome x g mod (ix2 r c) = cell x g mod r c := by
  have hr := r.isLt
  show joined x g mod (ix2 r c) = _
  unfold joined
  by_cases h : r.val < 8192
  · refine (concatenate_pair_apply_left (s₁ := S8192x2048) (s₂ := S8192x2048) (t := S16384x2048) 0 _ _ _ (ix2 r c) rfl (ix2 ⟨r.val, h⟩ c) fun b => by fin_cases b <;> rfl).trans ?_
    exact (prompts_at _ _ _ _ _ c).trans (modulated_cell x g mod r _ (if_pos h).symm c)
  · refine (concatenate_pair_apply_right (s₁ := S8192x2048) (s₂ := S8192x2048) (t := S16384x2048) 0 _ _ _ (ix2 r c) rfl rfl (ix2 ⟨r.val - 8192, by omega⟩ c) (fun (b : Fin 2) hb => ?_) (by show r.val - 8192 + 8192 = r.val; omega)).trans ?_
    · match b with
      | ⟨0, _⟩ => exact absurd rfl hb
      | ⟨1, _⟩ => rfl
    rw [samples_at, show (⟨8192 + (r.val - 8192), by omega⟩ : Fin 16384) = r from Fin.ext (by show 8192 + (r.val - 8192) = r.val; omega)]
    exact modulated_cell x g mod r _ (if_neg h).symm c

end

/-- What the reference's program leaves in its result. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v63) = outcome (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans rfl, (h c).2⟩) (Value.run (F := Ideal) m ρ)

end Cert.Reference8Ideal.Stage

end
-- ==== Proof.NmOut.lean ====
/- The norm and modulation at the ideal instance: each element of the output is what the reference says. -/
module

public import proofs.«01_k».proof.Proof.NmWord
public import proofs.«01_k».proof.Proof.NmRef
public import Idealize.ShloMosaic.Lib.VecWindow
public import Idealize.ShloMosaic.Lib.Pointwise

@[expose] public section

set_option maxRecDepth 16384

noncomputable section

namespace Cert.Kernel8Ideal.Nm

open Idealize.ShloMosaic Idealize.ShloMosaic.TcCoe Idealize.ShloMosaic.Tactic Idealize.ShloMosaic.Pointwise
open Idealize.SL Idealize.SL.Sem
open Gen
open Cert.Kernel7Ideal.Wo (place place_at)
open Cert.Reference8Ideal.Stage (cell norm outcome outcome_at)
open Cert.Reference5Ideal.Stage (seq seq_lt)

section Body

variable {F : FTy → Type} [FloatOps F]

/-- A run of the body leaves its one payload in the output block. -/
theorem out_eq (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x1x1x2048 .f32) (harg4 : arg4.IsWhole) (arg5 : Memref sig .tc .vmem S1x1x1x2048 .f32) (harg5 : arg5.IsWhole) (arg6 : Memref sig .tc .vmem S512x2048 .bf16) (harg6 : arg6.IsWhole)
    (x0 : Vec F S512x2048 .f32) (x1 : Vec F S1x2048 .f32) (x2 : Vec F S1x1x1x2048 .f32) (x3 : Vec F S1x1x1x2048 .f32) (xt0 : TbBuf0 (F := F) c tbM0_0) :
    out0_A_4 c i arg2 harg2 arg3 harg3 arg4 harg4 arg5 harg5 arg6 harg6 x0 x1 x2 x3 xt0 = k0_pay1 x0 x1 x2 x3 := by
  have hp : (kernelRun0_A c i arg2 harg2 arg3 harg3 arg4 harg4 arg5 harg5 arg6 harg6 x0 x1 x2 x3 xt0).1
      = [⟨Rect.unit (s := S512x2048) ![0, 0] S512x2048.size inb_S512x2048_S512x2048_0_0, k0_pay1
          (arg2.view.readAt (Elt F) (Rect.unit (s := S512x2048) ![0, 0] S512x2048.size inb_S512x2048_S512x2048_0_0).toLoadRect (harg2.unread x0))
          (arg3.view.readAt (Elt F) (Rect.unit (s := S1x2048) ![0, 0] S1x2048.size inb_S1x2048_S1x2048_0_0).toLoadRect (harg3.unread x1))
          (arg4.view.readAt (Elt F) (Rect.unit (s := S1x1x1x2048) ![0, 0, 0, 0] S1x1x1x2048.size inb_S1x1x1x2048_S1x1x1x2048_0_0_0_0).toLoadRect (harg4.unread x2))
          (arg5.view.readAt (Elt F) (Rect.unit (s := S1x1x1x2048) ![0, 0, 0, 0] S1x1x1x2048.size inb_S1x1x1x2048_S1x1x1x2048_0_0_0_0).toLoadRect (harg5.unread x3))⟩] := rfl
  unfold out0_A_4
  rw [hp, View.readAt_full, View.readAt_full, View.readAt_full, View.readAt_full, harg2.read_unread, harg3.read_unread, harg4.read_unread, harg5.read_unread]
  exact funext fun y => View.read_writes_cons_rows_of_mem _ _ inb_S512x2048_S512x2048_0_0 _ [] y y rfl (Nat.zero_add _).symm rfl

end Body

/-- An element of the payload. -/
theorem pay1_at (x : FVec Ideal S512x2048 .f32) (g : FVec Ideal S1x2048 .f32) (u v : FVec Ideal S1x1x1x2048 .f32) (p : Fin 512) (s : Fin 2048) :
    k0_pay1 (F := Ideal) x g u v (ix2 p s) = norm (x (ix2 p s)) (∑ k : Fin 2048, x (ix2 p k) * x (ix2 p k)) (g (ix2 0 s)) (u (ix4 0 0 0 s)) (v (ix4 0 0 0 s)) := by
  pointwise [k0_pay1]
  rfl

/-! ## The blocks a point reads -/

variable (m : (ℓ : Loc nD τ sig) → Buf (Elt Ideal) ℓ) (ρ : Dev nD → PrngReg)

/-- The arguments, as launched. -/
abbrev rowsIn (c : Dev nD) : FVec Ideal S16384x2048 .f32 := m ((c.tc : Thread nD τ).loc main_arg0)
abbrev gainsIn (c : Dev nD) : FVec Ideal S2x2048 .f32 := m ((c.tc : Thread nD τ).loc main_arg1)
abbrev modIn (c : Dev nD) : FVec Ideal S8x12288 .f32 := m ((c.tc : Thread nD τ).loc main_arg2)

/-- The modulation's parts, as the host lays them out, and the first layer's gains. -/
def parts (x : FVec Ideal S8x12288 .f32) : FVec Ideal S8x6x1x2048 .f32 := shapeCast _ x shapeCasts_S8x12288_S8x6x1x2048
def first (g : FVec Ideal S2x2048 .f32) : FVec Ideal S1x2048 .f32 := extractStridedSlice S1x2048 ![0, 0] g slices_S2x2048_S1x2048_0_0

theorem parts_at (x : FVec Ideal S8x12288 .f32) (a : Fin 8) (b : Fin 6) (q : Fin 2048) : parts x (ix4 a b 0 q) = x (ix2 a ⟨b * 2048 + q, by omega⟩) := by
  pointwise [parts]

theorem first_at (g : FVec Ideal S2x2048 .f32) (q : Fin 2048) : first g (ix2 0 q) = g (ix2 0 q) := by
  pointwise [first]

theorem V_parts (c : Dev nD) : (V m c main_v1 : Vec Ideal S8x6x1x2048 .f32) = parts (modIn m c) := by
  entry_read
  rfl

theorem V_first (c : Dev nD) : (V m c main_v0 : Vec Ideal S1x2048 .f32) = first (gainsIn m c) := by
  entry_read
  rfl

section Blocks

variable (c : Dev nD) (t : Fin (cfgM m (ok m)).N)

abbrev xBlk : FVec Ideal S512x2048 .f32 := iblk m (ok m) c 0 t
abbrev wBlk : FVec Ideal S1x2048 .f32 := iblk m (ok m) c 1 t
abbrev uBlk : FVec Ideal S1x1x1x2048 .f32 := iblk m (ok m) c 2 t
abbrev vBlk : FVec Ideal S1x1x1x2048 .f32 := iblk m (ok m) c 3 t

theorem xBlk_idx (y : S512x2048.Idx) : xBlk m c t y = (V m c main_arg0 : Vec Ideal S16384x2048 .f32) (place (cc0_transform_0 (grid0.coords t)) (hinb0_0 _) y) := rfl
theorem wBlk_idx (y : S1x2048.Idx) : wBlk m c t y = (V m c main_v0 : Vec Ideal S1x2048 .f32) (place (cc0_transform_1 (grid0.coords t)) (hinb0_1 _) y) := rfl
theorem uBlk_idx (y : S1x1x1x2048.Idx) : uBlk m c t y = (V m c main_v1 : Vec Ideal S8x6x1x2048 .f32) (place (cc0_transform_2 k0_off1_inb numel1_S1 (tbl m) (grid0.coords t)) (inside2 m _) y) := rfl
theorem vBlk_idx (y : S1x1x1x2048.Idx) : vBlk m c t y = (V m c main_v1 : Vec Ideal S8x6x1x2048 .f32) (place (cc0_transform_3 k0_off1_inb numel1_S1 (tbl m) (grid0.coords t)) (inside3 m _) y) := rfl
theorem out_idx (y : S512x2048.Idx) : (((cfgM m (ok m)).win 4).blk t).view.emb y = place (cc0_transform_4 (grid0.coords t)) (hinb0_4 _) y := rfl

/-- The rows' blocks and the output's lie alike. -/
theorem tile_at {f : Fin 2 → ℕ} (e : f = ![(grid0.coords t 0).val, 0]) (h : ∀ a, (f a + 1) * S512x2048.size a ≤ S16384x2048.size a)
    (p : Fin 512) (s : Fin 2048) (r : Fin 16384) (hr : r.val = (grid0.coords t 0).val * 512 + p) :
    (place f h (ix2 p s : S512x2048.Idx) : S16384x2048.Idx) = ix2 r s :=
  place_at e _ _ _ fun a => by
    match a with
    | ⟨0, _⟩ => show (grid0.coords t 0).val * 512 + 1 * p.val = r.val; omega
    | ⟨1, _⟩ => show 0 * 2048 + 1 * s.val = s.val; omega

theorem xBlk_at (p : Fin 512) (s : Fin 2048) (r : Fin 16384) (hr : r.val = (grid0.coords t 0).val * 512 + p) :
    xBlk m c t (ix2 p s) = rowsIn m c (ix2 r s) :=
  (xBlk_idx m c t _).trans ((congrFun (V_main_arg0 m c) _).trans (congrArg (rowsIn m c) (tile_at m t (transform0_eq _) _ p s r hr)))

theorem wBlk_at (s : Fin 2048) : wBlk m c t (ix2 0 s) = gainsIn m c (ix2 0 s) :=
  (wBlk_idx m c t _).trans ((congrFun (V_first m c) _).trans ((congrArg (first (gainsIn m c)) (place_at (j := ![0, 0]) rfl _ _ (ix2 0 s) fun a => by
    match a with
    | ⟨0, _⟩ => rfl
    | ⟨1, _⟩ => show 0 * 2048 + 1 * s.val = s.val; omega)).trans (first_at _ s)))

/-- A block of the modulation is its sequence's row of one of the six parts. -/
theorem part_at {f : Fin 4 → ℕ} (q : Fin 6) (e : f = ![seqOf (grid0.coords t 0).val, q.val, 0, 0]) (h : ∀ a, (f a + 1) * S1x1x1x2048.size a ≤ S8x6x1x2048.size a)
    (s : Fin 2048) (b : Fin 8) (hb : b.val = seqOf (grid0.coords t 0).val) :
    (V m c main_v1 : Vec Ideal S8x6x1x2048 .f32) (place f h (ix4 0 0 0 s : S1x1x1x2048.Idx)) = modIn m c (ix2 b ⟨q * 2048 + s, by omega⟩) :=
  (congrFun (V_parts m c) _).trans ((congrArg (parts (modIn m c)) (place_at e _ _ (ix4 b q 0 s) fun a => by
    match a with
    | ⟨0, _⟩ => show seqOf (grid0.coords t 0).val * 1 + 1 * 0 = b.val; omega
    | ⟨1, _⟩ => show q.val * 1 + 1 * 0 = q.val; omega
    | ⟨2, _⟩ => rfl
    | ⟨3, _⟩ => show 0 * 2048 + 1 * s.val = s.val; omega)).trans (parts_at _ b q s))

theorem uBlk_at (s : Fin 2048) (b : Fin 8) (hb : b.val = seqOf (grid0.coords t 0).val) : uBlk m c t (ix4 0 0 0 s) = modIn m c (ix2 b ⟨8192 + s, by omega⟩) :=
  (uBlk_idx m c t _).trans (part_at m c t 4 (transform2_eq m _) _ s b hb)

theorem vBlk_at (s : Fin 2048) (b : Fin 8) (hb : b.val = seqOf (grid0.coords t 0).val) : vBlk m c t (ix4 0 0 0 s) = modIn m c (ix2 b ⟨6144 + s, by omega⟩) :=
  (vBlk_idx m c t _).trans (part_at m c t 3 (transform3_eq m _) _ s b hb)

end Blocks

/-- A row's sequence is its tile's. -/
theorem seq_tile (k p : ℕ) (hp : p < 512) : seq (k * 512 + p) = seqOf k := by
  unfold seq seqOf
  by_cases h : k < 16
  · rw [if_pos h, if_pos (by omega)]; omega
  · rw [if_neg h, if_neg (by omega)]; omega

/-! ## The whole array -/

/-- What the reference leaves, from the kernel's arguments. -/
abbrev result (c : Dev nD) : FVec Ideal S16384x2048 .bf16 := outcome (rowsIn m c) (gainsIn m c) (modIn m c)

/-- The block of a point agrees with the reference. -/
theorem block_result (c : Dev nD) (t : Fin (cfgM m (ok m)).N) (p : Fin 512) (s : Fin 2048) (r : Fin 16384) (hr : r.val = (grid0.coords t 0).val * 512 + p) :
    (outsAt0 m (ok m) c t : FVec Ideal S512x2048 .bf16) (ix2 p s) = result m c (ix2 r s) := by
  refine (congrFun (out_eq (F := Ideal) c _ _ _ _ _ _ _ _ _ _ _ (xBlk m c t) (wBlk m c t) (uBlk m c t) (vBlk m c t) (tbl m 0)) _).trans ?_
  refine (pay1_at _ _ _ _ p s).trans (Eq.trans ?_ (outcome_at _ _ _ r s).symm)
  have hb : (⟨seq r, seq_lt r⟩ : Fin 8).val = seqOf (grid0.coords t 0).val := by show seq r.val = _; rw [hr]; exact seq_tile _ _ p.isLt
  have ex := fun k => xBlk_at m c t p k r hr
  have ew := wBlk_at m c t s
  have eu := uBlk_at m c t s _ hb
  have ev := vBlk_at m c t s _ hb
  unfold cell
  simp only [ex, ew, eu, ev]

theorem split2 {A B : ℕ} (y : (⟨2, ![A, B]⟩ : Shape).Idx) : ∃ (a : Fin A) (b : Fin B), y = ix2 a b :=
  ⟨y 0, y 1, by funext k; fin_cases k <;> rfl⟩

/-- After the run the output array is the reference's result. -/
theorem final (c : Dev nD) : (dats m (ok m) 0 c).arrAt 4 (cfgM m (ok m)).N = result m c := by
  refine (dats m (ok m) 0 c).arrAt_eq_of_emb 4 _ (fun t _ (y : S512x2048.Idx) => ?_) (fun (i : S16384x2048.Idx) => ?_)
  · obtain ⟨p, s, rfl⟩ := split2 y
    have h0 : (grid0.coords t 0).val < 32 := (grid0.coords t 0).isLt
    have hp := p.isLt
    refine Eq.trans ?_ (congrArg (result m c) ((out_idx m t _).trans
      (tile_at m t (transform4_eq _) _ p s ⟨(grid0.coords t 0).val * 512 + p, by omega⟩ rfl)).symm)
    refine Eq.trans ?_ (block_result m c t p s _ rfl)
    exact congrFun (after0_4 m _ c t) (ix2 p s)
  · obtain ⟨r, q, rfl⟩ := split2 i
    have hr := r.isLt
    let t : Fin grid0.N := ⟨r.val / 512, by rw [show grid0.N = 32 from rfl]; omega⟩
    let y : S512x2048.Idx := ix2 ⟨r.val % 512, by omega⟩ q
    have e : (((cfgM m (ok m)).win 4).blk t).view.emb y = (ix2 r q : S16384x2048.Idx) := (out_idx m t y).trans (tile_at m t (transform4_eq _) _ _ q r
      (by rw [row_at t]; show r.val = r.val / 512 * 512 + r.val % 512; omega))
    exact ⟨t, flush0_4 _ t, e ▸ (((cfgM m (ok m)).win 4).blk t).view.emb_mem_set y⟩

/-- The kernel's run leaves the reference's result, and its arguments as launched. -/
theorem value : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2.out_eq c (4 : Fin 5)).trans (final m c), h.1 c⟩)
    (θ_run_and (unchanged m ρ (ok m)) (run_main m ρ (ok m)))

end Cert.Kernel8Ideal.Nm

end
-- ==== Proof.NmFrame.lean ====
/- The claims on the norm and modulation: the frames of its two readings and of its reference, and that the kernel at
   the ideal instance leaves what the reference leaves. -/
module

public import proofs.«01_k».proof.Proof.NmOut
public import proofs.«01_k».proof.Proof.Gen.Kernel8
public import proofs.«01_k».proof.Proof.Gen.Reference8Ideal.Run
public import proofs.«01_k».proof.Defs

@[expose] public section

noncomputable section

namespace Cert.Modulation

open Idealize.ShloMosaic Idealize.ShloMosaic.TcCoe Idealize.ShloMosaic.Tactic

theorem frame_pi : quiescent_Kernel8Ideal (hKernel8Ideal := Kernel8Ideal.Gen.facts) :=
  fun m g _ => Kernel8Ideal.Gen.frame m g (Kernel8Ideal.Nm.ok m)

/-- The two readings have one body table. -/
theorem defs0_same : @Kernel8.defs₀ Bits _ Kernel8.Gen.facts = @Kernel8Ideal.defs₀ Bits _ Kernel8Ideal.Gen.facts := by
  refine congrArg Defs.onTc ?_
  funext l x
  fin_cases l
  rfl

theorem defs_same : @Kernel8.defs Bits _ Kernel8.Gen.facts = @Kernel8Ideal.defs Bits _ Kernel8Ideal.Gen.facts :=
  congrArg (Pipeline.defs (@Kernel8Ideal.pcfgs Bits _ Kernel8Ideal.Gen.facts)) defs0_same

theorem main_same : @Kernel8.main Bits _ Kernel8.Gen.facts = @Kernel8Ideal.main Bits _ Kernel8Ideal.Gen.facts := by
  unfold Kernel8.main Kernel8Ideal.main
  rfl

theorem frame_p : quiescent_Kernel8 (hKernel8 := Kernel8.Gen.facts) := fun m g _ =>
  (congr (congrArg (fun d p => θ_run d (onTc (τ := Kernel8Ideal.τ) p) ⟨m, fun _ => 0, g⟩ _) defs_same) main_same).mpr
    (Kernel8Ideal.Gen.frame (F := Bits) m g (Kernel8Ideal.Nm.ok m))

theorem frame_ri : quiescent_Reference8Ideal (hReference8Ideal := Reference8Ideal.Gen.facts) := fun m g _ =>
  (θ_run Reference8Ideal.defs (onTc (τ := Reference8Ideal.τ) Reference8Ideal.main) ⟨m, fun _ => 0, g⟩).mono
    (fun r h => ⟨fun c => (h c).2, Idealize.ShloMosaic.sem_eq_zero_of_no_sems (by decide) r.2⟩) (Reference8Ideal.Value.run (F := Idealize.ShloMosaic.Ideal) m g)

theorem algebraic : algebraic_Kernel8Ideal_Reference8Ideal (hKernel8Ideal := Kernel8Ideal.Gen.facts) (hReference8Ideal := Reference8Ideal.Gen.facts) := by
  intro m g m' g' _ hagree
  refine ⟨Kernel8Ideal.Nm.result m, Kernel8Ideal.Nm.value m g, ?_⟩
  refine (θ_run Reference8Ideal.defs _ _).mono (fun _ hr c => ⟨(hr c).1.trans ?_, (hr c).2⟩) (Reference8Ideal.Stage.run m' g')
  obtain ⟨a0, a1, a2⟩ := hagree c
  rw [a0, a1, a2]

end Cert.Modulation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Attention
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_plan2
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_plan3
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.SwFrame
public import proofs.«01_k».proof.Proof.DnFrame
public import proofs.«01_k».proof.Proof.FfFrame
public import proofs.«01_k».proof.Proof.GrFrame
public import proofs.«01_k».proof.Proof.QkFrame
public import proofs.«01_k».proof.Proof.WoFrame
public import proofs.«01_k».proof.Proof.NmFrame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Pre_plan2.Gen.facts, Cert.Pre_plan3.Gen.facts,
    Attention.frame_p, Attention.frame_pi, Attention.frame_ri, Routed.frame_p, Routed.frame_pi, Routed.frame_ri, Down.frame_p, Down.frame_pi, Down.frame_ri,
    Dense.frame_p, Dense.frame_pi, Dense.frame_ri, Residual.frame_p, Residual.frame_pi, Residual.frame_ri,
    Projection.frame_p, Projection.frame_pi, Projection.frame_ri, Mixed.frame_p, Mixed.frame_pi, Mixed.frame_ri,
    Modulation.frame_p, Modulation.frame_pi, Modulation.frame_ri,
    Attention.preserves, Attention.algebraic, trivial, Routed.algebraic, trivial, Down.algebraic, trivial, Dense.algebraic, trivial, Residual.algebraic,
    Projection.preserves, Projection.algebraic, trivial, Mixed.algebraic, trivial, Modulation.algebraic⟩

end Cert.Proof

end
